-- ==== Defs.lean ====
def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Expand (m : (ℓ : Loc Cert.Expand.nD Cert.Expand.τ Cert.Expand.sig) → Buf (Elt Bits) ℓ) : Prop :=
  True

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3)
      ∧ r.2.mem ((c.tc : Thread Cert.Linear.nD Cert.Linear.τ).loc Cert.Linear.main_arg4) = m ((c.tc : Thread Cert.Linear.nD Cert.Linear.τ).loc Cert.Linear.main_arg4)
      ∧ r.2.mem ((c.tc : Thread Cert.Linear.nD Cert.Linear.τ).loc Cert.Linear.main_arg5) = m ((c.tc : Thread Cert.Linear.nD Cert.Linear.τ).loc Cert.Linear.main_arg5))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
      ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Expand [hExpand : Cert.Expand.Facts] : Prop :=
  ∀ (m : (ℓ : Loc Cert.Expand.nD Cert.Expand.τ Cert.Expand.sig) → Buf (Elt Bits) ℓ) (g : Dev Cert.Expand.nD → PrngReg), Pre_Expand m →
    θ_run (Cert.Expand.defs (F := Bits)) (Cert.Expand.threads (F := Bits)) ⟨m, fun _ => 0, g⟩ (fun r => (∀ c : Dev Cert.Expand.nD,
      r.2.mem ((c.tc : Thread Cert.Expand.nD Cert.Expand.τ).loc Cert.Expand.main_arg0) = m ((c.tc : Thread Cert.Expand.nD Cert.Expand.τ).loc Cert.Expand.main_arg0)
      ∧ r.2.mem ((c.tc : Thread Cert.Expand.nD Cert.Expand.τ).loc Cert.Expand.main_arg1) = m ((c.tc : Thread Cert.Expand.nD Cert.Expand.τ).loc Cert.Expand.main_arg1)
      ∧ r.2.mem ((c.tc : Thread Cert.Expand.nD Cert.Expand.τ).loc Cert.Expand.main_arg2) = m ((c.tc : Thread Cert.Expand.nD Cert.Expand.τ).loc Cert.Expand.main_arg2))
      ∧ r.2.sem = fun _ => 0)

def preserves_Linear_LinearIdeal : Prop :=
  True

def algebraic_LinearIdeal_ReferenceIdeal [hLinearIdeal : Cert.LinearIdeal.Facts] [hReferenceIdeal : Cert.ReferenceIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_LinearIdeal m →
    (∀ c : Dev Cert.LinearIdeal.nD,
      m' ((c.tc : Thread Cert.ReferenceIdeal.nD Cert.ReferenceIdeal.τ).loc Cert.ReferenceIdeal.main_arg0) = m ((c.tc : Thread Cert.LinearIdeal.nD Cert.LinearIdeal.τ).loc Cert.LinearIdeal.main_arg0)
      ∧ m' ((c.tc : Thread Cert.ReferenceIdeal.nD Cert.ReferenceIdeal.τ).loc Cert.ReferenceIdeal.main_arg1) = m ((c.tc : Thread Cert.LinearIdeal.nD Cert.LinearIdeal.τ).loc Cert.LinearIdeal.main_arg1)
      ∧ m' ((c.tc : Thread Cert.ReferenceIdeal.nD Cert.ReferenceIdeal.τ).loc Cert.ReferenceIdeal.main_arg2) = m ((c.tc : Thread Cert.LinearIdeal.nD Cert.LinearIdeal.τ).loc Cert.LinearIdeal.main_arg2)
      ∧ m' ((c.tc : Thread Cert.ReferenceIdeal.nD Cert.ReferenceIdeal.τ).loc Cert.ReferenceIdeal.main_arg3) = m ((c.tc : Thread Cert.LinearIdeal.nD Cert.LinearIdeal.τ).loc Cert.LinearIdeal.main_arg3)
      ∧ m' ((c.tc : Thread Cert.ReferenceIdeal.nD Cert.ReferenceIdeal.τ).loc Cert.ReferenceIdeal.main_arg4) = m ((c.tc : Thread Cert.LinearIdeal.nD Cert.LinearIdeal.τ).loc Cert.LinearIdeal.main_arg4)
      ∧ m' ((c.tc : Thread Cert.ReferenceIdeal.nD Cert.ReferenceIdeal.τ).loc Cert.ReferenceIdeal.main_arg5) = m ((c.tc : Thread Cert.LinearIdeal.nD Cert.LinearIdeal.τ).loc Cert.LinearIdeal.main_arg5)) →
    ∃ (v0 : (c : Dev Cert.LinearIdeal.nD) → Buf (Elt Ideal) ((c.tc : Thread Cert.LinearIdeal.nD Cert.LinearIdeal.τ).loc Cert.LinearIdeal.main_v28)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v28) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
          ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hLinear : Cert.Linear.Facts) (hLinearIdeal : Cert.LinearIdeal.Facts) (hReferenceIdeal : Cert.ReferenceIdeal.Facts) (hExpand : Cert.Expand.Facts),
    quiescent_Linear (hLinear := hLinear)
    ∧ quiescent_LinearIdeal (hLinearIdeal := hLinearIdeal)
    ∧ quiescent_ReferenceIdeal (hReferenceIdeal := hReferenceIdeal)
    ∧ quiescent_Expand (hExpand := hExpand)
    ∧ preserves_Linear_LinearIdeal
    ∧ algebraic_LinearIdeal_ReferenceIdeal (hLinearIdeal := hLinearIdeal) (hReferenceIdeal := hReferenceIdeal)
-- ==== Linear.lean ====
abbrev S20x1x4096 : Shape := ⟨3, ![20, 1, 4096]⟩
abbrev S11008x382 : Shape := ⟨2, ![11008, 382]⟩
abbrev S1376x16x8x128 : Shape := ⟨4, ![1376, 16, 8, 128]⟩
abbrev S1024x8 : Shape := ⟨2, ![1024, 8]⟩
abbrev S4096 : Shape := ⟨1, ![4096]⟩
abbrev S1024x4x2 : Shape := ⟨3, ![1024, 4, 2]⟩
abbrev S1024x4 : Shape := ⟨2, ![1024, 4]⟩
abbrev S4x1024 : Shape := ⟨2, ![4, 1024]⟩
abbrev S32x1x128 : Shape := ⟨3, ![32, 1, 128]⟩
abbrev S32x8x128 : Shape := ⟨3, ![32, 8, 128]⟩
abbrev S20x4096 : Shape := ⟨2, ![20, 4096]⟩
abbrev S20x512x8 : Shape := ⟨3, ![20, 512, 8]⟩
abbrev S20x506x8 : Shape := ⟨3, ![20, 506, 8]⟩
abbrev S20x6x8 : Shape := ⟨3, ![20, 6, 8]⟩
abbrev S20x128x4x4x2 : Shape := ⟨5, ![20, 128, 4, 4, 2]⟩
abbrev S20x4x4x2x128 : Shape := ⟨5, ![20, 4, 4, 2, 128]⟩
abbrev S_ : Shape := ⟨0, ![]⟩
abbrev S32x4096 : Shape := ⟨2, ![32, 4096]⟩
abbrev S512x8 : Shape := ⟨2, ![512, 8]⟩
abbrev S506x8 : Shape := ⟨2, ![506, 8]⟩
abbrev S6x8 : Shape := ⟨2, ![6, 8]⟩
abbrev S128x4x4x2 : Shape := ⟨4, ![128, 4, 4, 2]⟩
abbrev S4x4x2x128 : Shape := ⟨4, ![4, 4, 2, 128]⟩
abbrev S32x128 : Shape := ⟨2, ![32, 128]⟩
abbrev S20x11008 : Shape := ⟨2, ![20, 11008]⟩
abbrev S32x16x8x128 : Shape := ⟨4, ![32, 16, 8, 128]⟩
abbrev S256x384 : Shape := ⟨2, ![256, 384]⟩
abbrev S20x256 : Shape := ⟨2, ![20, 256]⟩
abbrev S256x4096 : Shape := ⟨2, ![256, 4096]⟩
abbrev S8x128 : Shape := ⟨2, ![8, 128]⟩
abbrev S8x128x1 : Shape := ⟨3, ![8, 128, 1]⟩
abbrev S1x8x128 : Shape := ⟨3, ![1, 8, 128]⟩
abbrev S1x1x8x128 : Shape := ⟨4, ![1, 1, 8, 128]⟩
abbrev S1x128 : Shape := ⟨2, ![1, 128]⟩
abbrev S16x128 : Shape := ⟨2, ![16, 128]⟩
abbrev S32x256 : Shape := ⟨2, ![32, 256]⟩

abbrev nBuf : Space → Nat
  | .hbm => 37
  | .vmem => 11
  | .smem => 0
  | _ => 0

abbrev bufTy : (tb : Table) → Fin (tcTables nBuf tb) → BufTy
  | .hbm, ⟨0, _⟩ => ⟨S20x1x4096, .bf16⟩
  | .hbm, ⟨1, _⟩ => ⟨S11008x382, .i32⟩
  | .hbm, ⟨2, _⟩ => ⟨S1376x16x8x128, .i32⟩
  | .hbm, ⟨3, _⟩ => ⟨S1024x8, .i16⟩
  | .hbm, ⟨4, _⟩ => ⟨S4096, .f32⟩
  | .hbm, ⟨5, _⟩ => ⟨S4096, .f32⟩
  | .hbm, ⟨6, _⟩ => ⟨S1024x4x2, .i16⟩
  | .hbm, ⟨7, _⟩ => ⟨S1024x4, .i32⟩
  | .hbm, ⟨8, _⟩ => ⟨S4x1024, .i32⟩
  | .hbm, ⟨9, _⟩ => ⟨S32x1x128, .i32⟩
  | .hbm, ⟨10, _⟩ => ⟨S32x8x128, .i32⟩
  | .hbm, ⟨11, _⟩ => ⟨S20x4096, .bf16⟩
  | .hbm, ⟨12, _⟩ => ⟨S20x512x8, .bf16⟩
  | .hbm, ⟨13, _⟩ => ⟨S20x506x8, .bf16⟩
  | .hbm, ⟨14, _⟩ => ⟨S20x6x8, .bf16⟩
  | .hbm, ⟨15, _⟩ => ⟨S20x512x8, .bf16⟩
  | .hbm, ⟨16, _⟩ => ⟨S20x128x4x4x2, .bf16⟩
  | .hbm, ⟨17, _⟩ => ⟨S20x4x4x2x128, .bf16⟩
  | .hbm, ⟨18, _⟩ => ⟨S20x4096, .bf16⟩
  | .hbm, ⟨19, _⟩ => ⟨S_, .i32⟩
  | .hbm, ⟨20, _⟩ => ⟨S_, .bf16⟩
  | .hbm, ⟨21, _⟩ => ⟨S32x4096, .bf16⟩
  | .hbm, ⟨22, _⟩ => ⟨S512x8, .f32⟩
  | .hbm, ⟨23, _⟩ => ⟨S506x8, .f32⟩
  | .hbm, ⟨24, _⟩ => ⟨S6x8, .f32⟩
  | .hbm, ⟨25, _⟩ => ⟨S512x8, .f32⟩
  | .hbm, ⟨26, _⟩ => ⟨S128x4x4x2, .f32⟩
  | .hbm, ⟨27, _⟩ => ⟨S4x4x2x128, .f32⟩
  | .hbm, ⟨28, _⟩ => ⟨S32x128, .f32⟩
  | .hbm, ⟨29, _⟩ => ⟨S512x8, .f32⟩
  | .hbm, ⟨30, _⟩ => ⟨S506x8, .f32⟩
  | .hbm, ⟨31, _⟩ => ⟨S6x8, .f32⟩
  | .hbm, ⟨32, _⟩ => ⟨S512x8, .f32⟩
  | .hbm, ⟨33, _⟩ => ⟨S128x4x4x2, .f32⟩
  | .hbm, ⟨34, _⟩ => ⟨S4x4x2x128, .f32⟩
  | .hbm, ⟨35, _⟩ => ⟨S32x128, .f32⟩
  | .hbm, ⟨36, _⟩ => ⟨S20x11008, .bf16⟩
  | .local _ .vmem, ⟨0, _⟩ => ⟨S32x16x8x128, .i32⟩
  | .local _ .vmem, ⟨1, _⟩ => ⟨S32x16x8x128, .i32⟩
  | .local _ .vmem, ⟨2, _⟩ => ⟨S256x384, .i32⟩
  | .local _ .vmem, ⟨3, _⟩ => ⟨S256x384, .i32⟩
  | .local _ .vmem, ⟨4, _⟩ => ⟨S32x4096, .bf16⟩
  | .local _ .vmem, ⟨5, _⟩ => ⟨S32x8x128, .i32⟩
  | .local _ .vmem, ⟨6, _⟩ => ⟨S32x128, .f32⟩
  | .local _ .vmem, ⟨7, _⟩ => ⟨S32x128, .f32⟩
  | .local _ .vmem, ⟨8, _⟩ => ⟨S20x256, .bf16⟩
  | .local _ .vmem, ⟨9, _⟩ => ⟨S20x256, .bf16⟩
  | .local _ .vmem, ⟨10, _⟩ => ⟨S256x4096, .bf16⟩
  | _, _ => ⟨S20x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32 : BitVec 32 := 8#32
  let v12 : BitVec 32 := Scalar.muli v11 c8_i32
  v12
def k0_off1 (k0_t1 : Fin k0_t1_loop.trips) : Fin 2 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32 : BitVec 32 := 8#32
  let v12 : BitVec 32 := Scalar.muli v11 c8_i32
  let v13 : BitVec 32 := v12
  let v14 : Index := Scalar.indexCast v13
  let c0_8 : Index := 0#32
  ![v14.toNat, 0]
def k0_mult2 (k0_t1 : Fin k0_t1_loop.trips) : BitVec 32 :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32_9 : BitVec 32 := 8#32
  let v16 : BitVec 32 := Scalar.muli v11 c8_i32_9
  v16
def k0_off2 (k0_t1 : Fin k0_t1_loop.trips) : Fin 2 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32_9 : BitVec 32 := 8#32
  let v16 : BitVec 32 := Scalar.muli v11 c8_i32_9
  let v17 : BitVec 32 := v16
  let v18 : Index := Scalar.indexCast v17
  let c128 : Index := 128#32
  ![v18.toNat, 128]
def k0_mult3 (k0_t1 : Fin k0_t1_loop.trips) : BitVec 32 :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32_10 : BitVec 32 := 8#32
  let v20 : BitVec 32 := Scalar.muli v11 c8_i32_10
  v20
def k0_off3 (k0_t1 : Fin k0_t1_loop.trips) : Fin 2 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let c8_i32_10 : BitVec 32 := 8#32
  let v20 : BitVec 32 := Scalar.muli v11 c8_i32_10
  let v21 : BitVec 32 := v20
  let v22 : Index := Scalar.indexCast v21
  let c256 : Index := 256#32
  ![v22.toNat, 256]
def k0_off4 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v264 : Index := Scalar.indexCast v11
  let c0_86 : Index := 0#32
  let c0_87 : Index := 0#32
  let c0_88 : Index := 0#32
  ![v264.toNat, 0, 0, 0]
def k0_off5 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v386 : Index := Scalar.indexCast v11
  let c1_132 : Index := 1#32
  let c0_133 : Index := 0#32
  let c0_134 : Index := 0#32
  ![v386.toNat, 1, 0, 0]
def k0_off6 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v508 : Index := Scalar.indexCast v11
  let c2_178 : Index := 2#32
  let c0_179 : Index := 0#32
  let c0_180 : Index := 0#32
  ![v508.toNat, 2, 0, 0]
def k0_off7 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v630 : Index := Scalar.indexCast v11
  let c3_224 : Index := 3#32
  let c0_225 : Index := 0#32
  let c0_226 : Index := 0#32
  ![v630.toNat, 3, 0, 0]
def k0_off8 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v772 : Index := Scalar.indexCast v11
  let c4_288 : Index := 4#32
  let c0_289 : Index := 0#32
  let c0_290 : Index := 0#32
  ![v772.toNat, 4, 0, 0]
def k0_off9 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v894 : Index := Scalar.indexCast v11
  let c5_342 : Index := 5#32
  let c0_343 : Index := 0#32
  let c0_344 : Index := 0#32
  ![v894.toNat, 5, 0, 0]
def k0_off10 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1016 : Index := Scalar.indexCast v11
  let c6_396 : Index := 6#32
  let c0_397 : Index := 0#32
  let c0_398 : Index := 0#32
  ![v1016.toNat, 6, 0, 0]
def k0_off11 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1138 : Index := Scalar.indexCast v11
  let c7_450 : Index := 7#32
  let c0_451 : Index := 0#32
  let c0_452 : Index := 0#32
  ![v1138.toNat, 7, 0, 0]
def k0_off12 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1280 : Index := Scalar.indexCast v11
  let c8_514 : Index := 8#32
  let c0_515 : Index := 0#32
  let c0_516 : Index := 0#32
  ![v1280.toNat, 8, 0, 0]
def k0_off13 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1402 : Index := Scalar.indexCast v11
  let c9_568 : Index := 9#32
  let c0_569 : Index := 0#32
  let c0_570 : Index := 0#32
  ![v1402.toNat, 9, 0, 0]
def k0_off14 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1524 : Index := Scalar.indexCast v11
  let c10_622 : Index := 10#32
  let c0_623 : Index := 0#32
  let c0_624 : Index := 0#32
  ![v1524.toNat, 10, 0, 0]
def k0_off15 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1646 : Index := Scalar.indexCast v11
  let c11_676 : Index := 11#32
  let c0_677 : Index := 0#32
  let c0_678 : Index := 0#32
  ![v1646.toNat, 11, 0, 0]
def k0_off16 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1788 : Index := Scalar.indexCast v11
  let c12_740 : Index := 12#32
  let c0_741 : Index := 0#32
  let c0_742 : Index := 0#32
  ![v1788.toNat, 12, 0, 0]
def k0_off17 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v1910 : Index := Scalar.indexCast v11
  let c13_794 : Index := 13#32
  let c0_795 : Index := 0#32
  let c0_796 : Index := 0#32
  ![v1910.toNat, 13, 0, 0]
def k0_off18 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v2032 : Index := Scalar.indexCast v11
  let c14_848 : Index := 14#32
  let c0_849 : Index := 0#32
  let c0_850 : Index := 0#32
  ![v2032.toNat, 14, 0, 0]
def k0_off19 (k0_t1 : Fin k0_t1_loop.trips) : Fin 4 → Nat :=
  let c2_i32 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v11 : BitVec 32 := Scalar.muli c2_i32 v10
  let v2154 : Index := Scalar.indexCast v11
  let c15_902 : Index := 15#32
  let c0_903 : Index := 0#32
  let c0_904 : Index := 0#32
  ![v2154.toNat, 15, 0, 0]
def k0_mult4 (k0_t1 : Fin k0_t1_loop.trips) : BitVec 32 :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_917 : BitVec 32 := 8#32
  let v2189 : BitVec 32 := Scalar.muli v2188 c8_i32_917
  v2189
def k0_off20 (k0_t1 : Fin k0_t1_loop.trips) : Fin 2 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_917 : BitVec 32 := 8#32
  let v2189 : BitVec 32 := Scalar.muli v2188 c8_i32_917
  let v2190 : BitVec 32 := v2189
  let v2191 : Index := Scalar.indexCast v2190
  let c0_918 : Index := 0#32
  ![v2191.toNat, 0]
def k0_mult5 (k0_t1 : Fin k0_t1_loop.trips) : BitVec 32 :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_919 : BitVec 32 := 8#32
  let v2193 : BitVec 32 := Scalar.muli v2188 c8_i32_919
  v2193
def k0_off21 (k0_t1 : Fin k0_t1_loop.trips) : Fin 2 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_919 : BitVec 32 := 8#32
  let v2193 : BitVec 32 := Scalar.muli v2188 c8_i32_919
  let v2194 : BitVec 32 := v2193
  let v2195 : Index := Scalar.indexCast v2194
  let c128_920 : Index := 128#32
  ![v2195.toNat, 128]
def k0_mult6 (k0_t1 : Fin k0_t1_loop.trips) : BitVec 32 :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_921 : BitVec 32 := 8#32
  let v2197 : BitVec 32 := Scalar.muli v2188 c8_i32_921
  v2197
def k0_off22 (k0_t1 : Fin k0_t1_loop.trips) : Fin 2 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let c8_i32_921 : BitVec 32 := 8#32
  let v2197 : BitVec 32 := Scalar.muli v2188 c8_i32_921
  let v2198 : BitVec 32 := v2197
  let v2199 : Index := Scalar.indexCast v2198
  let c256_922 : Index := 256#32
  ![v2199.toNat, 256]
def k0_off23 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v2441 : Index := Scalar.indexCast v2188
  let c0_1017 : Index := 0#32
  let c0_1018 : Index := 0#32
  let c0_1019 : Index := 0#32
  ![v2441.toNat, 0, 0, 0]
def k0_off24 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v2563 : Index := Scalar.indexCast v2188
  let c1_1071 : Index := 1#32
  let c0_1072 : Index := 0#32
  let c0_1073 : Index := 0#32
  ![v2563.toNat, 1, 0, 0]
def k0_off25 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v2685 : Index := Scalar.indexCast v2188
  let c2_1125 : Index := 2#32
  let c0_1126 : Index := 0#32
  let c0_1127 : Index := 0#32
  ![v2685.toNat, 2, 0, 0]
def k0_off26 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v2807 : Index := Scalar.indexCast v2188
  let c3_1179 : Index := 3#32
  let c0_1180 : Index := 0#32
  let c0_1181 : Index := 0#32
  ![v2807.toNat, 3, 0, 0]
def k0_off27 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v2949 : Index := Scalar.indexCast v2188
  let c4_1243 : Index := 4#32
  let c0_1244 : Index := 0#32
  let c0_1245 : Index := 0#32
  ![v2949.toNat, 4, 0, 0]
def k0_off28 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3071 : Index := Scalar.indexCast v2188
  let c5_1297 : Index := 5#32
  let c0_1298 : Index := 0#32
  let c0_1299 : Index := 0#32
  ![v3071.toNat, 5, 0, 0]
def k0_off29 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3193 : Index := Scalar.indexCast v2188
  let c6_1351 : Index := 6#32
  let c0_1352 : Index := 0#32
  let c0_1353 : Index := 0#32
  ![v3193.toNat, 6, 0, 0]
def k0_off30 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3315 : Index := Scalar.indexCast v2188
  let c7_1405 : Index := 7#32
  let c0_1406 : Index := 0#32
  let c0_1407 : Index := 0#32
  ![v3315.toNat, 7, 0, 0]
def k0_off31 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3457 : Index := Scalar.indexCast v2188
  let c8_1469 : Index := 8#32
  let c0_1470 : Index := 0#32
  let c0_1471 : Index := 0#32
  ![v3457.toNat, 8, 0, 0]
def k0_off32 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3579 : Index := Scalar.indexCast v2188
  let c9_1523 : Index := 9#32
  let c0_1524 : Index := 0#32
  let c0_1525 : Index := 0#32
  ![v3579.toNat, 9, 0, 0]
def k0_off33 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3701 : Index := Scalar.indexCast v2188
  let c10_1577 : Index := 10#32
  let c0_1578 : Index := 0#32
  let c0_1579 : Index := 0#32
  ![v3701.toNat, 10, 0, 0]
def k0_off34 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3823 : Index := Scalar.indexCast v2188
  let c11_1631 : Index := 11#32
  let c0_1632 : Index := 0#32
  let c0_1633 : Index := 0#32
  ![v3823.toNat, 11, 0, 0]
def k0_off35 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v3965 : Index := Scalar.indexCast v2188
  let c12_1695 : Index := 12#32
  let c0_1696 : Index := 0#32
  let c0_1697 : Index := 0#32
  ![v3965.toNat, 12, 0, 0]
def k0_off36 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v4087 : Index := Scalar.indexCast v2188
  let c13_1749 : Index := 13#32
  let c0_1750 : Index := 0#32
  let c0_1751 : Index := 0#32
  ![v4087.toNat, 13, 0, 0]
def k0_off37 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v4209 : Index := Scalar.indexCast v2188
  let c14_1803 : Index := 14#32
  let c0_1804 : Index := 0#32
  let c0_1805 : Index := 0#32
  ![v4209.toNat, 14, 0, 0]
def k0_off38 (k0_t1 : Fin k0_t1_loop.trips) : Fin 4 → Nat :=
  let c2_i32_915 : BitVec 32 := 2#32
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let v2187 : BitVec 32 := Scalar.muli c2_i32_915 v10
  let c1_i32_916 : BitVec 32 := 1#32
  let v2188 : BitVec 32 := Scalar.addi v2187 c1_i32_916
  let v4331 : Index := Scalar.indexCast v2188
  let c15_1857 : Index := 15#32
  let c0_1858 : Index := 0#32
  let c0_1859 : Index := 0#32
  ![v4331.toNat, 15, 0, 0]
def k0_mult7 (k0_t1 : Fin k0_t1_loop.trips) : BitVec 32 :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  v4365
def k0_off39 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4369 : Index := Scalar.indexCast v4366
  let c0_1872 : Index := 0#32
  ![v4369.toNat, 0]
def k0_off40 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4375 : Index := Scalar.indexCast v4366
  let c128_1873 : Index := 128#32
  ![v4375.toNat, 128]
def k0_off41 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4381 : Index := Scalar.indexCast v4366
  let c256_1874 : Index := 256#32
  ![v4381.toNat, 256]
def k0_off42 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4387 : Index := Scalar.indexCast v4366
  let c384 : Index := 384#32
  ![v4387.toNat, 384]
def k0_off43 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4393 : Index := Scalar.indexCast v4366
  let c512 : Index := 512#32
  ![v4393.toNat, 512]
def k0_off44 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4399 : Index := Scalar.indexCast v4366
  let c640 : Index := 640#32
  ![v4399.toNat, 640]
def k0_off45 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4405 : Index := Scalar.indexCast v4366
  let c768 : Index := 768#32
  ![v4405.toNat, 768]
def k0_off46 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4411 : Index := Scalar.indexCast v4366
  let c896 : Index := 896#32
  ![v4411.toNat, 896]
def k0_off47 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4417 : Index := Scalar.indexCast v4366
  let c1024 : Index := 1024#32
  ![v4417.toNat, 1024]
def k0_off48 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4423 : Index := Scalar.indexCast v4366
  let c1152 : Index := 1152#32
  ![v4423.toNat, 1152]
def k0_off49 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4429 : Index := Scalar.indexCast v4366
  let c1280 : Index := 1280#32
  ![v4429.toNat, 1280]
def k0_off50 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4435 : Index := Scalar.indexCast v4366
  let c1408 : Index := 1408#32
  ![v4435.toNat, 1408]
def k0_off51 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4441 : Index := Scalar.indexCast v4366
  let c1536 : Index := 1536#32
  ![v4441.toNat, 1536]
def k0_off52 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4447 : Index := Scalar.indexCast v4366
  let c1664 : Index := 1664#32
  ![v4447.toNat, 1664]
def k0_off53 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4453 : Index := Scalar.indexCast v4366
  let c1792 : Index := 1792#32
  ![v4453.toNat, 1792]
def k0_off54 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4459 : Index := Scalar.indexCast v4366
  let c1920 : Index := 1920#32
  ![v4459.toNat, 1920]
def k0_off55 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4465 : Index := Scalar.indexCast v4366
  let c2048 : Index := 2048#32
  ![v4465.toNat, 2048]
def k0_off56 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4471 : Index := Scalar.indexCast v4366
  let c2176 : Index := 2176#32
  ![v4471.toNat, 2176]
def k0_off57 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4477 : Index := Scalar.indexCast v4366
  let c2304 : Index := 2304#32
  ![v4477.toNat, 2304]
def k0_off58 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4483 : Index := Scalar.indexCast v4366
  let c2432 : Index := 2432#32
  ![v4483.toNat, 2432]
def k0_off59 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4489 : Index := Scalar.indexCast v4366
  let c2560 : Index := 2560#32
  ![v4489.toNat, 2560]
def k0_off60 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4495 : Index := Scalar.indexCast v4366
  let c2688 : Index := 2688#32
  ![v4495.toNat, 2688]
def k0_off61 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4501 : Index := Scalar.indexCast v4366
  let c2816 : Index := 2816#32
  ![v4501.toNat, 2816]
def k0_off62 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4507 : Index := Scalar.indexCast v4366
  let c2944 : Index := 2944#32
  ![v4507.toNat, 2944]
def k0_off63 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4513 : Index := Scalar.indexCast v4366
  let c3072 : Index := 3072#32
  ![v4513.toNat, 3072]
def k0_off64 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4519 : Index := Scalar.indexCast v4366
  let c3200 : Index := 3200#32
  ![v4519.toNat, 3200]
def k0_off65 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4525 : Index := Scalar.indexCast v4366
  let c3328 : Index := 3328#32
  ![v4525.toNat, 3328]
def k0_off66 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4531 : Index := Scalar.indexCast v4366
  let c3456 : Index := 3456#32
  ![v4531.toNat, 3456]
def k0_off67 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4537 : Index := Scalar.indexCast v4366
  let c3584 : Index := 3584#32
  ![v4537.toNat, 3584]
def k0_off68 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4543 : Index := Scalar.indexCast v4366
  let c3712 : Index := 3712#32
  ![v4543.toNat, 3712]
def k0_off69 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4549 : Index := Scalar.indexCast v4366
  let c3840 : Index := 3840#32
  ![v4549.toNat, 3840]
def k0_off70 (k0_t1 : Fin k0_t1_loop.trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v9 : BitVec 32 := Scalar.muli arg9 c1_i32_6
  let v10 : BitVec 32 := Scalar.addi c0_i32_7 v9
  let c2_i32_1870 : BitVec 32 := 2#32
  let v4364 : BitVec 32 := Scalar.muli v10 c2_i32_1870
  let c8_i32_1871 : BitVec 32 := 8#32
  let v4365 : BitVec 32 := Scalar.muli v4364 c8_i32_1871
  let v4366 : BitVec 32 := v4365
  let v4555 : Index := Scalar.indexCast v4366
  let c3968 : Index := 3968#32
  ![v4555.toNat, 3968]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x16x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S20x1x4096 : Shape := ⟨3, ![20, 1, 4096]⟩
abbrev S11008x382 : Shape := ⟨2, ![11008, 382]⟩
abbrev S1376x16x8x128 : Shape := ⟨4, ![1376, 16, 8, 128]⟩
abbrev S1024x8 : Shape := ⟨2, ![1024, 8]⟩
abbrev S4096 : Shape := ⟨1, ![4096]⟩
abbrev S506 : Shape := ⟨1, ![506]⟩
abbrev S_ : Shape := ⟨0, ![]⟩
abbrev S506x1 : Shape := ⟨2, ![506, 1]⟩
abbrev S11008x506 : Shape := ⟨2, ![11008, 506]⟩
abbrev S1x506 : Shape := ⟨2, ![1, 506]⟩
abbrev S1376x4x4x8x128 : Shape := ⟨5, ![1376, 4, 4, 8, 128]⟩
abbrev S1376x8x128x4x4 : Shape := ⟨5, ![1376, 8, 128, 4, 4]⟩
abbrev S11008x512x4 : Shape := ⟨3, ![11008, 512, 4]⟩
abbrev S11008x512x4x2 : Shape := ⟨4, ![11008, 512, 4, 2]⟩
abbrev S11008x512x8 : Shape := ⟨3, ![11008, 512, 8]⟩
abbrev S11008x506x1 : Shape := ⟨3, ![11008, 506, 1]⟩
abbrev S11008x506x8 : Shape := ⟨3, ![11008, 506, 8]⟩
abbrev S48 : Shape := ⟨1, ![48]⟩
abbrev S6x8 : Shape := ⟨2, ![6, 8]⟩
abbrev S4048 : Shape := ⟨1, ![4048]⟩
abbrev S506x8 : Shape := ⟨2, ![506, 8]⟩
abbrev S11008x6x8 : Shape := ⟨3, ![11008, 6, 8]⟩
abbrev S1x6x8 : Shape := ⟨3, ![1, 6, 8]⟩
abbrev S1x506x8 : Shape := ⟨3, ![1, 506, 8]⟩
abbrev S11008x48 : Shape := ⟨2, ![11008, 48]⟩
abbrev S11008x4048 : Shape := ⟨2, ![11008, 4048]⟩
abbrev S11008x4096 : Shape := ⟨2, ![11008, 4096]⟩
abbrev S20x1x11008 : Shape := ⟨3, ![20, 1, 11008]⟩
abbrev S20x11008 : Shape := ⟨2, ![20, 11008]⟩

abbrev nBuf : Space → Nat
  | .hbm => 122
  | .vmem => 0
  | .smem => 0
  | _ => 0

abbrev bufTy : (tb : Table) → Fin (tcTables nBuf tb) → BufTy
  | .hbm, ⟨0, _⟩ => ⟨S20x1x4096, .bf16⟩
  | .hbm, ⟨1, _⟩ => ⟨S11008x382, .i32⟩
  | .hbm, ⟨2, _⟩ => ⟨S1376x16x8x128, .i32⟩
  | .hbm, ⟨3, _⟩ => ⟨S1024x8, .i16⟩
  | .hbm, ⟨4, _⟩ => ⟨S4096, .f32⟩
  | .hbm, ⟨5, _⟩ => ⟨S4096, .f32⟩
  | .hbm, ⟨6, _⟩ => ⟨S506, .i32⟩
  | .hbm, ⟨7, _⟩ => ⟨S_, .i32⟩
  | .hbm, ⟨8, _⟩ => ⟨S506, .i32⟩
  | .hbm, ⟨9, _⟩ => ⟨S506, .i32⟩
  | .hbm, ⟨10, _⟩ => ⟨S_, .i32⟩
  | .hbm, ⟨11, _⟩ => ⟨S506, .i32⟩
  | .hbm, ⟨12, _⟩ => ⟨S506, .i32⟩
  | .hbm, ⟨13, _⟩ => ⟨S11008x382, .i32⟩
  | .hbm, ⟨14, _⟩ => ⟨S_, .i32⟩
  | .hbm, ⟨15, _⟩ => ⟨S506, .i32⟩
  | .hbm, ⟨16, _⟩ => ⟨S506, .i32⟩
  | .hbm, ⟨17, _⟩ => ⟨S_, .i32⟩
  | .hbm, ⟨18, _⟩ => ⟨S506, .i32⟩
  | .hbm, ⟨19, _⟩ => ⟨S506, .i32⟩
  | .hbm, ⟨20, _⟩ => ⟨S_, .i32⟩
  | .hbm, ⟨21, _⟩ => ⟨S506, .i32⟩
  | .hbm, ⟨22, _⟩ => ⟨S506, .i32⟩
  | .hbm, ⟨23, _⟩ => ⟨S506, .i32⟩
  | .hbm, ⟨24, _⟩ => ⟨S_, .i32⟩
  | .hbm, ⟨25, _⟩ => ⟨S506, .i32⟩
  | .hbm, ⟨26, _⟩ => ⟨S506, .i1⟩
  | .hbm, ⟨27, _⟩ => ⟨S_, .i32⟩
  | .hbm, ⟨28, _⟩ => ⟨S506, .i32⟩
  | .hbm, ⟨29, _⟩ => ⟨S506, .i32⟩
  | .hbm, ⟨30, _⟩ => ⟨S506, .i32⟩
  | .hbm, ⟨31, _⟩ => ⟨S506x1, .i32⟩
  | .hbm, ⟨32, _⟩ => ⟨S11008x506, .i32⟩
  | .hbm, ⟨33, _⟩ => ⟨S_, .i32⟩
  | .hbm, ⟨34, _⟩ => ⟨S506, .i32⟩
  | .hbm, ⟨35, _⟩ => ⟨S506, .i32⟩
  | .hbm, ⟨36, _⟩ => ⟨S_, .i32⟩
  | .hbm, ⟨37, _⟩ => ⟨S506, .i32⟩
  | .hbm, ⟨38, _⟩ => ⟨S506, .i32⟩
  | .hbm, ⟨39, _⟩ => ⟨S_, .i32⟩
  | .hbm, ⟨40, _⟩ => ⟨S506, .i32⟩
  | .hbm, ⟨41, _⟩ => ⟨S506, .i1⟩
  | .hbm, ⟨42, _⟩ => ⟨S_, .i32⟩
  | .hbm, ⟨43, _⟩ => ⟨S506, .i32⟩
  | .hbm, ⟨44, _⟩ => ⟨S506, .i32⟩
  | .hbm, ⟨45, _⟩ => ⟨S506, .i32⟩
  | .hbm, ⟨46, _⟩ => ⟨S506x1, .i32⟩
  | .hbm, ⟨47, _⟩ => ⟨S11008x506, .i32⟩
  | .hbm, ⟨48, _⟩ => ⟨S_, .i32⟩
  | .hbm, ⟨49, _⟩ => ⟨S506, .i32⟩
  | .hbm, ⟨50, _⟩ => ⟨S506, .i32⟩
  | .hbm, ⟨51, _⟩ => ⟨S_, .i32⟩
  | .hbm, ⟨52, _⟩ => ⟨S506, .i32⟩
  | .hbm, ⟨53, _⟩ => ⟨S506, .i1⟩
  | .hbm, ⟨54, _⟩ => ⟨S_, .i32⟩
  | .hbm, ⟨55, _⟩ => ⟨S506, .i32⟩
  | .hbm, ⟨56, _⟩ => ⟨S506, .i32⟩
  | .hbm, ⟨57, _⟩ => ⟨S_, .i32⟩
  | .hbm, ⟨58, _⟩ => ⟨S506, .i32⟩
  | .hbm, ⟨59, _⟩ => ⟨S506, .i32⟩
  | .hbm, ⟨60, _⟩ => ⟨S1x506, .i32⟩
  | .hbm, ⟨61, _⟩ => ⟨S11008x506, .i32⟩
  | .hbm, ⟨62, _⟩ => ⟨S11008x506, .i32⟩
  | .hbm, ⟨63, _⟩ => ⟨S_, .i32⟩
  | .hbm, ⟨64, _⟩ => ⟨S11008x506, .i1⟩
  | .hbm, ⟨65, _⟩ => ⟨S11008x506, .i32⟩
  | .hbm, ⟨66, _⟩ => ⟨S11008x506, .i32⟩
  | .hbm, ⟨67, _⟩ => ⟨S1x506, .i32⟩
  | .hbm, ⟨68, _⟩ => ⟨S11008x506, .i32⟩
  | .hbm, ⟨69, _⟩ => ⟨S11008x506, .i32⟩
  | .hbm, ⟨70, _⟩ => ⟨S11008x506, .i32⟩
  | .hbm, ⟨71, _⟩ => ⟨S_, .i32⟩
  | .hbm, ⟨72, _⟩ => ⟨S11008x506, .i32⟩
  | .hbm, ⟨73, _⟩ => ⟨S11008x506, .i32⟩
  | .hbm, ⟨74, _⟩ => ⟨S11008x506, .i32⟩
  | .hbm, ⟨75, _⟩ => ⟨S1376x4x4x8x128, .i32⟩
  | .hbm, ⟨76, _⟩ => ⟨S1376x8x128x4x4, .i32⟩
  | .hbm, ⟨77, _⟩ => ⟨S11008x512x4, .i32⟩
  | .hbm, ⟨78, _⟩ => ⟨S11008x512x4x2, .bf16⟩
  | .hbm, ⟨79, _⟩ => ⟨S11008x512x8, .bf16⟩
  | .hbm, ⟨80, _⟩ => ⟨S11008x512x8, .f32⟩
  | .hbm, ⟨81, _⟩ => ⟨S1024x8, .bf16⟩
  | .hbm, ⟨82, _⟩ => ⟨S_, .i32⟩
  | .hbm, ⟨83, _⟩ => ⟨S11008x506, .i32⟩
  | .hbm, ⟨84, _⟩ => ⟨S11008x506, .i1⟩
  | .hbm, ⟨85, _⟩ => ⟨S_, .i32⟩
  | .hbm, ⟨86, _⟩ => ⟨S11008x506, .i32⟩
  | .hbm, ⟨87, _⟩ => ⟨S11008x506, .i32⟩
  | .hbm, ⟨88, _⟩ => ⟨S11008x506, .i32⟩
  | .hbm, ⟨89, _⟩ => ⟨S11008x506x1, .i32⟩
  | .hbm, ⟨90, _⟩ => ⟨S11008x506x8, .bf16⟩
  | .hbm, ⟨91, _⟩ => ⟨S11008x506x8, .f32⟩
  | .hbm, ⟨92, _⟩ => ⟨S48, .f32⟩
  | .hbm, ⟨93, _⟩ => ⟨S6x8, .f32⟩
  | .hbm, ⟨94, _⟩ => ⟨S48, .f32⟩
  | .hbm, ⟨95, _⟩ => ⟨S6x8, .f32⟩
  | .hbm, ⟨96, _⟩ => ⟨S4048, .f32⟩
  | .hbm, ⟨97, _⟩ => ⟨S506x8, .f32⟩
  | .hbm, ⟨98, _⟩ => ⟨S4048, .f32⟩
  | .hbm, ⟨99, _⟩ => ⟨S506x8, .f32⟩
  | .hbm, ⟨100, _⟩ => ⟨S11008x6x8, .f32⟩
  | .hbm, ⟨101, _⟩ => ⟨S1x6x8, .f32⟩
  | .hbm, ⟨102, _⟩ => ⟨S11008x6x8, .f32⟩
  | .hbm, ⟨103, _⟩ => ⟨S11008x6x8, .f32⟩
  | .hbm, ⟨104, _⟩ => ⟨S1x6x8, .f32⟩
  | .hbm, ⟨105, _⟩ => ⟨S11008x6x8, .f32⟩
  | .hbm, ⟨106, _⟩ => ⟨S11008x6x8, .f32⟩
  | .hbm, ⟨107, _⟩ => ⟨S11008x506x8, .f32⟩
  | .hbm, ⟨108, _⟩ => ⟨S11008x506x8, .f32⟩
  | .hbm, ⟨109, _⟩ => ⟨S1x506x8, .f32⟩
  | .hbm, ⟨110, _⟩ => ⟨S11008x506x8, .f32⟩
  | .hbm, ⟨111, _⟩ => ⟨S11008x506x8, .f32⟩
  | .hbm, ⟨112, _⟩ => ⟨S1x506x8, .f32⟩
  | .hbm, ⟨113, _⟩ => ⟨S11008x506x8, .f32⟩
  | .hbm, ⟨114, _⟩ => ⟨S11008x506x8, .f32⟩
  | .hbm, ⟨115, _⟩ => ⟨S11008x48, .f32⟩
  | .hbm, ⟨116, _⟩ => ⟨S11008x4048, .f32⟩
  | .hbm, ⟨117, _⟩ => ⟨S11008x4096, .f32⟩
  | .hbm, ⟨118, _⟩ => ⟨S11008x4096, .bf16⟩
  | .hbm, ⟨119, _⟩ => ⟨S20x1x11008, .f32⟩
  | .hbm, ⟨120, _⟩ => ⟨S20x1x11008, .bf16⟩
  | .hbm, ⟨121, _⟩ => ⟨S20x11008, .bf16⟩
  | _, _ => ⟨S20x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_c_8 : Ref sig .tc := ⟨.hbm, 39, rfl⟩
abbrev main_v24 : Ref sig .tc := ⟨.hbm, 40, rfl⟩
abbrev main_v25 : Ref sig .tc := ⟨.hbm, 41, rfl⟩
abbrev main_c_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_c_11 : Ref sig .tc := ⟨.hbm, 51, rfl⟩
abbrev main_v33 : Ref sig .tc := ⟨.hbm, 52, rfl⟩
abbrev main_v34 : Ref sig .tc := ⟨.hbm, 53, rfl⟩
abbrev main_c_12 : Ref sig .tc := ⟨.hbm, 54, rfl⟩
abbrev main_v35 : Ref sig .tc := ⟨.hbm, 55, rfl⟩
abbrev main_v36 : Ref sig .tc := ⟨.hbm, 56, rfl⟩
abbrev main_c_13 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_14 : Ref sig .tc := ⟨.hbm, 63, rfl⟩
abbrev main_call0_v0 : Ref sig .tc := ⟨.hbm, 64, rfl⟩
abbrev main_call0_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_v57 : Ref sig .tc := ⟨.hbm, 83, rfl⟩
abbrev main_v58 : Ref sig .tc := ⟨.hbm, 84, rfl⟩
abbrev main_c_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Expand.lean ====
abbrev S11008x382 : Shape := ⟨2, ![11008, 382]⟩
abbrev S16384x8 : Shape := ⟨2, ![16384, 8]⟩
abbrev S1024x8 : Shape := ⟨2, ![1024, 8]⟩
abbrev S16384x4x2 : Shape := ⟨3, ![16384, 4, 2]⟩
abbrev S16384x4 : Shape := ⟨2, ![16384, 4]⟩
abbrev S4x16384 : Shape := ⟨2, ![4, 16384]⟩
abbrev S1024x4x2 : Shape := ⟨3, ![1024, 4, 2]⟩
abbrev S1024x4 : Shape := ⟨2, ![1024, 4]⟩
abbrev S4x1024 : Shape := ⟨2, ![4, 1024]⟩
abbrev S4x17408 : Shape := ⟨2, ![4, 17408]⟩
abbrev S69632 : Shape := ⟨1, ![69632]⟩
abbrev S1376x16x8x128 : Shape := ⟨4, ![1376, 16, 8, 128]⟩
abbrev S2x3x8x128 : Shape := ⟨4, ![2, 3, 8, 128]⟩
abbrev S2x16x8x128 : Shape := ⟨4, ![2, 16, 8, 128]⟩
abbrev S_ : Shape := ⟨0, ![]⟩
abbrev S2 : Shape := ⟨1, ![2]⟩
abbrev S16 : Shape := ⟨1, ![16]⟩
abbrev S1x1x8x128 : Shape := ⟨4, ![1, 1, 8, 128]⟩
abbrev S8x128 : Shape := ⟨2, ![8, 128]⟩
abbrev S1 : Shape := ⟨1, ![1]⟩
abbrev S1x1x8x126 : Shape := ⟨4, ![1, 1, 8, 126]⟩
abbrev S8x126 : Shape := ⟨2, ![8, 126]⟩
abbrev S1x16x8x128 : Shape := ⟨4, ![1, 16, 8, 128]⟩
abbrev S16x8x128 : Shape := ⟨3, ![16, 8, 128]⟩
abbrev S1x3x8x128 : Shape := ⟨4, ![1, 3, 8, 128]⟩
abbrev S3x8x128 : Shape := ⟨3, ![3, 8, 128]⟩
abbrev S1x1x1x16 : Shape := ⟨4, ![1, 1, 1, 16]⟩

abbrev nBuf : Table → Nat
  | .hbm => 12
  | .local .scVector .vmem => 3
  | _ => 0

abbrev bufTy : (tb : Table) → Fin (nBuf tb) → BufTy
  | .hbm, ⟨0, _⟩ => ⟨S11008x382, .i32⟩
  | .hbm, ⟨1, _⟩ => ⟨S16384x8, .bf16⟩
  | .hbm, ⟨2, _⟩ => ⟨S1024x8, .bf16⟩
  | .hbm, ⟨3, _⟩ => ⟨S16384x4x2, .bf16⟩
  | .hbm, ⟨4, _⟩ => ⟨S16384x4, .i32⟩
  | .hbm, ⟨5, _⟩ => ⟨S4x16384, .i32⟩
  | .hbm, ⟨6, _⟩ => ⟨S1024x4x2, .bf16⟩
  | .hbm, ⟨7, _⟩ => ⟨S1024x4, .i32⟩
  | .hbm, ⟨8, _⟩ => ⟨S4x1024, .i32⟩
  | .hbm, ⟨9, _⟩ => ⟨S4x17408, .i32⟩
  | .hbm, ⟨10, _⟩ => ⟨S69632, .i32⟩
  | .hbm, ⟨11, _⟩ => ⟨S1376x16x8x128, .i32⟩
  | .local .scVector .vmem, ⟨0, _⟩ => ⟨S69632, .i32⟩
  | .local .scVector .vmem, ⟨1, _⟩ => ⟨S2x3x8x128, .i32⟩
  | .local .scVector .vmem, ⟨2, _⟩ => ⟨S2x16x8x128, .i32⟩
  | _, _ => ⟨S11008x382, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_arg0_scv : Ref sig .scVector := ⟨.hbm, 0, rfl⟩
abbrev main_v7_scv : Ref sig .scVector := ⟨.hbm, 10, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c8_i32 : BitVec 32 := 8#32
  let v4 : BitVec 32 := Scalar.muli v3 c8_i32
  let c0_i32_7 : BitVec 32 := 0#32
  ![v4.toNat, 0]
def k0_off2 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c8_i32_0 : BitVec 32 := 8#32
  let v5 : BitVec 32 := Scalar.muli v3 c8_i32_0
  let c128_i32 : BitVec 32 := 128#32
  ![v5.toNat, 128]
def k0_off3 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c8_i32_1 : BitVec 32 := 8#32
  let v6 : BitVec 32 := Scalar.muli v3 c8_i32_1
  let c256_i32 : BitVec 32 := 256#32
  ![v6.toNat, 256]
@[reducible] def k0_t1_loop : Scf.Loop 32 :=
  let c0_i32_26 : BitVec 32 := 0#32
  let c21_i32 : BitVec 32 := 21#32
  let v31 : BitVec 32 := Scalar.addi c0_i32_26 c21_i32
  let c1_i32_27 : BitVec 32 := 1#32
  ⟨c0_i32_26, v31, c1_i32_27⟩
def k0_off4 (i : grid0.Coords) (k0_t1 : Fin k0_t1_loop.trips) : Fin 2 → Nat :=
  let c0_i32_123 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c32_i32_122 : BitVec 32 := 32#32
  let v108 : BitVec 32 := Scalar.muli v107 c32_i32_122
  let v109 : BitVec 32 := Scalar.addi c0_i32_123 v108
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v110 : BitVec 32 := Scalar.addi v109 v1
  let c8_i32_124 : BitVec 32 := 8#32
  let v111 : BitVec 32 := Scalar.muli v110 c8_i32_124
  let c0_i32_132 : BitVec 32 := 0#32
  ![v111.toNat, 0]
def k0_off5 (i : grid0.Coords) (k0_t1 : Fin k0_t1_loop.trips) : Fin 2 → Nat :=
  let c0_i32_123 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c32_i32_122 : BitVec 32 := 32#32
  let v108 : BitVec 32 := Scalar.muli v107 c32_i32_122
  let v109 : BitVec 32 := Scalar.addi c0_i32_123 v108
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v110 : BitVec 32 := Scalar.addi v109 v1
  let c8_i32_125 : BitVec 32 := 8#32
  let v112 : BitVec 32 := Scalar.muli v110 c8_i32_125
  let c128_i32_141 : BitVec 32 := 128#32
  ![v112.toNat, 128]
def k0_off6 (i : grid0.Coords) (k0_t1 : Fin k0_t1_loop.trips) : Fin 2 → Nat :=
  let c0_i32_123 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c32_i32_122 : BitVec 32 := 32#32
  let v108 : BitVec 32 := Scalar.muli v107 c32_i32_122
  let v109 : BitVec 32 := Scalar.addi c0_i32_123 v108
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v110 : BitVec 32 := Scalar.addi v109 v1
  let c8_i32_126 : BitVec 32 := 8#32
  let v113 : BitVec 32 := Scalar.muli v110 c8_i32_126
  let c256_i32_150 : BitVec 32 := 256#32
  ![v113.toNat, 256]
def k0_cond1 (k0_t1 : Fin k0_t1_loop.trips) : BitVec 1 :=
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c1_i32_154 : BitVec 32 := 1#32
  let v138 : BitVec 32 := Scalar.addi v107 c1_i32_154
  let c43_i32_155 : BitVec 32 := 43#32
  let v139 : BitVec 1 := Scalar.cmpi .slt v138 c43_i32_155
  let v140 : BitVec 32 := Scalar.extui v139
  let c0_i32_156 : BitVec 32 := 0#32
  let v141 : BitVec 1 := Scalar.cmpi .ne v140 c0_i32_156
  v141

def k0_off7 (i : grid0.Coords) (k0_t1 : Fin k0_t1_loop.trips) : Fin 2 → Nat :=
  let c0_i32_246 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c1_i32_244 : BitVec 32 := 1#32
  let v212 : BitVec 32 := Scalar.addi v107 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_247 : BitVec 32 := 8#32
  let v216 : BitVec 32 := Scalar.muli v215 c8_i32_247
  let c0_i32_255 : BitVec 32 := 0#32
  ![v216.toNat, 0]
def k0_off8 (i : grid0.Coords) (k0_t1 : Fin k0_t1_loop.trips) : Fin 2 → Nat :=
  let c0_i32_246 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c1_i32_244 : BitVec 32 := 1#32
  let v212 : BitVec 32 := Scalar.addi v107 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_248 : BitVec 32 := 8#32
  let v217 : BitVec 32 := Scalar.muli v215 c8_i32_248
  let c128_i32_264 : BitVec 32 := 128#32
  ![v217.toNat, 128]
def k0_off9 (i : grid0.Coords) (k0_t1 : Fin k0_t1_loop.trips) : Fin 2 → Nat :=
  let c0_i32_246 : BitVec 32 := 0#32
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c1_i32_244 : BitVec 32 := 1#32
  let v212 : BitVec 32 := Scalar.addi v107 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_249 : BitVec 32 := 8#32
  let v218 : BitVec 32 := Scalar.muli v215 c8_i32_249
  let c256_i32_273 : BitVec 32 := 256#32
  ![v218.toNat, 256]
def k0_cond2 (k0_t1 : Fin k0_t1_loop.trips) : BitVec 1 :=
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c2_i32_157 : BitVec 32 := 2#32
  let v142 : BitVec 1 := Scalar.cmpi .sge v107 c2_i32_157
  let v143 : BitVec 32 := Scalar.extui v142
  let c0_i32_158 : BitVec 32 := 0#32
  let v144 : BitVec 1 := Scalar.cmpi .ne v143 c0_i32_158
  v144

def k0_off10 (i : grid0.Coords) (k0_t1 : Fin k0_t1_loop.trips) : Fin 4 → Nat :=
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c2_i32_244 : BitVec 32 := 2#32
  let v212 : BitVec 32 := Scalar.subi v107 c2_i32_244
  let c32_i32_245 : BitVec 32 := 32#32
  let v213 : BitVec 32 := Scalar.muli v212 c32_i32_245
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v214 : BitVec 32 := Scalar.addi v213 v1
  let c0_i32_251 : BitVec 32 := 0#32
  let c0_i32_252 : BitVec 32 := 0#32
  let c0_i32_253 : BitVec 32 := 0#32
  ![v214.toNat, 0, 0, 0]
@[reducible] def k0_t2_loop : Scf.Loop 32 :=
  let c0_i32_159 : BitVec 32 := 0#32
  let c56_i32_160 : BitVec 32 := 56#32
  let v145 : BitVec 32 := Scalar.addi c0_i32_159 c56_i32_160
  let c1_i32_161 : BitVec 32 := 1#32
  ⟨c0_i32_159, v145, c1_i32_161⟩

def k0_chk1 (v225 : IVec S16 32) (v226 : IVec S16 32) (v228 : IVec S16 32) : Prop :=
  (∀ a x, ((![v225, v226, v228] : Fin 3 → IVec S16 32) a x).toNat < S3x8x128.size a)
theorem k0_idx1_inb : ∀ (v225 : IVec S16 32) (v226 : IVec S16 32) (v228 : IVec S16 32) (k0_hw1 : k0_chk1 v225 v226 v228), ∀ a x, ((![v225, v226, v228] : Fin 3 → IVec S16 32) a x).toNat < S3x8x128.size a := fun v225 v226 v228 k0_hw1 => k0_hw1

def k0_chk2 (v235 : IVec S16 32) (v236 : IVec S16 32) (v238 : IVec S16 32) : Prop :=
  (∀ a x, ((![v235, v236, v238] : Fin 3 → IVec S16 32) a x).toNat < S3x8x128.size a)
theorem k0_idx2_inb : ∀ (v235 : IVec S16 32) (v236 : IVec S16 32) (v238 : IVec S16 32) (k0_hw2 : k0_chk2 v235 v236 v238), ∀ a x, ((![v235, v236, v238] : Fin 3 → IVec S16 32) a x).toNat < S3x8x128.size a := fun v235 v236 v238 k0_hw2 => k0_hw2

def k0_chk3 (v245 : IVec S16 32) (v246 : IVec S16 32) (v248 : IVec S16 32) : Prop :=
  (∀ a x, ((![v245, v246, v248] : Fin 3 → IVec S16 32) a x).toNat < S3x8x128.size a)
theorem k0_idx3_inb : ∀ (v245 : IVec S16 32) (v246 : IVec S16 32) (v248 : IVec S16 32) (k0_hw3 : k0_chk3 v245 v246 v248), ∀ a x, ((![v245, v246, v248] : Fin 3 → IVec S16 32) a x).toNat < S3x8x128.size a := fun v245 v246 v248 k0_hw3 => k0_hw3

def k0_chk4 (v255 : IVec S16 32) (v256 : IVec S16 32) (v258 : IVec S16 32) : Prop :=
  (∀ a x, ((![v255, v256, v258] : Fin 3 → IVec S16 32) a x).toNat < S3x8x128.size a)
theorem k0_idx4_inb : ∀ (v255 : IVec S16 32) (v256 : IVec S16 32) (v258 : IVec S16 32) (k0_hw4 : k0_chk4 v255 v256 v258), ∀ a x, ((![v255, v256, v258] : Fin 3 → IVec S16 32) a x).toNat < S3x8x128.size a := fun v255 v256 v258 k0_hw4 => k0_hw4

def k0_chk5 (v285 : IVec S16 32) : Prop :=
  (∀ a x, ((![v285] : Fin 1 → IVec S16 32) a x).toNat < S69632.size a)
theorem k0_idx5_inb : ∀ (v285 : IVec S16 32) (k0_hw5 : k0_chk5 v285), ∀ a x, ((![v285] : Fin 1 → IVec S16 32) a x).toNat < S69632.size a := fun v285 k0_hw5 => k0_hw5
def k0_off11 (k0_t2 : Fin k0_t2_loop.trips) : Fin 4 → Nat :=
  let c0_i32_281 : BitVec 32 := 0#32
  let v288 : Index := Scalar.indexCast c0_i32_281
  let c0_i32_282 : BitVec 32 := 0#32
  let v289 : Index := Scalar.indexCast c0_i32_282
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v290 : Index := Scalar.indexCast v215
  let c3_i32 : BitVec 32 := 3#32
  let v214 : BitVec 32 := Scalar.shrui v213 c3_i32
  let c16_i32 : BitVec 32 := 16#32
  let v287 : BitVec 32 := Scalar.muli v214 c16_i32
  let v291 : Index := Scalar.indexCast v287
  ![0, 0, v290.toNat, v291.toNat]

def k0_chk6 (v294 : IVec S16 32) : Prop :=
  (∀ a x, ((![v294] : Fin 1 → IVec S16 32) a x).toNat < S69632.size a)
theorem k0_idx6_inb : ∀ (v294 : IVec S16 32) (k0_hw6 : k0_chk6 v294), ∀ a x, ((![v294] : Fin 1 → IVec S16 32) a x).toNat < S69632.size a := fun v294 k0_hw6 => k0_hw6
def k0_off12 (k0_t2 : Fin k0_t2_loop.trips) : Fin 4 → Nat :=
  let c0_i32_284 : BitVec 32 := 0#32
  let v297 : Index := Scalar.indexCast c0_i32_284
  let c1_i32_285 : BitVec 32 := 1#32
  let v298 : Index := Scalar.indexCast c1_i32_285
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v299 : Index := Scalar.indexCast v215
  let c3_i32 : BitVec 32 := 3#32
  let v214 : BitVec 32 := Scalar.shrui v213 c3_i32
  let c16_i32_283 : BitVec 32 := 16#32
  let v296 : BitVec 32 := Scalar.muli v214 c16_i32_283
  let v300 : Index := Scalar.indexCast v296
  ![0, 1, v299.toNat, v300.toNat]

def k0_chk7 (v303 : IVec S16 32) : Prop :=
  (∀ a x, ((![v303] : Fin 1 → IVec S16 32) a x).toNat < S69632.size a)
theorem k0_idx7_inb : ∀ (v303 : IVec S16 32) (k0_hw7 : k0_chk7 v303), ∀ a x, ((![v303] : Fin 1 → IVec S16 32) a x).toNat < S69632.size a := fun v303 k0_hw7 => k0_hw7
def k0_off13 (k0_t2 : Fin k0_t2_loop.trips) : Fin 4 → Nat :=
  let c0_i32_287 : BitVec 32 := 0#32
  let v306 : Index := Scalar.indexCast c0_i32_287
  let c2_i32_288 : BitVec 32 := 2#32
  let v307 : Index := Scalar.indexCast c2_i32_288
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v308 : Index := Scalar.indexCast v215
  let c3_i32 : BitVec 32 := 3#32
  let v214 : BitVec 32 := Scalar.shrui v213 c3_i32
  let c16_i32_286 : BitVec 32 := 16#32
  let v305 : BitVec 32 := Scalar.muli v214 c16_i32_286
  let v309 : Index := Scalar.indexCast v305
  ![0, 2, v308.toNat, v309.toNat]

def k0_chk8 (v312 : IVec S16 32) : Prop :=
  (∀ a x, ((![v312] : Fin 1 → IVec S16 32) a x).toNat < S69632.size a)
theorem k0_idx8_inb : ∀ (v312 : IVec S16 32) (k0_hw8 : k0_chk8 v312), ∀ a x, ((![v312] : Fin 1 → IVec S16 32) a x).toNat < S69632.size a := fun v312 k0_hw8 => k0_hw8
def k0_off14 (k0_t2 : Fin k0_t2_loop.trips) : Fin 4 → Nat :=
  let c0_i32_290 : BitVec 32 := 0#32
  let v315 : Index := Scalar.indexCast c0_i32_290
  let c3_i32_291 : BitVec 32 := 3#32
  let v316 : Index := Scalar.indexCast c3_i32_291
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v317 : Index := Scalar.indexCast v215
  let c3_i32 : BitVec 32 := 3#32
  let v214 : BitVec 32 := Scalar.shrui v213 c3_i32
  let c16_i32_289 : BitVec 32 := 16#32
  let v314 : BitVec 32 := Scalar.muli v214 c16_i32_289
  let v318 : Index := Scalar.indexCast v314
  ![0, 3, v317.toNat, v318.toNat]

def k0_chk9 (v321 : IVec S16 32) : Prop :=
  (∀ a x, ((![v321] : Fin 1 → IVec S16 32) a x).toNat < S69632.size a)
theorem k0_idx9_inb : ∀ (v321 : IVec S16 32) (k0_hw9 : k0_chk9 v321), ∀ a x, ((![v321] : Fin 1 → IVec S16 32) a x).toNat < S69632.size a := fun v321 k0_hw9 => k0_hw9
def k0_off15 (k0_t2 : Fin k0_t2_loop.trips) : Fin 4 → Nat :=
  let c0_i32_294 : BitVec 32 := 0#32
  let v324 : Index := Scalar.indexCast c0_i32_294
  let c4_i32_295 : BitVec 32 := 4#32
  let v325 : Index := Scalar.indexCast c4_i32_295
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v326 : Index := Scalar.indexCast v215
  let c3_i32 : BitVec 32 := 3#32
  let v214 : BitVec 32 := Scalar.shrui v213 c3_i32
  let c16_i32_293 : BitVec 32 := 16#32
  let v323 : BitVec 32 := Scalar.muli v214 c16_i32_293
  let v327 : Index := Scalar.indexCast v323
  ![0, 4, v326.toNat, v327.toNat]

def k0_chk10 (v330 : IVec S16 32) : Prop :=
  (∀ a x, ((![v330] : Fin 1 → IVec S16 32) a x).toNat < S69632.size a)
theorem k0_idx10_inb : ∀ (v330 : IVec S16 32) (k0_hw10 : k0_chk10 v330), ∀ a x, ((![v330] : Fin 1 → IVec S16 32) a x).toNat < S69632.size a := fun v330 k0_hw10 => k0_hw10
def k0_off16 (k0_t2 : Fin k0_t2_loop.trips) : Fin 4 → Nat :=
  let c0_i32_298 : BitVec 32 := 0#32
  let v333 : Index := Scalar.indexCast c0_i32_298
  let c5_i32 : BitVec 32 := 5#32
  let v334 : Index := Scalar.indexCast c5_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v335 : Index := Scalar.indexCast v215
  let c3_i32 : BitVec 32 := 3#32
  let v214 : BitVec 32 := Scalar.shrui v213 c3_i32
  let c16_i32_297 : BitVec 32 := 16#32
  let v332 : BitVec 32 := Scalar.muli v214 c16_i32_297
  let v336 : Index := Scalar.indexCast v332
  ![0, 5, v335.toNat, v336.toNat]

def k0_chk11 (v339 : IVec S16 32) : Prop :=
  (∀ a x, ((![v339] : Fin 1 → IVec S16 32) a x).toNat < S69632.size a)
theorem k0_idx11_inb : ∀ (v339 : IVec S16 32) (k0_hw11 : k0_chk11 v339), ∀ a x, ((![v339] : Fin 1 → IVec S16 32) a x).toNat < S69632.size a := fun v339 k0_hw11 => k0_hw11
def k0_off17 (k0_t2 : Fin k0_t2_loop.trips) : Fin 4 → Nat :=
  let c0_i32_301 : BitVec 32 := 0#32
  let v342 : Index := Scalar.indexCast c0_i32_301
  let c6_i32 : BitVec 32 := 6#32
  let v343 : Index := Scalar.indexCast c6_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v344 : Index := Scalar.indexCast v215
  let c3_i32 : BitVec 32 := 3#32
  let v214 : BitVec 32 := Scalar.shrui v213 c3_i32
  let c16_i32_300 : BitVec 32 := 16#32
  let v341 : BitVec 32 := Scalar.muli v214 c16_i32_300
  let v345 : Index := Scalar.indexCast v341
  ![0, 6, v344.toNat, v345.toNat]

def k0_chk12 (v348 : IVec S16 32) : Prop :=
  (∀ a x, ((![v348] : Fin 1 → IVec S16 32) a x).toNat < S69632.size a)
theorem k0_idx12_inb : ∀ (v348 : IVec S16 32) (k0_hw12 : k0_chk12 v348), ∀ a x, ((![v348] : Fin 1 → IVec S16 32) a x).toNat < S69632.size a := fun v348 k0_hw12 => k0_hw12
def k0_off18 (k0_t2 : Fin k0_t2_loop.trips) : Fin 4 → Nat :=
  let c0_i32_304 : BitVec 32 := 0#32
  let v351 : Index := Scalar.indexCast c0_i32_304
  let c7_i32_305 : BitVec 32 := 7#32
  let v352 : Index := Scalar.indexCast c7_i32_305
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v353 : Index := Scalar.indexCast v215
  let c3_i32 : BitVec 32 := 3#32
  let v214 : BitVec 32 := Scalar.shrui v213 c3_i32
  let c16_i32_303 : BitVec 32 := 16#32
  let v350 : BitVec 32 := Scalar.muli v214 c16_i32_303
  let v354 : Index := Scalar.indexCast v350
  ![0, 7, v353.toNat, v354.toNat]

def k0_chk13 (v357 : IVec S16 32) : Prop :=
  (∀ a x, ((![v357] : Fin 1 → IVec S16 32) a x).toNat < S69632.size a)
theorem k0_idx13_inb : ∀ (v357 : IVec S16 32) (k0_hw13 : k0_chk13 v357), ∀ a x, ((![v357] : Fin 1 → IVec S16 32) a x).toNat < S69632.size a := fun v357 k0_hw13 => k0_hw13
def k0_off19 (k0_t2 : Fin k0_t2_loop.trips) : Fin 4 → Nat :=
  let c0_i32_308 : BitVec 32 := 0#32
  let v360 : Index := Scalar.indexCast c0_i32_308
  let c8_i32_309 : BitVec 32 := 8#32
  let v361 : Index := Scalar.indexCast c8_i32_309
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v362 : Index := Scalar.indexCast v215
  let c3_i32 : BitVec 32 := 3#32
  let v214 : BitVec 32 := Scalar.shrui v213 c3_i32
  let c16_i32_307 : BitVec 32 := 16#32
  let v359 : BitVec 32 := Scalar.muli v214 c16_i32_307
  let v363 : Index := Scalar.indexCast v359
  ![0, 8, v362.toNat, v363.toNat]

def k0_chk14 (v366 : IVec S16 32) : Prop :=
  (∀ a x, ((![v366] : Fin 1 → IVec S16 32) a x).toNat < S69632.size a)
theorem k0_idx14_inb : ∀ (v366 : IVec S16 32) (k0_hw14 : k0_chk14 v366), ∀ a x, ((![v366] : Fin 1 → IVec S16 32) a x).toNat < S69632.size a := fun v366 k0_hw14 => k0_hw14
def k0_off20 (k0_t2 : Fin k0_t2_loop.trips) : Fin 4 → Nat :=
  let c0_i32_312 : BitVec 32 := 0#32
  let v369 : Index := Scalar.indexCast c0_i32_312
  let c9_i32 : BitVec 32 := 9#32
  let v370 : Index := Scalar.indexCast c9_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v371 : Index := Scalar.indexCast v215
  let c3_i32 : BitVec 32 := 3#32
  let v214 : BitVec 32 := Scalar.shrui v213 c3_i32
  let c16_i32_311 : BitVec 32 := 16#32
  let v368 : BitVec 32 := Scalar.muli v214 c16_i32_311
  let v372 : Index := Scalar.indexCast v368
  ![0, 9, v371.toNat, v372.toNat]

def k0_chk15 (v375 : IVec S16 32) : Prop :=
  (∀ a x, ((![v375] : Fin 1 → IVec S16 32) a x).toNat < S69632.size a)
theorem k0_idx15_inb : ∀ (v375 : IVec S16 32) (k0_hw15 : k0_chk15 v375), ∀ a x, ((![v375] : Fin 1 → IVec S16 32) a x).toNat < S69632.size a := fun v375 k0_hw15 => k0_hw15
def k0_off21 (k0_t2 : Fin k0_t2_loop.trips) : Fin 4 → Nat :=
  let c0_i32_315 : BitVec 32 := 0#32
  let v378 : Index := Scalar.indexCast c0_i32_315
  let c10_i32 : BitVec 32 := 10#32
  let v379 : Index := Scalar.indexCast c10_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v380 : Index := Scalar.indexCast v215
  let c3_i32 : BitVec 32 := 3#32
  let v214 : BitVec 32 := Scalar.shrui v213 c3_i32
  let c16_i32_314 : BitVec 32 := 16#32
  let v377 : BitVec 32 := Scalar.muli v214 c16_i32_314
  let v381 : Index := Scalar.indexCast v377
  ![0, 10, v380.toNat, v381.toNat]

def k0_chk16 (v384 : IVec S16 32) : Prop :=
  (∀ a x, ((![v384] : Fin 1 → IVec S16 32) a x).toNat < S69632.size a)
theorem k0_idx16_inb : ∀ (v384 : IVec S16 32) (k0_hw16 : k0_chk16 v384), ∀ a x, ((![v384] : Fin 1 → IVec S16 32) a x).toNat < S69632.size a := fun v384 k0_hw16 => k0_hw16
def k0_off22 (k0_t2 : Fin k0_t2_loop.trips) : Fin 4 → Nat :=
  let c0_i32_318 : BitVec 32 := 0#32
  let v387 : Index := Scalar.indexCast c0_i32_318
  let c11_i32 : BitVec 32 := 11#32
  let v388 : Index := Scalar.indexCast c11_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v389 : Index := Scalar.indexCast v215
  let c3_i32 : BitVec 32 := 3#32
  let v214 : BitVec 32 := Scalar.shrui v213 c3_i32
  let c16_i32_317 : BitVec 32 := 16#32
  let v386 : BitVec 32 := Scalar.muli v214 c16_i32_317
  let v390 : Index := Scalar.indexCast v386
  ![0, 11, v389.toNat, v390.toNat]

def k0_chk17 (v393 : IVec S16 32) : Prop :=
  (∀ a x, ((![v393] : Fin 1 → IVec S16 32) a x).toNat < S69632.size a)
theorem k0_idx17_inb : ∀ (v393 : IVec S16 32) (k0_hw17 : k0_chk17 v393), ∀ a x, ((![v393] : Fin 1 → IVec S16 32) a x).toNat < S69632.size a := fun v393 k0_hw17 => k0_hw17
def k0_off23 (k0_t2 : Fin k0_t2_loop.trips) : Fin 4 → Nat :=
  let c0_i32_321 : BitVec 32 := 0#32
  let v396 : Index := Scalar.indexCast c0_i32_321
  let c12_i32_322 : BitVec 32 := 12#32
  let v397 : Index := Scalar.indexCast c12_i32_322
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v398 : Index := Scalar.indexCast v215
  let c3_i32 : BitVec 32 := 3#32
  let v214 : BitVec 32 := Scalar.shrui v213 c3_i32
  let c16_i32_320 : BitVec 32 := 16#32
  let v395 : BitVec 32 := Scalar.muli v214 c16_i32_320
  let v399 : Index := Scalar.indexCast v395
  ![0, 12, v398.toNat, v399.toNat]

def k0_chk18 (v402 : IVec S16 32) : Prop :=
  (∀ a x, ((![v402] : Fin 1 → IVec S16 32) a x).toNat < S69632.size a)
theorem k0_idx18_inb : ∀ (v402 : IVec S16 32) (k0_hw18 : k0_chk18 v402), ∀ a x, ((![v402] : Fin 1 → IVec S16 32) a x).toNat < S69632.size a := fun v402 k0_hw18 => k0_hw18
def k0_off24 (k0_t2 : Fin k0_t2_loop.trips) : Fin 4 → Nat :=
  let c0_i32_325 : BitVec 32 := 0#32
  let v405 : Index := Scalar.indexCast c0_i32_325
  let c13_i32 : BitVec 32 := 13#32
  let v406 : Index := Scalar.indexCast c13_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v407 : Index := Scalar.indexCast v215
  let c3_i32 : BitVec 32 := 3#32
  let v214 : BitVec 32 := Scalar.shrui v213 c3_i32
  let c16_i32_324 : BitVec 32 := 16#32
  let v404 : BitVec 32 := Scalar.muli v214 c16_i32_324
  let v408 : Index := Scalar.indexCast v404
  ![0, 13, v407.toNat, v408.toNat]

def k0_chk19 (v411 : IVec S16 32) : Prop :=
  (∀ a x, ((![v411] : Fin 1 → IVec S16 32) a x).toNat < S69632.size a)
theorem k0_idx19_inb : ∀ (v411 : IVec S16 32) (k0_hw19 : k0_chk19 v411), ∀ a x, ((![v411] : Fin 1 → IVec S16 32) a x).toNat < S69632.size a := fun v411 k0_hw19 => k0_hw19
def k0_off25 (k0_t2 : Fin k0_t2_loop.trips) : Fin 4 → Nat :=
  let c0_i32_328 : BitVec 32 := 0#32
  let v414 : Index := Scalar.indexCast c0_i32_328
  let c14_i32 : BitVec 32 := 14#32
  let v415 : Index := Scalar.indexCast c14_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v416 : Index := Scalar.indexCast v215
  let c3_i32 : BitVec 32 := 3#32
  let v214 : BitVec 32 := Scalar.shrui v213 c3_i32
  let c16_i32_327 : BitVec 32 := 16#32
  let v413 : BitVec 32 := Scalar.muli v214 c16_i32_327
  let v417 : Index := Scalar.indexCast v413
  ![0, 14, v416.toNat, v417.toNat]

def k0_chk20 (v420 : IVec S16 32) : Prop :=
  (∀ a x, ((![v420] : Fin 1 → IVec S16 32) a x).toNat < S69632.size a)
theorem k0_idx20_inb : ∀ (v420 : IVec S16 32) (k0_hw20 : k0_chk20 v420), ∀ a x, ((![v420] : Fin 1 → IVec S16 32) a x).toNat < S69632.size a := fun v420 k0_hw20 => k0_hw20
def k0_off26 (k0_t2 : Fin k0_t2_loop.trips) : Fin 4 → Nat :=
  let c0_i32_331 : BitVec 32 := 0#32
  let v423 : Index := Scalar.indexCast c0_i32_331
  let c15_i32 : BitVec 32 := 15#32
  let v424 : Index := Scalar.indexCast c15_i32
  let c0_i32_245 : BitVec 32 := 0#32
  let c0_i32_159 : BitVec 32 := 0#32
  let c1_i32_161 : BitVec 32 := 1#32
  let arg13 : BitVec 32 := Scf.iv c0_i32_159 c1_i32_161 k0_t2
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v425 : Index := Scalar.indexCast v215
  let c3_i32 : BitVec 32 := 3#32
  let v214 : BitVec 32 := Scalar.shrui v213 c3_i32
  let c16_i32_330 : BitVec 32 := 16#32
  let v422 : BitVec 32 := Scalar.muli v214 c16_i32_330
  let v426 : Index := Scalar.indexCast v422
  ![0, 15, v425.toNat, v426.toNat]
@[reducible] def k0_t3_loop : Scf.Loop 32 :=
  let c0_i32_163 : BitVec 32 := 0#32
  let c8_i32_164 : BitVec 32 := 8#32
  let v146 : BitVec 32 := Scalar.addi c0_i32_163 c8_i32_164
  let c1_i32_165 : BitVec 32 := 1#32
  ⟨c0_i32_163, v146, c1_i32_165⟩

def k0_chk21 (v223 : IVec S16 32) (v224 : IVec S16 32) (v226 : IVec S16 32) : Prop :=
  (∀ a x, ((![v223, v224, v226] : Fin 3 → IVec S16 32) a x).toNat < S3x8x128.size a)
theorem k0_idx21_inb : ∀ (v223 : IVec S16 32) (v224 : IVec S16 32) (v226 : IVec S16 32) (k0_hw21 : k0_chk21 v223 v224 v226), ∀ a x, ((![v223, v224, v226] : Fin 3 → IVec S16 32) a x).toNat < S3x8x128.size a := fun v223 v224 v226 k0_hw21 => k0_hw21

def k0_chk22 (v235 : IVec S16 32) (v236 : IVec S16 32) (v238 : IVec S16 32) : Prop :=
  (∀ a x, ((![v235, v236, v238] : Fin 3 → IVec S16 32) a x).toNat < S3x8x128.size a)
theorem k0_idx22_inb : ∀ (v235 : IVec S16 32) (v236 : IVec S16 32) (v238 : IVec S16 32) (k0_hw22 : k0_chk22 v235 v236 v238), ∀ a x, ((![v235, v236, v238] : Fin 3 → IVec S16 32) a x).toNat < S3x8x128.size a := fun v235 v236 v238 k0_hw22 => k0_hw22

def k0_chk23 (v247 : IVec S16 32) (v248 : IVec S16 32) (v250 : IVec S16 32) : Prop :=
  (∀ a x, ((![v247, v248, v250] : Fin 3 → IVec S16 32) a x).toNat < S3x8x128.size a)
theorem k0_idx23_inb : ∀ (v247 : IVec S16 32) (v248 : IVec S16 32) (v250 : IVec S16 32) (k0_hw23 : k0_chk23 v247 v248 v250), ∀ a x, ((![v247, v248, v250] : Fin 3 → IVec S16 32) a x).toNat < S3x8x128.size a := fun v247 v248 v250 k0_hw23 => k0_hw23

def k0_chk24 (v259 : IVec S16 32) (v260 : IVec S16 32) (v262 : IVec S16 32) : Prop :=
  (∀ a x, ((![v259, v260, v262] : Fin 3 → IVec S16 32) a x).toNat < S3x8x128.size a)
theorem k0_idx24_inb : ∀ (v259 : IVec S16 32) (v260 : IVec S16 32) (v262 : IVec S16 32) (k0_hw24 : k0_chk24 v259 v260 v262), ∀ a x, ((![v259, v260, v262] : Fin 3 → IVec S16 32) a x).toNat < S3x8x128.size a := fun v259 v260 v262 k0_hw24 => k0_hw24

def k0_chk25 (v290 : IVec S16 32) (v291 : IVec S16 32) (v293 : IVec S16 32) : Prop :=
  (∀ a x, ((![v290, v291, v293] : Fin 3 → IVec S16 32) a x).toNat < S3x8x128.size a)
theorem k0_idx25_inb : ∀ (v290 : IVec S16 32) (v291 : IVec S16 32) (v293 : IVec S16 32) (k0_hw25 : k0_chk25 v290 v291 v293), ∀ a x, ((![v290, v291, v293] : Fin 3 → IVec S16 32) a x).toNat < S3x8x128.size a := fun v290 v291 v293 k0_hw25 => k0_hw25

def k0_chk26 (v300 : IVec S16 32) (v301 : IVec S16 32) (v303 : IVec S16 32) : Prop :=
  (∀ a x, ((![v300, v301, v303] : Fin 3 → IVec S16 32) a x).toNat < S3x8x128.size a)
theorem k0_idx26_inb : ∀ (v300 : IVec S16 32) (v301 : IVec S16 32) (v303 : IVec S16 32) (k0_hw26 : k0_chk26 v300 v301 v303), ∀ a x, ((![v300, v301, v303] : Fin 3 → IVec S16 32) a x).toNat < S3x8x128.size a := fun v300 v301 v303 k0_hw26 => k0_hw26

def k0_chk27 (v472 : IVec S16 32) : Prop :=
  (∀ a x, ((![v472] : Fin 1 → IVec S16 32) a x).toNat < S69632.size a)
theorem k0_idx27_inb : ∀ (v472 : IVec S16 32) (k0_hw27 : k0_chk27 v472), ∀ a x, ((![v472] : Fin 1 → IVec S16 32) a x).toNat < S69632.size a := fun v472 k0_hw27 => k0_hw27
def k0_off27 (k0_t3 : Fin k0_t3_loop.trips) : Fin 4 → Nat :=
  let c0_i32_356 : BitVec 32 := 0#32
  let v474 : Index := Scalar.indexCast c0_i32_356
  let c0_i32_357 : BitVec 32 := 0#32
  let v475 : Index := Scalar.indexCast c0_i32_357
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v476 : Index := Scalar.indexCast v213
  let c112 : Index := 112#32
  ![0, 0, v476.toNat, 112]

def k0_chk28 (v479 : IVec S16 32) : Prop :=
  (∀ a x, ((![v479] : Fin 1 → IVec S16 32) a x).toNat < S69632.size a)
theorem k0_idx28_inb : ∀ (v479 : IVec S16 32) (k0_hw28 : k0_chk28 v479), ∀ a x, ((![v479] : Fin 1 → IVec S16 32) a x).toNat < S69632.size a := fun v479 k0_hw28 => k0_hw28
def k0_off28 (k0_t3 : Fin k0_t3_loop.trips) : Fin 4 → Nat :=
  let c0_i32_358 : BitVec 32 := 0#32
  let v481 : Index := Scalar.indexCast c0_i32_358
  let c1_i32_359 : BitVec 32 := 1#32
  let v482 : Index := Scalar.indexCast c1_i32_359
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v483 : Index := Scalar.indexCast v213
  let c112_360 : Index := 112#32
  ![0, 1, v483.toNat, 112]

def k0_chk29 (v486 : IVec S16 32) : Prop :=
  (∀ a x, ((![v486] : Fin 1 → IVec S16 32) a x).toNat < S69632.size a)
theorem k0_idx29_inb : ∀ (v486 : IVec S16 32) (k0_hw29 : k0_chk29 v486), ∀ a x, ((![v486] : Fin 1 → IVec S16 32) a x).toNat < S69632.size a := fun v486 k0_hw29 => k0_hw29
def k0_off29 (k0_t3 : Fin k0_t3_loop.trips) : Fin 4 → Nat :=
  let c0_i32_361 : BitVec 32 := 0#32
  let v488 : Index := Scalar.indexCast c0_i32_361
  let c2_i32_362 : BitVec 32 := 2#32
  let v489 : Index := Scalar.indexCast c2_i32_362
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v490 : Index := Scalar.indexCast v213
  let c112_363 : Index := 112#32
  ![0, 2, v490.toNat, 112]

def k0_chk30 (v493 : IVec S16 32) : Prop :=
  (∀ a x, ((![v493] : Fin 1 → IVec S16 32) a x).toNat < S69632.size a)
theorem k0_idx30_inb : ∀ (v493 : IVec S16 32) (k0_hw30 : k0_chk30 v493), ∀ a x, ((![v493] : Fin 1 → IVec S16 32) a x).toNat < S69632.size a := fun v493 k0_hw30 => k0_hw30
def k0_off30 (k0_t3 : Fin k0_t3_loop.trips) : Fin 4 → Nat :=
  let c0_i32_364 : BitVec 32 := 0#32
  let v495 : Index := Scalar.indexCast c0_i32_364
  let c3_i32_365 : BitVec 32 := 3#32
  let v496 : Index := Scalar.indexCast c3_i32_365
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v497 : Index := Scalar.indexCast v213
  let c112_366 : Index := 112#32
  ![0, 3, v497.toNat, 112]

def k0_chk31 (v500 : IVec S16 32) : Prop :=
  (∀ a x, ((![v500] : Fin 1 → IVec S16 32) a x).toNat < S69632.size a)
theorem k0_idx31_inb : ∀ (v500 : IVec S16 32) (k0_hw31 : k0_chk31 v500), ∀ a x, ((![v500] : Fin 1 → IVec S16 32) a x).toNat < S69632.size a := fun v500 k0_hw31 => k0_hw31
def k0_off31 (k0_t3 : Fin k0_t3_loop.trips) : Fin 4 → Nat :=
  let c0_i32_368 : BitVec 32 := 0#32
  let v502 : Index := Scalar.indexCast c0_i32_368
  let c4_i32_369 : BitVec 32 := 4#32
  let v503 : Index := Scalar.indexCast c4_i32_369
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v504 : Index := Scalar.indexCast v213
  let c112_370 : Index := 112#32
  ![0, 4, v504.toNat, 112]

def k0_chk32 (v507 : IVec S16 32) : Prop :=
  (∀ a x, ((![v507] : Fin 1 → IVec S16 32) a x).toNat < S69632.size a)
theorem k0_idx32_inb : ∀ (v507 : IVec S16 32) (k0_hw32 : k0_chk32 v507), ∀ a x, ((![v507] : Fin 1 → IVec S16 32) a x).toNat < S69632.size a := fun v507 k0_hw32 => k0_hw32
def k0_off32 (k0_t3 : Fin k0_t3_loop.trips) : Fin 4 → Nat :=
  let c0_i32_372 : BitVec 32 := 0#32
  let v509 : Index := Scalar.indexCast c0_i32_372
  let c5_i32 : BitVec 32 := 5#32
  let v510 : Index := Scalar.indexCast c5_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v511 : Index := Scalar.indexCast v213
  let c112_373 : Index := 112#32
  ![0, 5, v511.toNat, 112]

def k0_chk33 (v514 : IVec S16 32) : Prop :=
  (∀ a x, ((![v514] : Fin 1 → IVec S16 32) a x).toNat < S69632.size a)
theorem k0_idx33_inb : ∀ (v514 : IVec S16 32) (k0_hw33 : k0_chk33 v514), ∀ a x, ((![v514] : Fin 1 → IVec S16 32) a x).toNat < S69632.size a := fun v514 k0_hw33 => k0_hw33
def k0_off33 (k0_t3 : Fin k0_t3_loop.trips) : Fin 4 → Nat :=
  let c0_i32_375 : BitVec 32 := 0#32
  let v516 : Index := Scalar.indexCast c0_i32_375
  let c6_i32 : BitVec 32 := 6#32
  let v517 : Index := Scalar.indexCast c6_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v518 : Index := Scalar.indexCast v213
  let c112_376 : Index := 112#32
  ![0, 6, v518.toNat, 112]

def k0_chk34 (v521 : IVec S16 32) : Prop :=
  (∀ a x, ((![v521] : Fin 1 → IVec S16 32) a x).toNat < S69632.size a)
theorem k0_idx34_inb : ∀ (v521 : IVec S16 32) (k0_hw34 : k0_chk34 v521), ∀ a x, ((![v521] : Fin 1 → IVec S16 32) a x).toNat < S69632.size a := fun v521 k0_hw34 => k0_hw34
def k0_off34 (k0_t3 : Fin k0_t3_loop.trips) : Fin 4 → Nat :=
  let c0_i32_378 : BitVec 32 := 0#32
  let v523 : Index := Scalar.indexCast c0_i32_378
  let c7_i32_379 : BitVec 32 := 7#32
  let v524 : Index := Scalar.indexCast c7_i32_379
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v525 : Index := Scalar.indexCast v213
  let c112_380 : Index := 112#32
  ![0, 7, v525.toNat, 112]

def k0_chk35 (v528 : IVec S16 32) : Prop :=
  (∀ a x, ((![v528] : Fin 1 → IVec S16 32) a x).toNat < S69632.size a)
theorem k0_idx35_inb : ∀ (v528 : IVec S16 32) (k0_hw35 : k0_chk35 v528), ∀ a x, ((![v528] : Fin 1 → IVec S16 32) a x).toNat < S69632.size a := fun v528 k0_hw35 => k0_hw35
def k0_off35 (k0_t3 : Fin k0_t3_loop.trips) : Fin 4 → Nat :=
  let c0_i32_382 : BitVec 32 := 0#32
  let v530 : Index := Scalar.indexCast c0_i32_382
  let c8_i32_383 : BitVec 32 := 8#32
  let v531 : Index := Scalar.indexCast c8_i32_383
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v532 : Index := Scalar.indexCast v213
  let c112_384 : Index := 112#32
  ![0, 8, v532.toNat, 112]

def k0_chk36 (v535 : IVec S16 32) : Prop :=
  (∀ a x, ((![v535] : Fin 1 → IVec S16 32) a x).toNat < S69632.size a)
theorem k0_idx36_inb : ∀ (v535 : IVec S16 32) (k0_hw36 : k0_chk36 v535), ∀ a x, ((![v535] : Fin 1 → IVec S16 32) a x).toNat < S69632.size a := fun v535 k0_hw36 => k0_hw36
def k0_off36 (k0_t3 : Fin k0_t3_loop.trips) : Fin 4 → Nat :=
  let c0_i32_386 : BitVec 32 := 0#32
  let v537 : Index := Scalar.indexCast c0_i32_386
  let c9_i32 : BitVec 32 := 9#32
  let v538 : Index := Scalar.indexCast c9_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v539 : Index := Scalar.indexCast v213
  let c112_387 : Index := 112#32
  ![0, 9, v539.toNat, 112]

def k0_chk37 (v542 : IVec S16 32) : Prop :=
  (∀ a x, ((![v542] : Fin 1 → IVec S16 32) a x).toNat < S69632.size a)
theorem k0_idx37_inb : ∀ (v542 : IVec S16 32) (k0_hw37 : k0_chk37 v542), ∀ a x, ((![v542] : Fin 1 → IVec S16 32) a x).toNat < S69632.size a := fun v542 k0_hw37 => k0_hw37
def k0_off37 (k0_t3 : Fin k0_t3_loop.trips) : Fin 4 → Nat :=
  let c0_i32_389 : BitVec 32 := 0#32
  let v544 : Index := Scalar.indexCast c0_i32_389
  let c10_i32_390 : BitVec 32 := 10#32
  let v545 : Index := Scalar.indexCast c10_i32_390
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v546 : Index := Scalar.indexCast v213
  let c112_391 : Index := 112#32
  ![0, 10, v546.toNat, 112]

def k0_chk38 (v549 : IVec S16 32) : Prop :=
  (∀ a x, ((![v549] : Fin 1 → IVec S16 32) a x).toNat < S69632.size a)
theorem k0_idx38_inb : ∀ (v549 : IVec S16 32) (k0_hw38 : k0_chk38 v549), ∀ a x, ((![v549] : Fin 1 → IVec S16 32) a x).toNat < S69632.size a := fun v549 k0_hw38 => k0_hw38
def k0_off38 (k0_t3 : Fin k0_t3_loop.trips) : Fin 4 → Nat :=
  let c0_i32_393 : BitVec 32 := 0#32
  let v551 : Index := Scalar.indexCast c0_i32_393
  let c11_i32 : BitVec 32 := 11#32
  let v552 : Index := Scalar.indexCast c11_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v553 : Index := Scalar.indexCast v213
  let c112_394 : Index := 112#32
  ![0, 11, v553.toNat, 112]

def k0_chk39 (v556 : IVec S16 32) : Prop :=
  (∀ a x, ((![v556] : Fin 1 → IVec S16 32) a x).toNat < S69632.size a)
theorem k0_idx39_inb : ∀ (v556 : IVec S16 32) (k0_hw39 : k0_chk39 v556), ∀ a x, ((![v556] : Fin 1 → IVec S16 32) a x).toNat < S69632.size a := fun v556 k0_hw39 => k0_hw39
def k0_off39 (k0_t3 : Fin k0_t3_loop.trips) : Fin 4 → Nat :=
  let c0_i32_396 : BitVec 32 := 0#32
  let v558 : Index := Scalar.indexCast c0_i32_396
  let c12_i32_397 : BitVec 32 := 12#32
  let v559 : Index := Scalar.indexCast c12_i32_397
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v560 : Index := Scalar.indexCast v213
  let c112_398 : Index := 112#32
  ![0, 12, v560.toNat, 112]

def k0_chk40 (v563 : IVec S16 32) : Prop :=
  (∀ a x, ((![v563] : Fin 1 → IVec S16 32) a x).toNat < S69632.size a)
theorem k0_idx40_inb : ∀ (v563 : IVec S16 32) (k0_hw40 : k0_chk40 v563), ∀ a x, ((![v563] : Fin 1 → IVec S16 32) a x).toNat < S69632.size a := fun v563 k0_hw40 => k0_hw40
def k0_off40 (k0_t3 : Fin k0_t3_loop.trips) : Fin 4 → Nat :=
  let c0_i32_400 : BitVec 32 := 0#32
  let v565 : Index := Scalar.indexCast c0_i32_400
  let c13_i32 : BitVec 32 := 13#32
  let v566 : Index := Scalar.indexCast c13_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v567 : Index := Scalar.indexCast v213
  let c112_401 : Index := 112#32
  ![0, 13, v567.toNat, 112]

def k0_chk41 (v570 : IVec S16 32) : Prop :=
  (∀ a x, ((![v570] : Fin 1 → IVec S16 32) a x).toNat < S69632.size a)
theorem k0_idx41_inb : ∀ (v570 : IVec S16 32) (k0_hw41 : k0_chk41 v570), ∀ a x, ((![v570] : Fin 1 → IVec S16 32) a x).toNat < S69632.size a := fun v570 k0_hw41 => k0_hw41
def k0_off41 (k0_t3 : Fin k0_t3_loop.trips) : Fin 4 → Nat :=
  let c0_i32_403 : BitVec 32 := 0#32
  let v572 : Index := Scalar.indexCast c0_i32_403
  let c14_i32 : BitVec 32 := 14#32
  let v573 : Index := Scalar.indexCast c14_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v574 : Index := Scalar.indexCast v213
  let c112_404 : Index := 112#32
  ![0, 14, v574.toNat, 112]

def k0_chk42 (v577 : IVec S16 32) : Prop :=
  (∀ a x, ((![v577] : Fin 1 → IVec S16 32) a x).toNat < S69632.size a)
theorem k0_idx42_inb : ∀ (v577 : IVec S16 32) (k0_hw42 : k0_chk42 v577), ∀ a x, ((![v577] : Fin 1 → IVec S16 32) a x).toNat < S69632.size a := fun v577 k0_hw42 => k0_hw42
def k0_off42 (k0_t3 : Fin k0_t3_loop.trips) : Fin 4 → Nat :=
  let c0_i32_406 : BitVec 32 := 0#32
  let v579 : Index := Scalar.indexCast c0_i32_406
  let c15_i32 : BitVec 32 := 15#32
  let v580 : Index := Scalar.indexCast c15_i32
  let c0_i32_245 : BitVec 32 := 0#32
  let c0_i32_163 : BitVec 32 := 0#32
  let c1_i32_165 : BitVec 32 := 1#32
  let arg13 : BitVec 32 := Scf.iv c0_i32_163 c1_i32_165 k0_t3
  let c1_i32_244 : BitVec 32 := 1#32
  let v212 : BitVec 32 := Scalar.muli arg13 c1_i32_244
  let v213 : BitVec 32 := Scalar.addi c0_i32_245 v212
  let v581 : Index := Scalar.indexCast v213
  let c112_407 : Index := 112#32
  ![0, 15, v581.toNat, 112]
def k0_off43 (i : grid0.Coords) (k0_t1 : Fin k0_t1_loop.trips) : Fin 4 → Nat :=
  let c2_i32_121 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v107 : BitVec 32 := Scalar.muli c2_i32_121 v106
  let c32_i32_167 : BitVec 32 := 32#32
  let v147 : BitVec 32 := Scalar.muli v107 c32_i32_167
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v148 : BitVec 32 := Scalar.addi v147 v1
  let c0_i32_173 : BitVec 32 := 0#32
  let c0_i32_174 : BitVec 32 := 0#32
  let c0_i32_175 : BitVec 32 := 0#32
  ![v148.toNat, 0, 0, 0]
def k0_off44 (i : grid0.Coords) (k0_t1 : Fin k0_t1_loop.trips) : Fin 2 → Nat :=
  let c0_i32_185 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c32_i32_184 : BitVec 32 := 32#32
  let v161 : BitVec 32 := Scalar.muli v160 c32_i32_184
  let v162 : BitVec 32 := Scalar.addi c0_i32_185 v161
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v163 : BitVec 32 := Scalar.addi v162 v1
  let c8_i32_186 : BitVec 32 := 8#32
  let v164 : BitVec 32 := Scalar.muli v163 c8_i32_186
  let c0_i32_194 : BitVec 32 := 0#32
  ![v164.toNat, 0]
def k0_off45 (i : grid0.Coords) (k0_t1 : Fin k0_t1_loop.trips) : Fin 2 → Nat :=
  let c0_i32_185 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c32_i32_184 : BitVec 32 := 32#32
  let v161 : BitVec 32 := Scalar.muli v160 c32_i32_184
  let v162 : BitVec 32 := Scalar.addi c0_i32_185 v161
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v163 : BitVec 32 := Scalar.addi v162 v1
  let c8_i32_187 : BitVec 32 := 8#32
  let v165 : BitVec 32 := Scalar.muli v163 c8_i32_187
  let c128_i32_203 : BitVec 32 := 128#32
  ![v165.toNat, 128]
def k0_off46 (i : grid0.Coords) (k0_t1 : Fin k0_t1_loop.trips) : Fin 2 → Nat :=
  let c0_i32_185 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c32_i32_184 : BitVec 32 := 32#32
  let v161 : BitVec 32 := Scalar.muli v160 c32_i32_184
  let v162 : BitVec 32 := Scalar.addi c0_i32_185 v161
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v163 : BitVec 32 := Scalar.addi v162 v1
  let c8_i32_188 : BitVec 32 := 8#32
  let v166 : BitVec 32 := Scalar.muli v163 c8_i32_188
  let c256_i32_212 : BitVec 32 := 256#32
  ![v166.toNat, 256]
def k0_cond3 (k0_t1 : Fin k0_t1_loop.trips) : BitVec 1 :=
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c1_i32_216 : BitVec 32 := 1#32
  let v191 : BitVec 32 := Scalar.addi v160 c1_i32_216
  let c43_i32_217 : BitVec 32 := 43#32
  let v192 : BitVec 1 := Scalar.cmpi .slt v191 c43_i32_217
  let v193 : BitVec 32 := Scalar.extui v192
  let c0_i32_218 : BitVec 32 := 0#32
  let v194 : BitVec 1 := Scalar.cmpi .ne v193 c0_i32_218
  v194

def k0_off47 (i : grid0.Coords) (k0_t1 : Fin k0_t1_loop.trips) : Fin 2 → Nat :=
  let c0_i32_246 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c1_i32_244 : BitVec 32 := 1#32
  let v212 : BitVec 32 := Scalar.addi v160 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_247 : BitVec 32 := 8#32
  let v216 : BitVec 32 := Scalar.muli v215 c8_i32_247
  let c0_i32_255 : BitVec 32 := 0#32
  ![v216.toNat, 0]
def k0_off48 (i : grid0.Coords) (k0_t1 : Fin k0_t1_loop.trips) : Fin 2 → Nat :=
  let c0_i32_246 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c1_i32_244 : BitVec 32 := 1#32
  let v212 : BitVec 32 := Scalar.addi v160 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_248 : BitVec 32 := 8#32
  let v217 : BitVec 32 := Scalar.muli v215 c8_i32_248
  let c128_i32_264 : BitVec 32 := 128#32
  ![v217.toNat, 128]
def k0_off49 (i : grid0.Coords) (k0_t1 : Fin k0_t1_loop.trips) : Fin 2 → Nat :=
  let c0_i32_246 : BitVec 32 := 0#32
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c1_i32_244 : BitVec 32 := 1#32
  let v212 : BitVec 32 := Scalar.addi v160 c1_i32_244
  let c32_i32_245 : BitVec 32 := 32#32
  let v213 : BitVec 32 := Scalar.muli v212 c32_i32_245
  let v214 : BitVec 32 := Scalar.addi c0_i32_246 v213
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v215 : BitVec 32 := Scalar.addi v214 v1
  let c8_i32_249 : BitVec 32 := 8#32
  let v218 : BitVec 32 := Scalar.muli v215 c8_i32_249
  let c256_i32_273 : BitVec 32 := 256#32
  ![v218.toNat, 256]
def k0_cond4 (k0_t1 : Fin k0_t1_loop.trips) : BitVec 1 :=
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c2_i32_219 : BitVec 32 := 2#32
  let v195 : BitVec 1 := Scalar.cmpi .sge v160 c2_i32_219
  let v196 : BitVec 32 := Scalar.extui v195
  let c0_i32_220 : BitVec 32 := 0#32
  let v197 : BitVec 1 := Scalar.cmpi .ne v196 c0_i32_220
  v197

def k0_off50 (i : grid0.Coords) (k0_t1 : Fin k0_t1_loop.trips) : Fin 4 → Nat :=
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c2_i32_244 : BitVec 32 := 2#32
  let v212 : BitVec 32 := Scalar.subi v160 c2_i32_244
  let c32_i32_245 : BitVec 32 := 32#32
  let v213 : BitVec 32 := Scalar.muli v212 c32_i32_245
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v214 : BitVec 32 := Scalar.addi v213 v1
  let c0_i32_251 : BitVec 32 := 0#32
  let c0_i32_252 : BitVec 32 := 0#32
  let c0_i32_253 : BitVec 32 := 0#32
  ![v214.toNat, 0, 0, 0]
@[reducible] def k0_t4_loop : Scf.Loop 32 :=
  let c0_i32_221 : BitVec 32 := 0#32
  let c56_i32_222 : BitVec 32 := 56#32
  let v198 : BitVec 32 := Scalar.addi c0_i32_221 c56_i32_222
  let c1_i32_223 : BitVec 32 := 1#32
  ⟨c0_i32_221, v198, c1_i32_223⟩

def k0_chk43 (v225 : IVec S16 32) (v226 : IVec S16 32) (v228 : IVec S16 32) : Prop :=
  (∀ a x, ((![v225, v226, v228] : Fin 3 → IVec S16 32) a x).toNat < S3x8x128.size a)
theorem k0_idx43_inb : ∀ (v225 : IVec S16 32) (v226 : IVec S16 32) (v228 : IVec S16 32) (k0_hw43 : k0_chk43 v225 v226 v228), ∀ a x, ((![v225, v226, v228] : Fin 3 → IVec S16 32) a x).toNat < S3x8x128.size a := fun v225 v226 v228 k0_hw43 => k0_hw43

def k0_chk44 (v235 : IVec S16 32) (v236 : IVec S16 32) (v238 : IVec S16 32) : Prop :=
  (∀ a x, ((![v235, v236, v238] : Fin 3 → IVec S16 32) a x).toNat < S3x8x128.size a)
theorem k0_idx44_inb : ∀ (v235 : IVec S16 32) (v236 : IVec S16 32) (v238 : IVec S16 32) (k0_hw44 : k0_chk44 v235 v236 v238), ∀ a x, ((![v235, v236, v238] : Fin 3 → IVec S16 32) a x).toNat < S3x8x128.size a := fun v235 v236 v238 k0_hw44 => k0_hw44

def k0_chk45 (v245 : IVec S16 32) (v246 : IVec S16 32) (v248 : IVec S16 32) : Prop :=
  (∀ a x, ((![v245, v246, v248] : Fin 3 → IVec S16 32) a x).toNat < S3x8x128.size a)
theorem k0_idx45_inb : ∀ (v245 : IVec S16 32) (v246 : IVec S16 32) (v248 : IVec S16 32) (k0_hw45 : k0_chk45 v245 v246 v248), ∀ a x, ((![v245, v246, v248] : Fin 3 → IVec S16 32) a x).toNat < S3x8x128.size a := fun v245 v246 v248 k0_hw45 => k0_hw45

def k0_chk46 (v255 : IVec S16 32) (v256 : IVec S16 32) (v258 : IVec S16 32) : Prop :=
  (∀ a x, ((![v255, v256, v258] : Fin 3 → IVec S16 32) a x).toNat < S3x8x128.size a)
theorem k0_idx46_inb : ∀ (v255 : IVec S16 32) (v256 : IVec S16 32) (v258 : IVec S16 32) (k0_hw46 : k0_chk46 v255 v256 v258), ∀ a x, ((![v255, v256, v258] : Fin 3 → IVec S16 32) a x).toNat < S3x8x128.size a := fun v255 v256 v258 k0_hw46 => k0_hw46

def k0_chk47 (v285 : IVec S16 32) : Prop :=
  (∀ a x, ((![v285] : Fin 1 → IVec S16 32) a x).toNat < S69632.size a)
theorem k0_idx47_inb : ∀ (v285 : IVec S16 32) (k0_hw47 : k0_chk47 v285), ∀ a x, ((![v285] : Fin 1 → IVec S16 32) a x).toNat < S69632.size a := fun v285 k0_hw47 => k0_hw47
def k0_off51 (k0_t4 : Fin k0_t4_loop.trips) : Fin 4 → Nat :=
  let c1_i32_281 : BitVec 32 := 1#32
  let v288 : Index := Scalar.indexCast c1_i32_281
  let c0_i32_282 : BitVec 32 := 0#32
  let v289 : Index := Scalar.indexCast c0_i32_282
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v290 : Index := Scalar.indexCast v215
  let c3_i32 : BitVec 32 := 3#32
  let v214 : BitVec 32 := Scalar.shrui v213 c3_i32
  let c16_i32 : BitVec 32 := 16#32
  let v287 : BitVec 32 := Scalar.muli v214 c16_i32
  let v291 : Index := Scalar.indexCast v287
  ![1, 0, v290.toNat, v291.toNat]

def k0_chk48 (v294 : IVec S16 32) : Prop :=
  (∀ a x, ((![v294] : Fin 1 → IVec S16 32) a x).toNat < S69632.size a)
theorem k0_idx48_inb : ∀ (v294 : IVec S16 32) (k0_hw48 : k0_chk48 v294), ∀ a x, ((![v294] : Fin 1 → IVec S16 32) a x).toNat < S69632.size a := fun v294 k0_hw48 => k0_hw48
def k0_off52 (k0_t4 : Fin k0_t4_loop.trips) : Fin 4 → Nat :=
  let c1_i32_284 : BitVec 32 := 1#32
  let v297 : Index := Scalar.indexCast c1_i32_284
  let c1_i32_285 : BitVec 32 := 1#32
  let v298 : Index := Scalar.indexCast c1_i32_285
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v299 : Index := Scalar.indexCast v215
  let c3_i32 : BitVec 32 := 3#32
  let v214 : BitVec 32 := Scalar.shrui v213 c3_i32
  let c16_i32_283 : BitVec 32 := 16#32
  let v296 : BitVec 32 := Scalar.muli v214 c16_i32_283
  let v300 : Index := Scalar.indexCast v296
  ![1, 1, v299.toNat, v300.toNat]

def k0_chk49 (v303 : IVec S16 32) : Prop :=
  (∀ a x, ((![v303] : Fin 1 → IVec S16 32) a x).toNat < S69632.size a)
theorem k0_idx49_inb : ∀ (v303 : IVec S16 32) (k0_hw49 : k0_chk49 v303), ∀ a x, ((![v303] : Fin 1 → IVec S16 32) a x).toNat < S69632.size a := fun v303 k0_hw49 => k0_hw49
def k0_off53 (k0_t4 : Fin k0_t4_loop.trips) : Fin 4 → Nat :=
  let c1_i32_287 : BitVec 32 := 1#32
  let v306 : Index := Scalar.indexCast c1_i32_287
  let c2_i32_288 : BitVec 32 := 2#32
  let v307 : Index := Scalar.indexCast c2_i32_288
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v308 : Index := Scalar.indexCast v215
  let c3_i32 : BitVec 32 := 3#32
  let v214 : BitVec 32 := Scalar.shrui v213 c3_i32
  let c16_i32_286 : BitVec 32 := 16#32
  let v305 : BitVec 32 := Scalar.muli v214 c16_i32_286
  let v309 : Index := Scalar.indexCast v305
  ![1, 2, v308.toNat, v309.toNat]

def k0_chk50 (v312 : IVec S16 32) : Prop :=
  (∀ a x, ((![v312] : Fin 1 → IVec S16 32) a x).toNat < S69632.size a)
theorem k0_idx50_inb : ∀ (v312 : IVec S16 32) (k0_hw50 : k0_chk50 v312), ∀ a x, ((![v312] : Fin 1 → IVec S16 32) a x).toNat < S69632.size a := fun v312 k0_hw50 => k0_hw50
def k0_off54 (k0_t4 : Fin k0_t4_loop.trips) : Fin 4 → Nat :=
  let c1_i32_290 : BitVec 32 := 1#32
  let v315 : Index := Scalar.indexCast c1_i32_290
  let c3_i32_291 : BitVec 32 := 3#32
  let v316 : Index := Scalar.indexCast c3_i32_291
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v317 : Index := Scalar.indexCast v215
  let c3_i32 : BitVec 32 := 3#32
  let v214 : BitVec 32 := Scalar.shrui v213 c3_i32
  let c16_i32_289 : BitVec 32 := 16#32
  let v314 : BitVec 32 := Scalar.muli v214 c16_i32_289
  let v318 : Index := Scalar.indexCast v314
  ![1, 3, v317.toNat, v318.toNat]

def k0_chk51 (v321 : IVec S16 32) : Prop :=
  (∀ a x, ((![v321] : Fin 1 → IVec S16 32) a x).toNat < S69632.size a)
theorem k0_idx51_inb : ∀ (v321 : IVec S16 32) (k0_hw51 : k0_chk51 v321), ∀ a x, ((![v321] : Fin 1 → IVec S16 32) a x).toNat < S69632.size a := fun v321 k0_hw51 => k0_hw51
def k0_off55 (k0_t4 : Fin k0_t4_loop.trips) : Fin 4 → Nat :=
  let c1_i32_294 : BitVec 32 := 1#32
  let v324 : Index := Scalar.indexCast c1_i32_294
  let c4_i32_295 : BitVec 32 := 4#32
  let v325 : Index := Scalar.indexCast c4_i32_295
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v326 : Index := Scalar.indexCast v215
  let c3_i32 : BitVec 32 := 3#32
  let v214 : BitVec 32 := Scalar.shrui v213 c3_i32
  let c16_i32_293 : BitVec 32 := 16#32
  let v323 : BitVec 32 := Scalar.muli v214 c16_i32_293
  let v327 : Index := Scalar.indexCast v323
  ![1, 4, v326.toNat, v327.toNat]

def k0_chk52 (v330 : IVec S16 32) : Prop :=
  (∀ a x, ((![v330] : Fin 1 → IVec S16 32) a x).toNat < S69632.size a)
theorem k0_idx52_inb : ∀ (v330 : IVec S16 32) (k0_hw52 : k0_chk52 v330), ∀ a x, ((![v330] : Fin 1 → IVec S16 32) a x).toNat < S69632.size a := fun v330 k0_hw52 => k0_hw52
def k0_off56 (k0_t4 : Fin k0_t4_loop.trips) : Fin 4 → Nat :=
  let c1_i32_298 : BitVec 32 := 1#32
  let v333 : Index := Scalar.indexCast c1_i32_298
  let c5_i32 : BitVec 32 := 5#32
  let v334 : Index := Scalar.indexCast c5_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v335 : Index := Scalar.indexCast v215
  let c3_i32 : BitVec 32 := 3#32
  let v214 : BitVec 32 := Scalar.shrui v213 c3_i32
  let c16_i32_297 : BitVec 32 := 16#32
  let v332 : BitVec 32 := Scalar.muli v214 c16_i32_297
  let v336 : Index := Scalar.indexCast v332
  ![1, 5, v335.toNat, v336.toNat]

def k0_chk53 (v339 : IVec S16 32) : Prop :=
  (∀ a x, ((![v339] : Fin 1 → IVec S16 32) a x).toNat < S69632.size a)
theorem k0_idx53_inb : ∀ (v339 : IVec S16 32) (k0_hw53 : k0_chk53 v339), ∀ a x, ((![v339] : Fin 1 → IVec S16 32) a x).toNat < S69632.size a := fun v339 k0_hw53 => k0_hw53
def k0_off57 (k0_t4 : Fin k0_t4_loop.trips) : Fin 4 → Nat :=
  let c1_i32_301 : BitVec 32 := 1#32
  let v342 : Index := Scalar.indexCast c1_i32_301
  let c6_i32 : BitVec 32 := 6#32
  let v343 : Index := Scalar.indexCast c6_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v344 : Index := Scalar.indexCast v215
  let c3_i32 : BitVec 32 := 3#32
  let v214 : BitVec 32 := Scalar.shrui v213 c3_i32
  let c16_i32_300 : BitVec 32 := 16#32
  let v341 : BitVec 32 := Scalar.muli v214 c16_i32_300
  let v345 : Index := Scalar.indexCast v341
  ![1, 6, v344.toNat, v345.toNat]

def k0_chk54 (v348 : IVec S16 32) : Prop :=
  (∀ a x, ((![v348] : Fin 1 → IVec S16 32) a x).toNat < S69632.size a)
theorem k0_idx54_inb : ∀ (v348 : IVec S16 32) (k0_hw54 : k0_chk54 v348), ∀ a x, ((![v348] : Fin 1 → IVec S16 32) a x).toNat < S69632.size a := fun v348 k0_hw54 => k0_hw54
def k0_off58 (k0_t4 : Fin k0_t4_loop.trips) : Fin 4 → Nat :=
  let c1_i32_304 : BitVec 32 := 1#32
  let v351 : Index := Scalar.indexCast c1_i32_304
  let c7_i32_305 : BitVec 32 := 7#32
  let v352 : Index := Scalar.indexCast c7_i32_305
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v353 : Index := Scalar.indexCast v215
  let c3_i32 : BitVec 32 := 3#32
  let v214 : BitVec 32 := Scalar.shrui v213 c3_i32
  let c16_i32_303 : BitVec 32 := 16#32
  let v350 : BitVec 32 := Scalar.muli v214 c16_i32_303
  let v354 : Index := Scalar.indexCast v350
  ![1, 7, v353.toNat, v354.toNat]

def k0_chk55 (v357 : IVec S16 32) : Prop :=
  (∀ a x, ((![v357] : Fin 1 → IVec S16 32) a x).toNat < S69632.size a)
theorem k0_idx55_inb : ∀ (v357 : IVec S16 32) (k0_hw55 : k0_chk55 v357), ∀ a x, ((![v357] : Fin 1 → IVec S16 32) a x).toNat < S69632.size a := fun v357 k0_hw55 => k0_hw55
def k0_off59 (k0_t4 : Fin k0_t4_loop.trips) : Fin 4 → Nat :=
  let c1_i32_308 : BitVec 32 := 1#32
  let v360 : Index := Scalar.indexCast c1_i32_308
  let c8_i32_309 : BitVec 32 := 8#32
  let v361 : Index := Scalar.indexCast c8_i32_309
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v362 : Index := Scalar.indexCast v215
  let c3_i32 : BitVec 32 := 3#32
  let v214 : BitVec 32 := Scalar.shrui v213 c3_i32
  let c16_i32_307 : BitVec 32 := 16#32
  let v359 : BitVec 32 := Scalar.muli v214 c16_i32_307
  let v363 : Index := Scalar.indexCast v359
  ![1, 8, v362.toNat, v363.toNat]

def k0_chk56 (v366 : IVec S16 32) : Prop :=
  (∀ a x, ((![v366] : Fin 1 → IVec S16 32) a x).toNat < S69632.size a)
theorem k0_idx56_inb : ∀ (v366 : IVec S16 32) (k0_hw56 : k0_chk56 v366), ∀ a x, ((![v366] : Fin 1 → IVec S16 32) a x).toNat < S69632.size a := fun v366 k0_hw56 => k0_hw56
def k0_off60 (k0_t4 : Fin k0_t4_loop.trips) : Fin 4 → Nat :=
  let c1_i32_312 : BitVec 32 := 1#32
  let v369 : Index := Scalar.indexCast c1_i32_312
  let c9_i32 : BitVec 32 := 9#32
  let v370 : Index := Scalar.indexCast c9_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v371 : Index := Scalar.indexCast v215
  let c3_i32 : BitVec 32 := 3#32
  let v214 : BitVec 32 := Scalar.shrui v213 c3_i32
  let c16_i32_311 : BitVec 32 := 16#32
  let v368 : BitVec 32 := Scalar.muli v214 c16_i32_311
  let v372 : Index := Scalar.indexCast v368
  ![1, 9, v371.toNat, v372.toNat]

def k0_chk57 (v375 : IVec S16 32) : Prop :=
  (∀ a x, ((![v375] : Fin 1 → IVec S16 32) a x).toNat < S69632.size a)
theorem k0_idx57_inb : ∀ (v375 : IVec S16 32) (k0_hw57 : k0_chk57 v375), ∀ a x, ((![v375] : Fin 1 → IVec S16 32) a x).toNat < S69632.size a := fun v375 k0_hw57 => k0_hw57
def k0_off61 (k0_t4 : Fin k0_t4_loop.trips) : Fin 4 → Nat :=
  let c1_i32_315 : BitVec 32 := 1#32
  let v378 : Index := Scalar.indexCast c1_i32_315
  let c10_i32 : BitVec 32 := 10#32
  let v379 : Index := Scalar.indexCast c10_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v380 : Index := Scalar.indexCast v215
  let c3_i32 : BitVec 32 := 3#32
  let v214 : BitVec 32 := Scalar.shrui v213 c3_i32
  let c16_i32_314 : BitVec 32 := 16#32
  let v377 : BitVec 32 := Scalar.muli v214 c16_i32_314
  let v381 : Index := Scalar.indexCast v377
  ![1, 10, v380.toNat, v381.toNat]

def k0_chk58 (v384 : IVec S16 32) : Prop :=
  (∀ a x, ((![v384] : Fin 1 → IVec S16 32) a x).toNat < S69632.size a)
theorem k0_idx58_inb : ∀ (v384 : IVec S16 32) (k0_hw58 : k0_chk58 v384), ∀ a x, ((![v384] : Fin 1 → IVec S16 32) a x).toNat < S69632.size a := fun v384 k0_hw58 => k0_hw58
def k0_off62 (k0_t4 : Fin k0_t4_loop.trips) : Fin 4 → Nat :=
  let c1_i32_318 : BitVec 32 := 1#32
  let v387 : Index := Scalar.indexCast c1_i32_318
  let c11_i32 : BitVec 32 := 11#32
  let v388 : Index := Scalar.indexCast c11_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v389 : Index := Scalar.indexCast v215
  let c3_i32 : BitVec 32 := 3#32
  let v214 : BitVec 32 := Scalar.shrui v213 c3_i32
  let c16_i32_317 : BitVec 32 := 16#32
  let v386 : BitVec 32 := Scalar.muli v214 c16_i32_317
  let v390 : Index := Scalar.indexCast v386
  ![1, 11, v389.toNat, v390.toNat]

def k0_chk59 (v393 : IVec S16 32) : Prop :=
  (∀ a x, ((![v393] : Fin 1 → IVec S16 32) a x).toNat < S69632.size a)
theorem k0_idx59_inb : ∀ (v393 : IVec S16 32) (k0_hw59 : k0_chk59 v393), ∀ a x, ((![v393] : Fin 1 → IVec S16 32) a x).toNat < S69632.size a := fun v393 k0_hw59 => k0_hw59
def k0_off63 (k0_t4 : Fin k0_t4_loop.trips) : Fin 4 → Nat :=
  let c1_i32_321 : BitVec 32 := 1#32
  let v396 : Index := Scalar.indexCast c1_i32_321
  let c12_i32_322 : BitVec 32 := 12#32
  let v397 : Index := Scalar.indexCast c12_i32_322
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v398 : Index := Scalar.indexCast v215
  let c3_i32 : BitVec 32 := 3#32
  let v214 : BitVec 32 := Scalar.shrui v213 c3_i32
  let c16_i32_320 : BitVec 32 := 16#32
  let v395 : BitVec 32 := Scalar.muli v214 c16_i32_320
  let v399 : Index := Scalar.indexCast v395
  ![1, 12, v398.toNat, v399.toNat]

def k0_chk60 (v402 : IVec S16 32) : Prop :=
  (∀ a x, ((![v402] : Fin 1 → IVec S16 32) a x).toNat < S69632.size a)
theorem k0_idx60_inb : ∀ (v402 : IVec S16 32) (k0_hw60 : k0_chk60 v402), ∀ a x, ((![v402] : Fin 1 → IVec S16 32) a x).toNat < S69632.size a := fun v402 k0_hw60 => k0_hw60
def k0_off64 (k0_t4 : Fin k0_t4_loop.trips) : Fin 4 → Nat :=
  let c1_i32_325 : BitVec 32 := 1#32
  let v405 : Index := Scalar.indexCast c1_i32_325
  let c13_i32 : BitVec 32 := 13#32
  let v406 : Index := Scalar.indexCast c13_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v407 : Index := Scalar.indexCast v215
  let c3_i32 : BitVec 32 := 3#32
  let v214 : BitVec 32 := Scalar.shrui v213 c3_i32
  let c16_i32_324 : BitVec 32 := 16#32
  let v404 : BitVec 32 := Scalar.muli v214 c16_i32_324
  let v408 : Index := Scalar.indexCast v404
  ![1, 13, v407.toNat, v408.toNat]

def k0_chk61 (v411 : IVec S16 32) : Prop :=
  (∀ a x, ((![v411] : Fin 1 → IVec S16 32) a x).toNat < S69632.size a)
theorem k0_idx61_inb : ∀ (v411 : IVec S16 32) (k0_hw61 : k0_chk61 v411), ∀ a x, ((![v411] : Fin 1 → IVec S16 32) a x).toNat < S69632.size a := fun v411 k0_hw61 => k0_hw61
def k0_off65 (k0_t4 : Fin k0_t4_loop.trips) : Fin 4 → Nat :=
  let c1_i32_328 : BitVec 32 := 1#32
  let v414 : Index := Scalar.indexCast c1_i32_328
  let c14_i32 : BitVec 32 := 14#32
  let v415 : Index := Scalar.indexCast c14_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v416 : Index := Scalar.indexCast v215
  let c3_i32 : BitVec 32 := 3#32
  let v214 : BitVec 32 := Scalar.shrui v213 c3_i32
  let c16_i32_327 : BitVec 32 := 16#32
  let v413 : BitVec 32 := Scalar.muli v214 c16_i32_327
  let v417 : Index := Scalar.indexCast v413
  ![1, 14, v416.toNat, v417.toNat]

def k0_chk62 (v420 : IVec S16 32) : Prop :=
  (∀ a x, ((![v420] : Fin 1 → IVec S16 32) a x).toNat < S69632.size a)
theorem k0_idx62_inb : ∀ (v420 : IVec S16 32) (k0_hw62 : k0_chk62 v420), ∀ a x, ((![v420] : Fin 1 → IVec S16 32) a x).toNat < S69632.size a := fun v420 k0_hw62 => k0_hw62
def k0_off66 (k0_t4 : Fin k0_t4_loop.trips) : Fin 4 → Nat :=
  let c1_i32_331 : BitVec 32 := 1#32
  let v423 : Index := Scalar.indexCast c1_i32_331
  let c15_i32 : BitVec 32 := 15#32
  let v424 : Index := Scalar.indexCast c15_i32
  let c0_i32_245 : BitVec 32 := 0#32
  let c0_i32_221 : BitVec 32 := 0#32
  let c1_i32_223 : BitVec 32 := 1#32
  let arg13 : BitVec 32 := Scf.iv c0_i32_221 c1_i32_223 k0_t4
  let c1_i32_244 : BitVec 32 := 1#32
  let v212 : BitVec 32 := Scalar.muli arg13 c1_i32_244
  let v213 : BitVec 32 := Scalar.addi c0_i32_245 v212
  let c7_i32 : BitVec 32 := 7#32
  let v215 : BitVec 32 := Scalar.andi v213 c7_i32
  let v425 : Index := Scalar.indexCast v215
  let c3_i32 : BitVec 32 := 3#32
  let v214 : BitVec 32 := Scalar.shrui v213 c3_i32
  let c16_i32_330 : BitVec 32 := 16#32
  let v422 : BitVec 32 := Scalar.muli v214 c16_i32_330
  let v426 : Index := Scalar.indexCast v422
  ![1, 15, v425.toNat, v426.toNat]
@[reducible] def k0_t5_loop : Scf.Loop 32 :=
  let c0_i32_225 : BitVec 32 := 0#32
  let c8_i32_226 : BitVec 32 := 8#32
  let v199 : BitVec 32 := Scalar.addi c0_i32_225 c8_i32_226
  let c1_i32_227 : BitVec 32 := 1#32
  ⟨c0_i32_225, v199, c1_i32_227⟩

def k0_chk63 (v223 : IVec S16 32) (v224 : IVec S16 32) (v226 : IVec S16 32) : Prop :=
  (∀ a x, ((![v223, v224, v226] : Fin 3 → IVec S16 32) a x).toNat < S3x8x128.size a)
theorem k0_idx63_inb : ∀ (v223 : IVec S16 32) (v224 : IVec S16 32) (v226 : IVec S16 32) (k0_hw63 : k0_chk63 v223 v224 v226), ∀ a x, ((![v223, v224, v226] : Fin 3 → IVec S16 32) a x).toNat < S3x8x128.size a := fun v223 v224 v226 k0_hw63 => k0_hw63

def k0_chk64 (v235 : IVec S16 32) (v236 : IVec S16 32) (v238 : IVec S16 32) : Prop :=
  (∀ a x, ((![v235, v236, v238] : Fin 3 → IVec S16 32) a x).toNat < S3x8x128.size a)
theorem k0_idx64_inb : ∀ (v235 : IVec S16 32) (v236 : IVec S16 32) (v238 : IVec S16 32) (k0_hw64 : k0_chk64 v235 v236 v238), ∀ a x, ((![v235, v236, v238] : Fin 3 → IVec S16 32) a x).toNat < S3x8x128.size a := fun v235 v236 v238 k0_hw64 => k0_hw64

def k0_chk65 (v247 : IVec S16 32) (v248 : IVec S16 32) (v250 : IVec S16 32) : Prop :=
  (∀ a x, ((![v247, v248, v250] : Fin 3 → IVec S16 32) a x).toNat < S3x8x128.size a)
theorem k0_idx65_inb : ∀ (v247 : IVec S16 32) (v248 : IVec S16 32) (v250 : IVec S16 32) (k0_hw65 : k0_chk65 v247 v248 v250), ∀ a x, ((![v247, v248, v250] : Fin 3 → IVec S16 32) a x).toNat < S3x8x128.size a := fun v247 v248 v250 k0_hw65 => k0_hw65

def k0_chk66 (v259 : IVec S16 32) (v260 : IVec S16 32) (v262 : IVec S16 32) : Prop :=
  (∀ a x, ((![v259, v260, v262] : Fin 3 → IVec S16 32) a x).toNat < S3x8x128.size a)
theorem k0_idx66_inb : ∀ (v259 : IVec S16 32) (v260 : IVec S16 32) (v262 : IVec S16 32) (k0_hw66 : k0_chk66 v259 v260 v262), ∀ a x, ((![v259, v260, v262] : Fin 3 → IVec S16 32) a x).toNat < S3x8x128.size a := fun v259 v260 v262 k0_hw66 => k0_hw66

def k0_chk67 (v290 : IVec S16 32) (v291 : IVec S16 32) (v293 : IVec S16 32) : Prop :=
  (∀ a x, ((![v290, v291, v293] : Fin 3 → IVec S16 32) a x).toNat < S3x8x128.size a)
theorem k0_idx67_inb : ∀ (v290 : IVec S16 32) (v291 : IVec S16 32) (v293 : IVec S16 32) (k0_hw67 : k0_chk67 v290 v291 v293), ∀ a x, ((![v290, v291, v293] : Fin 3 → IVec S16 32) a x).toNat < S3x8x128.size a := fun v290 v291 v293 k0_hw67 => k0_hw67

def k0_chk68 (v300 : IVec S16 32) (v301 : IVec S16 32) (v303 : IVec S16 32) : Prop :=
  (∀ a x, ((![v300, v301, v303] : Fin 3 → IVec S16 32) a x).toNat < S3x8x128.size a)
theorem k0_idx68_inb : ∀ (v300 : IVec S16 32) (v301 : IVec S16 32) (v303 : IVec S16 32) (k0_hw68 : k0_chk68 v300 v301 v303), ∀ a x, ((![v300, v301, v303] : Fin 3 → IVec S16 32) a x).toNat < S3x8x128.size a := fun v300 v301 v303 k0_hw68 => k0_hw68

def k0_chk69 (v472 : IVec S16 32) : Prop :=
  (∀ a x, ((![v472] : Fin 1 → IVec S16 32) a x).toNat < S69632.size a)
theorem k0_idx69_inb : ∀ (v472 : IVec S16 32) (k0_hw69 : k0_chk69 v472), ∀ a x, ((![v472] : Fin 1 → IVec S16 32) a x).toNat < S69632.size a := fun v472 k0_hw69 => k0_hw69
def k0_off67 (k0_t5 : Fin k0_t5_loop.trips) : Fin 4 → Nat :=
  let c1_i32_356 : BitVec 32 := 1#32
  let v474 : Index := Scalar.indexCast c1_i32_356
  let c0_i32_357 : BitVec 32 := 0#32
  let v475 : Index := Scalar.indexCast c0_i32_357
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v476 : Index := Scalar.indexCast v213
  let c112 : Index := 112#32
  ![1, 0, v476.toNat, 112]

def k0_chk70 (v479 : IVec S16 32) : Prop :=
  (∀ a x, ((![v479] : Fin 1 → IVec S16 32) a x).toNat < S69632.size a)
theorem k0_idx70_inb : ∀ (v479 : IVec S16 32) (k0_hw70 : k0_chk70 v479), ∀ a x, ((![v479] : Fin 1 → IVec S16 32) a x).toNat < S69632.size a := fun v479 k0_hw70 => k0_hw70
def k0_off68 (k0_t5 : Fin k0_t5_loop.trips) : Fin 4 → Nat :=
  let c1_i32_358 : BitVec 32 := 1#32
  let v481 : Index := Scalar.indexCast c1_i32_358
  let c1_i32_359 : BitVec 32 := 1#32
  let v482 : Index := Scalar.indexCast c1_i32_359
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v483 : Index := Scalar.indexCast v213
  let c112_360 : Index := 112#32
  ![1, 1, v483.toNat, 112]

def k0_chk71 (v486 : IVec S16 32) : Prop :=
  (∀ a x, ((![v486] : Fin 1 → IVec S16 32) a x).toNat < S69632.size a)
theorem k0_idx71_inb : ∀ (v486 : IVec S16 32) (k0_hw71 : k0_chk71 v486), ∀ a x, ((![v486] : Fin 1 → IVec S16 32) a x).toNat < S69632.size a := fun v486 k0_hw71 => k0_hw71
def k0_off69 (k0_t5 : Fin k0_t5_loop.trips) : Fin 4 → Nat :=
  let c1_i32_361 : BitVec 32 := 1#32
  let v488 : Index := Scalar.indexCast c1_i32_361
  let c2_i32_362 : BitVec 32 := 2#32
  let v489 : Index := Scalar.indexCast c2_i32_362
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v490 : Index := Scalar.indexCast v213
  let c112_363 : Index := 112#32
  ![1, 2, v490.toNat, 112]

def k0_chk72 (v493 : IVec S16 32) : Prop :=
  (∀ a x, ((![v493] : Fin 1 → IVec S16 32) a x).toNat < S69632.size a)
theorem k0_idx72_inb : ∀ (v493 : IVec S16 32) (k0_hw72 : k0_chk72 v493), ∀ a x, ((![v493] : Fin 1 → IVec S16 32) a x).toNat < S69632.size a := fun v493 k0_hw72 => k0_hw72
def k0_off70 (k0_t5 : Fin k0_t5_loop.trips) : Fin 4 → Nat :=
  let c1_i32_364 : BitVec 32 := 1#32
  let v495 : Index := Scalar.indexCast c1_i32_364
  let c3_i32_365 : BitVec 32 := 3#32
  let v496 : Index := Scalar.indexCast c3_i32_365
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v497 : Index := Scalar.indexCast v213
  let c112_366 : Index := 112#32
  ![1, 3, v497.toNat, 112]

def k0_chk73 (v500 : IVec S16 32) : Prop :=
  (∀ a x, ((![v500] : Fin 1 → IVec S16 32) a x).toNat < S69632.size a)
theorem k0_idx73_inb : ∀ (v500 : IVec S16 32) (k0_hw73 : k0_chk73 v500), ∀ a x, ((![v500] : Fin 1 → IVec S16 32) a x).toNat < S69632.size a := fun v500 k0_hw73 => k0_hw73
def k0_off71 (k0_t5 : Fin k0_t5_loop.trips) : Fin 4 → Nat :=
  let c1_i32_368 : BitVec 32 := 1#32
  let v502 : Index := Scalar.indexCast c1_i32_368
  let c4_i32_369 : BitVec 32 := 4#32
  let v503 : Index := Scalar.indexCast c4_i32_369
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v504 : Index := Scalar.indexCast v213
  let c112_370 : Index := 112#32
  ![1, 4, v504.toNat, 112]

def k0_chk74 (v507 : IVec S16 32) : Prop :=
  (∀ a x, ((![v507] : Fin 1 → IVec S16 32) a x).toNat < S69632.size a)
theorem k0_idx74_inb : ∀ (v507 : IVec S16 32) (k0_hw74 : k0_chk74 v507), ∀ a x, ((![v507] : Fin 1 → IVec S16 32) a x).toNat < S69632.size a := fun v507 k0_hw74 => k0_hw74
def k0_off72 (k0_t5 : Fin k0_t5_loop.trips) : Fin 4 → Nat :=
  let c1_i32_372 : BitVec 32 := 1#32
  let v509 : Index := Scalar.indexCast c1_i32_372
  let c5_i32 : BitVec 32 := 5#32
  let v510 : Index := Scalar.indexCast c5_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v511 : Index := Scalar.indexCast v213
  let c112_373 : Index := 112#32
  ![1, 5, v511.toNat, 112]

def k0_chk75 (v514 : IVec S16 32) : Prop :=
  (∀ a x, ((![v514] : Fin 1 → IVec S16 32) a x).toNat < S69632.size a)
theorem k0_idx75_inb : ∀ (v514 : IVec S16 32) (k0_hw75 : k0_chk75 v514), ∀ a x, ((![v514] : Fin 1 → IVec S16 32) a x).toNat < S69632.size a := fun v514 k0_hw75 => k0_hw75
def k0_off73 (k0_t5 : Fin k0_t5_loop.trips) : Fin 4 → Nat :=
  let c1_i32_375 : BitVec 32 := 1#32
  let v516 : Index := Scalar.indexCast c1_i32_375
  let c6_i32 : BitVec 32 := 6#32
  let v517 : Index := Scalar.indexCast c6_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v518 : Index := Scalar.indexCast v213
  let c112_376 : Index := 112#32
  ![1, 6, v518.toNat, 112]

def k0_chk76 (v521 : IVec S16 32) : Prop :=
  (∀ a x, ((![v521] : Fin 1 → IVec S16 32) a x).toNat < S69632.size a)
theorem k0_idx76_inb : ∀ (v521 : IVec S16 32) (k0_hw76 : k0_chk76 v521), ∀ a x, ((![v521] : Fin 1 → IVec S16 32) a x).toNat < S69632.size a := fun v521 k0_hw76 => k0_hw76
def k0_off74 (k0_t5 : Fin k0_t5_loop.trips) : Fin 4 → Nat :=
  let c1_i32_378 : BitVec 32 := 1#32
  let v523 : Index := Scalar.indexCast c1_i32_378
  let c7_i32_379 : BitVec 32 := 7#32
  let v524 : Index := Scalar.indexCast c7_i32_379
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v525 : Index := Scalar.indexCast v213
  let c112_380 : Index := 112#32
  ![1, 7, v525.toNat, 112]

def k0_chk77 (v528 : IVec S16 32) : Prop :=
  (∀ a x, ((![v528] : Fin 1 → IVec S16 32) a x).toNat < S69632.size a)
theorem k0_idx77_inb : ∀ (v528 : IVec S16 32) (k0_hw77 : k0_chk77 v528), ∀ a x, ((![v528] : Fin 1 → IVec S16 32) a x).toNat < S69632.size a := fun v528 k0_hw77 => k0_hw77
def k0_off75 (k0_t5 : Fin k0_t5_loop.trips) : Fin 4 → Nat :=
  let c1_i32_382 : BitVec 32 := 1#32
  let v530 : Index := Scalar.indexCast c1_i32_382
  let c8_i32_383 : BitVec 32 := 8#32
  let v531 : Index := Scalar.indexCast c8_i32_383
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v532 : Index := Scalar.indexCast v213
  let c112_384 : Index := 112#32
  ![1, 8, v532.toNat, 112]

def k0_chk78 (v535 : IVec S16 32) : Prop :=
  (∀ a x, ((![v535] : Fin 1 → IVec S16 32) a x).toNat < S69632.size a)
theorem k0_idx78_inb : ∀ (v535 : IVec S16 32) (k0_hw78 : k0_chk78 v535), ∀ a x, ((![v535] : Fin 1 → IVec S16 32) a x).toNat < S69632.size a := fun v535 k0_hw78 => k0_hw78
def k0_off76 (k0_t5 : Fin k0_t5_loop.trips) : Fin 4 → Nat :=
  let c1_i32_386 : BitVec 32 := 1#32
  let v537 : Index := Scalar.indexCast c1_i32_386
  let c9_i32 : BitVec 32 := 9#32
  let v538 : Index := Scalar.indexCast c9_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v539 : Index := Scalar.indexCast v213
  let c112_387 : Index := 112#32
  ![1, 9, v539.toNat, 112]

def k0_chk79 (v542 : IVec S16 32) : Prop :=
  (∀ a x, ((![v542] : Fin 1 → IVec S16 32) a x).toNat < S69632.size a)
theorem k0_idx79_inb : ∀ (v542 : IVec S16 32) (k0_hw79 : k0_chk79 v542), ∀ a x, ((![v542] : Fin 1 → IVec S16 32) a x).toNat < S69632.size a := fun v542 k0_hw79 => k0_hw79
def k0_off77 (k0_t5 : Fin k0_t5_loop.trips) : Fin 4 → Nat :=
  let c1_i32_389 : BitVec 32 := 1#32
  let v544 : Index := Scalar.indexCast c1_i32_389
  let c10_i32_390 : BitVec 32 := 10#32
  let v545 : Index := Scalar.indexCast c10_i32_390
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v546 : Index := Scalar.indexCast v213
  let c112_391 : Index := 112#32
  ![1, 10, v546.toNat, 112]

def k0_chk80 (v549 : IVec S16 32) : Prop :=
  (∀ a x, ((![v549] : Fin 1 → IVec S16 32) a x).toNat < S69632.size a)
theorem k0_idx80_inb : ∀ (v549 : IVec S16 32) (k0_hw80 : k0_chk80 v549), ∀ a x, ((![v549] : Fin 1 → IVec S16 32) a x).toNat < S69632.size a := fun v549 k0_hw80 => k0_hw80
def k0_off78 (k0_t5 : Fin k0_t5_loop.trips) : Fin 4 → Nat :=
  let c1_i32_393 : BitVec 32 := 1#32
  let v551 : Index := Scalar.indexCast c1_i32_393
  let c11_i32 : BitVec 32 := 11#32
  let v552 : Index := Scalar.indexCast c11_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v553 : Index := Scalar.indexCast v213
  let c112_394 : Index := 112#32
  ![1, 11, v553.toNat, 112]

def k0_chk81 (v556 : IVec S16 32) : Prop :=
  (∀ a x, ((![v556] : Fin 1 → IVec S16 32) a x).toNat < S69632.size a)
theorem k0_idx81_inb : ∀ (v556 : IVec S16 32) (k0_hw81 : k0_chk81 v556), ∀ a x, ((![v556] : Fin 1 → IVec S16 32) a x).toNat < S69632.size a := fun v556 k0_hw81 => k0_hw81
def k0_off79 (k0_t5 : Fin k0_t5_loop.trips) : Fin 4 → Nat :=
  let c1_i32_396 : BitVec 32 := 1#32
  let v558 : Index := Scalar.indexCast c1_i32_396
  let c12_i32_397 : BitVec 32 := 12#32
  let v559 : Index := Scalar.indexCast c12_i32_397
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v560 : Index := Scalar.indexCast v213
  let c112_398 : Index := 112#32
  ![1, 12, v560.toNat, 112]

def k0_chk82 (v563 : IVec S16 32) : Prop :=
  (∀ a x, ((![v563] : Fin 1 → IVec S16 32) a x).toNat < S69632.size a)
theorem k0_idx82_inb : ∀ (v563 : IVec S16 32) (k0_hw82 : k0_chk82 v563), ∀ a x, ((![v563] : Fin 1 → IVec S16 32) a x).toNat < S69632.size a := fun v563 k0_hw82 => k0_hw82
def k0_off80 (k0_t5 : Fin k0_t5_loop.trips) : Fin 4 → Nat :=
  let c1_i32_400 : BitVec 32 := 1#32
  let v565 : Index := Scalar.indexCast c1_i32_400
  let c13_i32 : BitVec 32 := 13#32
  let v566 : Index := Scalar.indexCast c13_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v567 : Index := Scalar.indexCast v213
  let c112_401 : Index := 112#32
  ![1, 13, v567.toNat, 112]

def k0_chk83 (v570 : IVec S16 32) : Prop :=
  (∀ a x, ((![v570] : Fin 1 → IVec S16 32) a x).toNat < S69632.size a)
theorem k0_idx83_inb : ∀ (v570 : IVec S16 32) (k0_hw83 : k0_chk83 v570), ∀ a x, ((![v570] : Fin 1 → IVec S16 32) a x).toNat < S69632.size a := fun v570 k0_hw83 => k0_hw83
def k0_off81 (k0_t5 : Fin k0_t5_loop.trips) : Fin 4 → Nat :=
  let c1_i32_403 : BitVec 32 := 1#32
  let v572 : Index := Scalar.indexCast c1_i32_403
  let c14_i32 : BitVec 32 := 14#32
  let v573 : Index := Scalar.indexCast c14_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v574 : Index := Scalar.indexCast v213
  let c112_404 : Index := 112#32
  ![1, 14, v574.toNat, 112]

def k0_chk84 (v577 : IVec S16 32) : Prop :=
  (∀ a x, ((![v577] : Fin 1 → IVec S16 32) a x).toNat < S69632.size a)
theorem k0_idx84_inb : ∀ (v577 : IVec S16 32) (k0_hw84 : k0_chk84 v577), ∀ a x, ((![v577] : Fin 1 → IVec S16 32) a x).toNat < S69632.size a := fun v577 k0_hw84 => k0_hw84
def k0_off82 (k0_t5 : Fin k0_t5_loop.trips) : Fin 4 → Nat :=
  let c1_i32_406 : BitVec 32 := 1#32
  let v579 : Index := Scalar.indexCast c1_i32_406
  let c15_i32 : BitVec 32 := 15#32
  let v580 : Index := Scalar.indexCast c15_i32
  let c0_i32_245 : BitVec 32 := 0#32
  let c0_i32_225 : BitVec 32 := 0#32
  let c1_i32_227 : BitVec 32 := 1#32
  let arg13 : BitVec 32 := Scf.iv c0_i32_225 c1_i32_227 k0_t5
  let c1_i32_244 : BitVec 32 := 1#32
  let v212 : BitVec 32 := Scalar.muli arg13 c1_i32_244
  let v213 : BitVec 32 := Scalar.addi c0_i32_245 v212
  let v581 : Index := Scalar.indexCast v213
  let c112_407 : Index := 112#32
  ![1, 15, v581.toNat, 112]
def k0_off83 (i : grid0.Coords) (k0_t1 : Fin k0_t1_loop.trips) : Fin 4 → Nat :=
  let c2_i32_182 : BitVec 32 := 2#32
  let c0_i32_120 : BitVec 32 := 0#32
  let c0_i32_26 : BitVec 32 := 0#32
  let c1_i32_27 : BitVec 32 := 1#32
  let arg12 : BitVec 32 := Scf.iv c0_i32_26 c1_i32_27 k0_t1
  let c1_i32_119 : BitVec 32 := 1#32
  let v105 : BitVec 32 := Scalar.muli arg12 c1_i32_119
  let v106 : BitVec 32 := Scalar.addi c0_i32_120 v105
  let v159 : BitVec 32 := Scalar.muli c2_i32_182 v106
  let c1_i32_183 : BitVec 32 := 1#32
  let v160 : BitVec 32 := Scalar.addi v159 c1_i32_183
  let c32_i32_229 : BitVec 32 := 32#32
  let v200 : BitVec 32 := Scalar.muli v160 c32_i32_229
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v200 v1
  let c0_i32_235 : BitVec 32 := 0#32
  let c0_i32_236 : BitVec 32 := 0#32
  let c0_i32_237 : BitVec 32 := 0#32
  ![v201.toNat, 0, 0, 0]
def k0_off84 (i : grid0.Coords) : Fin 2 → Nat :=
  let c0_i32_29 : BitVec 32 := 0#32
  let c42_i32 : BitVec 32 := 42#32
  let c32_i32 : BitVec 32 := 32#32
  let v32 : BitVec 32 := Scalar.muli c42_i32 c32_i32
  let v33 : BitVec 32 := Scalar.addi c0_i32_29 v32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v34 : BitVec 32 := Scalar.addi v33 v1
  let c8_i32_30 : BitVec 32 := 8#32
  let v35 : BitVec 32 := Scalar.muli v34 c8_i32_30
  let c0_i32_38 : BitVec 32 := 0#32
  ![v35.toNat, 0]
def k0_off85 (i : grid0.Coords) : Fin 2 → Nat :=
  let c0_i32_29 : BitVec 32 := 0#32
  let c42_i32 : BitVec 32 := 42#32
  let c32_i32 : BitVec 32 := 32#32
  let v32 : BitVec 32 := Scalar.muli c42_i32 c32_i32
  let v33 : BitVec 32 := Scalar.addi c0_i32_29 v32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v34 : BitVec 32 := Scalar.addi v33 v1
  let c8_i32_31 : BitVec 32 := 8#32
  let v36 : BitVec 32 := Scalar.muli v34 c8_i32_31
  let c128_i32_47 : BitVec 32 := 128#32
  ![v36.toNat, 128]
def k0_off86 (i : grid0.Coords) : Fin 2 → Nat :=
  let c0_i32_29 : BitVec 32 := 0#32
  let c42_i32 : BitVec 32 := 42#32
  let c32_i32 : BitVec 32 := 32#32
  let v32 : BitVec 32 := Scalar.muli c42_i32 c32_i32
  let v33 : BitVec 32 := Scalar.addi c0_i32_29 v32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v34 : BitVec 32 := Scalar.addi v33 v1
  let c8_i32_32 : BitVec 32 := 8#32
  let v37 : BitVec 32 := Scalar.muli v34 c8_i32_32
  let c256_i32_56 : BitVec 32 := 256#32
  ![v37.toNat, 256]
def k0_cond5 : BitVec 1 :=
  let c42_i32_60 : BitVec 32 := 42#32
  let c1_i32_61 : BitVec 32 := 1#32
  let v62 : BitVec 32 := Scalar.addi c42_i32_60 c1_i32_61
  let c43_i32 : BitVec 32 := 43#32
  let v63 : BitVec 1 := Scalar.cmpi .slt v62 c43_i32
  let v64 : BitVec 32 := Scalar.extui v63
  let c0_i32_63 : BitVec 32 := 0#32
  let v65 : BitVec 1 := Scalar.cmpi .ne v64 c0_i32_63
  v65

def k0_off87 (i : grid0.Coords) : Fin 2 → Nat :=
  let c0_i32_121 : BitVec 32 := 0#32
  let c42_i32_62 : BitVec 32 := 42#32
  let c1_i32_119 : BitVec 32 := 1#32
  let v105 : BitVec 32 := Scalar.addi c42_i32_62 c1_i32_119
  let c32_i32_120 : BitVec 32 := 32#32
  let v106 : BitVec 32 := Scalar.muli v105 c32_i32_120
  let v107 : BitVec 32 := Scalar.addi c0_i32_121 v106
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v108 : BitVec 32 := Scalar.addi v107 v1
  let c8_i32_122 : BitVec 32 := 8#32
  let v109 : BitVec 32 := Scalar.muli v108 c8_i32_122
  let c0_i32_130 : BitVec 32 := 0#32
  ![v109.toNat, 0]
def k0_off88 (i : grid0.Coords) : Fin 2 → Nat :=
  let c0_i32_121 : BitVec 32 := 0#32
  let c42_i32_62 : BitVec 32 := 42#32
  let c1_i32_119 : BitVec 32 := 1#32
  let v105 : BitVec 32 := Scalar.addi c42_i32_62 c1_i32_119
  let c32_i32_120 : BitVec 32 := 32#32
  let v106 : BitVec 32 := Scalar.muli v105 c32_i32_120
  let v107 : BitVec 32 := Scalar.addi c0_i32_121 v106
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v108 : BitVec 32 := Scalar.addi v107 v1
  let c8_i32_123 : BitVec 32 := 8#32
  let v110 : BitVec 32 := Scalar.muli v108 c8_i32_123
  let c128_i32_139 : BitVec 32 := 128#32
  ![v110.toNat, 128]
def k0_off89 (i : grid0.Coords) : Fin 2 → Nat :=
  let c0_i32_121 : BitVec 32 := 0#32
  let c42_i32_62 : BitVec 32 := 42#32
  let c1_i32_119 : BitVec 32 := 1#32
  let v105 : BitVec 32 := Scalar.addi c42_i32_62 c1_i32_119
  let c32_i32_120 : BitVec 32 := 32#32
  let v106 : BitVec 32 := Scalar.muli v105 c32_i32_120
  let v107 : BitVec 32 := Scalar.addi c0_i32_121 v106
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v108 : BitVec 32 := Scalar.addi v107 v1
  let c8_i32_124 : BitVec 32 := 8#32
  let v111 : BitVec 32 := Scalar.muli v108 c8_i32_124
  let c256_i32_148 : BitVec 32 := 256#32
  ![v111.toNat, 256]
def k0_cond6 : BitVec 1 :=
  let c42_i32_64 : BitVec 32 := 42#32
  let c2_i32_65 : BitVec 32 := 2#32
  let v66 : BitVec 1 := Scalar.cmpi .sge c42_i32_64 c2_i32_65
  let v67 : BitVec 32 := Scalar.extui v66
  let c0_i32_67 : BitVec 32 := 0#32
  let v68 : BitVec 1 := Scalar.cmpi .ne v67 c0_i32_67
  v68

def k0_off90 (i : grid0.Coords) : Fin 4 → Nat :=
  let c42_i32_66 : BitVec 32 := 42#32
  let c2_i32_119 : BitVec 32 := 2#32
  let v105 : BitVec 32 := Scalar.subi c42_i32_66 c2_i32_119
  let c32_i32_120 : BitVec 32 := 32#32
  let v106 : BitVec 32 := Scalar.muli v105 c32_i32_120
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v107 : BitVec 32 := Scalar.addi v106 v1
  let c0_i32_126 : BitVec 32 := 0#32
  let c0_i32_127 : BitVec 32 := 0#32
  let c0_i32_128 : BitVec 32 := 0#32
  ![v107.toNat, 0, 0, 0]
@[reducible] def k0_t6_loop : Scf.Loop 32 :=
  let c0_i32_68 : BitVec 32 := 0#32
  let c56_i32 : BitVec 32 := 56#32
  let v69 : BitVec 32 := Scalar.addi c0_i32_68 c56_i32
  let c1_i32_69 : BitVec 32 := 1#32
  ⟨c0_i32_68, v69, c1_i32_69⟩

def k0_chk85 (v118 : IVec S16 32) (v119 : IVec S16 32) (v121 : IVec S16 32) : Prop :=
  (∀ a x, ((![v118, v119, v121] : Fin 3 → IVec S16 32) a x).toNat < S3x8x128.size a)
theorem k0_idx85_inb : ∀ (v118 : IVec S16 32) (v119 : IVec S16 32) (v121 : IVec S16 32) (k0_hw85 : k0_chk85 v118 v119 v121), ∀ a x, ((![v118, v119, v121] : Fin 3 → IVec S16 32) a x).toNat < S3x8x128.size a := fun v118 v119 v121 k0_hw85 => k0_hw85

def k0_chk86 (v128 : IVec S16 32) (v129 : IVec S16 32) (v131 : IVec S16 32) : Prop :=
  (∀ a x, ((![v128, v129, v131] : Fin 3 → IVec S16 32) a x).toNat < S3x8x128.size a)
theorem k0_idx86_inb : ∀ (v128 : IVec S16 32) (v129 : IVec S16 32) (v131 : IVec S16 32) (k0_hw86 : k0_chk86 v128 v129 v131), ∀ a x, ((![v128, v129, v131] : Fin 3 → IVec S16 32) a x).toNat < S3x8x128.size a := fun v128 v129 v131 k0_hw86 => k0_hw86

def k0_chk87 (v138 : IVec S16 32) (v139 : IVec S16 32) (v141 : IVec S16 32) : Prop :=
  (∀ a x, ((![v138, v139, v141] : Fin 3 → IVec S16 32) a x).toNat < S3x8x128.size a)
theorem k0_idx87_inb : ∀ (v138 : IVec S16 32) (v139 : IVec S16 32) (v141 : IVec S16 32) (k0_hw87 : k0_chk87 v138 v139 v141), ∀ a x, ((![v138, v139, v141] : Fin 3 → IVec S16 32) a x).toNat < S3x8x128.size a := fun v138 v139 v141 k0_hw87 => k0_hw87

def k0_chk88 (v148 : IVec S16 32) (v149 : IVec S16 32) (v151 : IVec S16 32) : Prop :=
  (∀ a x, ((![v148, v149, v151] : Fin 3 → IVec S16 32) a x).toNat < S3x8x128.size a)
theorem k0_idx88_inb : ∀ (v148 : IVec S16 32) (v149 : IVec S16 32) (v151 : IVec S16 32) (k0_hw88 : k0_chk88 v148 v149 v151), ∀ a x, ((![v148, v149, v151] : Fin 3 → IVec S16 32) a x).toNat < S3x8x128.size a := fun v148 v149 v151 k0_hw88 => k0_hw88

def k0_chk89 (v178 : IVec S16 32) : Prop :=
  (∀ a x, ((![v178] : Fin 1 → IVec S16 32) a x).toNat < S69632.size a)
theorem k0_idx89_inb : ∀ (v178 : IVec S16 32) (k0_hw89 : k0_chk89 v178), ∀ a x, ((![v178] : Fin 1 → IVec S16 32) a x).toNat < S69632.size a := fun v178 k0_hw89 => k0_hw89
def k0_off91 (k0_t6 : Fin k0_t6_loop.trips) : Fin 4 → Nat :=
  let c0_i32_156 : BitVec 32 := 0#32
  let v181 : Index := Scalar.indexCast c0_i32_156
  let c0_i32_157 : BitVec 32 := 0#32
  let v182 : Index := Scalar.indexCast c0_i32_157
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v183 : Index := Scalar.indexCast v108
  let c3_i32 : BitVec 32 := 3#32
  let v107 : BitVec 32 := Scalar.shrui v106 c3_i32
  let c16_i32 : BitVec 32 := 16#32
  let v180 : BitVec 32 := Scalar.muli v107 c16_i32
  let v184 : Index := Scalar.indexCast v180
  ![0, 0, v183.toNat, v184.toNat]

def k0_chk90 (v187 : IVec S16 32) : Prop :=
  (∀ a x, ((![v187] : Fin 1 → IVec S16 32) a x).toNat < S69632.size a)
theorem k0_idx90_inb : ∀ (v187 : IVec S16 32) (k0_hw90 : k0_chk90 v187), ∀ a x, ((![v187] : Fin 1 → IVec S16 32) a x).toNat < S69632.size a := fun v187 k0_hw90 => k0_hw90
def k0_off92 (k0_t6 : Fin k0_t6_loop.trips) : Fin 4 → Nat :=
  let c0_i32_159 : BitVec 32 := 0#32
  let v190 : Index := Scalar.indexCast c0_i32_159
  let c1_i32_160 : BitVec 32 := 1#32
  let v191 : Index := Scalar.indexCast c1_i32_160
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v192 : Index := Scalar.indexCast v108
  let c3_i32 : BitVec 32 := 3#32
  let v107 : BitVec 32 := Scalar.shrui v106 c3_i32
  let c16_i32_158 : BitVec 32 := 16#32
  let v189 : BitVec 32 := Scalar.muli v107 c16_i32_158
  let v193 : Index := Scalar.indexCast v189
  ![0, 1, v192.toNat, v193.toNat]

def k0_chk91 (v196 : IVec S16 32) : Prop :=
  (∀ a x, ((![v196] : Fin 1 → IVec S16 32) a x).toNat < S69632.size a)
theorem k0_idx91_inb : ∀ (v196 : IVec S16 32) (k0_hw91 : k0_chk91 v196), ∀ a x, ((![v196] : Fin 1 → IVec S16 32) a x).toNat < S69632.size a := fun v196 k0_hw91 => k0_hw91
def k0_off93 (k0_t6 : Fin k0_t6_loop.trips) : Fin 4 → Nat :=
  let c0_i32_162 : BitVec 32 := 0#32
  let v199 : Index := Scalar.indexCast c0_i32_162
  let c2_i32_163 : BitVec 32 := 2#32
  let v200 : Index := Scalar.indexCast c2_i32_163
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v201 : Index := Scalar.indexCast v108
  let c3_i32 : BitVec 32 := 3#32
  let v107 : BitVec 32 := Scalar.shrui v106 c3_i32
  let c16_i32_161 : BitVec 32 := 16#32
  let v198 : BitVec 32 := Scalar.muli v107 c16_i32_161
  let v202 : Index := Scalar.indexCast v198
  ![0, 2, v201.toNat, v202.toNat]

def k0_chk92 (v205 : IVec S16 32) : Prop :=
  (∀ a x, ((![v205] : Fin 1 → IVec S16 32) a x).toNat < S69632.size a)
theorem k0_idx92_inb : ∀ (v205 : IVec S16 32) (k0_hw92 : k0_chk92 v205), ∀ a x, ((![v205] : Fin 1 → IVec S16 32) a x).toNat < S69632.size a := fun v205 k0_hw92 => k0_hw92
def k0_off94 (k0_t6 : Fin k0_t6_loop.trips) : Fin 4 → Nat :=
  let c0_i32_165 : BitVec 32 := 0#32
  let v208 : Index := Scalar.indexCast c0_i32_165
  let c3_i32_166 : BitVec 32 := 3#32
  let v209 : Index := Scalar.indexCast c3_i32_166
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v210 : Index := Scalar.indexCast v108
  let c3_i32 : BitVec 32 := 3#32
  let v107 : BitVec 32 := Scalar.shrui v106 c3_i32
  let c16_i32_164 : BitVec 32 := 16#32
  let v207 : BitVec 32 := Scalar.muli v107 c16_i32_164
  let v211 : Index := Scalar.indexCast v207
  ![0, 3, v210.toNat, v211.toNat]

def k0_chk93 (v214 : IVec S16 32) : Prop :=
  (∀ a x, ((![v214] : Fin 1 → IVec S16 32) a x).toNat < S69632.size a)
theorem k0_idx93_inb : ∀ (v214 : IVec S16 32) (k0_hw93 : k0_chk93 v214), ∀ a x, ((![v214] : Fin 1 → IVec S16 32) a x).toNat < S69632.size a := fun v214 k0_hw93 => k0_hw93
def k0_off95 (k0_t6 : Fin k0_t6_loop.trips) : Fin 4 → Nat :=
  let c0_i32_169 : BitVec 32 := 0#32
  let v217 : Index := Scalar.indexCast c0_i32_169
  let c4_i32_170 : BitVec 32 := 4#32
  let v218 : Index := Scalar.indexCast c4_i32_170
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v219 : Index := Scalar.indexCast v108
  let c3_i32 : BitVec 32 := 3#32
  let v107 : BitVec 32 := Scalar.shrui v106 c3_i32
  let c16_i32_168 : BitVec 32 := 16#32
  let v216 : BitVec 32 := Scalar.muli v107 c16_i32_168
  let v220 : Index := Scalar.indexCast v216
  ![0, 4, v219.toNat, v220.toNat]

def k0_chk94 (v223 : IVec S16 32) : Prop :=
  (∀ a x, ((![v223] : Fin 1 → IVec S16 32) a x).toNat < S69632.size a)
theorem k0_idx94_inb : ∀ (v223 : IVec S16 32) (k0_hw94 : k0_chk94 v223), ∀ a x, ((![v223] : Fin 1 → IVec S16 32) a x).toNat < S69632.size a := fun v223 k0_hw94 => k0_hw94
def k0_off96 (k0_t6 : Fin k0_t6_loop.trips) : Fin 4 → Nat :=
  let c0_i32_173 : BitVec 32 := 0#32
  let v226 : Index := Scalar.indexCast c0_i32_173
  let c5_i32 : BitVec 32 := 5#32
  let v227 : Index := Scalar.indexCast c5_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v228 : Index := Scalar.indexCast v108
  let c3_i32 : BitVec 32 := 3#32
  let v107 : BitVec 32 := Scalar.shrui v106 c3_i32
  let c16_i32_172 : BitVec 32 := 16#32
  let v225 : BitVec 32 := Scalar.muli v107 c16_i32_172
  let v229 : Index := Scalar.indexCast v225
  ![0, 5, v228.toNat, v229.toNat]

def k0_chk95 (v232 : IVec S16 32) : Prop :=
  (∀ a x, ((![v232] : Fin 1 → IVec S16 32) a x).toNat < S69632.size a)
theorem k0_idx95_inb : ∀ (v232 : IVec S16 32) (k0_hw95 : k0_chk95 v232), ∀ a x, ((![v232] : Fin 1 → IVec S16 32) a x).toNat < S69632.size a := fun v232 k0_hw95 => k0_hw95
def k0_off97 (k0_t6 : Fin k0_t6_loop.trips) : Fin 4 → Nat :=
  let c0_i32_176 : BitVec 32 := 0#32
  let v235 : Index := Scalar.indexCast c0_i32_176
  let c6_i32 : BitVec 32 := 6#32
  let v236 : Index := Scalar.indexCast c6_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v237 : Index := Scalar.indexCast v108
  let c3_i32 : BitVec 32 := 3#32
  let v107 : BitVec 32 := Scalar.shrui v106 c3_i32
  let c16_i32_175 : BitVec 32 := 16#32
  let v234 : BitVec 32 := Scalar.muli v107 c16_i32_175
  let v238 : Index := Scalar.indexCast v234
  ![0, 6, v237.toNat, v238.toNat]

def k0_chk96 (v241 : IVec S16 32) : Prop :=
  (∀ a x, ((![v241] : Fin 1 → IVec S16 32) a x).toNat < S69632.size a)
theorem k0_idx96_inb : ∀ (v241 : IVec S16 32) (k0_hw96 : k0_chk96 v241), ∀ a x, ((![v241] : Fin 1 → IVec S16 32) a x).toNat < S69632.size a := fun v241 k0_hw96 => k0_hw96
def k0_off98 (k0_t6 : Fin k0_t6_loop.trips) : Fin 4 → Nat :=
  let c0_i32_179 : BitVec 32 := 0#32
  let v244 : Index := Scalar.indexCast c0_i32_179
  let c7_i32_180 : BitVec 32 := 7#32
  let v245 : Index := Scalar.indexCast c7_i32_180
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v246 : Index := Scalar.indexCast v108
  let c3_i32 : BitVec 32 := 3#32
  let v107 : BitVec 32 := Scalar.shrui v106 c3_i32
  let c16_i32_178 : BitVec 32 := 16#32
  let v243 : BitVec 32 := Scalar.muli v107 c16_i32_178
  let v247 : Index := Scalar.indexCast v243
  ![0, 7, v246.toNat, v247.toNat]

def k0_chk97 (v250 : IVec S16 32) : Prop :=
  (∀ a x, ((![v250] : Fin 1 → IVec S16 32) a x).toNat < S69632.size a)
theorem k0_idx97_inb : ∀ (v250 : IVec S16 32) (k0_hw97 : k0_chk97 v250), ∀ a x, ((![v250] : Fin 1 → IVec S16 32) a x).toNat < S69632.size a := fun v250 k0_hw97 => k0_hw97
def k0_off99 (k0_t6 : Fin k0_t6_loop.trips) : Fin 4 → Nat :=
  let c0_i32_183 : BitVec 32 := 0#32
  let v253 : Index := Scalar.indexCast c0_i32_183
  let c8_i32_184 : BitVec 32 := 8#32
  let v254 : Index := Scalar.indexCast c8_i32_184
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v255 : Index := Scalar.indexCast v108
  let c3_i32 : BitVec 32 := 3#32
  let v107 : BitVec 32 := Scalar.shrui v106 c3_i32
  let c16_i32_182 : BitVec 32 := 16#32
  let v252 : BitVec 32 := Scalar.muli v107 c16_i32_182
  let v256 : Index := Scalar.indexCast v252
  ![0, 8, v255.toNat, v256.toNat]

def k0_chk98 (v259 : IVec S16 32) : Prop :=
  (∀ a x, ((![v259] : Fin 1 → IVec S16 32) a x).toNat < S69632.size a)
theorem k0_idx98_inb : ∀ (v259 : IVec S16 32) (k0_hw98 : k0_chk98 v259), ∀ a x, ((![v259] : Fin 1 → IVec S16 32) a x).toNat < S69632.size a := fun v259 k0_hw98 => k0_hw98
def k0_off100 (k0_t6 : Fin k0_t6_loop.trips) : Fin 4 → Nat :=
  let c0_i32_187 : BitVec 32 := 0#32
  let v262 : Index := Scalar.indexCast c0_i32_187
  let c9_i32 : BitVec 32 := 9#32
  let v263 : Index := Scalar.indexCast c9_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v264 : Index := Scalar.indexCast v108
  let c3_i32 : BitVec 32 := 3#32
  let v107 : BitVec 32 := Scalar.shrui v106 c3_i32
  let c16_i32_186 : BitVec 32 := 16#32
  let v261 : BitVec 32 := Scalar.muli v107 c16_i32_186
  let v265 : Index := Scalar.indexCast v261
  ![0, 9, v264.toNat, v265.toNat]

def k0_chk99 (v268 : IVec S16 32) : Prop :=
  (∀ a x, ((![v268] : Fin 1 → IVec S16 32) a x).toNat < S69632.size a)
theorem k0_idx99_inb : ∀ (v268 : IVec S16 32) (k0_hw99 : k0_chk99 v268), ∀ a x, ((![v268] : Fin 1 → IVec S16 32) a x).toNat < S69632.size a := fun v268 k0_hw99 => k0_hw99
def k0_off101 (k0_t6 : Fin k0_t6_loop.trips) : Fin 4 → Nat :=
  let c0_i32_190 : BitVec 32 := 0#32
  let v271 : Index := Scalar.indexCast c0_i32_190
  let c10_i32 : BitVec 32 := 10#32
  let v272 : Index := Scalar.indexCast c10_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v273 : Index := Scalar.indexCast v108
  let c3_i32 : BitVec 32 := 3#32
  let v107 : BitVec 32 := Scalar.shrui v106 c3_i32
  let c16_i32_189 : BitVec 32 := 16#32
  let v270 : BitVec 32 := Scalar.muli v107 c16_i32_189
  let v274 : Index := Scalar.indexCast v270
  ![0, 10, v273.toNat, v274.toNat]

def k0_chk100 (v277 : IVec S16 32) : Prop :=
  (∀ a x, ((![v277] : Fin 1 → IVec S16 32) a x).toNat < S69632.size a)
theorem k0_idx100_inb : ∀ (v277 : IVec S16 32) (k0_hw100 : k0_chk100 v277), ∀ a x, ((![v277] : Fin 1 → IVec S16 32) a x).toNat < S69632.size a := fun v277 k0_hw100 => k0_hw100
def k0_off102 (k0_t6 : Fin k0_t6_loop.trips) : Fin 4 → Nat :=
  let c0_i32_193 : BitVec 32 := 0#32
  let v280 : Index := Scalar.indexCast c0_i32_193
  let c11_i32 : BitVec 32 := 11#32
  let v281 : Index := Scalar.indexCast c11_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v282 : Index := Scalar.indexCast v108
  let c3_i32 : BitVec 32 := 3#32
  let v107 : BitVec 32 := Scalar.shrui v106 c3_i32
  let c16_i32_192 : BitVec 32 := 16#32
  let v279 : BitVec 32 := Scalar.muli v107 c16_i32_192
  let v283 : Index := Scalar.indexCast v279
  ![0, 11, v282.toNat, v283.toNat]

def k0_chk101 (v286 : IVec S16 32) : Prop :=
  (∀ a x, ((![v286] : Fin 1 → IVec S16 32) a x).toNat < S69632.size a)
theorem k0_idx101_inb : ∀ (v286 : IVec S16 32) (k0_hw101 : k0_chk101 v286), ∀ a x, ((![v286] : Fin 1 → IVec S16 32) a x).toNat < S69632.size a := fun v286 k0_hw101 => k0_hw101
def k0_off103 (k0_t6 : Fin k0_t6_loop.trips) : Fin 4 → Nat :=
  let c0_i32_196 : BitVec 32 := 0#32
  let v289 : Index := Scalar.indexCast c0_i32_196
  let c12_i32_197 : BitVec 32 := 12#32
  let v290 : Index := Scalar.indexCast c12_i32_197
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v291 : Index := Scalar.indexCast v108
  let c3_i32 : BitVec 32 := 3#32
  let v107 : BitVec 32 := Scalar.shrui v106 c3_i32
  let c16_i32_195 : BitVec 32 := 16#32
  let v288 : BitVec 32 := Scalar.muli v107 c16_i32_195
  let v292 : Index := Scalar.indexCast v288
  ![0, 12, v291.toNat, v292.toNat]

def k0_chk102 (v295 : IVec S16 32) : Prop :=
  (∀ a x, ((![v295] : Fin 1 → IVec S16 32) a x).toNat < S69632.size a)
theorem k0_idx102_inb : ∀ (v295 : IVec S16 32) (k0_hw102 : k0_chk102 v295), ∀ a x, ((![v295] : Fin 1 → IVec S16 32) a x).toNat < S69632.size a := fun v295 k0_hw102 => k0_hw102
def k0_off104 (k0_t6 : Fin k0_t6_loop.trips) : Fin 4 → Nat :=
  let c0_i32_200 : BitVec 32 := 0#32
  let v298 : Index := Scalar.indexCast c0_i32_200
  let c13_i32 : BitVec 32 := 13#32
  let v299 : Index := Scalar.indexCast c13_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v300 : Index := Scalar.indexCast v108
  let c3_i32 : BitVec 32 := 3#32
  let v107 : BitVec 32 := Scalar.shrui v106 c3_i32
  let c16_i32_199 : BitVec 32 := 16#32
  let v297 : BitVec 32 := Scalar.muli v107 c16_i32_199
  let v301 : Index := Scalar.indexCast v297
  ![0, 13, v300.toNat, v301.toNat]

def k0_chk103 (v304 : IVec S16 32) : Prop :=
  (∀ a x, ((![v304] : Fin 1 → IVec S16 32) a x).toNat < S69632.size a)
theorem k0_idx103_inb : ∀ (v304 : IVec S16 32) (k0_hw103 : k0_chk103 v304), ∀ a x, ((![v304] : Fin 1 → IVec S16 32) a x).toNat < S69632.size a := fun v304 k0_hw103 => k0_hw103
def k0_off105 (k0_t6 : Fin k0_t6_loop.trips) : Fin 4 → Nat :=
  let c0_i32_203 : BitVec 32 := 0#32
  let v307 : Index := Scalar.indexCast c0_i32_203
  let c14_i32 : BitVec 32 := 14#32
  let v308 : Index := Scalar.indexCast c14_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v309 : Index := Scalar.indexCast v108
  let c3_i32 : BitVec 32 := 3#32
  let v107 : BitVec 32 := Scalar.shrui v106 c3_i32
  let c16_i32_202 : BitVec 32 := 16#32
  let v306 : BitVec 32 := Scalar.muli v107 c16_i32_202
  let v310 : Index := Scalar.indexCast v306
  ![0, 14, v309.toNat, v310.toNat]

def k0_chk104 (v313 : IVec S16 32) : Prop :=
  (∀ a x, ((![v313] : Fin 1 → IVec S16 32) a x).toNat < S69632.size a)
theorem k0_idx104_inb : ∀ (v313 : IVec S16 32) (k0_hw104 : k0_chk104 v313), ∀ a x, ((![v313] : Fin 1 → IVec S16 32) a x).toNat < S69632.size a := fun v313 k0_hw104 => k0_hw104
def k0_off106 (k0_t6 : Fin k0_t6_loop.trips) : Fin 4 → Nat :=
  let c0_i32_206 : BitVec 32 := 0#32
  let v316 : Index := Scalar.indexCast c0_i32_206
  let c15_i32 : BitVec 32 := 15#32
  let v317 : Index := Scalar.indexCast c15_i32
  let c0_i32_120 : BitVec 32 := 0#32
  let c0_i32_68 : BitVec 32 := 0#32
  let c1_i32_69 : BitVec 32 := 1#32
  let arg12 : BitVec 32 := Scf.iv c0_i32_68 c1_i32_69 k0_t6
  let c1_i32_119 : BitVec 32 := 1#32
  let v105 : BitVec 32 := Scalar.muli arg12 c1_i32_119
  let v106 : BitVec 32 := Scalar.addi c0_i32_120 v105
  let c7_i32 : BitVec 32 := 7#32
  let v108 : BitVec 32 := Scalar.andi v106 c7_i32
  let v318 : Index := Scalar.indexCast v108
  let c3_i32 : BitVec 32 := 3#32
  let v107 : BitVec 32 := Scalar.shrui v106 c3_i32
  let c16_i32_205 : BitVec 32 := 16#32
  let v315 : BitVec 32 := Scalar.muli v107 c16_i32_205
  let v319 : Index := Scalar.indexCast v315
  ![0, 15, v318.toNat, v319.toNat]
@[reducible] def k0_t7_loop : Scf.Loop 32 :=
  let c0_i32_71 : BitVec 32 := 0#32
  let c8_i32_72 : BitVec 32 := 8#32
  let v70 : BitVec 32 := Scalar.addi c0_i32_71 c8_i32_72
  let c1_i32_73 : BitVec 32 := 1#32
  ⟨c0_i32_71, v70, c1_i32_73⟩

def k0_chk105 (v116 : IVec S16 32) (v117 : IVec S16 32) (v119 : IVec S16 32) : Prop :=
  (∀ a x, ((![v116, v117, v119] : Fin 3 → IVec S16 32) a x).toNat < S3x8x128.size a)
theorem k0_idx105_inb : ∀ (v116 : IVec S16 32) (v117 : IVec S16 32) (v119 : IVec S16 32) (k0_hw105 : k0_chk105 v116 v117 v119), ∀ a x, ((![v116, v117, v119] : Fin 3 → IVec S16 32) a x).toNat < S3x8x128.size a := fun v116 v117 v119 k0_hw105 => k0_hw105

def k0_chk106 (v128 : IVec S16 32) (v129 : IVec S16 32) (v131 : IVec S16 32) : Prop :=
  (∀ a x, ((![v128, v129, v131] : Fin 3 → IVec S16 32) a x).toNat < S3x8x128.size a)
theorem k0_idx106_inb : ∀ (v128 : IVec S16 32) (v129 : IVec S16 32) (v131 : IVec S16 32) (k0_hw106 : k0_chk106 v128 v129 v131), ∀ a x, ((![v128, v129, v131] : Fin 3 → IVec S16 32) a x).toNat < S3x8x128.size a := fun v128 v129 v131 k0_hw106 => k0_hw106

def k0_chk107 (v140 : IVec S16 32) (v141 : IVec S16 32) (v143 : IVec S16 32) : Prop :=
  (∀ a x, ((![v140, v141, v143] : Fin 3 → IVec S16 32) a x).toNat < S3x8x128.size a)
theorem k0_idx107_inb : ∀ (v140 : IVec S16 32) (v141 : IVec S16 32) (v143 : IVec S16 32) (k0_hw107 : k0_chk107 v140 v141 v143), ∀ a x, ((![v140, v141, v143] : Fin 3 → IVec S16 32) a x).toNat < S3x8x128.size a := fun v140 v141 v143 k0_hw107 => k0_hw107

def k0_chk108 (v152 : IVec S16 32) (v153 : IVec S16 32) (v155 : IVec S16 32) : Prop :=
  (∀ a x, ((![v152, v153, v155] : Fin 3 → IVec S16 32) a x).toNat < S3x8x128.size a)
theorem k0_idx108_inb : ∀ (v152 : IVec S16 32) (v153 : IVec S16 32) (v155 : IVec S16 32) (k0_hw108 : k0_chk108 v152 v153 v155), ∀ a x, ((![v152, v153, v155] : Fin 3 → IVec S16 32) a x).toNat < S3x8x128.size a := fun v152 v153 v155 k0_hw108 => k0_hw108

def k0_chk109 (v183 : IVec S16 32) (v184 : IVec S16 32) (v186 : IVec S16 32) : Prop :=
  (∀ a x, ((![v183, v184, v186] : Fin 3 → IVec S16 32) a x).toNat < S3x8x128.size a)
theorem k0_idx109_inb : ∀ (v183 : IVec S16 32) (v184 : IVec S16 32) (v186 : IVec S16 32) (k0_hw109 : k0_chk109 v183 v184 v186), ∀ a x, ((![v183, v184, v186] : Fin 3 → IVec S16 32) a x).toNat < S3x8x128.size a := fun v183 v184 v186 k0_hw109 => k0_hw109

def k0_chk110 (v193 : IVec S16 32) (v194 : IVec S16 32) (v196 : IVec S16 32) : Prop :=
  (∀ a x, ((![v193, v194, v196] : Fin 3 → IVec S16 32) a x).toNat < S3x8x128.size a)
theorem k0_idx110_inb : ∀ (v193 : IVec S16 32) (v194 : IVec S16 32) (v196 : IVec S16 32) (k0_hw110 : k0_chk110 v193 v194 v196), ∀ a x, ((![v193, v194, v196] : Fin 3 → IVec S16 32) a x).toNat < S3x8x128.size a := fun v193 v194 v196 k0_hw110 => k0_hw110

def k0_chk111 (v365 : IVec S16 32) : Prop :=
  (∀ a x, ((![v365] : Fin 1 → IVec S16 32) a x).toNat < S69632.size a)
theorem k0_idx111_inb : ∀ (v365 : IVec S16 32) (k0_hw111 : k0_chk111 v365), ∀ a x, ((![v365] : Fin 1 → IVec S16 32) a x).toNat < S69632.size a := fun v365 k0_hw111 => k0_hw111
def k0_off107 (k0_t7 : Fin k0_t7_loop.trips) : Fin 4 → Nat :=
  let c0_i32_231 : BitVec 32 := 0#32
  let v367 : Index := Scalar.indexCast c0_i32_231
  let c0_i32_232 : BitVec 32 := 0#32
  let v368 : Index := Scalar.indexCast c0_i32_232
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v369 : Index := Scalar.indexCast v106
  let c112 : Index := 112#32
  ![0, 0, v369.toNat, 112]

def k0_chk112 (v372 : IVec S16 32) : Prop :=
  (∀ a x, ((![v372] : Fin 1 → IVec S16 32) a x).toNat < S69632.size a)
theorem k0_idx112_inb : ∀ (v372 : IVec S16 32) (k0_hw112 : k0_chk112 v372), ∀ a x, ((![v372] : Fin 1 → IVec S16 32) a x).toNat < S69632.size a := fun v372 k0_hw112 => k0_hw112
def k0_off108 (k0_t7 : Fin k0_t7_loop.trips) : Fin 4 → Nat :=
  let c0_i32_233 : BitVec 32 := 0#32
  let v374 : Index := Scalar.indexCast c0_i32_233
  let c1_i32_234 : BitVec 32 := 1#32
  let v375 : Index := Scalar.indexCast c1_i32_234
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v376 : Index := Scalar.indexCast v106
  let c112_235 : Index := 112#32
  ![0, 1, v376.toNat, 112]

def k0_chk113 (v379 : IVec S16 32) : Prop :=
  (∀ a x, ((![v379] : Fin 1 → IVec S16 32) a x).toNat < S69632.size a)
theorem k0_idx113_inb : ∀ (v379 : IVec S16 32) (k0_hw113 : k0_chk113 v379), ∀ a x, ((![v379] : Fin 1 → IVec S16 32) a x).toNat < S69632.size a := fun v379 k0_hw113 => k0_hw113
def k0_off109 (k0_t7 : Fin k0_t7_loop.trips) : Fin 4 → Nat :=
  let c0_i32_236 : BitVec 32 := 0#32
  let v381 : Index := Scalar.indexCast c0_i32_236
  let c2_i32_237 : BitVec 32 := 2#32
  let v382 : Index := Scalar.indexCast c2_i32_237
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v383 : Index := Scalar.indexCast v106
  let c112_238 : Index := 112#32
  ![0, 2, v383.toNat, 112]

def k0_chk114 (v386 : IVec S16 32) : Prop :=
  (∀ a x, ((![v386] : Fin 1 → IVec S16 32) a x).toNat < S69632.size a)
theorem k0_idx114_inb : ∀ (v386 : IVec S16 32) (k0_hw114 : k0_chk114 v386), ∀ a x, ((![v386] : Fin 1 → IVec S16 32) a x).toNat < S69632.size a := fun v386 k0_hw114 => k0_hw114
def k0_off110 (k0_t7 : Fin k0_t7_loop.trips) : Fin 4 → Nat :=
  let c0_i32_239 : BitVec 32 := 0#32
  let v388 : Index := Scalar.indexCast c0_i32_239
  let c3_i32_240 : BitVec 32 := 3#32
  let v389 : Index := Scalar.indexCast c3_i32_240
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v390 : Index := Scalar.indexCast v106
  let c112_241 : Index := 112#32
  ![0, 3, v390.toNat, 112]

def k0_chk115 (v393 : IVec S16 32) : Prop :=
  (∀ a x, ((![v393] : Fin 1 → IVec S16 32) a x).toNat < S69632.size a)
theorem k0_idx115_inb : ∀ (v393 : IVec S16 32) (k0_hw115 : k0_chk115 v393), ∀ a x, ((![v393] : Fin 1 → IVec S16 32) a x).toNat < S69632.size a := fun v393 k0_hw115 => k0_hw115
def k0_off111 (k0_t7 : Fin k0_t7_loop.trips) : Fin 4 → Nat :=
  let c0_i32_243 : BitVec 32 := 0#32
  let v395 : Index := Scalar.indexCast c0_i32_243
  let c4_i32_244 : BitVec 32 := 4#32
  let v396 : Index := Scalar.indexCast c4_i32_244
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v397 : Index := Scalar.indexCast v106
  let c112_245 : Index := 112#32
  ![0, 4, v397.toNat, 112]

def k0_chk116 (v400 : IVec S16 32) : Prop :=
  (∀ a x, ((![v400] : Fin 1 → IVec S16 32) a x).toNat < S69632.size a)
theorem k0_idx116_inb : ∀ (v400 : IVec S16 32) (k0_hw116 : k0_chk116 v400), ∀ a x, ((![v400] : Fin 1 → IVec S16 32) a x).toNat < S69632.size a := fun v400 k0_hw116 => k0_hw116
def k0_off112 (k0_t7 : Fin k0_t7_loop.trips) : Fin 4 → Nat :=
  let c0_i32_247 : BitVec 32 := 0#32
  let v402 : Index := Scalar.indexCast c0_i32_247
  let c5_i32 : BitVec 32 := 5#32
  let v403 : Index := Scalar.indexCast c5_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v404 : Index := Scalar.indexCast v106
  let c112_248 : Index := 112#32
  ![0, 5, v404.toNat, 112]

def k0_chk117 (v407 : IVec S16 32) : Prop :=
  (∀ a x, ((![v407] : Fin 1 → IVec S16 32) a x).toNat < S69632.size a)
theorem k0_idx117_inb : ∀ (v407 : IVec S16 32) (k0_hw117 : k0_chk117 v407), ∀ a x, ((![v407] : Fin 1 → IVec S16 32) a x).toNat < S69632.size a := fun v407 k0_hw117 => k0_hw117
def k0_off113 (k0_t7 : Fin k0_t7_loop.trips) : Fin 4 → Nat :=
  let c0_i32_250 : BitVec 32 := 0#32
  let v409 : Index := Scalar.indexCast c0_i32_250
  let c6_i32 : BitVec 32 := 6#32
  let v410 : Index := Scalar.indexCast c6_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v411 : Index := Scalar.indexCast v106
  let c112_251 : Index := 112#32
  ![0, 6, v411.toNat, 112]

def k0_chk118 (v414 : IVec S16 32) : Prop :=
  (∀ a x, ((![v414] : Fin 1 → IVec S16 32) a x).toNat < S69632.size a)
theorem k0_idx118_inb : ∀ (v414 : IVec S16 32) (k0_hw118 : k0_chk118 v414), ∀ a x, ((![v414] : Fin 1 → IVec S16 32) a x).toNat < S69632.size a := fun v414 k0_hw118 => k0_hw118
def k0_off114 (k0_t7 : Fin k0_t7_loop.trips) : Fin 4 → Nat :=
  let c0_i32_253 : BitVec 32 := 0#32
  let v416 : Index := Scalar.indexCast c0_i32_253
  let c7_i32_254 : BitVec 32 := 7#32
  let v417 : Index := Scalar.indexCast c7_i32_254
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v418 : Index := Scalar.indexCast v106
  let c112_255 : Index := 112#32
  ![0, 7, v418.toNat, 112]

def k0_chk119 (v421 : IVec S16 32) : Prop :=
  (∀ a x, ((![v421] : Fin 1 → IVec S16 32) a x).toNat < S69632.size a)
theorem k0_idx119_inb : ∀ (v421 : IVec S16 32) (k0_hw119 : k0_chk119 v421), ∀ a x, ((![v421] : Fin 1 → IVec S16 32) a x).toNat < S69632.size a := fun v421 k0_hw119 => k0_hw119
def k0_off115 (k0_t7 : Fin k0_t7_loop.trips) : Fin 4 → Nat :=
  let c0_i32_257 : BitVec 32 := 0#32
  let v423 : Index := Scalar.indexCast c0_i32_257
  let c8_i32_258 : BitVec 32 := 8#32
  let v424 : Index := Scalar.indexCast c8_i32_258
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v425 : Index := Scalar.indexCast v106
  let c112_259 : Index := 112#32
  ![0, 8, v425.toNat, 112]

def k0_chk120 (v428 : IVec S16 32) : Prop :=
  (∀ a x, ((![v428] : Fin 1 → IVec S16 32) a x).toNat < S69632.size a)
theorem k0_idx120_inb : ∀ (v428 : IVec S16 32) (k0_hw120 : k0_chk120 v428), ∀ a x, ((![v428] : Fin 1 → IVec S16 32) a x).toNat < S69632.size a := fun v428 k0_hw120 => k0_hw120
def k0_off116 (k0_t7 : Fin k0_t7_loop.trips) : Fin 4 → Nat :=
  let c0_i32_261 : BitVec 32 := 0#32
  let v430 : Index := Scalar.indexCast c0_i32_261
  let c9_i32 : BitVec 32 := 9#32
  let v431 : Index := Scalar.indexCast c9_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v432 : Index := Scalar.indexCast v106
  let c112_262 : Index := 112#32
  ![0, 9, v432.toNat, 112]

def k0_chk121 (v435 : IVec S16 32) : Prop :=
  (∀ a x, ((![v435] : Fin 1 → IVec S16 32) a x).toNat < S69632.size a)
theorem k0_idx121_inb : ∀ (v435 : IVec S16 32) (k0_hw121 : k0_chk121 v435), ∀ a x, ((![v435] : Fin 1 → IVec S16 32) a x).toNat < S69632.size a := fun v435 k0_hw121 => k0_hw121
def k0_off117 (k0_t7 : Fin k0_t7_loop.trips) : Fin 4 → Nat :=
  let c0_i32_264 : BitVec 32 := 0#32
  let v437 : Index := Scalar.indexCast c0_i32_264
  let c10_i32_265 : BitVec 32 := 10#32
  let v438 : Index := Scalar.indexCast c10_i32_265
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v439 : Index := Scalar.indexCast v106
  let c112_266 : Index := 112#32
  ![0, 10, v439.toNat, 112]

def k0_chk122 (v442 : IVec S16 32) : Prop :=
  (∀ a x, ((![v442] : Fin 1 → IVec S16 32) a x).toNat < S69632.size a)
theorem k0_idx122_inb : ∀ (v442 : IVec S16 32) (k0_hw122 : k0_chk122 v442), ∀ a x, ((![v442] : Fin 1 → IVec S16 32) a x).toNat < S69632.size a := fun v442 k0_hw122 => k0_hw122
def k0_off118 (k0_t7 : Fin k0_t7_loop.trips) : Fin 4 → Nat :=
  let c0_i32_268 : BitVec 32 := 0#32
  let v444 : Index := Scalar.indexCast c0_i32_268
  let c11_i32 : BitVec 32 := 11#32
  let v445 : Index := Scalar.indexCast c11_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v446 : Index := Scalar.indexCast v106
  let c112_269 : Index := 112#32
  ![0, 11, v446.toNat, 112]

def k0_chk123 (v449 : IVec S16 32) : Prop :=
  (∀ a x, ((![v449] : Fin 1 → IVec S16 32) a x).toNat < S69632.size a)
theorem k0_idx123_inb : ∀ (v449 : IVec S16 32) (k0_hw123 : k0_chk123 v449), ∀ a x, ((![v449] : Fin 1 → IVec S16 32) a x).toNat < S69632.size a := fun v449 k0_hw123 => k0_hw123
def k0_off119 (k0_t7 : Fin k0_t7_loop.trips) : Fin 4 → Nat :=
  let c0_i32_271 : BitVec 32 := 0#32
  let v451 : Index := Scalar.indexCast c0_i32_271
  let c12_i32_272 : BitVec 32 := 12#32
  let v452 : Index := Scalar.indexCast c12_i32_272
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v453 : Index := Scalar.indexCast v106
  let c112_273 : Index := 112#32
  ![0, 12, v453.toNat, 112]

def k0_chk124 (v456 : IVec S16 32) : Prop :=
  (∀ a x, ((![v456] : Fin 1 → IVec S16 32) a x).toNat < S69632.size a)
theorem k0_idx124_inb : ∀ (v456 : IVec S16 32) (k0_hw124 : k0_chk124 v456), ∀ a x, ((![v456] : Fin 1 → IVec S16 32) a x).toNat < S69632.size a := fun v456 k0_hw124 => k0_hw124
def k0_off120 (k0_t7 : Fin k0_t7_loop.trips) : Fin 4 → Nat :=
  let c0_i32_275 : BitVec 32 := 0#32
  let v458 : Index := Scalar.indexCast c0_i32_275
  let c13_i32 : BitVec 32 := 13#32
  let v459 : Index := Scalar.indexCast c13_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v460 : Index := Scalar.indexCast v106
  let c112_276 : Index := 112#32
  ![0, 13, v460.toNat, 112]

def k0_chk125 (v463 : IVec S16 32) : Prop :=
  (∀ a x, ((![v463] : Fin 1 → IVec S16 32) a x).toNat < S69632.size a)
theorem k0_idx125_inb : ∀ (v463 : IVec S16 32) (k0_hw125 : k0_chk125 v463), ∀ a x, ((![v463] : Fin 1 → IVec S16 32) a x).toNat < S69632.size a := fun v463 k0_hw125 => k0_hw125
def k0_off121 (k0_t7 : Fin k0_t7_loop.trips) : Fin 4 → Nat :=
  let c0_i32_278 : BitVec 32 := 0#32
  let v465 : Index := Scalar.indexCast c0_i32_278
  let c14_i32 : BitVec 32 := 14#32
  let v466 : Index := Scalar.indexCast c14_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v467 : Index := Scalar.indexCast v106
  let c112_279 : Index := 112#32
  ![0, 14, v467.toNat, 112]

def k0_chk126 (v470 : IVec S16 32) : Prop :=
  (∀ a x, ((![v470] : Fin 1 → IVec S16 32) a x).toNat < S69632.size a)
theorem k0_idx126_inb : ∀ (v470 : IVec S16 32) (k0_hw126 : k0_chk126 v470), ∀ a x, ((![v470] : Fin 1 → IVec S16 32) a x).toNat < S69632.size a := fun v470 k0_hw126 => k0_hw126
def k0_off122 (k0_t7 : Fin k0_t7_loop.trips) : Fin 4 → Nat :=
  let c0_i32_281 : BitVec 32 := 0#32
  let v472 : Index := Scalar.indexCast c0_i32_281
  let c15_i32 : BitVec 32 := 15#32
  let v473 : Index := Scalar.indexCast c15_i32
  let c0_i32_120 : BitVec 32 := 0#32
  let c0_i32_71 : BitVec 32 := 0#32
  let c1_i32_73 : BitVec 32 := 1#32
  let arg12 : BitVec 32 := Scf.iv c0_i32_71 c1_i32_73 k0_t7
  let c1_i32_119 : BitVec 32 := 1#32
  let v105 : BitVec 32 := Scalar.muli arg12 c1_i32_119
  let v106 : BitVec 32 := Scalar.addi c0_i32_120 v105
  let v474 : Index := Scalar.indexCast v106
  let c112_282 : Index := 112#32
  ![0, 15, v474.toNat, 112]
def k0_off123 (i : grid0.Coords) : Fin 4 → Nat :=
  let c42_i32_75 : BitVec 32 := 42#32
  let c32_i32_76 : BitVec 32 := 32#32
  let v71 : BitVec 32 := Scalar.muli c42_i32_75 c32_i32_76
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v72 : BitVec 32 := Scalar.addi v71 v1
  let c0_i32_82 : BitVec 32 := 0#32
  let c0_i32_83 : BitVec 32 := 0#32
  let c0_i32_84 : BitVec 32 := 0#32
  ![v72.toNat, 0, 0, 0]
def k0_off124 (i : grid0.Coords) (c1312_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v83 : BitVec 32 := Scalar.addi c1312_i32 v1
  let c0_i32_96 : BitVec 32 := 0#32
  let c0_i32_97 : BitVec 32 := 0#32
  let c0_i32_98 : BitVec 32 := 0#32
  ![v83.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Plane.lean ====
/-
  The vector arithmetic of one row group of the decoding kernel (8 rows, 128 lanes), as functions of the vectors
  it loads, and what each of them is at a row and a lane.

  A row's index words hold, after six leading outlier codes, 506 pairs of codes: vector `v`'s residual code is the
  ten bits from bit `74 + 24 v` on. The kernel handles vector `4 l + p` in lane `l` and phase `p`: four words of the
  row, three lanes' stride apart, give it the residual codes of the four phases (`lanesAt`, `resField`); a code picks
  a word of the residual table, held as eight registers of 128 words (`resWord`); and the two bf16 halves of the
  main word and of the residual word give two weights (`weight`).
-/
module

public import Idealize.ShloMosaic.Lib.Pipeline.Value
public import Idealize.ShloMosaic.Lib.KernelVsHost
public import Idealize.ShloMosaic.Lib.ValueIdxCoords
public import Idealize.ShloMosaic.Lib.ValueIdxCore
public import Idealize.ShloMosaic.Lib.Pointwise
public import Idealize.ShloMosaic.Lib.VecWindow

@[expose] public section

noncomputable section

namespace Cert.Vptq

open Idealize.ShloMosaic hiding ix1 ix2 ix3 ix4
open Idealize.ShloMosaic.ValueIdx

abbrev T8x128 : Shape := ⟨2, ![8, 128]⟩
abbrev T8x128x1 : Shape := ⟨3, ![8, 128, 1]⟩
abbrev T1x8x128 : Shape := ⟨3, ![1, 8, 128]⟩
abbrev T1x1x8x128 : Shape := ⟨4, ![1, 1, 8, 128]⟩
abbrev T1x128 : Shape := ⟨2, ![1, 128]⟩
abbrev T16x128 : Shape := ⟨2, ![16, 128]⟩

variable {F : FTy → Type} [FloatOps F]

/-! ## The vectors -/

/-- The lane numbers. -/
def lanes : IVec T8x128 32 := iota .tc T8x128 32 [1] (by decide)

/-- A position in a register as the lane gather takes it (a negative one counts from the end). -/
def wrapIx (pos : IVec T8x128 32) : IVec T8x128 32 :=
  shapeCast T8x128 (shapeCast T8x128x1 (select (cmpi .slt pos (broadcast T8x128 0#32)) (addi pos (broadcast T8x128 128#32)) pos)
    (by decide)) (by decide)

/-- Row by row, the lanes of `tile` at the positions `pos`. -/
def takeAt (tile pos : IVec T8x128 32) : IVec T8x128 32 := dynamicGather 1 tile (wrapIx pos)

/-- The word column `start + 3 l` of lane `l`. -/
def wordCol (start : BitVec 32) : IVec T8x128 32 := addi (broadcast T8x128 start) (muli (broadcast T8x128 3#32) lanes)

/-- The rows' words at the columns `start + 3 l`, the rows held as three registers of 128 words. -/
def lanesAt (t0 t1 t2 : IVec T8x128 32) (start : BitVec 32) : IVec T8x128 32 :=
  select (cmpi .sge (wordCol start) (broadcast T8x128 256#32)) (takeAt t2 (andi (wordCol start) (broadcast T8x128 127#32)))
    (select (cmpi .sge (wordCol start) (broadcast T8x128 128#32)) (takeAt t1 (andi (wordCol start) (broadcast T8x128 127#32)))
      (takeAt t0 (andi (wordCol start) (broadcast T8x128 127#32))))

/-- The residual code of phase `p`, from the lane's words `w2`, `w3`, `w4`. -/
def resField (p : ℕ) (w2 w3 w4 : IVec T8x128 32) : IVec T8x128 32 :=
  match p with
  | 0 => andi (shrui w2 (broadcast T8x128 10#32)) (broadcast T8x128 1023#32)
  | 1 => andi (shrui w3 (broadcast T8x128 2#32)) (broadcast T8x128 1023#32)
  | 2 => andi (ori (shrui w3 (broadcast T8x128 26#32)) (shli w4 (broadcast T8x128 6#32))) (broadcast T8x128 1023#32)
  | _ => andi (shrui w4 (broadcast T8x128 18#32)) (broadcast T8x128 1023#32)

/-- Whether the bit `b` of `r` is set. -/
def bitSet (r : IVec T8x128 32) (b : BitVec 32) : IVec T8x128 1 := cmpi .ne (andi r (broadcast T8x128 b)) (broadcast T8x128 0#32)

/-- Whether vector `4 l + p` is one of the 506 that have a residual. -/
def regular (v0 : IVec T8x128 32) (p : BitVec 32) : IVec T8x128 1 :=
  cmpi .slt (addi (muli v0 (broadcast T8x128 4#32)) (broadcast T8x128 p)) (broadcast T8x128 506#32)

/-- One candidate: register `c` at the code's low seven bits. -/
def cand (r : IVec T8x128 32) (c : IVec T1x8x128 32) : IVec T8x128 32 :=
  takeAt (shapeCast T8x128 c (by decide)) (andi r (broadcast T8x128 127#32))

/-- The residual table's word at the code `r`, zero for a vector without a residual. -/
def resWord (v0 r : IVec T8x128 32) (p : BitVec 32) (c0 c1 c2 c3 c4 c5 c6 c7 : IVec T1x8x128 32) : IVec T8x128 32 :=
  select (regular v0 p)
    (select (bitSet r 512#32)
      (select (bitSet r 256#32) (select (bitSet r 128#32) (cand r c7) (cand r c6)) (select (bitSet r 128#32) (cand r c5) (cand r c4)))
      (select (bitSet r 256#32) (select (bitSet r 128#32) (cand r c3) (cand r c2)) (select (bitSet r 128#32) (cand r c1) (cand r c0))))
    (broadcast T8x128 0#32)

/-- The words whose high halves are the words' bf16 number `h`: the low one shifted up, the high one left in place. -/
def half (h : ℕ) (w : IVec T8x128 32) : IVec T8x128 32 :=
  match h with
  | 0 => shli w (broadcast T8x128 16#32)
  | _ => andi w (broadcast T8x128 4294901760#32)

/-- Scaled and shifted: `(main + residual) · scale + bias`. -/
def weight (h : ℕ) (res : IVec T8x128 32) (main : IVec T1x1x8x128 32) (s b : FVec F T1x128 .f32) : FVec F T8x128 .f32 :=
  addf (mulf (addf (bitcastToFloat .f32 (half h (shapeCast T8x128 main (by decide)))) (bitcastToFloat .f32 (half h res)))
      (broadcastTo T8x128 (shapeCast T1x128 s (by decide)) (by decide)))
    (broadcastTo T8x128 (shapeCast T1x128 b (by decide)) (by decide))

theorem concatenates_two : Shape.Concatenates [T8x128, T8x128] T16x128 0 := by decide

/-- Two row groups' weights, one below the other, rounded to bf16. -/
def stacked (a b : FVec F T8x128 .f32) : FVec F T16x128 .bf16 :=
  truncf .bf16 (concatenate T16x128 0 [⟨T8x128, a⟩, ⟨T8x128, b⟩] concatenates_two) (by decide)

/-! ## What they are at a row and a lane -/

/-- A 32-bit word's ten bits that are vector `v`'s residual code, read off the row's words. -/
def codeAt (w : ℕ → BitVec 32) (v : ℕ) : BitVec 32 :=
  ((w ((74 + 24 * v) / 32) >>> ((74 + 24 * v) % 32))
    ||| (if 22 < (74 + 24 * v) % 32 then w ((74 + 24 * v) / 32 + 1) <<< (32 - (74 + 24 * v) % 32) else 0)) &&& 1023#32

/-- `x` at the coordinates `i`, `j`, taken modulo its extents. -/
def rd2 {α : Type} {a b : ℕ} [NeZero a] [NeZero b] (x : (⟨2, ![a, b]⟩ : Shape).Idx → α) (i j : ℕ) : α :=
  x (ix2 (Fin.ofNat a i) (Fin.ofNat b j))
def rd3 {α : Type} {a b c : ℕ} [NeZero a] [NeZero b] [NeZero c] (x : (⟨3, ![a, b, c]⟩ : Shape).Idx → α) (i j k : ℕ) : α :=
  x (ix3 (Fin.ofNat a i) (Fin.ofNat b j) (Fin.ofNat c k))
def rd4 {α : Type} {a b c d : ℕ} [NeZero a] [NeZero b] [NeZero c] [NeZero d] (x : (⟨4, ![a, b, c, d]⟩ : Shape).Idx → α)
    (i j k l : ℕ) : α :=
  x (ix4 (Fin.ofNat a i) (Fin.ofNat b j) (Fin.ofNat c k) (Fin.ofNat d l))

theorem rd2_ix {α : Type} {a b : ℕ} [NeZero a] [NeZero b] (x : (⟨2, ![a, b]⟩ : Shape).Idx → α) (i : Fin a) (j : Fin b) :
    rd2 x i.val j.val = x (ix2 i j) := by
  unfold rd2; rw [Fin.ofNat_val_eq_self, Fin.ofNat_val_eq_self]

theorem select_ofBool {α : Type} (p : Prop) [Decidable p] (a b : α) :
    Scalar.select (BitVec.ofBool (decide p)) a b = if p then a else b := by
  by_cases h : p <;> simp [Scalar.select, h]

/-- The signed comparison of two small naturals' words is theirs. -/
theorem slt_ofNat (m n : ℕ) (hm : m < 2 ^ 31) (hn : n < 2 ^ 31) : (BitVec.ofNat 32 m).slt (BitVec.ofNat 32 n) = decide (m < n) := by
  rw [BitVec.slt_eq_decide, BitVec.toInt_ofNat', BitVec.toInt_ofNat']
  have h1 : ((m : ℕ) : ℤ).bmod (2 ^ 32) = m := by rw [Int.bmod_eq_of_le] <;> omega
  have h2 : ((n : ℕ) : ℤ).bmod (2 ^ 32) = n := by rw [Int.bmod_eq_of_le] <;> omega
  simp only [h1, h2, Nat.cast_lt]

theorem lanes_apply (r : Fin 8) (l : Fin 128) : lanes (ix2 r l) = BitVec.ofNat 32 l.val := by
  show BitVec.ofNat 32 (0 * 128 + l.val) = _
  rw [Nat.zero_mul, Nat.zero_add]

theorem wrapIx_apply (pos : IVec T8x128 32) (r : Fin 8) (l : Fin 128) (n : ℕ) (hn : n < 128) (h : pos (ix2 r l) = BitVec.ofNat 32 n) :
    wrapIx pos (ix2 r l) = BitVec.ofNat 32 n := by
  unfold wrapIx
  rw [shapeCast_shapeCast]
  show Scalar.select (IntOp.cmpi .slt (pos (ix2 r l)) 0#32) _ (pos (ix2 r l)) = _
  rw [h]
  show Scalar.select (BitVec.ofBool ((BitVec.ofNat 32 n).slt (BitVec.ofNat 32 0))) _ _ = _
  rw [slt_ofNat n 0 (by omega) (by omega)]
  rw [select_ofBool, if_neg (by omega)]

theorem takeAt_apply (tile pos : IVec T8x128 32) (r : Fin 8) (l : Fin 128) (n : ℕ) (hn : n < 128)
    (h : pos (ix2 r l) = BitVec.ofNat 32 n) : takeAt tile pos (ix2 r l) = rd2 tile r.val n := by
  have hw := wrapIx_apply pos r l n hn h
  unfold takeAt dynamicGather rd2
  refine congrArg tile (funext fun b => Fin.ext ?_)
  fin_cases b
  · exact (Nat.mod_eq_of_lt r.isLt).symm
  · show (wrapIx pos (ix2 r l)).toNat % 128 = n % 128
    rw [hw, BitVec.toNat_ofNat]; omega

/-- Row `r`'s word `n`, the rows held as three registers of 128 words. -/
def wordOf (t0 t1 t2 : IVec T8x128 32) (r n : ℕ) : BitVec 32 :=
  if 256 ≤ n then rd2 t2 r n else if 128 ≤ n then rd2 t1 r n else rd2 t0 r n

theorem rd2_mod {α : Type} {a : ℕ} [NeZero a] (x : (⟨2, ![a, 128]⟩ : Shape).Idx → α) (i n : ℕ) : rd2 x i (n % 128) = rd2 x i n := by
  unfold rd2
  have : Fin.ofNat 128 (n % 128) = Fin.ofNat 128 n := Fin.ext (by simp)
  rw [this]

theorem and_127 (n : ℕ) (hn : n < 2 ^ 32) : BitVec.ofNat 32 n &&& 127#32 = BitVec.ofNat 32 (n % 128) := by
  apply BitVec.eq_of_toNat_eq
  rw [BitVec.toNat_and, BitVec.toNat_ofNat, BitVec.toNat_ofNat, BitVec.toNat_ofNat, Nat.mod_eq_of_lt hn]
  show n &&& (2 ^ 7 - 1) = _
  rw [Nat.and_two_pow_sub_one_eq_mod]; omega

theorem lanesAt_apply (t0 t1 t2 : IVec T8x128 32) (d : ℕ) (hd : d < 10) (r : Fin 8) (l : Fin 128) :
    lanesAt t0 t1 t2 (BitVec.ofNat 32 d) (ix2 r l) = wordOf t0 t1 t2 r.val (d + 3 * l.val) := by
  have hl := l.isLt
  have hc : wordCol (BitVec.ofNat 32 d) (ix2 r l) = BitVec.ofNat 32 (d + 3 * l.val) := by
    show BitVec.ofNat 32 d + BitVec.ofNat 32 3 * lanes (ix2 r l) = _
    rw [lanes_apply, ← BitVec.ofNat_mul, ← BitVec.ofNat_add]
  have hp : andi (wordCol (BitVec.ofNat 32 d)) (broadcast T8x128 127#32) (ix2 r l) = BitVec.ofNat 32 ((d + 3 * l.val) % 128) := by
    show wordCol (BitVec.ofNat 32 d) (ix2 r l) &&& 127#32 = _
    rw [hc, and_127 _ (by omega)]
  have ht : ∀ t, takeAt t (andi (wordCol (BitVec.ofNat 32 d)) (broadcast T8x128 127#32)) (ix2 r l) = rd2 t r.val (d + 3 * l.val) := fun t => by
    rw [takeAt_apply t _ r l _ (Nat.mod_lt _ (by omega)) hp, rd2_mod]
  have hg : ∀ n : ℕ, n < 2 ^ 31 → cmpi .sge (wordCol (BitVec.ofNat 32 d)) (broadcast T8x128 (BitVec.ofNat 32 n)) (ix2 r l)
      = BitVec.ofBool (decide (n ≤ d + 3 * l.val)) := fun n hn => by
    show BitVec.ofBool ((BitVec.ofNat 32 n).sle (wordCol (BitVec.ofNat 32 d) (ix2 r l))) = _
    rw [hc, BitVec.sle_eq_not_slt, slt_ofNat _ _ (by omega) hn]
    congr 1
    by_cases h : n ≤ d + 3 * l.val
    · simp [h]
    · simp [h]; omega
  unfold lanesAt wordOf
  rw [select_apply, select_apply, ht, ht, ht, hg 256 (by omega), hg 128 (by omega)]
  simp only [select_ofBool]

/-- The word one lane on: the words from column 1 on, rotated by one lane. -/
theorem rotated_apply (t0 t1 t2 : IVec T8x128 32) (hr : T8x128.Rotates 1 none) (r : Fin 8) (l : Fin 128) (hl : l.val < 127) :
    dynamicRotate 1 127#32 none (lanesAt t0 t1 t2 1#32) hr (ix2 r l) = wordOf t0 t1 t2 r.val (4 + 3 * l.val) := by
  rw [dynamicRotate_apply (1 : Fin 2) 127#32 _ hr (ix2 r l) (ix2 r ⟨l.val + 1, by omega⟩) (fun b => by
    fin_cases b
    · rfl
    · show l.val + 1 = (l.val + 128 - 127 % 128) % 128
      omega)]
  rw [show (1#32 : BitVec 32) = BitVec.ofNat 32 1 from rfl, lanesAt_apply _ _ _ 1 (by omega)]
  congr 1
  show 1 + 3 * (l.val + 1) = _
  omega

theorem shrui_lit (x : IVec T8x128 32) (n : ℕ) (hn : n < 32) (i : T8x128.Idx) :
    shrui x (broadcast T8x128 (BitVec.ofNat 32 n)) i = x i >>> n := by
  show IntOp.shrui .vector (x i) (BitVec.ofNat 32 n) = _
  unfold IntOp.shrui
  have : (BitVec.ofNat 32 n).toNat = n := by rw [BitVec.toNat_ofNat]; omega
  rw [if_pos (by omega), BitVec.ushiftRight_eq', this]

theorem shli_lit (x : IVec T8x128 32) (n : ℕ) (hn : n < 32) (i : T8x128.Idx) :
    shli x (broadcast T8x128 (BitVec.ofNat 32 n)) i = x i <<< n := by
  show IntOp.shli .vector (x i) (BitVec.ofNat 32 n) = _
  unfold IntOp.shli
  have : (BitVec.ofNat 32 n).toNat = n := by rw [BitVec.toNat_ofNat]; omega
  rw [if_pos (by omega), BitVec.shiftLeft_eq', this]

/-- A vector's residual code, from the three words of its lane. -/
theorem resField_apply (W : ℕ → BitVec 32) (w2 w3 w4 : IVec T8x128 32) (i : T8x128.Idx) (l p : ℕ) (hp : p < 4)
    (h2 : w2 i = W (2 + 3 * l)) (h3 : w3 i = W (3 + 3 * l)) (h4 : w4 i = W (4 + 3 * l)) :
    resField p w2 w3 w4 i = codeAt W (4 * l + p) := by
  have hq : (74 + 24 * (4 * l + p)) / 32 = 2 + 3 * l + (10 + 24 * p) / 32 := by omega
  have hs : (74 + 24 * (4 * l + p)) % 32 = (10 + 24 * p) % 32 := by omega
  unfold codeAt
  rw [hq, hs]
  interval_cases p
  · show shrui w2 (broadcast T8x128 (BitVec.ofNat 32 10)) i &&& 1023#32 = _
    rw [shrui_lit _ _ (by omega), h2]; simp
  · show shrui w3 (broadcast T8x128 (BitVec.ofNat 32 2)) i &&& 1023#32 = _
    rw [shrui_lit _ _ (by omega), h3, show 3 + 3 * l = 2 + 3 * l + 1 by omega]; simp
  · show (shrui w3 (broadcast T8x128 (BitVec.ofNat 32 26)) i ||| shli w4 (broadcast T8x128 (BitVec.ofNat 32 6)) i) &&& 1023#32 = _
    rw [shrui_lit _ _ (by omega), shli_lit _ _ (by omega), h3, h4, show 3 + 3 * l = 2 + 3 * l + 1 by omega,
      show 4 + 3 * l = 2 + 3 * l + 1 + 1 by omega]; simp
  · show shrui w4 (broadcast T8x128 (BitVec.ofNat 32 18)) i &&& 1023#32 = _
    rw [shrui_lit _ _ (by omega), h4, show 4 + 3 * l = 2 + 3 * l + 2 by omega]; simp

theorem codeAt_lt (W : ℕ → BitVec 32) (v : ℕ) : (codeAt W v).toNat < 1024 := by
  unfold codeAt
  rw [BitVec.toNat_and]
  exact lt_of_le_of_lt Nat.and_le_right (by decide)

/-- Three bits pick one of eight. -/
theorem pick_eight : ∀ n : Fin 1024,
    (if BitVec.ofNat 32 n.val &&& 512#32 ≠ 0#32 then
      (if BitVec.ofNat 32 n.val &&& 256#32 ≠ 0#32 then (if BitVec.ofNat 32 n.val &&& 128#32 ≠ 0#32 then 7 else 6)
        else (if BitVec.ofNat 32 n.val &&& 128#32 ≠ 0#32 then 5 else 4))
    else
      (if BitVec.ofNat 32 n.val &&& 256#32 ≠ 0#32 then (if BitVec.ofNat 32 n.val &&& 128#32 ≠ 0#32 then 3 else 2)
        else (if BitVec.ofNat 32 n.val &&& 128#32 ≠ 0#32 then 1 else 0))) = n.val / 128 := by
  decide +kernel

theorem regular_apply (v0 : IVec T8x128 32) (hv0 : ∀ r l, v0 (ix2 r l) = BitVec.ofNat 32 l.val) (p : ℕ) (hp : p < 4) (r : Fin 8) (l : Fin 128) :
    regular v0 (BitVec.ofNat 32 p) (ix2 r l) = BitVec.ofBool (decide (4 * l.val + p < 506)) := by
  show BitVec.ofBool ((v0 (ix2 r l) * BitVec.ofNat 32 4 + BitVec.ofNat 32 p).slt (BitVec.ofNat 32 506)) = _
  have := l.isLt
  rw [hv0, ← BitVec.ofNat_mul, ← BitVec.ofNat_add, slt_ofNat _ _ (by omega) (by omega), Nat.mul_comm]

theorem cand_apply (x : IVec T8x128 32) (c : IVec T1x8x128 32) (r : Fin 8) (l : Fin 128) :
    cand x c (ix2 r l) = rd3 c 0 r.val (x (ix2 r l)).toNat := by
  have h : andi x (broadcast T8x128 127#32) (ix2 r l) = BitVec.ofNat 32 ((x (ix2 r l)).toNat % 128) := by
    show x (ix2 r l) &&& 127#32 = _
    rw [← and_127 _ (BitVec.isLt _), BitVec.ofNat_toNat, BitVec.setWidth_eq]
  unfold cand
  rw [takeAt_apply _ _ r l _ (Nat.mod_lt _ (by omega)) h, rd2_mod]
  unfold rd2 rd3
  refine shapeCast_apply c _ _ _ ?_
  rw [Shape.rowMajor_val_two, Shape.rowMajor_val_three]
  simp

theorem resWord_apply (v0 x : IVec T8x128 32) (hv0 : ∀ r l, v0 (ix2 r l) = BitVec.ofNat 32 l.val) (p : ℕ) (hp : p < 4) (c : Fin 8 → IVec T1x8x128 32)
    (r : Fin 8) (l : Fin 128) (k : BitVec 32) (hk : k.toNat < 1024) (hx : 4 * l.val + p < 506 → x (ix2 r l) = k) :
    resWord v0 x (BitVec.ofNat 32 p) (c 0) (c 1) (c 2) (c 3) (c 4) (c 5) (c 6) (c 7) (ix2 r l)
      = if 4 * l.val + p < 506 then rd3 (c (Fin.ofNat 8 (k.toNat / 128))) 0 r.val k.toNat else 0#32 := by
  unfold resWord
  rw [select_apply, regular_apply v0 hv0 p hp]
  by_cases hr : 4 * l.val + p < 506
  · rw [if_pos hr]
    have hx := hx hr
    have hb : ∀ b, bitSet x b (ix2 r l) = BitVec.ofBool (decide (k &&& b ≠ 0#32)) := fun b => by
      show BitVec.ofBool (x (ix2 r l) &&& b != 0#32) = _
      rw [hx]; congr 1
      by_cases h : k &&& b = 0#32 <;> simp [h]
    have hn := pick_eight ⟨k.toNat, hk⟩
    rw [BitVec.ofNat_toNat, BitVec.setWidth_eq] at hn
    rw [← hn]
    simp only [select_apply, hb, cand_apply, hx, select_ofBool, if_pos hr]
    split_ifs <;> rfl
  · rw [if_neg hr, select_ofBool, if_neg hr]
    rfl

theorem wordOf_eq (t0 t1 t2 : IVec T8x128 32) (W : ℕ → BitVec 32) (r n : ℕ) (hn : n < 384)
    (h0 : ∀ m < 128, rd2 t0 r m = W m) (h1 : ∀ m < 128, rd2 t1 r m = W (128 + m)) (h2 : ∀ m < 128, rd2 t2 r m = W (256 + m)) :
    wordOf t0 t1 t2 r n = W n := by
  unfold wordOf
  split_ifs with c2 c1
  · rw [← rd2_mod, h2 _ (Nat.mod_lt _ (by omega))]; congr 1; omega
  · rw [← rd2_mod, h1 _ (Nat.mod_lt _ (by omega))]; congr 1; omega
  · exact h0 n (by omega)

/-- The words whose high halves are the word's bf16 number `h`. -/
def halfAt (h : ℕ) (w : BitVec 32) : BitVec 32 :=
  match h with
  | 0 => w <<< 16
  | _ => w &&& 4294901760#32

def weightAt (h : ℕ) (res main : BitVec 32) (s b : F .f32) : F .f32 :=
  FloatOps.addf (FloatOps.mulf (FloatOps.addf (FloatOps.ofBits .f32 (halfAt h main)) (FloatOps.ofBits .f32 (halfAt h res))) s) b

theorem half_apply (h : ℕ) (w : IVec T8x128 32) (i : T8x128.Idx) : half h w i = halfAt h (w i) := by
  unfold half halfAt
  split
  · exact shli_lit w 16 (by omega) i
  · rfl

theorem row_apply (s : FVec F T1x128 .f32) (h1 : T1x128.ShapeCasts T1x128) (h2 : T1x128.Broadcasts T8x128) (r : Fin 8) (l : Fin 128) :
    broadcastTo T8x128 (shapeCast T1x128 s h1) h2 (ix2 r l) = rd2 s 0 l.val := by
  rw [shapeCast_self]
  refine broadcastTo_apply s h2 (ix2 r l) _ (fun a => ?_)
  fin_cases a
  · rfl
  · exact Nat.mod_eq_of_lt l.isLt

theorem weight_apply (h : ℕ) (res : IVec T8x128 32) (main : IVec T1x1x8x128 32) (s b : FVec F T1x128 .f32) (r : Fin 8) (l : Fin 128) :
    weight h res main s b (ix2 r l) = weightAt h (res (ix2 r l)) (rd4 main 0 0 r.val l.val) (rd2 s 0 l.val) (rd2 b 0 l.val) := by
  have hm : ∀ hc, shapeCast T8x128 main hc (ix2 r l) = rd4 main 0 0 r.val l.val := fun hc => by
    refine shapeCast_apply main hc _ _ ?_
    rw [Shape.rowMajor_val_two, Shape.rowMajor_val_four]
    have := r.isLt; have := l.isLt
    show ((0 * 1 + 0) * 8 + r.val % 8) * 128 + l.val % 128 = r.val * 128 + l.val
    omega
  unfold weight weightAt
  simp only [Idealize.ShloMosaic.addf_apply, Idealize.ShloMosaic.mulf_apply, Idealize.ShloMosaic.bitcastToFloat_apply, row_apply]
  rw [half_apply, half_apply, hm]

theorem stacked_apply (a b : FVec F T8x128 .f32) (s : Fin 2) (r : Fin 8) (l : Fin 128) (R : Fin 16) (hR : R.val = 8 * s.val + r.val) :
    stacked a b (ix2 R l) = FloatOps.truncf .bf16 (by decide) ((if s.val = 0 then a else b) (ix2 r l)) := by
  unfold stacked
  rw [Idealize.ShloMosaic.truncf_apply]
  congr 1
  have hs := s.isLt
  split_ifs with h0
  · refine concatenate_pair_apply_left 0 a b concatenates_two (ix2 R l) rfl (ix2 r l) (fun d => ?_)
    fin_cases d
    · show r.val = R.val
      omega
    · rfl
  · refine concatenate_pair_apply_right 0 a b concatenates_two (ix2 R l) rfl rfl (ix2 r l) (fun d hd => ?_) ?_
    · fin_cases d
      · exact absurd rfl hd
      · rfl
    · show r.val + 8 = R.val
      omega

/-- A residual code depends on the row's first 382 words only. -/
theorem codeAt_congr (W W' : ℕ → BitVec 32) (h : ∀ n < 382, W n = W' n) (v : ℕ) (hv : v < 506) : codeAt W v = codeAt W' v := by
  unfold codeAt
  rw [h ((74 + 24 * v) / 32) (by omega)]
  by_cases hs : 22 < (74 + 24 * v) % 32
  · rw [if_pos hs, if_pos hs, h ((74 + 24 * v) / 32 + 1) (by omega)]
  · rw [if_neg hs, if_neg hs]

/-! ## A block of decoded weights -/

/-- The decoded weight at row `R` and (permuted) column `C` of a block: `x1` the main words, `x2` the index words,
    `x4` the residual table, `x5` and `x6` the columns' scales and shifts. -/
def entry (x1 : IVec ⟨4, ![32, 16, 8, 128]⟩ 32) (x2 : IVec ⟨2, ![256, 384]⟩ 32) (x4 : IVec ⟨3, ![32, 8, 128]⟩ 32)
    (x5 x6 : FVec F ⟨2, ![32, 128]⟩ .f32) (R C : ℕ) : F .bf16 :=
  FloatOps.truncf .bf16 (by decide) (weightAt (C / 128 % 2)
    (if 4 * (C % 128) + C / 1024 < 506 then
      rd3 x4 (C / 256 % 4 * 8 + (codeAt (rd2 x2 R) (4 * (C % 128) + C / 1024)).toNat / 128) (R % 8)
        (codeAt (rd2 x2 R) (4 * (C % 128) + C / 1024)).toNat
      else 0#32)
    (rd4 x1 (R / 8) (C / 256) (R % 8) C) (rd2 x5 (C / 128) C) (rd2 x6 (C / 128) C))

/-- A block's weights depend on the first 382 columns of the index words only. -/
theorem entry_congr (x1 : IVec ⟨4, ![32, 16, 8, 128]⟩ 32) (x2 x2' : IVec ⟨2, ![256, 384]⟩ 32) (x4 : IVec ⟨3, ![32, 8, 128]⟩ 32)
    (x5 x6 : FVec F ⟨2, ![32, 128]⟩ .f32) (h : ∀ (r : Fin 256) (n : Fin 384), n.val < 382 → x2 (ix2 r n) = x2' (ix2 r n)) (R C : ℕ) :
    entry x1 x2 x4 x5 x6 R C = entry x1 x2' x4 x5 x6 R C := by
  unfold entry
  by_cases hr : 4 * (C % 128) + C / 1024 < 506
  · rw [codeAt_congr (rd2 x2 R) (rd2 x2' R) (fun n hn => h _ _ (by show n % 384 < 382; omega)) _ hr]
  · rw [if_neg hr, if_neg hr]

end Cert.Vptq

end
-- ==== Proof.LinearTrip.lean ====
/-
  One trip of the decoding loop of `vptq_linear`, which fills 16 rows of the scratch block of weights: the 32 pieces
  it stores are the 32 column planes of the vector arithmetic of `Plane.lean`, each 16 rows by 128 lanes.
-/
module

public import proofs.«01_k».proof.Proof.Plane
public import proofs.«01_k».proof.Proof.Gen.Linear.Loops

@[expose] public section

noncomputable section

namespace Cert.LinearProof

open Cert.Linear Cert.Linear.Gen Cert.Vptq
open Idealize.ShloMosaic Idealize.ShloMosaic.TcCoe

variable {F : FTy → Type} [FloatOps F]

/-! ## The trip's offsets -/

/-- The number of the row group: group `s` (0 or 1) of trip `k`, as the kernel computes it. -/
def grp (s : Fin 2) (k : Fin k0_t1_loop.trips) : BitVec 32 :=
  match s with
  | 0 => Scalar.muli 2#32 (Scalar.addi 0#32 (Scalar.muli (Scf.iv 0#32 1#32 k) 1#32))
  | 1 => Scalar.addi (Scalar.muli 2#32 (Scalar.addi 0#32 (Scalar.muli (Scf.iv 0#32 1#32 k) 1#32))) 1#32

def grpNo (s : Fin 2) (k : Fin k0_t1_loop.trips) : ℕ := (Scalar.indexCast (grp s k)).toNat
def grpRow (s : Fin 2) (k : Fin k0_t1_loop.trips) : ℕ := (Scalar.indexCast (Scalar.muli (grp s k) 8#32)).toNat
def storeRow (k : Fin k0_t1_loop.trips) : ℕ :=
  (Scalar.indexCast (Scalar.muli (Scalar.muli (Scalar.addi 0#32 (Scalar.muli (Scf.iv 0#32 1#32 k) 1#32)) 2#32) 8#32)).toNat

theorem trips_eq : k0_t1_loop.trips = 16 := by decide

theorem grp_eq (s : Fin 2) (k : Fin k0_t1_loop.trips) : grp s k = BitVec.ofNat 32 (2 * k.val + s.val) := by
  have hk : Scf.iv 0#32 1#32 k = BitVec.ofNat 32 k.val := by unfold Scf.iv; simp
  fin_cases s
  · show 2#32 * (0#32 + Scf.iv 0#32 1#32 k * 1#32) = _
    rw [hk, BitVec.zero_add, BitVec.mul_one, ← BitVec.ofNat_mul]; rfl
  · show 2#32 * (0#32 + Scf.iv 0#32 1#32 k * 1#32) + 1#32 = _
    rw [hk, BitVec.zero_add, BitVec.mul_one, ← BitVec.ofNat_mul, ← BitVec.ofNat_add]

theorem grpNo_eq (s : Fin 2) (k : Fin k0_t1_loop.trips) : grpNo s k = 2 * k.val + s.val := by
  have := k.isLt; have := trips_eq; have := s.isLt
  show (grp s k).toNat = _
  rw [grp_eq, BitVec.toNat_ofNat]; omega
theorem grpRow_eq (s : Fin 2) (k : Fin k0_t1_loop.trips) : grpRow s k = 8 * (2 * k.val + s.val) := by
  have := k.isLt; have := trips_eq; have := s.isLt
  show (grp s k * BitVec.ofNat 32 8).toNat = _
  rw [grp_eq, ← BitVec.ofNat_mul, BitVec.toNat_ofNat]; omega
theorem storeRow_eq (k : Fin k0_t1_loop.trips) : storeRow k = 16 * k.val := by
  have := k.isLt; have := trips_eq
  have hk : Scf.iv 0#32 1#32 k = BitVec.ofNat 32 k.val := by unfold Scf.iv; simp
  show ((0#32 + Scf.iv 0#32 1#32 k * 1#32) * 2#32 * 8#32).toNat = _
  rw [hk, BitVec.zero_add, BitVec.mul_one, ← BitVec.ofNat_mul, ← BitVec.ofNat_mul, BitVec.toNat_ofNat]; omega

theorem inb_tile (s : Fin 2) (t : Fin 3) (k : Fin k0_t1_loop.trips) :
    ∀ a, (![grpRow s k, 128 * t.val] : Fin 2 → ℕ) a + S8x128.size a ≤ S256x384.size a := by
  have := k.isLt; have := trips_eq; have := grpRow_eq s k; have := s.isLt; have := t.isLt
  intro a; fin_cases a <;> simp <;> omega
theorem inb_main (s : Fin 2) (q : Fin 32) (k : Fin k0_t1_loop.trips) :
    ∀ a, (![grpNo s k, q.val / 2, 0, 0] : Fin 4 → ℕ) a + S1x1x8x128.size a ≤ S32x16x8x128.size a := by
  have := k.isLt; have := trips_eq; have := grpNo_eq s k; have := s.isLt; have := q.isLt
  intro a; fin_cases a <;> simp <;> omega
theorem inb_tab (q : Fin 32) (n : Fin 8) :
    ∀ a, (![q.val / 2 % 4 * 8 + n.val, 0, 0] : Fin 3 → ℕ) a + S1x8x128.size a ≤ S32x8x128.size a := by
  have := n.isLt; have := q.isLt
  intro a; fin_cases a <;> simp <;> omega
theorem inb_row (q : Fin 32) : ∀ a, (![q.val, 0] : Fin 2 → ℕ) a + S1x128.size a ≤ S32x128.size a := by
  have := q.isLt
  intro a; fin_cases a <;> simp <;> omega
theorem inb_store (q : Fin 32) (k : Fin k0_t1_loop.trips) :
    ∀ a, (![storeRow k, 128 * q.val] : Fin 2 → ℕ) a + S16x128.size a ≤ S256x4096.size a := by
  have := k.isLt; have := trips_eq; have := storeRow_eq k; have := q.isLt
  intro a; fin_cases a <;> simp <;> omega

/-! ## The trip's loads and its pieces -/

section Pieces

variable (arg1 : Memref sig .tc .vmem S32x16x8x128 .i32) (arg2 : Memref sig .tc .vmem S256x384 .i32)
  (arg4 : Memref sig .tc .vmem S32x8x128 .i32) (arg5 : Memref sig .tc .vmem S32x128 .f32) (arg6 : Memref sig .tc .vmem S32x128 .f32)
  (v0 : IVec S8x128 32)
  (X1 : BufTy.Contents (Elt F) arg1.view.ty) (X2 : BufTy.Contents (Elt F) arg2.view.ty) (X4 : BufTy.Contents (Elt F) arg4.view.ty)
  (X5 : BufTy.Contents (Elt F) arg5.view.ty) (X6 : BufTy.Contents (Elt F) arg6.view.ty)

def tile (s : Fin 2) (k : Fin k0_t1_loop.trips) (t : Fin 3) : IVec S8x128 32 :=
  arg2.view.readAt (Elt F) (Rect.unit (s := S256x384) ![grpRow s k, 128 * t.val] S8x128.size (inb_tile s t k)).toLoadRect X2
def tab (q : Fin 32) (n : Fin 8) : IVec S1x8x128 32 :=
  arg4.view.readAt (Elt F) (Rect.unit (s := S32x8x128) ![q.val / 2 % 4 * 8 + n.val, 0, 0] S1x8x128.size (inb_tab q n)).toLoadRect X4
def mainRow (s : Fin 2) (q : Fin 32) (k : Fin k0_t1_loop.trips) : IVec S1x1x8x128 32 :=
  arg1.view.readAt (Elt F) (Rect.unit (s := S32x16x8x128) ![grpNo s k, q.val / 2, 0, 0] S1x1x8x128.size (inb_main s q k)).toLoadRect X1
def rowOf (arg : Memref sig .tc .vmem S32x128 .f32) (X : BufTy.Contents (Elt F) arg.view.ty) (q : Fin 32) : FVec F S1x128 .f32 :=
  arg.view.readAt (Elt F) (Rect.unit (s := S32x128) ![q.val, 0] S1x128.size (inb_row q)).toLoadRect X

/-- The lane's word `d` of row group `s`. -/
def word (s : Fin 2) (k : Fin k0_t1_loop.trips) (d : BitVec 32) : IVec S8x128 32 :=
  lanesAt (tile arg2 X2 s k 0) (tile arg2 X2 s k 1) (tile arg2 X2 s k 2) d
/-- The residual code of phase `p` in row group `s`. -/
def code (s : Fin 2) (k : Fin k0_t1_loop.trips) (p : ℕ) : IVec S8x128 32 :=
  resField p (word arg2 X2 s k 2#32) (word arg2 X2 s k 3#32) (dynamicRotate 1 127#32 none (word arg2 X2 s k 1#32) rotates_S8x128_d1)
def resOf (s : Fin 2) (q : Fin 32) (k : Fin k0_t1_loop.trips) : IVec S8x128 32 :=
  resWord v0 (code arg2 X2 s k (q.val / 8)) (BitVec.ofNat 32 (q.val / 8)) (tab arg4 X4 q 0) (tab arg4 X4 q 1) (tab arg4 X4 q 2) (tab arg4 X4 q 3)
    (tab arg4 X4 q 4) (tab arg4 X4 q 5) (tab arg4 X4 q 6) (tab arg4 X4 q 7)
/-- Column plane `q` of row group `s`. -/
def plane (s : Fin 2) (q : Fin 32) (k : Fin k0_t1_loop.trips) : FVec F S8x128 .f32 :=
  weight (q.val % 2) (resOf arg2 arg4 v0 X2 X4 s q k) (mainRow arg1 X1 s q k) (rowOf arg5 X5 q) (rowOf arg6 X6 q)
/-- The piece the trip stores for column plane `q`. -/
def piece (k : Fin k0_t1_loop.trips) (q : Fin 32) : View.Piece (Elt F) S256x4096 .bf16 :=
  ⟨Rect.unit (s := S256x4096) ![storeRow k, 128 * q.val] S16x128.size (inb_store q k),
    shapeCast S16x128 (stacked (plane arg1 arg2 arg4 arg5 arg6 v0 X1 X2 X4 X5 X6 0 q k) (plane arg1 arg2 arg4 arg5 arg6 v0 X1 X2 X4 X5 X6 1 q k))
      shapeCasts_S16x128_S16x128⟩

/-! ### What they are at a row and a lane -/

theorem tile_apply (s : Fin 2) (k : Fin k0_t1_loop.trips) (t : Fin 3) (r m : ℕ) (hr : r < 8) (hm : m < 128) :
    rd2 (tile arg2 X2 s k t) r m = rd2 (arg2.view.read (Elt F) X2) (8 * (2 * k.val + s.val) + r) (128 * t.val + m) := by
  have := k.isLt; have := trips_eq; have := s.isLt; have := t.isLt; have := grpRow_eq s k
  refine congrArg (arg2.view.read (Elt F) X2) (funext fun a => Fin.ext ?_)
  fin_cases a
  · show grpRow s k + 1 * (r % 8) = (8 * (2 * k.val + s.val) + r) % 256
    omega
  · show 128 * t.val + 1 * (m % 128) = (128 * t.val + m) % 384
    omega

theorem tab_apply (q : Fin 32) (n : Fin 8) (r m : ℕ) (hr : r < 8) :
    rd3 (tab arg4 X4 q n) 0 r m = rd3 (arg4.view.read (Elt F) X4) (q.val / 2 % 4 * 8 + n.val) r m := by
  have := n.isLt
  refine congrArg (arg4.view.read (Elt F) X4) (funext fun a => Fin.ext ?_)
  fin_cases a
  · show q.val / 2 % 4 * 8 + n.val + 1 * 0 = (q.val / 2 % 4 * 8 + n.val) % 32
    omega
  · show 0 + 1 * (r % 8) = r % 8
    omega
  · show 0 + 1 * (m % 128) = m % 128
    omega

theorem mainRow_apply (s : Fin 2) (q : Fin 32) (k : Fin k0_t1_loop.trips) (r m : ℕ) (hr : r < 8) :
    rd4 (mainRow arg1 X1 s q k) 0 0 r m = rd4 (arg1.view.read (Elt F) X1) (2 * k.val + s.val) (q.val / 2) r m := by
  have := k.isLt; have := trips_eq; have := s.isLt; have := q.isLt; have := grpNo_eq s k
  refine congrArg (arg1.view.read (Elt F) X1) (funext fun a => Fin.ext ?_)
  fin_cases a
  · show grpNo s k + 1 * 0 = (2 * k.val + s.val) % 32
    omega
  · show q.val / 2 + 1 * 0 = (q.val / 2) % 16
    omega
  · show 0 + 1 * (r % 8) = r % 8
    omega
  · show 0 + 1 * (m % 128) = m % 128
    omega

theorem rowOf_apply (arg : Memref sig .tc .vmem S32x128 .f32) (X : BufTy.Contents (Elt F) arg.view.ty) (q : Fin 32) (m : ℕ) :
    rd2 (rowOf arg X q) 0 m = rd2 (arg.view.read (Elt F) X) q.val m := by
  have := q.isLt
  refine congrArg (arg.view.read (Elt F) X) (funext fun a => Fin.ext ?_)
  fin_cases a
  · show q.val + 1 * 0 = q.val % 32
    omega
  · show 0 + 1 * (m % 128) = m % 128
    omega

theorem word_apply (s : Fin 2) (k : Fin k0_t1_loop.trips) (r : Fin 8) (n : ℕ) (hn : n < 384) :
    wordOf (tile arg2 X2 s k 0) (tile arg2 X2 s k 1) (tile arg2 X2 s k 2) r.val n
      = rd2 (arg2.view.read (Elt F) X2) (8 * (2 * k.val + s.val) + r.val) n := by
  refine wordOf_eq _ _ _ _ _ n hn (fun m hm => ?_) (fun m hm => ?_) (fun m hm => ?_)
  · rw [tile_apply arg2 X2 s k 0 _ m r.isLt hm]; exact congrArg _ (Nat.zero_add m)
  · exact tile_apply arg2 X2 s k 1 _ m r.isLt hm
  · exact tile_apply arg2 X2 s k 2 _ m r.isLt hm

theorem code_apply (s : Fin 2) (k : Fin k0_t1_loop.trips) (p : ℕ) (hp : p < 4) (r : Fin 8) (l : Fin 128) (hl : 4 * l.val + p < 506) :
    code arg2 X2 s k p (ValueIdx.ix2 r l)
      = codeAt (rd2 (arg2.view.read (Elt F) X2) (8 * (2 * k.val + s.val) + r.val)) (4 * l.val + p) := by
  refine resField_apply _ _ _ _ _ l.val p hp ?_ ?_ ?_
  · exact (lanesAt_apply _ _ _ 2 (by omega) r l).trans (word_apply arg2 X2 s k r _ (by omega))
  · exact (lanesAt_apply _ _ _ 3 (by omega) r l).trans (word_apply arg2 X2 s k r _ (by omega))
  · exact (rotated_apply _ _ _ _ r l (by omega)).trans (word_apply arg2 X2 s k r _ (by omega))

theorem plane_apply (hv0 : ∀ (r : Fin 8) (l : Fin 128), v0 (ValueIdx.ix2 r l) = BitVec.ofNat 32 l.val) (s : Fin 2) (q : Fin 32)
    (k : Fin k0_t1_loop.trips) (r : Fin 8) (l : Fin 128) (R C : ℕ) (hR : R = 8 * (2 * k.val + s.val) + r.val) (hC : C = 128 * q.val + l.val) :
    FloatOps.truncf .bf16 (by decide) (plane arg1 arg2 arg4 arg5 arg6 v0 X1 X2 X4 X5 X6 s q k (ValueIdx.ix2 r l))
      = entry (arg1.view.read (Elt F) X1) (arg2.view.read (Elt F) X2) (arg4.view.read (Elt F) X4) (arg5.view.read (Elt F) X5)
          (arg6.view.read (Elt F) X6) R C := by
  have hq := q.isLt; have hl := l.isLt; have hr := r.isLt
  have e1 : C / 128 = q.val := by omega
  have e2 : C % 128 = l.val := by omega
  have e3 : C / 256 = q.val / 2 := by omega
  have e4 : C / 1024 = q.val / 8 := by omega
  have e5 : R % 8 = r.val := by omega
  have e6 : R / 8 = 2 * k.val + s.val := by omega
  unfold entry
  congr 1
  unfold plane
  rw [weight_apply, e1, e2, e3, e4, e5, e6]
  have hres : resOf arg2 arg4 v0 X2 X4 s q k (ValueIdx.ix2 r l)
      = if 4 * l.val + q.val / 8 < 506 then
          rd3 (arg4.view.read (Elt F) X4) (q.val / 2 % 4 * 8 + (codeAt (rd2 (arg2.view.read (Elt F) X2) R) (4 * l.val + q.val / 8)).toNat / 128) r.val
            (codeAt (rd2 (arg2.view.read (Elt F) X2) R) (4 * l.val + q.val / 8)).toNat
        else 0#32 := by
    have hk := codeAt_lt (rd2 (arg2.view.read (Elt F) X2) R) (4 * l.val + q.val / 8)
    refine (resWord_apply v0 _ hv0 (q.val / 8) (by omega) (tab arg4 X4 q) r l _ hk
      (fun h => hR ▸ code_apply arg2 X2 s k (q.val / 8) (by omega) r l h)).trans ?_
    rw [tab_apply arg4 X4 q _ _ _ hr]
    rw [show (Fin.ofNat 8 ((codeAt (rd2 (arg2.view.read (Elt F) X2) R) (4 * l.val + q.val / 8)).toNat / 128)).val
      = (codeAt (rd2 (arg2.view.read (Elt F) X2) R) (4 * l.val + q.val / 8)).toNat / 128 from Nat.mod_eq_of_lt (by omega)]
  rw [hres, mainRow_apply arg1 X1 s q k _ _ hr, rowOf_apply, rowOf_apply]
  have hC' : ∀ {a : ℕ} [NeZero a] (x : FVec F ⟨2, ![a, 128]⟩ .f32) (i : ℕ), rd2 x i l.val = rd2 x i C := fun x i => by
    rw [← e2, rd2_mod]
  rw [hC', hC']
  have hm : ∀ (x : IVec ⟨4, ![32, 16, 8, 128]⟩ 32) (i j n : ℕ), rd4 x i j n l.val = rd4 x i j n C := fun x i j n => by
    unfold rd4; rw [show Fin.ofNat 128 l.val = Fin.ofNat 128 C from Fin.ext (by show l.val % 128 = C % 128; omega)]
  rw [hm]

theorem piece_apply (hv0 : ∀ (r : Fin 8) (l : Fin 128), v0 (ValueIdx.ix2 r l) = BitVec.ofNat 32 l.val) (k : Fin k0_t1_loop.trips) (q : Fin 32)
    (y : (piece arg1 arg2 arg4 arg5 arg6 v0 X1 X2 X4 X5 X6 k q).1.shape.Idx) :
    (piece arg1 arg2 arg4 arg5 arg6 v0 X1 X2 X4 X5 X6 k q).2 y
      = (fun z : S256x4096.Idx => entry (arg1.view.read (Elt F) X1) (arg2.view.read (Elt F) X2) (arg4.view.read (Elt F) X4)
          (arg5.view.read (Elt F) X5) (arg6.view.read (Elt F) X6) (z 0).val (z 1).val)
          ((piece arg1 arg2 arg4 arg5 arg6 v0 X1 X2 X4 X5 X6 k q).1.emb y) := by
  have hk := storeRow_eq k
  obtain ⟨R, l, rfl⟩ : ∃ (R : Fin 16) (l : Fin 128), y = (ValueIdx.ix2 R l : T16x128.Idx) := ⟨y 0, y 1, ValueIdx.eq_ix2 (n0 := 16) (n1 := 128) y⟩
  show shapeCast S16x128 (stacked _ _) _ (ValueIdx.ix2 R l) = _
  rw [shapeCast_self]
  have hR := R.isLt
  rw [stacked_apply _ _ (⟨R.val / 8, by omega⟩ : Fin 2) (⟨R.val % 8, by omega⟩ : Fin 8) l R (by show R.val = 8 * (R.val / 8) + R.val % 8; omega)]
  have key := fun s => plane_apply arg1 arg2 arg4 arg5 arg6 v0 X1 X2 X4 X5 X6 hv0 s q k ⟨R.val % 8, by omega⟩ l
  show _ = entry _ _ _ _ _ (storeRow k + 1 * R.val) (128 * q.val + 1 * l.val)
  split_ifs with h
  · exact key 0 _ _ (by show _ = 8 * (2 * k.val + 0) + R.val % 8; simp at h; omega) (by omega)
  · exact key 1 _ _ (by show _ = 8 * (2 * k.val + 1) + R.val % 8; simp at h; omega) (by omega)

end Pieces

theorem tripL_eq (𝒱 : Variants) (c : Dev nD) (bd : Option 𝒱.V) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole) (v0 : IVec S8x128 32) (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (k : Fin k0_t1_loop.trips) :
    tripL_k0_t1 (F := F) 𝒱 c bd i arg1 harg1 arg2 harg2 arg3 harg3 arg4 harg4 arg5 harg5 arg6 harg6 arg7 harg7 arg8 harg8 v0 X1 X2 X4 X5 X6 k
      = ([31, 30, 29, 28, 27, 26, 25, 24, 23, 22, 21, 20, 19, 18, 17, 16, 15, 14, 13, 12, 11, 10, 9, 8, 7, 6, 5, 4, 3, 2, 1, 0] : List (Fin 32)).map
          (piece arg1 arg2 arg4 arg5 arg6 v0 X1 X2 X4 X5 X6 k) := by
  unfold tripL_k0_t1 trip_k0_t1
  rfl

theorem mem_all (q : Fin 32) : q ∈ ([31, 30, 29, 28, 27, 26, 25, 24, 23, 22, 21, 20, 19, 18, 17, 16, 15, 14, 13, 12, 11, 10, 9, 8, 7, 6, 5, 4, 3, 2, 1, 0] : List (Fin 32)) := by
  revert q; decide

section Whole

variable (𝒱 : Variants) (c : Dev nD) (bd : Option 𝒱.V) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole)
  (v0 : IVec S8x128 32) (X1 : BufTy.Contents (Elt F) arg1.view.ty) (X2 : BufTy.Contents (Elt F) arg2.view.ty)
  (X4 : BufTy.Contents (Elt F) arg4.view.ty) (X5 : BufTy.Contents (Elt F) arg5.view.ty) (X6 : BufTy.Contents (Elt F) arg6.view.ty)

/-- The pieces of the trips before `n` are the column planes of those trips. -/
theorem mem_pb (p : View.Piece (Elt F) S256x4096 .bf16) : ∀ n : ℕ, n ≤ k0_t1_loop.trips →
    (p ∈ pb_k0_t1 (F := F) 𝒱 c bd i arg1 harg1 arg2 harg2 arg3 harg3 arg4 harg4 arg5 harg5 arg6 harg6 arg7 harg7 arg8 harg8 v0 X1 X2 X4 X5 X6 n
      ↔ ∃ (k : Fin k0_t1_loop.trips) (q : Fin 32), k.val < n ∧ p = piece arg1 arg2 arg4 arg5 arg6 v0 X1 X2 X4 X5 X6 k q)
  | 0, _ => by
    refine ⟨fun h => absurd h List.not_mem_nil, ?_⟩
    rintro ⟨k, q, h, _⟩; omega
  | n + 1, hn => by
    have ih := mem_pb p n (by omega)
    rw [pb_k0_t1_succ 𝒱 c bd i arg1 harg1 arg2 harg2 arg3 harg3 arg4 harg4 arg5 harg5 arg6 harg6 arg7 harg7 arg8 harg8 v0 X1 X2 X4 X5 X6 ⟨n, hn⟩, List.mem_append, tripL_eq, List.mem_map, ih]
    constructor
    · rintro (⟨q, _, rfl⟩ | ⟨k, q, h, rfl⟩)
      · exact ⟨⟨n, hn⟩, q, Nat.lt_succ_self n, rfl⟩
      · exact ⟨k, q, by omega, rfl⟩
    · rintro ⟨k, q, h, rfl⟩
      by_cases hk : k.val = n
      · obtain rfl : k = ⟨n, hn⟩ := Fin.ext hk
        exact Or.inl ⟨q, mem_all q, rfl⟩
      · exact Or.inr ⟨k, q, by omega, rfl⟩

/-- The scratch block after the loop: the decoded weights, whatever it held before. -/
theorem read_scratch (hv0 : ∀ (r : Fin 8) (l : Fin 128), v0 (ValueIdx.ix2 r l) = BitVec.ofNat 32 l.val)
    (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 v0 X1 X2 X4 X5 X6 k0_t1_loop.trips))
      = fun z : S256x4096.Idx => entry (arg1.view.read (Elt F) X1) (arg2.view.read (Elt F) X2) (arg4.view.read (Elt F) X4)
          (arg5.view.read (Elt F) X5) (arg6.view.read (Elt F) X6) (z 0).val (z 1).val := by
  funext y
  refine View.read_writes_apply_of_pieces (Val := Elt F) arg8.view G
    (fun z : S256x4096.Idx => entry (arg1.view.read (Elt F) X1) (arg2.view.read (Elt F) X2) (arg4.view.read (Elt F) X4)
          (arg5.view.read (Elt F) X5) (arg6.view.read (Elt F) X6) (z 0).val (z 1).val) _ (fun p hp x => ?_) y ?_
  · obtain ⟨k, q, _, rfl⟩ := (mem_pb 𝒱 c bd i arg1 harg1 arg2 harg2 arg3 harg3 arg4 harg4 arg5 harg5 arg6 harg6 arg7 harg7 arg8 harg8 v0 X1 X2 X4 X5 X6 p _ (le_refl _)).mp hp
    exact piece_apply arg1 arg2 arg4 arg5 arg6 v0 X1 X2 X4 X5 X6 hv0 k q x
  · have h0 : (y 0).val < 256 := (y 0).isLt
    have h1 : (y 1).val < 4096 := (y 1).isLt
    have ht := trips_eq
    refine ⟨piece arg1 arg2 arg4 arg5 arg6 v0 X1 X2 X4 X5 X6 ⟨(y 0).val / 16, by omega⟩ ⟨(y 1).val / 128, by omega⟩,
      (mem_pb 𝒱 c bd i arg1 harg1 arg2 harg2 arg3 harg3 arg4 harg4 arg5 harg5 arg6 harg6 arg7 harg7 arg8 harg8 v0 X1 X2 X4 X5 X6 _ _ (le_refl _)).mpr ⟨_, _, Fin.isLt _, rfl⟩, ?_⟩
    have hk := storeRow_eq ⟨(y 0).val / 16, by omega⟩
    refine (Rect.mem_set_unit (inb := inb_store _ _)).mpr fun a => ?_
    fin_cases a
    · show storeRow ⟨(y 0).val / 16, _⟩ ≤ (y 0).val ∧ (y 0).val < storeRow ⟨(y 0).val / 16, _⟩ + 16
      rw [hk]; show 16 * ((y 0).val / 16) ≤ (y 0).val ∧ (y 0).val < 16 * ((y 0).val / 16) + 16
      omega
    · show 128 * ((y 1).val / 128) ≤ (y 1).val ∧ (y 1).val < 128 * ((y 1).val / 128) + 128
      omega

end Whole

end Cert.LinearProof

end
-- ==== Proof.LinearFrame.lean ====
/-
  The run of `vptq_linear` in its grid: what the kernel body leaves in its result block, as a function of the blocks it
  is called with, and from it the run of the whole program — it terminates, its arguments end unchanged, every
  semaphore counter ends at zero, and the result array ends at the blocks' values.

  The index words have 382 columns and are fetched in blocks of 384: the last two columns of a block hold words nothing
  names. A weight is decoded from the first 382 columns only (`entry_congr`), so the result does not depend on them.
-/
module

public import proofs.«01_k».proof.Proof.LinearTrip
public import proofs.«01_k».proof.Proof.Gen.Linear.Frame

@[expose] public section

noncomputable section

namespace Cert.LinearProof

open Cert.Linear Cert.Linear.Gen Cert.Vptq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

abbrev 𝒱₀ : Variants := Variants.none

/-! ## The kernel body -/

/-- The decoded block of weights. -/
def decoded (x1 : IVec S32x16x8x128 32) (x2 : IVec S256x384 32) (x4 : IVec S32x8x128 32) (x5 x6 : FVec F S32x128 .f32) : FVec F S256x4096 .bf16 :=
  fun z => entry x1 x2 x4 x5 x6 (z 0).val (z 1).val

/-- What the body leaves in the result block. -/
def outBlk (x1 : IVec S32x16x8x128 32) (x2 : IVec S256x384 32) (x3 : FVec F S32x4096 .bf16) (x4 : IVec S32x8x128 32) (x5 x6 : FVec F S32x128 .f32) :
    FVec F S20x256 .bf16 :=
  k0_pay6 x3 (decoded x1 x2 x4 x5 x6)

set_option maxHeartbeats 1000000 in
/-- The body, on whole memrefs: it leaves its operands as they were, and `outBlk` of them in the result. -/
theorem sound_kernel (c : Dev nD) (E : Set ℕ) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole)
    (x1 : IVec S32x16x8x128 32) (x2 : IVec S256x384 32) (x3 : FVec F S32x4096 .bf16) (x4 : IVec S32x8x128 32) (x5 x6 : FVec F S32x128 .f32)
    (K : PUnit → sProp 𝕄) :
    iprop((owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d))
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outBlk x1 x2 x3 x4 x5 x6) ∗ (∃ d, owns (c : Thread nD τ) arg8 fullShare d)) -∗ K ⟨⟩))
      ⊢ wp frame (wpE (defs₀ (F := F)) 𝒱₀ c none) E
          (cc0_vptq_linear i arg1 harg1 arg2 harg2 arg3 harg3 arg4 harg4 arg5 harg5 arg6 harg6 arg7 harg7 arg8 harg8) K := by
  simp only [cc0_vptq_linear_eq_skeleton]; unfold cc0_vptq_linear_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    rw [View.read_writes_full, View.readAt_full, View.readAt_full]
    exact congrArg (k0_pay6 _) (read_scratch 𝒱₀ c none i arg1 harg1 arg2 harg2 arg3 harg3 arg4 harg4 arg5 harg5 arg6 harg6 arg7 harg7 arg8 harg8
      _ f1 f2 f4 f5 f6 (fun r l => lanes_apply r l) f8)
  iexists _; iexists _; isplitr; swap; · iexact H8
  ipureintro; rfl

/-! ## The pipeline's proof data -/

variable (m : (ℓ : Loc nD τ sig) → Buf (Elt F) ℓ) (ρ : Dev nD → PrngReg)

/-- The block of index words at point `t`, its two columns past the array's end filled with zeros. -/
def ixBlk (c : Dev nD) (t : Fin cfg0.N) : IVec S256x384 32 :=
  win0_1.fill (grid0.coords t) (fun _ => (0#32 : BitVec 32)) (iblk m c 1 t)

/-- What the body leaves in the result's block at point `t`. -/
def outAt (c : Dev nD) (t : Fin cfg0.N) : FVec F S20x256 .bf16 :=
  outBlk (iblk m c 0 t) (ixBlk m c t) (iblk m c 2 t) (iblk m c 3 t) (iblk m c 4 t) (iblk m c 5 t)

/-- The arrays as the region finds them; after the body the operands' blocks and the result's `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ixBlk m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = ixBlk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The columns past the array's end -/

/-- A block of index words has the array's 382 columns, over all its rows. -/
theorem xsize_ix (t : Fin cfg0.N) : win0_1.xsize (grid0.coords t) 0 = 256 ∧ win0_1.xsize (grid0.coords t) 1 = 382 := by
  revert t; decide +kernel

theorem fill_ix (t : Fin cfg0.N) (d d' : S256x384.Idx → BitVec 32) (g : (win0_1.xblock (grid0.coords t)).Idx → BitVec 32)
    (r : Fin 256) (n : Fin 384) (hn : n.val < 382) :
    win0_1.fill (grid0.coords t) d g (ValueIdx.ix2 r n) = win0_1.fill (grid0.coords t) d' g (ValueIdx.ix2 r n) := by
  have hm : win0_1.moved (grid0.coords t) (ValueIdx.ix2 r n : S256x384.Idx) = true := (win0_1.moved_iff _ _).mpr fun a => by
    have hx := xsize_ix t
    fin_cases a
    · show r.val < win0_1.xsize (grid0.coords t) 0
      rw [hx.1]; exact r.isLt
    · show n.val < win0_1.xsize (grid0.coords t) 1
      rw [hx.2]; exact hn
  unfold Window.fill
  rw [dif_pos hm, dif_pos hm]

theorem decoded_congr (x1 : IVec S32x16x8x128 32) (x2 x2' : IVec S256x384 32) (x4 : IVec S32x8x128 32) (x5 x6 : FVec F S32x128 .f32)
    (h : ∀ r n, n.val < 382 → x2 (ValueIdx.ix2 r n) = x2' (ValueIdx.ix2 r n)) : decoded x1 x2 x4 x5 x6 = decoded x1 x2' x4 x5 x6 :=
  funext fun z => entry_congr x1 x2 x2' x4 x5 x6 h (z 0).val (z 1).val

theorem outBlk_fill (c : Dev nD) (t : Fin cfg0.N) (d : S256x384.Idx → BitVec 32) (x1 : IVec S32x16x8x128 32) (x3 : FVec F S32x4096 .bf16)
    (x4 : IVec S32x8x128 32) (x5 x6 : FVec F S32x128 .f32) :
    outBlk x1 (win0_1.fill (grid0.coords t) d (iblk m c 1 t)) x3 x4 x5 x6 = outBlk x1 (ixBlk m c t) x3 x4 x5 x6 := by
  have h : decoded x1 (win0_1.fill (grid0.coords t) d (iblk m c 1 t)) x4 x5 x6 = decoded x1 (ixBlk m c t) x4 x5 x6 :=
    decoded_congr x1 _ _ x4 x5 x6 fun r n hn => fill_ix t d _ _ r n hn
  unfold outBlk
  rw [h]

/-! ## The body obligation and the run -/

theorem defs₀_row (t : Fin cfg0.N) :
    defs₀ (F := F) .tc cfg0.body (cfg0.bodyArgs t (cfg0.slots t))
      = cc0_vptq_linear (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) := by
  unfold defs₀; rw [Defs.onTc_tc]

theorem owns_scratch (c : Dev nD) :
    (iprop(∃ d, owns (c : Thread nD τ) (Memref.whole cc0_scratch0) fullShare d) : sProp 𝕄)
      ⊢ iprop(∃ f : Buf (Elt F) ((c.tc : Thread nD τ).loc cc0_scratch0), ((c.tc : Thread nD τ).loc cc0_scratch0) ↦{fullShare} f) := by
  simp only [owns_whole_eq]
  iintro ⟨%d, %f, -, H⟩
  iexists f; iexact H

theorem body_obligation (c : Dev nD) : BodyObligationLoose (dats m 0 c) (defs₀ (F := F)) 𝒱₀ () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f8, H8⟩, Hp⟩, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  iapply (sound_kernel c Set.univ (grid0.coords t) _ _ _ _ _ _ _ _ _ _ _ _ _ _ _ _
    (iblk m c 0 t) (win0_1.fill (grid0.coords t) d1 (iblk m c 1 t)) (iblk m c 2 t) (iblk m c 3 t) (iblk m c 4 t) (iblk m c 5 t) _)
  isplitl [H0 H1 H2 H3 H4 H5 H6 H8]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists f8
    rw [owns_whole_eq]
    iexists f8; isplitr; · ipureintro; rfl
    iexact H8
  iintro ⟨H0, H1, H2, H3, H4, H5, H6, ⟨%d8, H8⟩⟩
  isplitl [H8 Hp]
  · isplitl [H8]
    · iapply (owns_scratch c); iexists d8; iexact H8
    iexact Hp
  isplitl [Ho]; · iexact Ho
  isplitl [H0]; · rw [after0_0]; iexact H0
  isplitl [H1]
  · iexists d1
    change _ ⊢ owns (c : Thread nD τ) (win0_1.stage (cfg0.slots t 1)) fullShare (win0_1.fill (grid0.coords t) d1 (win0_1.cut (grid0.coords t) (ixBlk m c t)))
    rw [show win0_1.cut (grid0.coords t) (ixBlk m c t) = iblk m c 1 t from win0_1.cut_fill _ _ _]
  isplitl [H2]; · rw [after0_2]; iexact H2
  isplitl [H3]; · rw [after0_3]; iexact H3
  isplitl [H4]; · rw [after0_4]; iexact H4
  isplitl [H5]; · rw [after0_5]; iexact H5
  rw [after0_6, outBlk_fill]
  unfold outAt
  iexact H6

set_option backward.isDefEq.respectTransparency.types false in
/-- Every run of the program terminates, with every array of the pipeline at what the proof data say, every other
    array as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main m ρ)

end Cert.LinearProof

end
-- ==== Proof.LinearIdealTrip.lean ====
/-
  One trip of the decoding loop of `vptq_linear`, which fills 16 rows of the scratch block of weights: the 32 pieces
  it stores are the 32 column planes of the vector arithmetic of `Plane.lean`, each 16 rows by 128 lanes.
-/
module

public import proofs.«01_k».proof.Proof.Plane
public import proofs.«01_k».proof.Proof.Gen.LinearIdeal.Loops

@[expose] public section

noncomputable section

namespace Cert.LinearIdealProof

open Cert.LinearIdeal Cert.LinearIdeal.Gen Cert.Vptq
open Idealize.ShloMosaic Idealize.ShloMosaic.TcCoe

variable {F : FTy → Type} [FloatOps F]

/-! ## The trip's offsets -/

/-- The number of the row group: group `s` (0 or 1) of trip `k`, as the kernel computes it. -/
def grp (s : Fin 2) (k : Fin k0_t1_loop.trips) : BitVec 32 :=
  match s with
  | 0 => Scalar.muli 2#32 (Scalar.addi 0#32 (Scalar.muli (Scf.iv 0#32 1#32 k) 1#32))
  | 1 => Scalar.addi (Scalar.muli 2#32 (Scalar.addi 0#32 (Scalar.muli (Scf.iv 0#32 1#32 k) 1#32))) 1#32

def grpNo (s : Fin 2) (k : Fin k0_t1_loop.trips) : ℕ := (Scalar.indexCast (grp s k)).toNat
def grpRow (s : Fin 2) (k : Fin k0_t1_loop.trips) : ℕ := (Scalar.indexCast (Scalar.muli (grp s k) 8#32)).toNat
def storeRow (k : Fin k0_t1_loop.trips) : ℕ :=
  (Scalar.indexCast (Scalar.muli (Scalar.muli (Scalar.addi 0#32 (Scalar.muli (Scf.iv 0#32 1#32 k) 1#32)) 2#32) 8#32)).toNat

theorem trips_eq : k0_t1_loop.trips = 16 := by decide

theorem grp_eq (s : Fin 2) (k : Fin k0_t1_loop.trips) : grp s k = BitVec.ofNat 32 (2 * k.val + s.val) := by
  have hk : Scf.iv 0#32 1#32 k = BitVec.ofNat 32 k.val := by unfold Scf.iv; simp
  fin_cases s
  · show 2#32 * (0#32 + Scf.iv 0#32 1#32 k * 1#32) = _
    rw [hk, BitVec.zero_add, BitVec.mul_one, ← BitVec.ofNat_mul]; rfl
  · show 2#32 * (0#32 + Scf.iv 0#32 1#32 k * 1#32) + 1#32 = _
    rw [hk, BitVec.zero_add, BitVec.mul_one, ← BitVec.ofNat_mul, ← BitVec.ofNat_add]

theorem grpNo_eq (s : Fin 2) (k : Fin k0_t1_loop.trips) : grpNo s k = 2 * k.val + s.val := by
  have := k.isLt; have := trips_eq; have := s.isLt
  show (grp s k).toNat = _
  rw [grp_eq, BitVec.toNat_ofNat]; omega
theorem grpRow_eq (s : Fin 2) (k : Fin k0_t1_loop.trips) : grpRow s k = 8 * (2 * k.val + s.val) := by
  have := k.isLt; have := trips_eq; have := s.isLt
  show (grp s k * BitVec.ofNat 32 8).toNat = _
  rw [grp_eq, ← BitVec.ofNat_mul, BitVec.toNat_ofNat]; omega
theorem storeRow_eq (k : Fin k0_t1_loop.trips) : storeRow k = 16 * k.val := by
  have := k.isLt; have := trips_eq
  have hk : Scf.iv 0#32 1#32 k = BitVec.ofNat 32 k.val := by unfold Scf.iv; simp
  show ((0#32 + Scf.iv 0#32 1#32 k * 1#32) * 2#32 * 8#32).toNat = _
  rw [hk, BitVec.zero_add, BitVec.mul_one, ← BitVec.ofNat_mul, ← BitVec.ofNat_mul, BitVec.toNat_ofNat]; omega

theorem inb_tile (s : Fin 2) (t : Fin 3) (k : Fin k0_t1_loop.trips) :
    ∀ a, (![grpRow s k, 128 * t.val] : Fin 2 → ℕ) a + S8x128.size a ≤ S256x384.size a := by
  have := k.isLt; have := trips_eq; have := grpRow_eq s k; have := s.isLt; have := t.isLt
  intro a; fin_cases a <;> simp <;> omega
theorem inb_main (s : Fin 2) (q : Fin 32) (k : Fin k0_t1_loop.trips) :
    ∀ a, (![grpNo s k, q.val / 2, 0, 0] : Fin 4 → ℕ) a + S1x1x8x128.size a ≤ S32x16x8x128.size a := by
  have := k.isLt; have := trips_eq; have := grpNo_eq s k; have := s.isLt; have := q.isLt
  intro a; fin_cases a <;> simp <;> omega
theorem inb_tab (q : Fin 32) (n : Fin 8) :
    ∀ a, (![q.val / 2 % 4 * 8 + n.val, 0, 0] : Fin 3 → ℕ) a + S1x8x128.size a ≤ S32x8x128.size a := by
  have := n.isLt; have := q.isLt
  intro a; fin_cases a <;> simp <;> omega
theorem inb_row (q : Fin 32) : ∀ a, (![q.val, 0] : Fin 2 → ℕ) a + S1x128.size a ≤ S32x128.size a := by
  have := q.isLt
  intro a; fin_cases a <;> simp <;> omega
theorem inb_store (q : Fin 32) (k : Fin k0_t1_loop.trips) :
    ∀ a, (![storeRow k, 128 * q.val] : Fin 2 → ℕ) a + S16x128.size a ≤ S256x4096.size a := by
  have := k.isLt; have := trips_eq; have := storeRow_eq k; have := q.isLt
  intro a; fin_cases a <;> simp <;> omega

/-! ## The trip's loads and its pieces -/

section Pieces

variable (arg1 : Memref sig .tc .vmem S32x16x8x128 .i32) (arg2 : Memref sig .tc .vmem S256x384 .i32)
  (arg4 : Memref sig .tc .vmem S32x8x128 .i32) (arg5 : Memref sig .tc .vmem S32x128 .f32) (arg6 : Memref sig .tc .vmem S32x128 .f32)
  (v0 : IVec S8x128 32)
  (X1 : BufTy.Contents (Elt F) arg1.view.ty) (X2 : BufTy.Contents (Elt F) arg2.view.ty) (X4 : BufTy.Contents (Elt F) arg4.view.ty)
  (X5 : BufTy.Contents (Elt F) arg5.view.ty) (X6 : BufTy.Contents (Elt F) arg6.view.ty)

def tile (s : Fin 2) (k : Fin k0_t1_loop.trips) (t : Fin 3) : IVec S8x128 32 :=
  arg2.view.readAt (Elt F) (Rect.unit (s := S256x384) ![grpRow s k, 128 * t.val] S8x128.size (inb_tile s t k)).toLoadRect X2
def tab (q : Fin 32) (n : Fin 8) : IVec S1x8x128 32 :=
  arg4.view.readAt (Elt F) (Rect.unit (s := S32x8x128) ![q.val / 2 % 4 * 8 + n.val, 0, 0] S1x8x128.size (inb_tab q n)).toLoadRect X4
def mainRow (s : Fin 2) (q : Fin 32) (k : Fin k0_t1_loop.trips) : IVec S1x1x8x128 32 :=
  arg1.view.readAt (Elt F) (Rect.unit (s := S32x16x8x128) ![grpNo s k, q.val / 2, 0, 0] S1x1x8x128.size (inb_main s q k)).toLoadRect X1
def rowOf (arg : Memref sig .tc .vmem S32x128 .f32) (X : BufTy.Contents (Elt F) arg.view.ty) (q : Fin 32) : FVec F S1x128 .f32 :=
  arg.view.readAt (Elt F) (Rect.unit (s := S32x128) ![q.val, 0] S1x128.size (inb_row q)).toLoadRect X

/-- The lane's word `d` of row group `s`. -/
def word (s : Fin 2) (k : Fin k0_t1_loop.trips) (d : BitVec 32) : IVec S8x128 32 :=
  lanesAt (tile arg2 X2 s k 0) (tile arg2 X2 s k 1) (tile arg2 X2 s k 2) d
/-- The residual code of phase `p` in row group `s`. -/
def code (s : Fin 2) (k : Fin k0_t1_loop.trips) (p : ℕ) : IVec S8x128 32 :=
  resField p (word arg2 X2 s k 2#32) (word arg2 X2 s k 3#32) (dynamicRotate 1 127#32 none (word arg2 X2 s k 1#32) rotates_S8x128_d1)
def resOf (s : Fin 2) (q : Fin 32) (k : Fin k0_t1_loop.trips) : IVec S8x128 32 :=
  resWord v0 (code arg2 X2 s k (q.val / 8)) (BitVec.ofNat 32 (q.val / 8)) (tab arg4 X4 q 0) (tab arg4 X4 q 1) (tab arg4 X4 q 2) (tab arg4 X4 q 3)
    (tab arg4 X4 q 4) (tab arg4 X4 q 5) (tab arg4 X4 q 6) (tab arg4 X4 q 7)
/-- Column plane `q` of row group `s`. -/
def plane (s : Fin 2) (q : Fin 32) (k : Fin k0_t1_loop.trips) : FVec F S8x128 .f32 :=
  weight (q.val % 2) (resOf arg2 arg4 v0 X2 X4 s q k) (mainRow arg1 X1 s q k) (rowOf arg5 X5 q) (rowOf arg6 X6 q)
/-- The piece the trip stores for column plane `q`. -/
def piece (k : Fin k0_t1_loop.trips) (q : Fin 32) : View.Piece (Elt F) S256x4096 .bf16 :=
  ⟨Rect.unit (s := S256x4096) ![storeRow k, 128 * q.val] S16x128.size (inb_store q k),
    shapeCast S16x128 (stacked (plane arg1 arg2 arg4 arg5 arg6 v0 X1 X2 X4 X5 X6 0 q k) (plane arg1 arg2 arg4 arg5 arg6 v0 X1 X2 X4 X5 X6 1 q k))
      shapeCasts_S16x128_S16x128⟩

/-! ### What they are at a row and a lane -/

theorem tile_apply (s : Fin 2) (k : Fin k0_t1_loop.trips) (t : Fin 3) (r m : ℕ) (hr : r < 8) (hm : m < 128) :
    rd2 (tile arg2 X2 s k t) r m = rd2 (arg2.view.read (Elt F) X2) (8 * (2 * k.val + s.val) + r) (128 * t.val + m) := by
  have := k.isLt; have := trips_eq; have := s.isLt; have := t.isLt; have := grpRow_eq s k
  refine congrArg (arg2.view.read (Elt F) X2) (funext fun a => Fin.ext ?_)
  fin_cases a
  · show grpRow s k + 1 * (r % 8) = (8 * (2 * k.val + s.val) + r) % 256
    omega
  · show 128 * t.val + 1 * (m % 128) = (128 * t.val + m) % 384
    omega

theorem tab_apply (q : Fin 32) (n : Fin 8) (r m : ℕ) (hr : r < 8) :
    rd3 (tab arg4 X4 q n) 0 r m = rd3 (arg4.view.read (Elt F) X4) (q.val / 2 % 4 * 8 + n.val) r m := by
  have := n.isLt
  refine congrArg (arg4.view.read (Elt F) X4) (funext fun a => Fin.ext ?_)
  fin_cases a
  · show q.val / 2 % 4 * 8 + n.val + 1 * 0 = (q.val / 2 % 4 * 8 + n.val) % 32
    omega
  · show 0 + 1 * (r % 8) = r % 8
    omega
  · show 0 + 1 * (m % 128) = m % 128
    omega

theorem mainRow_apply (s : Fin 2) (q : Fin 32) (k : Fin k0_t1_loop.trips) (r m : ℕ) (hr : r < 8) :
    rd4 (mainRow arg1 X1 s q k) 0 0 r m = rd4 (arg1.view.read (Elt F) X1) (2 * k.val + s.val) (q.val / 2) r m := by
  have := k.isLt; have := trips_eq; have := s.isLt; have := q.isLt; have := grpNo_eq s k
  refine congrArg (arg1.view.read (Elt F) X1) (funext fun a => Fin.ext ?_)
  fin_cases a
  · show grpNo s k + 1 * 0 = (2 * k.val + s.val) % 32
    omega
  · show q.val / 2 + 1 * 0 = (q.val / 2) % 16
    omega
  · show 0 + 1 * (r % 8) = r % 8
    omega
  · show 0 + 1 * (m % 128) = m % 128
    omega

theorem rowOf_apply (arg : Memref sig .tc .vmem S32x128 .f32) (X : BufTy.Contents (Elt F) arg.view.ty) (q : Fin 32) (m : ℕ) :
    rd2 (rowOf arg X q) 0 m = rd2 (arg.view.read (Elt F) X) q.val m := by
  have := q.isLt
  refine congrArg (arg.view.read (Elt F) X) (funext fun a => Fin.ext ?_)
  fin_cases a
  · show q.val + 1 * 0 = q.val % 32
    omega
  · show 0 + 1 * (m % 128) = m % 128
    omega

theorem word_apply (s : Fin 2) (k : Fin k0_t1_loop.trips) (r : Fin 8) (n : ℕ) (hn : n < 384) :
    wordOf (tile arg2 X2 s k 0) (tile arg2 X2 s k 1) (tile arg2 X2 s k 2) r.val n
      = rd2 (arg2.view.read (Elt F) X2) (8 * (2 * k.val + s.val) + r.val) n := by
  refine wordOf_eq _ _ _ _ _ n hn (fun m hm => ?_) (fun m hm => ?_) (fun m hm => ?_)
  · rw [tile_apply arg2 X2 s k 0 _ m r.isLt hm]; exact congrArg _ (Nat.zero_add m)
  · exact tile_apply arg2 X2 s k 1 _ m r.isLt hm
  · exact tile_apply arg2 X2 s k 2 _ m r.isLt hm

theorem code_apply (s : Fin 2) (k : Fin k0_t1_loop.trips) (p : ℕ) (hp : p < 4) (r : Fin 8) (l : Fin 128) (hl : 4 * l.val + p < 506) :
    code arg2 X2 s k p (ValueIdx.ix2 r l)
      = codeAt (rd2 (arg2.view.read (Elt F) X2) (8 * (2 * k.val + s.val) + r.val)) (4 * l.val + p) := by
  refine resField_apply _ _ _ _ _ l.val p hp ?_ ?_ ?_
  · exact (lanesAt_apply _ _ _ 2 (by omega) r l).trans (word_apply arg2 X2 s k r _ (by omega))
  · exact (lanesAt_apply _ _ _ 3 (by omega) r l).trans (word_apply arg2 X2 s k r _ (by omega))
  · exact (rotated_apply _ _ _ _ r l (by omega)).trans (word_apply arg2 X2 s k r _ (by omega))

theorem plane_apply (hv0 : ∀ (r : Fin 8) (l : Fin 128), v0 (ValueIdx.ix2 r l) = BitVec.ofNat 32 l.val) (s : Fin 2) (q : Fin 32)
    (k : Fin k0_t1_loop.trips) (r : Fin 8) (l : Fin 128) (R C : ℕ) (hR : R = 8 * (2 * k.val + s.val) + r.val) (hC : C = 128 * q.val + l.val) :
    FloatOps.truncf .bf16 (by decide) (plane arg1 arg2 arg4 arg5 arg6 v0 X1 X2 X4 X5 X6 s q k (ValueIdx.ix2 r l))
      = entry (arg1.view.read (Elt F) X1) (arg2.view.read (Elt F) X2) (arg4.view.read (Elt F) X4) (arg5.view.read (Elt F) X5)
          (arg6.view.read (Elt F) X6) R C := by
  have hq := q.isLt; have hl := l.isLt; have hr := r.isLt
  have e1 : C / 128 = q.val := by omega
  have e2 : C % 128 = l.val := by omega
  have e3 : C / 256 = q.val / 2 := by omega
  have e4 : C / 1024 = q.val / 8 := by omega
  have e5 : R % 8 = r.val := by omega
  have e6 : R / 8 = 2 * k.val + s.val := by omega
  unfold entry
  congr 1
  unfold plane
  rw [weight_apply, e1, e2, e3, e4, e5, e6]
  have hres : resOf arg2 arg4 v0 X2 X4 s q k (ValueIdx.ix2 r l)
      = if 4 * l.val + q.val / 8 < 506 then
          rd3 (arg4.view.read (Elt F) X4) (q.val / 2 % 4 * 8 + (codeAt (rd2 (arg2.view.read (Elt F) X2) R) (4 * l.val + q.val / 8)).toNat / 128) r.val
            (codeAt (rd2 (arg2.view.read (Elt F) X2) R) (4 * l.val + q.val / 8)).toNat
        else 0#32 := by
    have hk := codeAt_lt (rd2 (arg2.view.read (Elt F) X2) R) (4 * l.val + q.val / 8)
    refine (resWord_apply v0 _ hv0 (q.val / 8) (by omega) (tab arg4 X4 q) r l _ hk
      (fun h => hR ▸ code_apply arg2 X2 s k (q.val / 8) (by omega) r l h)).trans ?_
    rw [tab_apply arg4 X4 q _ _ _ hr]
    rw [show (Fin.ofNat 8 ((codeAt (rd2 (arg2.view.read (Elt F) X2) R) (4 * l.val + q.val / 8)).toNat / 128)).val
      = (codeAt (rd2 (arg2.view.read (Elt F) X2) R) (4 * l.val + q.val / 8)).toNat / 128 from Nat.mod_eq_of_lt (by omega)]
  rw [hres, mainRow_apply arg1 X1 s q k _ _ hr, rowOf_apply, rowOf_apply]
  have hC' : ∀ {a : ℕ} [NeZero a] (x : FVec F ⟨2, ![a, 128]⟩ .f32) (i : ℕ), rd2 x i l.val = rd2 x i C := fun x i => by
    rw [← e2, rd2_mod]
  rw [hC', hC']
  have hm : ∀ (x : IVec ⟨4, ![32, 16, 8, 128]⟩ 32) (i j n : ℕ), rd4 x i j n l.val = rd4 x i j n C := fun x i j n => by
    unfold rd4; rw [show Fin.ofNat 128 l.val = Fin.ofNat 128 C from Fin.ext (by show l.val % 128 = C % 128; omega)]
  rw [hm]

theorem piece_apply (hv0 : ∀ (r : Fin 8) (l : Fin 128), v0 (ValueIdx.ix2 r l) = BitVec.ofNat 32 l.val) (k : Fin k0_t1_loop.trips) (q : Fin 32)
    (y : (piece arg1 arg2 arg4 arg5 arg6 v0 X1 X2 X4 X5 X6 k q).1.shape.Idx) :
    (piece arg1 arg2 arg4 arg5 arg6 v0 X1 X2 X4 X5 X6 k q).2 y
      = (fun z : S256x4096.Idx => entry (arg1.view.read (Elt F) X1) (arg2.view.read (Elt F) X2) (arg4.view.read (Elt F) X4)
          (arg5.view.read (Elt F) X5) (arg6.view.read (Elt F) X6) (z 0).val (z 1).val)
          ((piece arg1 arg2 arg4 arg5 arg6 v0 X1 X2 X4 X5 X6 k q).1.emb y) := by
  have hk := storeRow_eq k
  obtain ⟨R, l, rfl⟩ : ∃ (R : Fin 16) (l : Fin 128), y = (ValueIdx.ix2 R l : T16x128.Idx) := ⟨y 0, y 1, ValueIdx.eq_ix2 (n0 := 16) (n1 := 128) y⟩
  show shapeCast S16x128 (stacked _ _) _ (ValueIdx.ix2 R l) = _
  rw [shapeCast_self]
  have hR := R.isLt
  rw [stacked_apply _ _ (⟨R.val / 8, by omega⟩ : Fin 2) (⟨R.val % 8, by omega⟩ : Fin 8) l R (by show R.val = 8 * (R.val / 8) + R.val % 8; omega)]
  have key := fun s => plane_apply arg1 arg2 arg4 arg5 arg6 v0 X1 X2 X4 X5 X6 hv0 s q k ⟨R.val % 8, by omega⟩ l
  show _ = entry _ _ _ _ _ (storeRow k + 1 * R.val) (128 * q.val + 1 * l.val)
  split_ifs with h
  · exact key 0 _ _ (by show _ = 8 * (2 * k.val + 0) + R.val % 8; simp at h; omega) (by omega)
  · exact key 1 _ _ (by show _ = 8 * (2 * k.val + 1) + R.val % 8; simp at h; omega) (by omega)

end Pieces

theorem tripL_eq (𝒱 : Variants) (c : Dev nD) (bd : Option 𝒱.V) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole) (v0 : IVec S8x128 32) (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (k : Fin k0_t1_loop.trips) :
    tripL_k0_t1 (F := F) 𝒱 c bd i arg1 harg1 arg2 harg2 arg3 harg3 arg4 harg4 arg5 harg5 arg6 harg6 arg7 harg7 arg8 harg8 v0 X1 X2 X4 X5 X6 k
      = ([31, 30, 29, 28, 27, 26, 25, 24, 23, 22, 21, 20, 19, 18, 17, 16, 15, 14, 13, 12, 11, 10, 9, 8, 7, 6, 5, 4, 3, 2, 1, 0] : List (Fin 32)).map
          (piece arg1 arg2 arg4 arg5 arg6 v0 X1 X2 X4 X5 X6 k) := by
  unfold tripL_k0_t1 trip_k0_t1
  rfl

theorem mem_all (q : Fin 32) : q ∈ ([31, 30, 29, 28, 27, 26, 25, 24, 23, 22, 21, 20, 19, 18, 17, 16, 15, 14, 13, 12, 11, 10, 9, 8, 7, 6, 5, 4, 3, 2, 1, 0] : List (Fin 32)) := by
  revert q; decide

section Whole

variable (𝒱 : Variants) (c : Dev nD) (bd : Option 𝒱.V) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole)
  (v0 : IVec S8x128 32) (X1 : BufTy.Contents (Elt F) arg1.view.ty) (X2 : BufTy.Contents (Elt F) arg2.view.ty)
  (X4 : BufTy.Contents (Elt F) arg4.view.ty) (X5 : BufTy.Contents (Elt F) arg5.view.ty) (X6 : BufTy.Contents (Elt F) arg6.view.ty)

/-- The pieces of the trips before `n` are the column planes of those trips. -/
theorem mem_pb (p : View.Piece (Elt F) S256x4096 .bf16) : ∀ n : ℕ, n ≤ k0_t1_loop.trips →
    (p ∈ pb_k0_t1 (F := F) 𝒱 c bd i arg1 harg1 arg2 harg2 arg3 harg3 arg4 harg4 arg5 harg5 arg6 harg6 arg7 harg7 arg8 harg8 v0 X1 X2 X4 X5 X6 n
      ↔ ∃ (k : Fin k0_t1_loop.trips) (q : Fin 32), k.val < n ∧ p = piece arg1 arg2 arg4 arg5 arg6 v0 X1 X2 X4 X5 X6 k q)
  | 0, _ => by
    refine ⟨fun h => absurd h List.not_mem_nil, ?_⟩
    rintro ⟨k, q, h, _⟩; omega
  | n + 1, hn => by
    have ih := mem_pb p n (by omega)
    rw [pb_k0_t1_succ 𝒱 c bd i arg1 harg1 arg2 harg2 arg3 harg3 arg4 harg4 arg5 harg5 arg6 harg6 arg7 harg7 arg8 harg8 v0 X1 X2 X4 X5 X6 ⟨n, hn⟩, List.mem_append, tripL_eq, List.mem_map, ih]
    constructor
    · rintro (⟨q, _, rfl⟩ | ⟨k, q, h, rfl⟩)
      · exact ⟨⟨n, hn⟩, q, Nat.lt_succ_self n, rfl⟩
      · exact ⟨k, q, by omega, rfl⟩
    · rintro ⟨k, q, h, rfl⟩
      by_cases hk : k.val = n
      · obtain rfl : k = ⟨n, hn⟩ := Fin.ext hk
        exact Or.inl ⟨q, mem_all q, rfl⟩
      · exact Or.inr ⟨k, q, by omega, rfl⟩

/-- The scratch block after the loop: the decoded weights, whatever it held before. -/
theorem read_scratch (hv0 : ∀ (r : Fin 8) (l : Fin 128), v0 (ValueIdx.ix2 r l) = BitVec.ofNat 32 l.val)
    (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 v0 X1 X2 X4 X5 X6 k0_t1_loop.trips))
      = fun z : S256x4096.Idx => entry (arg1.view.read (Elt F) X1) (arg2.view.read (Elt F) X2) (arg4.view.read (Elt F) X4)
          (arg5.view.read (Elt F) X5) (arg6.view.read (Elt F) X6) (z 0).val (z 1).val := by
  funext y
  refine View.read_writes_apply_of_pieces (Val := Elt F) arg8.view G
    (fun z : S256x4096.Idx => entry (arg1.view.read (Elt F) X1) (arg2.view.read (Elt F) X2) (arg4.view.read (Elt F) X4)
          (arg5.view.read (Elt F) X5) (arg6.view.read (Elt F) X6) (z 0).val (z 1).val) _ (fun p hp x => ?_) y ?_
  · obtain ⟨k, q, _, rfl⟩ := (mem_pb 𝒱 c bd i arg1 harg1 arg2 harg2 arg3 harg3 arg4 harg4 arg5 harg5 arg6 harg6 arg7 harg7 arg8 harg8 v0 X1 X2 X4 X5 X6 p _ (le_refl _)).mp hp
    exact piece_apply arg1 arg2 arg4 arg5 arg6 v0 X1 X2 X4 X5 X6 hv0 k q x
  · have h0 : (y 0).val < 256 := (y 0).isLt
    have h1 : (y 1).val < 4096 := (y 1).isLt
    have ht := trips_eq
    refine ⟨piece arg1 arg2 arg4 arg5 arg6 v0 X1 X2 X4 X5 X6 ⟨(y 0).val / 16, by omega⟩ ⟨(y 1).val / 128, by omega⟩,
      (mem_pb 𝒱 c bd i arg1 harg1 arg2 harg2 arg3 harg3 arg4 harg4 arg5 harg5 arg6 harg6 arg7 harg7 arg8 harg8 v0 X1 X2 X4 X5 X6 _ _ (le_refl _)).mpr ⟨_, _, Fin.isLt _, rfl⟩, ?_⟩
    have hk := storeRow_eq ⟨(y 0).val / 16, by omega⟩
    refine (Rect.mem_set_unit (inb := inb_store _ _)).mpr fun a => ?_
    fin_cases a
    · show storeRow ⟨(y 0).val / 16, _⟩ ≤ (y 0).val ∧ (y 0).val < storeRow ⟨(y 0).val / 16, _⟩ + 16
      rw [hk]; show 16 * ((y 0).val / 16) ≤ (y 0).val ∧ (y 0).val < 16 * ((y 0).val / 16) + 16
      omega
    · show 128 * ((y 1).val / 128) ≤ (y 1).val ∧ (y 1).val < 128 * ((y 1).val / 128) + 128
      omega

end Whole

end Cert.LinearIdealProof

end
-- ==== Proof.LinearIdealFrame.lean ====
/-
  The run of `vptq_linear` in its grid: what the kernel body leaves in its result block, as a function of the blocks it
  is called with, and from it the run of the whole program — it terminates, its arguments end unchanged, every
  semaphore counter ends at zero, and the result array ends at the blocks' values.

  The index words have 382 columns and are fetched in blocks of 384: the last two columns of a block hold words nothing
  names. A weight is decoded from the first 382 columns only (`entry_congr`), so the result does not depend on them.
-/
module

public import proofs.«01_k».proof.Proof.LinearIdealTrip
public import proofs.«01_k».proof.Proof.Gen.LinearIdeal.Frame

@[expose] public section

noncomputable section

namespace Cert.LinearIdealProof

open Cert.LinearIdeal Cert.LinearIdeal.Gen Cert.Vptq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

abbrev 𝒱₀ : Variants := Variants.none

/-! ## The kernel body -/

/-- The decoded block of weights. -/
def decoded (x1 : IVec S32x16x8x128 32) (x2 : IVec S256x384 32) (x4 : IVec S32x8x128 32) (x5 x6 : FVec F S32x128 .f32) : FVec F S256x4096 .bf16 :=
  fun z => entry x1 x2 x4 x5 x6 (z 0).val (z 1).val

/-- What the body leaves in the result block. -/
def outBlk (x1 : IVec S32x16x8x128 32) (x2 : IVec S256x384 32) (x3 : FVec F S32x4096 .bf16) (x4 : IVec S32x8x128 32) (x5 x6 : FVec F S32x128 .f32) :
    FVec F S20x256 .bf16 :=
  k0_pay6 x3 (decoded x1 x2 x4 x5 x6)

set_option maxHeartbeats 1000000 in
/-- The body, on whole memrefs: it leaves its operands as they were, and `outBlk` of them in the result. -/
theorem sound_kernel (c : Dev nD) (E : Set ℕ) (i : grid0.Coords) (arg1 : Memref sig .tc .vmem S32x16x8x128 .i32) (harg1 : arg1.IsWhole) (arg2 : Memref sig .tc .vmem S256x384 .i32) (harg2 : arg2.IsWhole) (arg3 : Memref sig .tc .vmem S32x4096 .bf16) (harg3 : arg3.IsWhole) (arg4 : Memref sig .tc .vmem S32x8x128 .i32) (harg4 : arg4.IsWhole) (arg5 : Memref sig .tc .vmem S32x128 .f32) (harg5 : arg5.IsWhole) (arg6 : Memref sig .tc .vmem S32x128 .f32) (harg6 : arg6.IsWhole) (arg7 : Memref sig .tc .vmem S20x256 .bf16) (harg7 : arg7.IsWhole) (arg8 : Memref sig .tc .vmem S256x4096 .bf16) (harg8 : arg8.IsWhole)
    (x1 : IVec S32x16x8x128 32) (x2 : IVec S256x384 32) (x3 : FVec F S32x4096 .bf16) (x4 : IVec S32x8x128 32) (x5 x6 : FVec F S32x128 .f32)
    (K : PUnit → sProp 𝕄) :
    iprop((owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d))
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outBlk x1 x2 x3 x4 x5 x6) ∗ (∃ d, owns (c : Thread nD τ) arg8 fullShare d)) -∗ K ⟨⟩))
      ⊢ wp frame (wpE (defs₀ (F := F)) 𝒱₀ c none) E
          (cc0_vptq_linear i arg1 harg1 arg2 harg2 arg3 harg3 arg4 harg4 arg5 harg5 arg6 harg6 arg7 harg7 arg8 harg8) K := by
  simp only [cc0_vptq_linear_eq_skeleton]; unfold cc0_vptq_linear_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    rw [View.read_writes_full, View.readAt_full, View.readAt_full]
    exact congrArg (k0_pay6 _) (read_scratch 𝒱₀ c none i arg1 harg1 arg2 harg2 arg3 harg3 arg4 harg4 arg5 harg5 arg6 harg6 arg7 harg7 arg8 harg8
      _ f1 f2 f4 f5 f6 (fun r l => lanes_apply r l) f8)
  iexists _; iexists _; isplitr; swap; · iexact H8
  ipureintro; rfl

/-! ## The pipeline's proof data -/

variable (m : (ℓ : Loc nD τ sig) → Buf (Elt F) ℓ) (ρ : Dev nD → PrngReg)

/-- The block of index words at point `t`, its two columns past the array's end filled with zeros. -/
def ixBlk (c : Dev nD) (t : Fin cfg0.N) : IVec S256x384 32 :=
  win0_1.fill (grid0.coords t) (fun _ => (0#32 : BitVec 32)) (iblk m c 1 t)

/-- What the body leaves in the result's block at point `t`. -/
def outAt (c : Dev nD) (t : Fin cfg0.N) : FVec F S20x256 .bf16 :=
  outBlk (iblk m c 0 t) (ixBlk m c t) (iblk m c 2 t) (iblk m c 3 t) (iblk m c 4 t) (iblk m c 5 t)

/-- The arrays as the region finds them; after the body the operands' blocks and the result's `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ixBlk m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = ixBlk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The columns past the array's end -/

/-- A block of index words has the array's 382 columns, over all its rows. -/
theorem xsize_ix (t : Fin cfg0.N) : win0_1.xsize (grid0.coords t) 0 = 256 ∧ win0_1.xsize (grid0.coords t) 1 = 382 := by
  revert t; decide +kernel

theorem fill_ix (t : Fin cfg0.N) (d d' : S256x384.Idx → BitVec 32) (g : (win0_1.xblock (grid0.coords t)).Idx → BitVec 32)
    (r : Fin 256) (n : Fin 384) (hn : n.val < 382) :
    win0_1.fill (grid0.coords t) d g (ValueIdx.ix2 r n) = win0_1.fill (grid0.coords t) d' g (ValueIdx.ix2 r n) := by
  have hm : win0_1.moved (grid0.coords t) (ValueIdx.ix2 r n : S256x384.Idx) = true := (win0_1.moved_iff _ _).mpr fun a => by
    have hx := xsize_ix t
    fin_cases a
    · show r.val < win0_1.xsize (grid0.coords t) 0
      rw [hx.1]; exact r.isLt
    · show n.val < win0_1.xsize (grid0.coords t) 1
      rw [hx.2]; exact hn
  unfold Window.fill
  rw [dif_pos hm, dif_pos hm]

theorem decoded_congr (x1 : IVec S32x16x8x128 32) (x2 x2' : IVec S256x384 32) (x4 : IVec S32x8x128 32) (x5 x6 : FVec F S32x128 .f32)
    (h : ∀ r n, n.val < 382 → x2 (ValueIdx.ix2 r n) = x2' (ValueIdx.ix2 r n)) : decoded x1 x2 x4 x5 x6 = decoded x1 x2' x4 x5 x6 :=
  funext fun z => entry_congr x1 x2 x2' x4 x5 x6 h (z 0).val (z 1).val

theorem outBlk_fill (c : Dev nD) (t : Fin cfg0.N) (d : S256x384.Idx → BitVec 32) (x1 : IVec S32x16x8x128 32) (x3 : FVec F S32x4096 .bf16)
    (x4 : IVec S32x8x128 32) (x5 x6 : FVec F S32x128 .f32) :
    outBlk x1 (win0_1.fill (grid0.coords t) d (iblk m c 1 t)) x3 x4 x5 x6 = outBlk x1 (ixBlk m c t) x3 x4 x5 x6 := by
  have h : decoded x1 (win0_1.fill (grid0.coords t) d (iblk m c 1 t)) x4 x5 x6 = decoded x1 (ixBlk m c t) x4 x5 x6 :=
    decoded_congr x1 _ _ x4 x5 x6 fun r n hn => fill_ix t d _ _ r n hn
  unfold outBlk
  rw [h]

/-! ## The body obligation and the run -/

theorem defs₀_row (t : Fin cfg0.N) :
    defs₀ (F := F) .tc cfg0.body (cfg0.bodyArgs t (cfg0.slots t))
      = cc0_vptq_linear (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) := by
  unfold defs₀; rw [Defs.onTc_tc]

theorem owns_scratch (c : Dev nD) :
    (iprop(∃ d, owns (c : Thread nD τ) (Memref.whole cc0_scratch0) fullShare d) : sProp 𝕄)
      ⊢ iprop(∃ f : Buf (Elt F) ((c.tc : Thread nD τ).loc cc0_scratch0), ((c.tc : Thread nD τ).loc cc0_scratch0) ↦{fullShare} f) := by
  simp only [owns_whole_eq]
  iintro ⟨%d, %f, -, H⟩
  iexists f; iexact H

theorem body_obligation (c : Dev nD) : BodyObligationLoose (dats m 0 c) (defs₀ (F := F)) 𝒱₀ () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f8, H8⟩, Hp⟩, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  iapply (sound_kernel c Set.univ (grid0.coords t) _ _ _ _ _ _ _ _ _ _ _ _ _ _ _ _
    (iblk m c 0 t) (win0_1.fill (grid0.coords t) d1 (iblk m c 1 t)) (iblk m c 2 t) (iblk m c 3 t) (iblk m c 4 t) (iblk m c 5 t) _)
  isplitl [H0 H1 H2 H3 H4 H5 H6 H8]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists f8
    rw [owns_whole_eq]
    iexists f8; isplitr; · ipureintro; rfl
    iexact H8
  iintro ⟨H0, H1, H2, H3, H4, H5, H6, ⟨%d8, H8⟩⟩
  isplitl [H8 Hp]
  · isplitl [H8]
    · iapply (owns_scratch c); iexists d8; iexact H8
    iexact Hp
  isplitl [Ho]; · iexact Ho
  isplitl [H0]; · rw [after0_0]; iexact H0
  isplitl [H1]
  · iexists d1
    change _ ⊢ owns (c : Thread nD τ) (win0_1.stage (cfg0.slots t 1)) fullShare (win0_1.fill (grid0.coords t) d1 (win0_1.cut (grid0.coords t) (ixBlk m c t)))
    rw [show win0_1.cut (grid0.coords t) (ixBlk m c t) = iblk m c 1 t from win0_1.cut_fill _ _ _]
  isplitl [H2]; · rw [after0_2]; iexact H2
  isplitl [H3]; · rw [after0_3]; iexact H3
  isplitl [H4]; · rw [after0_4]; iexact H4
  isplitl [H5]; · rw [after0_5]; iexact H5
  rw [after0_6, outBlk_fill]
  unfold outAt
  iexact H6

set_option backward.isDefEq.respectTransparency.types false in
/-- Every run of the program terminates, with every array of the pipeline at what the proof data say, every other
    array as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main m ρ)

end Cert.LinearIdealProof

end
-- ==== Proof.Halves.lean ====
/-
  Halves of a 32-bit word as bf16 numbers, over the extended reals.

  A word holds two bf16 patterns. The upper half of an f32 pattern, zeros below it, denotes the number the half denotes as
  a bf16 pattern: the two formats share sign and exponent, and the significand only grows by zeros.
-/
module

public import proofs.«01_k».proof.Proof.Plane
public import Idealize.ShloMosaic.PureOps.Ideal
public import Idealize.ShloMosaic.Lib.Pointwise

@[expose] public section

noncomputable section

namespace Cert.Vptq

open Idealize.ShloMosaic

/-- Half `h` of a word. -/
def part (h : ℕ) (w : BitVec 32) : BitVec 16 := w.extractLsb' (16 * h) 16

/-- A bf16 pattern in the upper half of a word. -/
def upper (a : BitVec 16) : BitVec 32 := a.setWidth 32 <<< 16

theorem mask_bits : ∀ i : Fin 32, (4294901760#32).getLsbD i.val = decide (16 ≤ i.val) := by decide

theorem halfAt_eq (h : ℕ) (hh : h < 2) (w : BitVec 32) : halfAt h w = upper (part h w) := by
  apply BitVec.eq_of_getLsbD_eq
  intro i hi
  have hm := mask_bits ⟨i, hi⟩
  simp only at hm
  rcases (by omega : h = 0 ∨ h = 1) with rfl | rfl
  · simp only [halfAt, upper, part, BitVec.getLsbD_shiftLeft, BitVec.getLsbD_setWidth, BitVec.getLsbD_extractLsb']
    by_cases h16 : i < 16
    · simp [h16]
    · have h1 : i - 16 < 16 := by omega
      have h2 : i - 16 < 32 := by omega
      simp [h16, hi, h1, h2]
  · simp only [halfAt, upper, part, BitVec.getLsbD_and, BitVec.getLsbD_shiftLeft, BitVec.getLsbD_setWidth, BitVec.getLsbD_extractLsb', hm]
    by_cases h16 : i < 16
    · simp [h16]
    · have h1 : i - 16 < 16 := by omega
      have h2 : i - 16 < 32 := by omega
      have h3 : 16 ≤ i := by omega
      have h4 : 16 + (i - 16) = i := by omega
      simp [h16, hi, h1, h2, h3, h4]

theorem part_append_zero (a b : BitVec 16) : part 0 (a ++ b) = b := by
  apply BitVec.eq_of_getLsbD_eq
  intro i hi
  unfold part
  rw [BitVec.getLsbD_extractLsb', BitVec.getLsbD_append]
  simp [hi]

theorem part_append_one (a b : BitVec 16) : part 1 (a ++ b) = a := by
  apply BitVec.eq_of_getLsbD_eq
  intro i hi
  unfold part
  rw [BitVec.getLsbD_extractLsb', BitVec.getLsbD_append]
  simp [hi]

theorem upper_toNat (a : BitVec 16) : (upper a).toNat = a.toNat * 65536 := by
  have := a.isLt
  unfold upper
  rw [BitVec.toNat_shiftLeft, BitVec.toNat_setWidth, Nat.mod_eq_of_lt (by omega), Nat.shiftLeft_eq, Nat.mod_eq_of_lt (by omega)]

theorem ofBits_upper (a : BitVec 16) : Ideal.ofBits .f32 (upper a) = Ideal.ofBits .bf16 a := by
  have ha := a.isLt
  have hs : ((upper a).extractLsb' (8 + 23) 1).toNat = (a.extractLsb' (8 + 7) 1).toNat := by
    simp only [BitVec.extractLsb'_toNat, upper_toNat, Nat.shiftRight_eq_div_pow]; omega
  have hs' : ((upper a).extractLsb' (8 + 23) 1) = (a.extractLsb' (8 + 7) 1) := BitVec.eq_of_toNat_eq hs
  have he : ((upper a).extractLsb' 23 8).toNat = (a.extractLsb' 7 8).toNat := by
    simp only [BitVec.extractLsb'_toNat, upper_toNat, Nat.shiftRight_eq_div_pow]; omega
  have hf : ((upper a).extractLsb' 0 23).toNat = 65536 * (a.extractLsb' 0 7).toNat := by
    simp only [BitVec.extractLsb'_toNat, upper_toNat, Nat.shiftRight_eq_div_pow]; omega
  show Ideal.ieee 8 23 (upper a) = Ideal.ieee 8 7 a
  unfold Ideal.ieee
  rw [hs', he, hf]
  generalize (a.extractLsb' 7 8).toNat = ex
  generalize (a.extractLsb' 0 7).toNat = fr
  generalize (a.extractLsb' (8 + 7) 1 == 1#1) = neg
  have h2 : (2 : ℝ) ≠ 0 := two_ne_zero
  have hz : 65536 * fr = 0 ↔ fr = 0 := by omega
  have e1 : (2 : ℝ) ^ (1 - (2 ^ (8 - 1) - 1) - (7 : ℕ) : ℤ) = 65536 * (2 : ℝ) ^ (1 - (2 ^ (8 - 1) - 1) - (23 : ℕ) : ℤ) := by
    rw [show (1 - (2 ^ (8 - 1) - 1) - (7 : ℕ) : ℤ) = 16 + (1 - (2 ^ (8 - 1) - 1) - (23 : ℕ)) by norm_num, zpow_add₀ h2]; norm_num
  have e2 : (2 : ℝ) ^ ((ex : ℤ) - (2 ^ (8 - 1) - 1) - (7 : ℕ) : ℤ) = 65536 * (2 : ℝ) ^ ((ex : ℤ) - (2 ^ (8 - 1) - 1) - (23 : ℕ) : ℤ) := by
    rw [show ((ex : ℤ) - (2 ^ (8 - 1) - 1) - (7 : ℕ) : ℤ) = 16 + ((ex : ℤ) - (2 ^ (8 - 1) - 1) - (23 : ℕ)) by push_cast; ring, zpow_add₀ h2]; norm_num
  have h1 : ∀ s A : ℝ, s * ((65536 * fr : ℕ) : ℝ) * A = s * (fr : ℝ) * (65536 * A) := fun s A => by push_cast; ring
  have h3 : ∀ s A : ℝ, s * ((2 ^ 23 + 65536 * fr : ℕ) : ℝ) * A = s * ((2 ^ 7 + fr : ℕ) : ℝ) * (65536 * A) := fun s A => by
    push_cast; ring
  simp only [hz, e1, e2, h1, h3]

/-- The number half `h` of a word denotes. -/
def num (h : ℕ) (w : BitVec 32) : EReal := Ideal.ofBits .bf16 (part h w)

theorem ofBits_halfAt (h : ℕ) (hh : h < 2) (w : BitVec 32) : (FloatOps.ofBits .f32 (halfAt h w) : Ideal .f32) = num h w := by
  show Ideal.ofBits .f32 (halfAt h w) = _
  rw [halfAt_eq h hh, ofBits_upper]; rfl

theorem num_zero (h : ℕ) : num h 0#32 = 0 := by
  have : part h 0#32 = 0#16 := by unfold part; simp
  unfold num; rw [this]
  simp [Ideal.ofBits, Ideal.ieee]

theorem weightAt_ideal (h : ℕ) (hh : h < 2) (res main : BitVec 32) (s b : Ideal .f32) :
    (weightAt h res main s b : Ideal .f32) = (num h main + num h res) * s + b := by
  unfold weightAt
  rw [ofBits_halfAt h hh, ofBits_halfAt h hh]; rfl

/-! ## The order of the columns

The kernel's column `C` is element `C / 128 % 8` of the permuted vector `4 * (C % 128) + C / 1024`; the permuted vectors are
the 506 regular ones, then the 6 outliers, which the matrix has in front. -/

/-- The permuted vector of the kernel's column `C`. -/
def vecOf (C : ℕ) : ℕ := 4 * (C % 128) + C / 1024
/-- Its element. -/
def elemOf (C : ℕ) : ℕ := C / 128 % 8

/-- The matrix's column of the kernel's column. -/
def colOf (C : Fin 4096) : Fin 4096 := ⟨8 * ((vecOf C.val + 6) % 512) + elemOf C.val, by unfold elemOf; omega⟩

theorem colOf_regular (C : Fin 4096) (h : vecOf C.val < 506) : (colOf C).val = (6 + vecOf C.val) * 8 + elemOf C.val := by
  show 8 * ((vecOf C.val + 6) % 512) + elemOf C.val = _
  rw [Nat.mod_eq_of_lt (by omega)]; omega

theorem vecOf_lt (C : Fin 4096) : vecOf C.val < 512 := by have := C.isLt; unfold vecOf; omega

theorem colOf_outlier (C : Fin 4096) (h : ¬ vecOf C.val < 506) : (colOf C).val = (vecOf C.val - 506) * 8 + elemOf C.val := by
  have := vecOf_lt C
  show 8 * ((vecOf C.val + 6) % 512) + elemOf C.val = _
  rw [Nat.mod_eq_sub_mod (by omega), Nat.mod_eq_of_lt (by omega)]; omega

/-- The element of a column, from its pair and its half. -/
theorem pair_half (C : ℕ) : C / 256 % 4 * 2 + C / 128 % 2 = elemOf C := by unfold elemOf; omega

theorem colOf_bijective : Function.Bijective colOf := by
  apply Finite.injective_iff_bijective.mp
  intro a b hab
  have h := congrArg Fin.val hab
  simp only [colOf, vecOf, elemOf] at h
  have ha := a.isLt
  have hb := b.isLt
  have hv : ∀ u u' e e' : ℕ, e < 8 → e' < 8 → 8 * u + e = 8 * u' + e' → u = u' ∧ e = e' := fun u u' e e' _ _ _ => by omega
  obtain ⟨hu, he⟩ := hv _ _ _ _ (by omega) (by omega) h
  have hw : ∀ v v' : ℕ, v < 512 → v' < 512 → (v + 6) % 512 = (v' + 6) % 512 → v = v' := fun v v' _ _ _ => by omega
  have hvv := hw _ _ (by omega) (by omega) hu
  have hl : ∀ l l' p p' : ℕ, p < 4 → p' < 4 → 4 * l + p = 4 * l' + p' → l = l' ∧ p = p' := fun l l' p p' _ _ _ => by omega
  obtain ⟨h1, h2⟩ := hl _ _ _ _ (by omega) (by omega) hvv
  exact Fin.ext (by omega)

theorem sum_colOf {M : Type} [AddCommMonoid M] (f : Fin 4096 → M) : ∑ C, f (colOf C) = ∑ d, f d :=
  Function.Bijective.sum_comp colOf_bijective f

/-! ## The matrix and the layer -/

/-- The entry of row `o` and the kernel's column `C` of the matrix which the words `g` of the main vectors, the packed
    words `w`, the residual codebook `t` and the column factors `s`, `b` stand for. -/
def wt (g : IVec ⟨4, ![1376, 16, 8, 128]⟩ 32) (w : IVec ⟨2, ![11008, 382]⟩ 32) (t : IVec ⟨2, ![1024, 8]⟩ 16) (s b : FVec Ideal ⟨1, ![4096]⟩ .f32)
    (o : ℕ) (C : Fin 4096) : EReal :=
  (num (C.val / 128 % 2) (rd4 g (o / 8) (C.val / 256) (o % 8) C.val)
      + (if vecOf C.val < 506 then Ideal.ofBits .bf16 (rd2 t (codeAt (rd2 w o) (vecOf C.val)).toNat (elemOf C.val)) else 0))
    * s (ix1 (colOf C)) + b (ix1 (colOf C))

/-- The layer: each row of activations with each row of the matrix. -/
def layer (x : FVec Ideal ⟨3, ![20, 1, 4096]⟩ .bf16) (w : IVec ⟨2, ![11008, 382]⟩ 32) (g : IVec ⟨4, ![1376, 16, 8, 128]⟩ 32)
    (t : IVec ⟨2, ![1024, 8]⟩ 16) (s b : FVec Ideal ⟨1, ![4096]⟩ .f32) : FVec Ideal ⟨2, ![20, 11008]⟩ .bf16 :=
  fun i => ∑ C, x (ix3 (i 0) 0 (colOf C)) * wt g w t s b (i 1).val C

end Cert.Vptq

end
-- ==== Proof.LinearValue.lean ====
/-
  The value the idealized linear layer leaves in its result, at an index.
-/
module

public import proofs.«01_k».proof.Proof.LinearIdealFrame
public import proofs.«01_k».proof.Proof.Halves
public import Idealize.ShloMosaic.Lib.Pointwise
public import Idealize.ShloMosaic.Lib.BitcastConvert
public import Idealize.ShloMosaic.Lib.Pipeline.ValueKit

@[expose] public section

noncomputable section

namespace Cert.LinearIdealProof

open Cert.LinearIdeal Cert.LinearIdeal.Gen Cert.Vptq
open Idealize.ShloMosaic Idealize.ShloMosaic.TcCoe Idealize.ShloMosaic.Tactic
open Idealize.SL Idealize.SL.RA Idealize.SL.Sem
open Idealize.ShloMosaic.Pipeline (Dat Cfg Window)

/-! ## The host's operands -/

/-- The words of the residual codebook, one table of 1024 for each pair of elements, in rows of 128. -/
def resArr (t : IVec S1024x8 16) : IVec S32x8x128 32 :=
  broadcastInDim S32x8x128 ![0, 1, 2] bcast_S32x1x128_S32x8x128_0_1_2
    (shapeCast S32x1x128 (transpose S4x1024 [1, 0] (Host.bitcastConvertWiden S1024x4 32 (shapeCast S1024x4x2 t shapeCasts_S1024x8_S1024x4x2)
      splits_S1024x4_w32_S1024x4x2_w16) transposes_S1024x4_S4x1024_1_0) shapeCasts_S4x1024_S32x1x128)

/-- A row of column factors in the kernel's order of columns. -/
def colArr {α : Type} (x : S4096.Idx → α) : S32x128.Idx → α :=
  shapeCast S32x128 (transpose S4x4x2x128 [1, 2, 3, 0] (shapeCast S128x4x4x2 (concatenate S512x8 0
    [⟨S506x8, extractStridedSlice S506x8 ![6, 0] (shapeCast S512x8 x shapeCasts_S4096_S512x8) slices_S512x8_S506x8_6_0⟩,
      ⟨S6x8, extractStridedSlice S6x8 ![0, 0] (shapeCast S512x8 x shapeCasts_S4096_S512x8) slices_S512x8_S6x8_0_0⟩]
    concatenates_S506x8_S6x8_S512x8_d0) shapeCasts_S512x8_S128x4x4x2) transposes_S128x4x4x2_S4x4x2x128_1_2_3_0) shapeCasts_S4x4x2x128_S32x128

/-- The activations in the kernel's order of columns. -/
def actArr {α : Type} (x : S20x1x4096.Idx → α) : S20x4096.Idx → α :=
  shapeCast S20x4096 (transpose S20x4x4x2x128 [0, 2, 3, 4, 1] (shapeCast S20x128x4x4x2 (concatenate S20x512x8 1
    [⟨S20x506x8, extractStridedSlice S20x506x8 ![0, 6, 0] (shapeCast S20x512x8 (shapeCast S20x4096 x shapeCasts_S20x1x4096_S20x4096) shapeCasts_S20x4096_S20x512x8) slices_S20x512x8_S20x506x8_0_6_0⟩,
      ⟨S20x6x8, extractStridedSlice S20x6x8 ![0, 0, 0] (shapeCast S20x512x8 (shapeCast S20x4096 x shapeCasts_S20x1x4096_S20x4096) shapeCasts_S20x4096_S20x512x8) slices_S20x512x8_S20x6x8_0_0_0⟩]
    concatenates_S20x506x8_S20x6x8_S20x512x8_d1) shapeCasts_S20x512x8_S20x128x4x4x2) transposes_S20x128x4x4x2_S20x4x4x2x128_0_2_3_4_1) shapeCasts_S20x4x4x2x128_S20x4096

/-- The activations with their 12 rows of padding. -/
def padArr {F : FTy → Type} [FloatOps F] (x : FVec F S20x1x4096 .bf16) : FVec F S32x4096 .bf16 :=
  pad S32x4096 ![0, 0] ![12, 0] ![0, 0] (actArr x) (sitofp .bf16 (constantI S_ 32 0#32)) pads_S20x4096_S32x4096_0120_000 h_S_

section
variable {F : FTy → Type} [FloatOps F] (m : (ℓ : Loc nD τ sig) → Buf (Elt F) ℓ)

theorem V_main_v4 (c : Dev nD) : V m c main_v4 = resArr (m ((c : Thread nD τ).loc main_arg3)) := by
  show StableHlo.after _ _ (Proc.devRef .tc main_v4) = _
  simp only [hostOps0, hostOps0_1, hostOps0_2, List.flatten_cons, List.flatten_nil, List.append_nil, List.cons_append, List.nil_append]
  after_results
  rfl

theorem V_main_v13 (c : Dev nD) : V m c main_v13 = padArr (m ((c : Thread nD τ).loc main_arg0)) := by
  show StableHlo.after _ _ (Proc.devRef .tc main_v13) = _
  simp only [hostOps0, hostOps0_1, hostOps0_2, List.flatten_cons, List.flatten_nil, List.append_nil, List.cons_append, List.nil_append]
  after_results
  rfl

theorem V_main_v20 (c : Dev nD) : V m c main_v20 = colArr (m ((c : Thread nD τ).loc main_arg4)) := by
  show StableHlo.after _ _ (Proc.devRef .tc main_v20) = _
  simp only [hostOps0, hostOps0_1, hostOps0_2, List.flatten_cons, List.flatten_nil, List.append_nil, List.cons_append, List.nil_append]
  after_results
  rfl

theorem V_main_v27 (c : Dev nD) : V m c main_v27 = colArr (m ((c : Thread nD τ).loc main_arg5)) := by
  show StableHlo.after _ _ (Proc.devRef .tc main_v27) = _
  simp only [hostOps0, hostOps0_1, hostOps0_2, List.flatten_cons, List.flatten_nil, List.append_nil, List.cons_append, List.nil_append]
  after_results
  rfl

end

theorem resArr_apply (t : IVec S1024x8 16) (a : Fin 32) (r : Fin 8) (l : Fin 128) :
    resArr t (ix3 a r l) = t (ix2 ⟨a.val % 8 * 128 + l.val, by omega⟩ ⟨a.val / 8 * 2 + 1, by omega⟩)
      ++ t (ix2 ⟨a.val % 8 * 128 + l.val, by omega⟩ ⟨a.val / 8 * 2, by omega⟩) := by
  pointwise [resArr]
  rfl

theorem colArr_apply {α : Type} (x : S4096.Idx → α) (C : ℕ) (hC : C < 4096) :
    rd2 (colArr x) (C / 128) C = x (ix1 (colOf ⟨C, hC⟩)) := by
  unfold rd2
  rw [← ix2_eq_valueIdx]
  pointwise [colArr]
  simp only [Fin.val_ofNat]
  have e1 : C % 128 * 4 + C / 128 % 32 / 8 = vecOf C := by unfold vecOf; omega
  have e2 : C / 128 % 32 / 2 % 4 * 2 + C / 128 % 32 % 2 = elemOf C := by unfold elemOf; omega
  simp only [e1, e2]
  split
  · rename_i h
    exact congrArg x (congrArg ix1 (Fin.ext (colOf_regular ⟨C, hC⟩ h).symm))
  · rename_i h
    exact congrArg x (congrArg ix1 (Fin.ext (colOf_outlier ⟨C, hC⟩ h).symm))

theorem padArr_apply (x : FVec Ideal S20x1x4096 .bf16) (b : Fin 32) (hb : b.val < 20) (C : Fin 4096) :
    padArr x (ix2 b C) = x (ix3 ⟨b.val, hb⟩ 0 (colOf C)) := by
  pointwise [padArr, actArr]
  have e1 : C.val % 128 * 4 + C.val / 1024 = vecOf C.val := by unfold vecOf; omega
  rw [dif_pos hb]
  simp only [e1, pair_half]
  split
  · rename_i h
    exact congrArg x (congrArg (ix3 _ _) (Fin.ext (colOf_regular C h).symm))
  · rename_i h
    exact congrArg x (congrArg (ix3 _ _) (Fin.ext (colOf_outlier C h).symm))

theorem outBlk_apply (x1 : IVec S32x16x8x128 32) (x2 : IVec S256x384 32) (x3 : FVec Ideal S32x4096 .bf16) (x4 : IVec S32x8x128 32) (x5 x6 : FVec Ideal S32x128 .f32)
   (b : Fin 20) (n : Fin 256) :
    outBlk x1 x2 x3 x4 x5 x6 (ix2 b n) = ∑ C : Fin 4096, x3 (ix2 ⟨b.val, by omega⟩ C) * (entry x1 x2 x4 x5 x6 n.val C.val : Ideal .bf16) := by
  unfold outBlk
  pointwise [k0_pay6]
  rfl

/-- A block's entry is the matrix's, when the block's main and index words are those of rows `256 * T` and on. -/
theorem entry_eq (g : IVec S1376x16x8x128 32) (w : IVec S11008x382 32) (tab : IVec S1024x8 16) (s b : FVec Ideal S4096 .f32)
    (x1 : IVec S32x16x8x128 32) (x2 : IVec S256x384 32) (T : ℕ) (hT : T < 43)
    (h1 : ∀ (a : Fin 32) (q : Fin 16) (r : Fin 8) (l : Fin 128) (h : 32 * T + a.val < 1376), x1 (ix4 a q r l) = g (ix4 ⟨32 * T + a.val, h⟩ q r l))
    (h2 : ∀ (r : Fin 256) (n : Fin 384) (hn : n.val < 382) (h : 256 * T + r.val < 11008), x2 (ix2 r n) = w (ix2 ⟨256 * T + r.val, h⟩ ⟨n.val, hn⟩))
    (n : Fin 256) (C : Fin 4096) :
    (entry x1 x2 (resArr tab) (colArr s) (colArr b) n.val C.val : Ideal .bf16) = wt g w tab s b (256 * T + n.val) C := by
  have hC := C.isLt
  have hn := n.isLt
  show (weightAt (F := Ideal) (C.val / 128 % 2) _ _ _ _ : EReal) = _
  rw [weightAt_ideal _ (by omega), colArr_apply _ C.val hC, colArr_apply _ C.val hC]
  unfold wt
  refine congrArg (fun z : EReal => z * s (ix1 (colOf C)) + b (ix1 (colOf C))) (congrArg₂ (· + ·) (congrArg (num _) ?_) ?_)
  · unfold rd4
    have e : (Fin.ofNat 32 (n.val / 8)).val = n.val / 8 := Nat.mod_eq_of_lt (by omega)
    have e2 : (⟨32 * T + (Fin.ofNat 32 (n.val / 8)).val, by rw [e]; omega⟩ : Fin 1376) = Fin.ofNat 1376 ((256 * T + n.val) / 8) :=
      Fin.ext (by show 32 * T + n.val / 8 % 32 = (256 * T + n.val) / 8 % 1376; omega)
    have e8 : (Fin.ofNat 8 (n.val % 8)) = Fin.ofNat 8 ((256 * T + n.val) % 8) :=
      Fin.ext (by show n.val % 8 % 8 = (256 * T + n.val) % 8 % 8; omega)
    refine (h1 _ _ _ _ (by rw [e]; omega)).trans ?_
    rw [e2, e8, ix4_eq_valueIdx]
  · have hv : 4 * (C.val % 128) + C.val / 1024 = vecOf C.val := rfl
    rw [hv]
    split
    · rename_i hr
      have hcode : codeAt (rd2 x2 n.val) (vecOf C.val) = codeAt (rd2 w (256 * T + n.val)) (vecOf C.val) := by
        refine codeAt_congr _ _ (fun q hq => ?_) _ hr
        have en : (Fin.ofNat 256 n.val).val = n.val := Nat.mod_eq_of_lt hn
        have eq : (Fin.ofNat 384 q).val = q := Nat.mod_eq_of_lt (by omega)
        refine (h2 _ _ (by rw [eq]; exact hq) (by rw [en]; omega)).trans ?_
        have a1 : (⟨256 * T + (Fin.ofNat 256 n.val).val, by rw [en]; omega⟩ : Fin 11008) = Fin.ofNat 11008 (256 * T + n.val) :=
          Fin.ext (by show 256 * T + n.val % 256 = (256 * T + n.val) % 11008; omega)
        have a2 : (⟨(Fin.ofNat 384 q).val, by rw [eq]; exact hq⟩ : Fin 382) = Fin.ofNat 382 q :=
          Fin.ext (by show q % 384 = q % 382; omega)
        unfold rd2
        rw [a1, a2, ix2_eq_valueIdx]
      rw [hcode]
      have hq := codeAt_lt (rd2 w (256 * T + n.val)) (vecOf C.val)
      generalize (codeAt (rd2 w (256 * T + n.val)) (vecOf C.val)).toNat = q at hq ⊢
      have hx : rd3 (resArr tab) (C.val / 256 % 4 * 8 + q / 128) (n.val % 8) q
          = rd2 tab q (C.val / 256 % 4 * 2 + 1) ++ rd2 tab q (C.val / 256 % 4 * 2) := by
        unfold rd3
        rw [← ix3_eq_valueIdx, resArr_apply]
        have c0 : (Fin.ofNat 32 (C.val / 256 % 4 * 8 + q / 128)).val = C.val / 256 % 4 * 8 + q / 128 := Nat.mod_eq_of_lt (by omega)
        have c1 : (Fin.ofNat 128 q).val = q % 128 := rfl
        unfold rd2
        rw [← ix2_eq_valueIdx, ← ix2_eq_valueIdx]
        congr 3 <;> first
          | (refine Fin.ext ?_; show _ = q % 1024; simp only [c0, c1]; omega)
          | (refine Fin.ext ?_; show _ = (C.val / 256 % 4 * 2 + 1) % 8; simp only [c0]; omega)
          | (refine Fin.ext ?_; show _ = (C.val / 256 % 4 * 2) % 8; simp only [c0]; omega)
      rw [hx]
      unfold num
      rw [← pair_half]
      rcases Nat.mod_two_eq_zero_or_one (C.val / 128) with h | h <;> rw [h]
      · rw [part_append_zero]; rfl
      · rw [part_append_one]
    · exact num_zero _

/-! ## The blocks at a point -/

section
variable (m : (ℓ : Loc nD τ sig) → Buf (Elt Ideal) ℓ) (c : Dev nD)

theorem index_0 : ∀ t : Fin cfg0.N, win0_0.index t = ![t.val, 0, 0, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![0, 0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, t.val] := by decide +kernel

theorem iblk_0 (t : Fin cfg0.N) (a : Fin 32) (q : Fin 16) (r : Fin 8) (l : Fin 128) (h : 32 * t.val + a.val < 1376) :
    iblk m c 0 t (ix4 a q r l) = m ((c : Thread nD τ).loc main_arg2) (ix4 ⟨32 * t.val + a.val, h⟩ q r l) := by
  blk_simp [iblk]
  rw [V_main_arg2]
  refine congrArg _ ?_
  blk_ext [index_0]

theorem iblk_2 (t : Fin cfg0.N) : (iblk m c 2 t : S32x4096.Idx → EReal) = padArr (F := Ideal) (m ((c : Thread nD τ).loc main_arg0)) := by
  funext j
  blk_simp [iblk]
  rw [V_main_v13]
  refine congrArg _ ?_
  blk_ext [index_2]

theorem iblk_3 (t : Fin cfg0.N) : (iblk m c 3 t : IVec S32x8x128 32) = resArr (m ((c : Thread nD τ).loc main_arg3)) := by
  funext j
  blk_simp [iblk]
  rw [V_main_v4]
  refine congrArg _ ?_
  blk_ext [index_3]

theorem iblk_4 (t : Fin cfg0.N) : (iblk m c 4 t : FVec Ideal S32x128 .f32) = colArr (m ((c : Thread nD τ).loc main_arg4)) := by
  funext j
  blk_simp [iblk]
  rw [V_main_v20]
  refine congrArg _ ?_
  blk_ext [index_4]

theorem iblk_5 (t : Fin cfg0.N) : (iblk m c 5 t : FVec Ideal S32x128 .f32) = colArr (m ((c : Thread nD τ).loc main_arg5)) := by
  funext j
  blk_simp [iblk]
  rw [V_main_v27]
  refine congrArg _ ?_
  blk_ext [index_5]

theorem ixBlk_apply (t : Fin cfg0.N) (r : Fin 256) (n : Fin 384) (hn : n.val < 382) (h : 256 * t.val + r.val < 11008) :
    ixBlk m c t (ix2 r n) = m ((c : Thread nD τ).loc main_arg1) (ix2 ⟨256 * t.val + r.val, h⟩ ⟨n.val, hn⟩) := by
  have hx := xsize_ix t
  have hm : win0_1.moved (grid0.coords t) (ix2 r n : S256x384.Idx) = true := (win0_1.moved_iff _ _).mpr fun a => by
    fin_cases a
    · show r.val < win0_1.xsize (grid0.coords t) 0
      rw [hx.1]; exact r.isLt
    · show n.val < win0_1.xsize (grid0.coords t) 1
      rw [hx.2]; exact hn
  unfold ixBlk Window.fill
  rw [dif_pos hm]
  blk_simp [iblk]
  rw [V_main_arg1]
  refine congrArg _ ?_
  blk_ext [index_1]

/-! ## The result -/

/-- What the body leaves in the result's block is the layer's. -/
theorem outAt_apply (t : Fin cfg0.N) (b : Fin 20) (n : Fin 256) (h : 256 * t.val + n.val < 11008) :
    outAt m c t (ix2 b n) = layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (ix2 b ⟨256 * t.val + n.val, h⟩) := by
  unfold outAt
  rw [outBlk_apply, iblk_2, iblk_3, iblk_4, iblk_5]
  refine Finset.sum_congr rfl fun C _ => congrArg₂ (· * ·) (padArr_apply _ _ b.isLt C) ?_
  exact entry_eq (m ((c : Thread nD τ).loc main_arg2)) (m ((c : Thread nD τ).loc main_arg1)) (m ((c : Thread nD τ).loc main_arg3))
    (m ((c : Thread nD τ).loc main_arg4)) (m ((c : Thread nD τ).loc main_arg5)) _ _ t.val t.isLt (iblk_0 m c t) (ixBlk_apply m c t) n C

/-- The result array after the region. -/
theorem final : (dats m 0 c).arrAt 6 (cfgs 0).N = layer (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨b, n, rfl⟩ : ∃ (b : Fin 20) (n : Fin 256), y = ix2 b n := ⟨y 0, y 1, by funext a; fin_cases a <;> rfl⟩
  have ht : t.val < 43 := t.isLt
  have h : 256 * t.val + n.val < 11008 := by omega
  refine (outAt_apply m c t b n h).trans (congrArg (layer _ _ _ _ _ _) ?_)
  blk_ext [index_6]

/-- The run leaves the layer in the result and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v28) = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h := run_main m ρ
  have hf := frame m ρ
  exact ⟨fun t ht hF c => ⟨((((h.post t ht hF).1 c).1 6).trans (final m c)), (hf.post t ht hF).1 c⟩, h.progress, h.fair⟩

end

end Cert.LinearIdealProof

end
-- ==== Proof.ReferenceValue.lean ====
/-
  The value the reference leaves in its result: the layer of Halves.lean, at every index.
-/
module

public import proofs.«01_k».proof.Proof.Gen.ReferenceIdeal.Run
public import proofs.«01_k».proof.Proof.Halves
public import Idealize.ShloMosaic.Lib.Pointwise
public import Idealize.ShloMosaic.Lib.BitcastConvert
public import Idealize.ShloMosaic.Lib.Quiescent

@[expose] public section

noncomputable section

namespace Cert.ReferenceProof

open Cert.ReferenceIdeal Cert.ReferenceIdeal.Gen Cert.Vptq
open Idealize.ShloMosaic Idealize.ShloMosaic.TcCoe Idealize.SL.Sem

/-! ## The two gathers at an index -/

/-- Whole columns of the words: element `(o, v)` is the word of row `o` at the start index of `v`. -/
theorem columns_apply (x : IVec S11008x382 32) (idx : IVec S506x1 32) (o : Fin 11008) (v : Fin 506) (n : ℕ) (hn : n < 382)
    (h : idx (ix2 v 0) = BitVec.ofNat 32 n) :
    Host.gather gather_S11008x382_S506x1_S11008x506_0_1_n_n_1_1_110081 x idx (ix2 o v) = x (ix2 o ⟨n, hn⟩) := by
  unfold Host.gather
  refine congrArg x ?_
  funext a
  fin_cases a
  · refine Fin.ext ?_
    show GatherDims.start _ (ix2 o v : S11008x506.Idx) idx 0 + GatherDims.batchCoord _ _ 0 + GatherDims.offCoord _ _ 0 = o.val
    rw [GatherDims.batchCoord_eq_zero _ _ _ List.not_mem_nil]
    unfold GatherDims.start
    rw [dif_neg (by decide), Nat.zero_add]
    rfl
  · refine Fin.ext ?_
    show GatherDims.start _ (ix2 o v : S11008x506.Idx) idx 1 + GatherDims.batchCoord _ _ 1 + GatherDims.offCoord _ _ 1 = n
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S11008x382_S506x1_S11008x506_0_1_n_n_1_1_110081.startIndexMap from List.mem_singleton.mpr rfl)]
    have hsi : GatherDims.siIdx gather_S11008x382_S506x1_S11008x506_0_1_n_n_1_1_110081 (ix2 o v : S11008x506.Idx)
        ⟨List.idxOf (1 : Fin 2) gather_S11008x382_S506x1_S11008x506_0_1_n_n_1_1_110081.startIndexMap,
          List.idxOf_lt_length_iff.2 (List.mem_singleton.mpr rfl)⟩ = ix2 v 0 := by
      funext b; refine Fin.ext ?_
      match b with
      | ⟨0, _⟩ => rfl
      | ⟨1, _⟩ => rfl
    rw [hsi, h]
    show min (BitVec.ofNat 32 n).toInt.toNat 381 = n
    rw [BitVec.toInt_eq_toNat_of_lt (by simp; omega)]
    simp; omega

/-- Rows of the residual codebook: element `(o, v, e)` is element `e` of the row at the start index of `(o, v)`. -/
theorem rows_apply {α : Type} (x : S1024x8.Idx → α) (idx : IVec S11008x506x1 32) (o : Fin 11008) (v : Fin 506) (e : Fin 8) (n : ℕ) (hn : n < 1024)
    (h : idx (ix3 o v 0) = BitVec.ofNat 32 n) :
    Host.gather gather_S1024x8_S11008x506x1_S11008x506x8_2_0_n_n_0_2_18 x idx (ix3 o v e) = x (ix2 ⟨n, hn⟩ e) := by
  unfold Host.gather
  refine congrArg x ?_
  funext a
  fin_cases a
  · refine Fin.ext ?_
    show GatherDims.start _ (ix3 o v e : S11008x506x8.Idx) idx 0 + GatherDims.batchCoord _ _ 0 + GatherDims.offCoord _ _ 0 = n
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x8_S11008x506x1_S11008x506x8_2_0_n_n_0_2_18.startIndexMap from List.mem_singleton.mpr rfl)]
    have hsi : GatherDims.siIdx gather_S1024x8_S11008x506x1_S11008x506x8_2_0_n_n_0_2_18 (ix3 o v e : S11008x506x8.Idx)
        ⟨List.idxOf (0 : Fin 2) gather_S1024x8_S11008x506x1_S11008x506x8_2_0_n_n_0_2_18.startIndexMap,
          List.idxOf_lt_length_iff.2 (List.mem_singleton.mpr rfl)⟩ = ix3 o v 0 := by
      funext b; refine Fin.ext ?_
      match b with
      | ⟨0, _⟩ => rfl
      | ⟨1, _⟩ => rfl
      | ⟨2, _⟩ => rfl
    rw [hsi, h]
    show min (BitVec.ofNat 32 n).toInt.toNat 1023 = n
    rw [BitVec.toInt_eq_toNat_of_lt (by simp; omega)]
    simp; omega
  · refine Fin.ext ?_
    show GatherDims.start _ (ix3 o v e : S11008x506x8.Idx) idx 1 + GatherDims.batchCoord _ _ 1 + GatherDims.offCoord _ _ 1 = e.val
    rw [GatherDims.batchCoord_eq_zero _ _ _ List.not_mem_nil]
    unfold GatherDims.start
    rw [dif_neg (by decide), Nat.zero_add]
    rfl

/-! ## The residual codes -/

/-- The bit at which each regular vector's residual code begins. -/
def pos : IVec S506 32 :=
  addi (addi (broadcastInDim S506 ![] bcast_S_S506 (constantI S_ 32 60#32)) (muli (iotaInDim S506 32 0) (broadcastInDim S506 ![] bcast_S_S506 (constantI S_ 32 24#32))))
    (broadcastInDim S506 ![] bcast_S_S506 (constantI S_ 32 14#32))

/-- The word that bit is in, and the word after it. -/
def loWord : IVec S506 32 := Host.shrsi pos (broadcastInDim S506 ![] bcast_S_S506 (constantI S_ 32 5#32))
def hiWord : IVec S506 32 :=
  minsi (addi loWord (broadcastInDim S506 ![] bcast_S_S506 (constantI S_ 32 1#32))) (broadcastInDim S506 ![] bcast_S_S506 (constantI S_ 32 381#32))
/-- Its place in the word. -/
def bitOf : IVec S506 32 := (andi pos (broadcastInDim S506 ![] bcast_S_S506 (constantI S_ 32 31#32)))

/-- The start indices of a gather of the words' columns `q`. -/
def starts (q : IVec S506 32) : IVec S506x1 32 :=
  broadcastInDim S506x1 ![0] bcast_S506_S506x1_0 (select (cmpi .slt q (broadcastInDim S506 ![] bcast_S_S506 (constantI S_ 32 0#32)))
    (addi q (broadcastInDim S506 ![] bcast_S_S506 (constantI S_ 32 382#32))) q)

def columns (w : IVec S11008x382 32) (q : IVec S506 32) : IVec S11008x506 32 :=
  Host.gather gather_S11008x382_S506x1_S11008x506_0_1_n_n_1_1_110081 w (starts q)

/-- The residual codes, as the reference reads them. -/
def codes (w : IVec S11008x382 32) : IVec S11008x506 32 :=
  andi (ori (Host.shrui (columns w loWord) (broadcastInDim S11008x506 ![0, 1] bcast_S1x506_S11008x506_0_1 (broadcastInDim S1x506 ![1] bcast_S506_S1x506_1 bitOf)))
      (select (broadcastInDim S11008x506 ![1] bcast_S506_S11008x506_1 (cmpi .ugt (addi bitOf (broadcastInDim S506 ![] bcast_S_S506 (constantI S_ 32 10#32)))
          (broadcastInDim S506 ![] bcast_S_S506 (constantI S_ 32 32#32))))
        (Host.shli (columns w hiWord) (broadcastInDim S11008x506 ![0, 1] bcast_S1x506_S11008x506_0_1 (broadcastInDim S1x506 ![1] bcast_S506_S1x506_1
          (andi (subi (broadcastInDim S506 ![] bcast_S_S506 (constantI S_ 32 32#32)) bitOf) (broadcastInDim S506 ![] bcast_S_S506 (constantI S_ 32 31#32))))))
        (broadcastInDim S11008x506 ![] bcast_S_S11008x506 (constantI S_ 32 0#32))))
    (broadcastInDim S11008x506 ![] bcast_S_S11008x506 (constantI S_ 32 1023#32))

theorem pos_apply (v : Fin 506) : pos (ix1 v) = BitVec.ofNat 32 (74 + 24 * v.val) := by
  pointwise [pos]
  revert v; decide +kernel

theorem loWord_apply (v : Fin 506) : loWord (ix1 v) = BitVec.ofNat 32 ((74 + 24 * v.val) / 32) := by
  pointwise [loWord]
  rw [pos_apply]
  revert v; decide +kernel

theorem bitOf_apply (v : Fin 506) : bitOf (ix1 v) = BitVec.ofNat 32 ((74 + 24 * v.val) % 32) := by
  pointwise [bitOf]
  rw [pos_apply]
  revert v; decide +kernel

theorem hiWord_apply (v : Fin 506) : hiWord (ix1 v) = BitVec.ofNat 32 (min ((74 + 24 * v.val) / 32 + 1) 381) := by
  pointwise [hiWord]
  rw [loWord_apply]
  revert v; decide +kernel

theorem starts_apply (q : IVec S506 32) (v : Fin 506) (n : ℕ) (hn : n < 382) (h : q (ix1 v) = BitVec.ofNat 32 n) :
    starts q (ix2 v 0) = BitVec.ofNat 32 n := by
  pointwise [starts]
  rw [h]
  exact (by decide +kernel : ∀ n : Fin 382, Scalar.select (IntOp.cmpi .slt (BitVec.ofNat 32 n.val) 0#32)
    (IntOp.addi (BitVec.ofNat 32 n.val) 382#32) (BitVec.ofNat 32 n.val) = BitVec.ofNat 32 n.val) ⟨n, hn⟩

theorem columns_at (w : IVec S11008x382 32) (q : IVec S506 32) (o : Fin 11008) (v : Fin 506) (n : ℕ) (hn : n < 382) (h : q (ix1 v) = BitVec.ofNat 32 n) :
    columns w q (ix2 o v) = rd2 w o.val n := by
  unfold columns rd2
  rw [columns_apply _ _ _ _ n hn (starts_apply q v n hn h), ← ix2_eq_valueIdx]
  congr 2 <;> exact Fin.ext (Nat.mod_eq_of_lt (by first | exact hn | exact o.isLt)).symm

theorem shrui_host (x : BitVec 32) (n : ℕ) (hn : n < 32) : IntOp.shrui .host x (BitVec.ofNat 32 n) = x >>> n := by
  unfold IntOp.shrui
  have : (BitVec.ofNat 32 n).toNat = n := by rw [BitVec.toNat_ofNat]; omega
  rw [if_pos (by omega), BitVec.ushiftRight_eq', this]

theorem shli_host (x : BitVec 32) (n : ℕ) (hn : n < 32) : IntOp.shli .host x (BitVec.ofNat 32 n) = x <<< n := by
  unfold IntOp.shli
  have : (BitVec.ofNat 32 n).toNat = n := by rw [BitVec.toNat_ofNat]; omega
  rw [if_pos (by omega), BitVec.shiftLeft_eq', this]

theorem codes_apply (w : IVec S11008x382 32) (o : Fin 11008) (v : Fin 506) : codes w (ix2 o v) = codeAt (rd2 w o.val) v.val := by
  have hv := v.isLt
  pointwise [codes]
  rw [columns_at w loWord o v _ (by omega) (loWord_apply v), columns_at w hiWord o v _ (by omega) (hiWord_apply v), bitOf_apply,
    shrui_host _ _ (by omega)]
  have hs : ∀ s : Fin 32, IntOp.cmpi .ugt (IntOp.addi (BitVec.ofNat 32 s.val) 10#32) 32#32 = BitVec.ofBool (decide (22 < s.val)) := by decide +kernel
  have hu : ∀ s : Fin 32, 22 < s.val → IntOp.andi (IntOp.subi 32#32 (BitVec.ofNat 32 s.val)) 31#32 = BitVec.ofNat 32 (32 - s.val) := by decide +kernel
  have hs' := hs ⟨(74 + 24 * v.val) % 32, by omega⟩
  have hu' := hu ⟨(74 + 24 * v.val) % 32, by omega⟩
  simp only at hs' hu'
  rw [hs', select_ofBool]
  unfold codeAt
  by_cases hb : 22 < (74 + 24 * v.val) % 32
  · have hw : min ((74 + 24 * v.val) / 32 + 1) 381 = (74 + 24 * v.val) / 32 + 1 := by omega
    rw [if_pos hb, if_pos hb, hu' hb, shli_host _ _ (by omega), hw]; rfl
  · rw [if_neg hb, if_neg hb]; rfl

/-! ## The matrix -/

/-- The main vectors, read off their words. -/
def mains (g : IVec S1376x16x8x128 32) : FVec Ideal S11008x512x8 .f32 :=
  extf .f32 (shapeCast S11008x512x8 (bitcastToFloat (F := Ideal) .bf16 (Host.bitcastConvertNarrow S11008x512x4x2 16
    (shapeCast S11008x512x4 (transpose S1376x8x128x4x4 [0, 3, 4, 1, 2] (shapeCast S1376x4x4x8x128 g shapeCasts_S1376x16x8x128_S1376x4x4x8x128)
      transposes_S1376x4x4x8x128_S1376x8x128x4x4_0_3_4_1_2) shapeCasts_S1376x8x128x4x4_S11008x512x4)
    splits_S11008x512x4_w32_S11008x512x4x2_w16)) shapeCasts_S11008x512x4x2_S11008x512x8) bitsLt_bf16_f32

/-- The start indices of the gather of the codebook's rows `q`. -/
def rowStarts (q : IVec S11008x506 32) : IVec S11008x506x1 32 :=
  broadcastInDim S11008x506x1 ![0, 1] bcast_S11008x506_S11008x506x1_0_1 (select (cmpi .slt q (broadcastInDim S11008x506 ![] bcast_S_S11008x506 (constantI S_ 32 0#32)))
    (addi q (broadcastInDim S11008x506 ![] bcast_S_S11008x506 (constantI S_ 32 1024#32))) q)

/-- The residual vectors. -/
def resids (t : IVec S1024x8 16) (w : IVec S11008x382 32) : FVec Ideal S11008x506x8 .f32 :=
  extf .f32 (Host.gather gather_S1024x8_S11008x506x1_S11008x506x8_2_0_n_n_0_2_18 (bitcastToFloat (F := Ideal) .bf16 t) (rowStarts (codes w))) bitsLt_bf16_f32

/-- The columns of the six outlier vectors. -/
def outliers (v : FVec Ideal S11008x512x8 .f32) (s b : FVec Ideal S4096 .f32) : FVec Ideal S11008x48 .f32 :=
  shapeCast S11008x48 (addf (mulf (extractStridedSlice S11008x6x8 ![0, 506, 0] v slices_S11008x512x8_S11008x6x8_0_506_0)
    (broadcastInDim S11008x6x8 ![0, 1, 2] bcast_S1x6x8_S11008x6x8_0_1_2 (broadcastInDim S1x6x8 ![1, 2] bcast_S6x8_S1x6x8_1_2 (shapeCast S6x8 (extractStridedSlice S48 ![0] s slices_S4096_S48_0) shapeCasts_S48_S6x8))))
    (broadcastInDim S11008x6x8 ![0, 1, 2] bcast_S1x6x8_S11008x6x8_0_1_2 (broadcastInDim S1x6x8 ![1, 2] bcast_S6x8_S1x6x8_1_2 (shapeCast S6x8 (extractStridedSlice S48 ![0] b slices_S4096_S48_0) shapeCasts_S48_S6x8)))) shapeCasts_S11008x6x8_S11008x48

/-- The columns of the 506 regular vectors. -/
def regulars (v : FVec Ideal S11008x512x8 .f32) (r : FVec Ideal S11008x506x8 .f32) (s b : FVec Ideal S4096 .f32) : FVec Ideal S11008x4048 .f32 :=
  shapeCast S11008x4048 (addf (mulf (addf (extractStridedSlice S11008x506x8 ![0, 0, 0] v slices_S11008x512x8_S11008x506x8_0_0_0) r)
    (broadcastInDim S11008x506x8 ![0, 1, 2] bcast_S1x506x8_S11008x506x8_0_1_2 (broadcastInDim S1x506x8 ![1, 2] bcast_S506x8_S1x506x8_1_2 (shapeCast S506x8 (extractStridedSlice S4048 ![48] s slices_S4096_S4048_48) shapeCasts_S4048_S506x8))))
    (broadcastInDim S11008x506x8 ![0, 1, 2] bcast_S1x506x8_S11008x506x8_0_1_2 (broadcastInDim S1x506x8 ![1, 2] bcast_S506x8_S1x506x8_1_2 (shapeCast S506x8 (extractStridedSlice S4048 ![48] b slices_S4096_S4048_48) shapeCasts_S4048_S506x8)))) shapeCasts_S11008x506x8_S11008x4048

/-- The matrix. -/
def matrix (w : IVec S11008x382 32) (g : IVec S1376x16x8x128 32) (t : IVec S1024x8 16) (s b : FVec Ideal S4096 .f32) : FVec Ideal S11008x4096 .bf16 :=
  truncf .bf16 (concatenate S11008x4096 1 [⟨S11008x48, outliers (mains g) s b⟩, ⟨S11008x4048, regulars (mains g) (resids t w) s b⟩]
    concatenates_S11008x48_S11008x4048_S11008x4096_d1) bitsLt_bf16_f32

/-- The reference's result. -/
def out (x : FVec Ideal S20x1x4096 .bf16) (w : IVec S11008x382 32) (g : IVec S1376x16x8x128 32) (t : IVec S1024x8 16) (s b : FVec Ideal S4096 .f32) : FVec Ideal S20x11008 .bf16 :=
  shapeCast S20x11008 (truncf .bf16 (Host.dotGeneral dot_S20x1x4096_S11008x4096_S20x1x11008_2_1_01_0_n_n none x (matrix w g t s b)) bitsLt_bf16_f32)
    shapeCasts_S20x1x11008_S20x11008

theorem res_eq (m : (ℓ : Loc nD τ sig) → Buf (Elt Ideal) ℓ) (c : Dev nD) :
    Value.res_main_v94 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v94
  rfl

theorem rd4_ix {α : Type} {a b c d : ℕ} [NeZero a] [NeZero b] [NeZero c] [NeZero d] (x : (⟨4, ![a, b, c, d]⟩ : Shape).Idx → α)
    (i : Fin a) (j : Fin b) (k : Fin c) (l : Fin d) : rd4 x i.val j.val k.val l.val = x (ix4 i j k l) := by
  unfold rd4
  rw [Fin.ofNat_val_eq_self, Fin.ofNat_val_eq_self, Fin.ofNat_val_eq_self, Fin.ofNat_val_eq_self, ix4_eq_valueIdx]

theorem rd4_mod {α : Type} {a b c : ℕ} [NeZero a] [NeZero b] [NeZero c] (x : (⟨4, ![a, b, c, 128]⟩ : Shape).Idx → α)
    (i j k n : ℕ) : rd4 x i j k (n % 128) = rd4 x i j k n := by
  unfold rd4
  rw [show (Fin.ofNat 128 (n % 128)) = Fin.ofNat 128 n from Fin.ext (Nat.mod_mod _ _)]

theorem mains_raw (g : IVec S1376x16x8x128 32) (o : Fin 11008) (v : Fin 512) (e : Fin 8) :
    mains g (ix3 o v e) = num (e.val % 2) (rd4 g (o.val / 8) (v.val % 4 * 4 + e.val / 2) (o.val % 8) (v.val / 4)) := by
  pointwise [mains]
  refine Eq.trans ?_ (congrArg (num (e.val % 2)) (rd4_ix g ⟨o.val / 8, by omega⟩ ⟨v.val % 4 * 4 + e.val / 2, by omega⟩ ⟨o.val % 8, by omega⟩ ⟨v.val / 4, by omega⟩).symm)
  unfold num part
  generalize g _ = z
  exact congrArg (fun s => Ideal.ofBits .bf16 (BitVec.extractLsb' s 16 z)) (Nat.mul_comm (e.val % 2) 16)

theorem mains_apply (g : IVec S1376x16x8x128 32) (o : Fin 11008) (C : Fin 4096) (v : Fin 512) (e : Fin 8) (hv : v.val = vecOf C.val) (he : e.val = elemOf C.val) :
    mains g (ix3 o v e) = num (C.val / 128 % 2) (rd4 g (o.val / 8) (C.val / 256) (o.val % 8) C.val) := by
  have hC := C.isLt
  unfold vecOf at hv
  unfold elemOf at he
  have b1 : C.val / 128 / 8 = C.val / 1024 := by omega
  have b2 : C.val / 128 / 2 = C.val / 256 := by omega
  have e1 : e.val % 2 = C.val / 128 % 2 := by omega
  have e2 : v.val % 4 * 4 + e.val / 2 = C.val / 256 := by omega
  have e3 : v.val / 4 = C.val % 128 := by omega
  rw [mains_raw, e1, e2, e3, rd4_mod]

theorem resids_apply (t : IVec S1024x8 16) (w : IVec S11008x382 32) (o : Fin 11008) (v : Fin 506) (e : Fin 8) :
    resids t w (ix3 o v e) = Ideal.ofBits .bf16 (rd2 t (codeAt (rd2 w o.val) v.val).toNat e.val) := by
  have hn := codeAt_lt (rd2 w o.val) v.val
  have hs : rowStarts (codes w) (ix3 o v 0) = BitVec.ofNat 32 (codeAt (rd2 w o.val) v.val).toNat := by
    pointwise [rowStarts]
    rw [codes_apply]
    generalize codeAt (rd2 w o.val) v.val = q at hn ⊢
    have : q = BitVec.ofNat 32 q.toNat := by simp
    rw [this]
    generalize q.toNat = n at hn ⊢
    have hq : (BitVec.ofNat 32 n).toNat = n := by rw [BitVec.toNat_ofNat]; omega
    rw [hq]
    exact (by decide +kernel : ∀ n : Fin 1024, Scalar.select (IntOp.cmpi .slt (BitVec.ofNat 32 n.val) 0#32)
      (IntOp.addi (BitVec.ofNat 32 n.val) 1024#32) (BitVec.ofNat 32 n.val) = BitVec.ofNat 32 n.val) ⟨n, hn⟩
  refine (rows_apply (bitcastToFloat (F := Ideal) .bf16 t) _ o v e _ hn hs).trans ?_
  show Ideal.ofBits .bf16 (t _) = _
  unfold rd2
  rw [← ix2_eq_valueIdx]
  congr 3 <;> exact Fin.ext (Nat.mod_eq_of_lt (by first | exact hn | exact e.isLt)).symm

theorem matrix_apply (w : IVec S11008x382 32) (g : IVec S1376x16x8x128 32) (t : IVec S1024x8 16) (s b : FVec Ideal S4096 .f32) (o : Fin 11008) (C : Fin 4096) :
    matrix w g t s b (ix2 o (colOf C)) = wt g w t s b o.val C := by
  have hv := vecOf_lt C
  have he : elemOf C.val < 8 := Nat.mod_lt _ (by decide)
  pointwise [matrix, outliers, regulars]
  unfold wt
  by_cases hr : vecOf C.val < 506
  · have hd := colOf_regular C hr
    rw [dif_neg (by omega), if_pos hr, mains_apply g o C _ _ (by show ((colOf C).val - 48) / 8 = _; omega) (by show ((colOf C).val - 48) % 8 = _; omega),
      resids_apply]
    have e1 : ((colOf C).val - 48) / 8 = vecOf C.val := by omega
    have e2 : ((colOf C).val - 48) % 8 = elemOf C.val := by omega
    have e3 : (⟨48 + (((colOf C).val - 48) / 8 * 8 + ((colOf C).val - 48) % 8), by omega⟩ : Fin 4096) = colOf C := Fin.ext (by show 48 + (_ + _) = (colOf C).val; omega)
    simp only [e1, e2] at e3 ⊢
    rw [e3]
  · have hd := colOf_outlier C hr
    rw [dif_pos (by omega), if_neg hr, mains_apply g o C _ _ (by show 506 + (colOf C).val / 8 = _; omega) (by show (colOf C).val % 8 = _; omega), add_zero]
    have e3 : (⟨(colOf C).val / 8 * 8 + (colOf C).val % 8, by omega⟩ : Fin 4096) = colOf C := Fin.ext (by show _ + _ = (colOf C).val; omega)
    rw [e3]

theorem out_eq (x : FVec Ideal S20x1x4096 .bf16) (w : IVec S11008x382 32) (g : IVec S1376x16x8x128 32) (t : IVec S1024x8 16) (s b : FVec Ideal S4096 .f32) :
    out x w g t s b = layer x w g t s b := by
  funext i
  obtain ⟨r, o, rfl⟩ : ∃ (r : Fin 20) (o : Fin 11008), i = ix2 r o := ⟨i 0, i 1, by funext a; fin_cases a <;> rfl⟩
  show _ = ∑ C, x (ix3 r 0 (colOf C)) * wt g w t s b o.val C
  rw [← Finset.sum_congr rfl fun C _ => congrArg (x (ix3 r 0 (colOf C)) * ·) (matrix_apply w g t s b o C)]
  rw [sum_colOf (fun d => x (ix3 r 0 d) * matrix w g t s b (ix2 o d))]
  pointwise [out]

/-! ## The run -/

/-- The run leaves the layer in the result and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((res_eq m c).trans (out_eq _ _ _ _ _ _)), (h c).2⟩) (Value.run m ρ)

/-- The arguments end unchanged; the program has no counter. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (Value.run m ρ)

end Cert.ReferenceProof

end
-- ==== Proof.ExpandBase.lean ====
module
public import proofs.«01_k».proof.Expand
public import proofs.«01_k».proof.Proof.Gen.Expand
public import proofs.«01_k».proof.Proof.Gen.Expand.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

/-!
The names in which the SparseCore call is proved, and the rules for its copies: a copy that is started and a copy that is
waited for, with what the buffers hold left open.
-/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

abbrev UH : Type := URounds (GSem nD τ sig) ℕ
abbrev UU : Type := UH × Counters
local notation "𝕄" => MT nD τ sig (HIx 1) (Elt F) ℕ UU ℕ

abbrev EK : UEmb Counters (MT nD τ sig (HIx 1) (Elt F) ℕ UU ℕ) := countersEmb
abbrev 𝒱₀ : Variants := Variants.none

abbrev cV (L : grid0.Coords) : Fin τ.nSC := (L 0).castLE hcore0
abbrev jV (L : grid0.Coords) : Fin τ.nSub := (L 1).castLE hsub0
/-- The vector subcore at coordinates `L`. -/
abbrev thr (d : Dev nD) (L : grid0.Coords) : Thread nD τ := V d (cV L) (jV L)

/-- The elements of a view, owned, at some contents. -/
abbrev Has (t : Thread nD τ) {sp : Space} {s : Shape} {e : EltTy} (m : Memref sig t.2.kind sp s e) : sProp 𝕄 :=
  iprop(∃ f, m.view.loc t ↦[m.view.set]{fullShare} f)

/-- What the subcore owes, whatever waits it has recorded. -/
abbrev OW (t : Thread nD τ) (O : CellTallies nD τ sig (HIx 1)) : sProp 𝕄 := iprop(∃ W, owes t O W)

section Copies

variable {t : Thread nD τ} {sp sp' : Space} {s : Shape} {e : EltTy}
  {src : Memref sig t.2.kind sp s e} {dst : Memref sig t.2.kind sp' s e} {sem : DmaSem sig}
  {hsrc : src.view.WordExact} {hdst : dst.view.WordExact} {hsem : DmaTarget.Typed (nD := nD) sp (.dma sem) (.here dst)}

/-- A copy in flight out of a buffer that is only read: the part of it outside the copy's source stays. -/
abbrev FlyIn (t : Thread nD τ) {sp' : Space} {s : Shape} {e : EltTy} (dst : Memref sig t.2.kind sp' s e) (sem : DmaSem sig) (N : ℕ)
    (ℓ : Loc nD τ sig) (q : PosShare TreeShare) (f : Buf (Elt F) ℓ) : sProp 𝕄 :=
  iprop(∃ S : Finset (Idx ℓ), Transfers.Flight EK t (.dma sem) (none : HIx 1) N iprop(Has t dst ∗ (ℓ ↦[S]{q} f)) ∗ ℓ ↦[Finset.univ \ S]{q} f)

theorem start_in (q : PosShare TreeShare) (fs : Buf (Elt F) (src.view.loc t)) (hpos : 0 < dst.view.amount (.dma sem))
    (Q : PUnit → sProp 𝕄) :
    iprop((src.view.loc t ↦[Finset.univ]{q} fs) ∗ Has t dst ∗ semVal (t, .dma sem) 0)
      ⊢ iprop((FlyIn t dst sem (dst.view.amount (.dma sem)) (src.view.loc t) q fs -∗ Q ⟨⟩)
          -∗ wp frame (wpE (defs₀ (F := F)) 𝒱₀ t none) Set.univ (Prog.lift (.enqueueDma src (.here dst) (.dma sem) hsrc hdst hsem)) Q) := by
  iintro ⟨Hs, ⟨%fd, Hd⟩, Hv⟩ Hk
  ihave Hs' := (pointsTo_split_subset (Finset.subset_univ src.view.set)).1 $$ Hs
  icases Hs' with ⟨Hs, Hr⟩
  iapply (Transfers.wp_dmaLocal EK 𝒱₀ t none (α := PUnit) (k := .ret) none _ rfl hpos (Finset.Subset.refl _)) $$ [Hs Hd Hv]
  · isplitl [Hs]; · iexact Hs
    isplitl [Hd]; · iexact Hd
    iexact Hv
  iintro Hf
  rw [wp_ret]
  imodintro
  iapply Hk
  iexists src.view.set
  isplitl [Hf]
  · iapply (Transfers.Flight_mono EK ?_) $$ Hf
    iintro ⟨Hd, Hs⟩
    isplitl [Hd]; · iexists _; iexact Hd
    iexact Hs
  iexact Hr

/-- The deliveries of two copies that complete on one semaphore. -/
def pairD (A B : sProp (MT nD τ sig (HIx 1) (Elt F) ℕ UU ℕ)) : Fin 2 → sProp 𝕄 := fun i => if i = 0 then A else B

instance pairD_storable (A B : sProp (MT nD τ sig (HIx 1) (Elt F) ℕ UU ℕ)) [BI.Storable (upEmb : UEmb _ 𝕄) A] [BI.Storable (upEmb : UEmb _ 𝕄) B] (i : Fin 2) :
    BI.Storable (upEmb : UEmb _ 𝕄) (pairD A B i) := by
  unfold pairD; split <;> infer_instance

/-- Two copies in flight on one semaphore, out of a buffer that is only read, of which waits have consumed `u` units. -/
abbrev FlyPair (t : Thread nD τ) {sp : Space} {s : Shape} {e : EltTy} (p₀ p₁ : Memref sig t.2.kind sp s e) (sem : DmaSem sig) (N : ℕ)
    (ℓ : Loc nD τ sig) (q₀ q₁ : PosShare TreeShare) (f : Buf (Elt F) ℓ) (u : ℕ) : sProp 𝕄 :=
  iprop(∃ S₀ S₁ : Finset (Idx ℓ), Transfers.Batch EK t (.dma sem) (none : HIx 1) N
      (pairD iprop(Has t p₀ ∗ (ℓ ↦[S₀]{q₀} f)) iprop(Has t p₁ ∗ (ℓ ↦[S₁]{q₁} f))) 2 u
    ∗ (ℓ ↦[Finset.univ \ S₀]{q₀} f) ∗ ℓ ↦[Finset.univ \ S₁]{q₁} f)

theorem start_pair0 (q : PosShare TreeShare) (fs : Buf (Elt F) (src.view.loc t)) (N : ℕ) (hN : dst.view.amount (.dma sem) = N)
    (B : sProp (MT nD τ sig (HIx 1) (Elt F) ℕ UU ℕ)) [BI.Storable (upEmb : UEmb _ 𝕄) B] (Q : PUnit → sProp 𝕄) :
    iprop((src.view.loc t ↦[Finset.univ]{q} fs) ∗ Has t dst ∗ semVal (t, .dma sem) 0)
      ⊢ iprop((iprop(Transfers.Batch EK t (.dma sem) (none : HIx 1) N (pairD iprop(Has t dst ∗ (src.view.loc t ↦[src.view.set]{q} fs)) B) 1 0
            ∗ src.view.loc t ↦[Finset.univ \ src.view.set]{q} fs) -∗ Q ⟨⟩)
          -∗ wp frame (wpE (defs₀ (F := F)) 𝒱₀ t none) Set.univ (Prog.lift (.enqueueDma src (.here dst) (.dma sem) hsrc hdst hsem)) Q) := by
  iintro ⟨Hs, ⟨%fd, Hd⟩, Hv⟩ Hk
  ihave Hs' := (pointsTo_split_subset (Finset.subset_univ src.view.set)).1 $$ Hs
  icases Hs' with ⟨Hs, Hr⟩
  imod (Transfers.batch_alloc' EK (c := t) (sm := .dma sem) (none : HIx 1) N
    (pairD iprop(Has t dst ∗ (src.view.loc t ↦[src.view.set]{q} fs)) B) (E := Set.univ)) $$ Hv with Hb
  iapply (Transfers.wp_dmaBatch EK 𝒱₀ t none (α := PUnit) (k := .ret) (n := 2) (j := 0) (u := 0) (D := pairD iprop(Has t dst ∗ (src.view.loc t ↦[src.view.set]{q} fs)) B) (none : HIx 1) N hN (Finset.Subset.refl _) (by decide) (Nat.zero_le _) ?_) $$ [Hs Hd Hb]
  rotate_left
  · isplitl [Hs]; · iexact Hs
    isplitl [Hd]; · iexact Hd
    iexact Hb
  · iintro Hf
    rw [wp_ret]
    imodintro
    iapply Hk
    isplitl [Hf]; · iexact Hf
    iexact Hr
  · show _ ⊢ pairD _ _ 0
    unfold pairD
    rw [if_pos rfl]
    iintro ⟨Hd, Hs⟩
    isplitl [Hd]; · iexists _; iexact Hd
    iexact Hs

theorem start_pair1 (q : PosShare TreeShare) (fs : Buf (Elt F) (src.view.loc t)) (N : ℕ) (hN : dst.view.amount (.dma sem) = N)
    (A : sProp (MT nD τ sig (HIx 1) (Elt F) ℕ UU ℕ)) (Q : PUnit → sProp 𝕄) :
    iprop((src.view.loc t ↦[Finset.univ]{q} fs) ∗ Has t dst
        ∗ Transfers.Batch EK t (.dma sem) (none : HIx 1) N (pairD A iprop(Has t dst ∗ (src.view.loc t ↦[src.view.set]{q} fs))) 1 0)
      ⊢ iprop((iprop(Transfers.Batch EK t (.dma sem) (none : HIx 1) N (pairD A iprop(Has t dst ∗ (src.view.loc t ↦[src.view.set]{q} fs))) 2 0
            ∗ src.view.loc t ↦[Finset.univ \ src.view.set]{q} fs) -∗ Q ⟨⟩)
          -∗ wp frame (wpE (defs₀ (F := F)) 𝒱₀ t none) Set.univ (Prog.lift (.enqueueDma src (.here dst) (.dma sem) hsrc hdst hsem)) Q) := by
  iintro ⟨Hs, ⟨%fd, Hd⟩, Hb⟩ Hk
  ihave Hs' := (pointsTo_split_subset (Finset.subset_univ src.view.set)).1 $$ Hs
  icases Hs' with ⟨Hs, Hr⟩
  iapply (Transfers.wp_dmaBatch EK 𝒱₀ t none (α := PUnit) (k := .ret) (n := 2) (j := 1) (u := 0) (D := pairD A iprop(Has t dst ∗ (src.view.loc t ↦[src.view.set]{q} fs))) (none : HIx 1) N hN (Finset.Subset.refl _) (by decide) (Nat.zero_le _) ?_) $$ [Hs Hd Hb]
  rotate_left
  · isplitl [Hs]; · iexact Hs
    isplitl [Hd]; · iexact Hd
    iexact Hb
  · iintro Hf
    rw [wp_ret]
    imodintro
    iapply Hk
    isplitl [Hf]; · iexact Hf
    iexact Hr
  · show _ ⊢ pairD _ _ 1
    unfold pairD
    rw [if_neg (by decide)]
    iintro ⟨Hd, Hs⟩
    isplitl [Hd]; · iexists _; iexact Hd
    iexact Hs

theorem start_out (hpos : 0 < dst.view.amount (.dma sem)) (Q : PUnit → sProp 𝕄) :
    iprop(Has t src ∗ Has t dst ∗ semVal (t, .dma sem) 0)
      ⊢ iprop((Transfers.Flight EK t (.dma sem) (none : HIx 1) (dst.view.amount (.dma sem)) iprop(Has (F := F) t dst ∗ Has t src) -∗ Q ⟨⟩)
          -∗ wp frame (wpE (defs₀ (F := F)) 𝒱₀ t none) Set.univ (Prog.lift (.enqueueDma src (.here dst) (.dma sem) hsrc hdst hsem)) Q) := by
  iintro ⟨⟨%fs, Hs⟩, ⟨%fd, Hd⟩, Hv⟩ Hk
  iapply (Transfers.wp_dmaLocal EK 𝒱₀ t none (α := PUnit) (k := .ret) none _ rfl hpos (Finset.Subset.refl _)) $$ [Hs Hd Hv]
  · isplitl [Hs]; · iexact Hs
    isplitl [Hd]; · iexact Hd
    iexact Hv
  iintro Hf
  rw [wp_ret]
  imodintro
  iapply Hk
  iapply (Transfers.Flight_mono EK ?_) $$ Hf
  iintro ⟨Hd, Hs⟩
  isplitl [Hd]; · iexists _; iexact Hd
  iexists _; iexact Hs

end Copies

section Waits

variable {t : Thread nD τ} {sp sp' : Space} {s s' : Shape} {e e' : EltTy}
  {srcw : Memref sig t.2.kind sp s' e'} {dstw : Memref sig t.2.kind sp' s e} {sem : DmaSem sig}
  {hsrc : srcw.view.WordExact} {hdst : dstw.view.WordExact}

theorem wait_fly {N : ℕ} (hN : dstw.view.dmaCredit = N) {D : sProp 𝕄} {O : CellTallies nD τ sig (HIx 1)} (Q : PUnit → sProp 𝕄) :
    iprop(Transfers.Flight EK t (.dma sem) (none : HIx 1) N D ∗ OW t O ∗ MayWait t (.dma sem) (none : HIx 1) O)
      ⊢ iprop((iprop(D ∗ semVal (t, .dma sem) 0 ∗ OW t O) -∗ Q ⟨⟩)
          -∗ wp frame (wpE (defs₀ (F := F)) 𝒱₀ t none) Set.univ (Prog.lift (.waitDma2 sem srcw dstw hsrc hdst)) Q) := by
  iintro ⟨Hf, ⟨%W, HO⟩, Hm⟩ Hk
  iapply (Transfers.wp_waitLocalO EK 𝒱₀ t none (α := PUnit) (k := .ret) none hN) $$ [Hf HO Hm]
  · isplitl [Hf]; · iexact Hf
    isplitl [HO]; · iexact HO
    iexact Hm
  iintro ⟨HD, Hv, HO⟩
  rw [wp_ret]
  imodintro
  iapply Hk
  isplitl [HD]; · iexact HD
  isplitl [Hv]; · iexact Hv
  iexists _; iexact HO

/-- The wait for a copy out of a buffer that is only read gives the buffer back whole. -/
theorem wait_in {sp₀ : Space} {s₀ : Shape} {e₀ : EltTy} {dst : Memref sig t.2.kind sp₀ s₀ e₀} {ℓ : Loc nD τ sig} {q : PosShare TreeShare} {f : Buf (Elt F) ℓ}
    {N : ℕ} (hN : dstw.view.dmaCredit = N) {O : CellTallies nD τ sig (HIx 1)} (Q : PUnit → sProp 𝕄) :
    iprop(FlyIn t dst sem N ℓ q f ∗ OW t O ∗ MayWait t (.dma sem) (none : HIx 1) O)
      ⊢ iprop((iprop(Has t dst ∗ (ℓ ↦[Finset.univ]{q} f) ∗ semVal (t, .dma sem) 0 ∗ OW t O) -∗ Q ⟨⟩)
          -∗ wp frame (wpE (defs₀ (F := F)) 𝒱₀ t none) Set.univ (Prog.lift (.waitDma2 sem srcw dstw hsrc hdst)) Q) := by
  iintro ⟨⟨%S, Hf, Hr⟩, HO, Hm⟩ Hk
  iapply (wait_fly hN Q) $$ [Hf HO Hm]
  · isplitl [Hf]; · iexact Hf
    isplitl [HO]; · iexact HO
    iexact Hm
  iintro ⟨⟨Hd, Hs⟩, Hv, HO⟩
  iapply Hk
  isplitl [Hd]; · iexact Hd
  isplitl [Hs Hr]
  · iapply (pointsTo_split_subset (Finset.subset_univ S)).2
    isplitl [Hs]; · iexact Hs
    iexact Hr
  isplitl [Hv]; · iexact Hv
  iexact HO

theorem wait_pair0 {sp₀ : Space} {s₀ : Shape} {e₀ : EltTy} {p₀ p₁ : Memref sig t.2.kind sp₀ s₀ e₀} {ℓ : Loc nD τ sig} {q₀ q₁ : PosShare TreeShare} {f : Buf (Elt F) ℓ}
    {N : ℕ} (hN : dstw.view.dmaCredit = N) (h0 : 0 < N) {O : CellTallies nD τ sig (HIx 1)} (Q : PUnit → sProp 𝕄) :
    iprop(FlyPair t p₀ p₁ sem N ℓ q₀ q₁ f 0 ∗ OW t O ∗ MayWait t (.dma sem) (none : HIx 1) O)
      ⊢ iprop((iprop(FlyPair t p₀ p₁ sem N ℓ q₀ q₁ f (0 + N) ∗ OW t O) -∗ Q ⟨⟩)
          -∗ wp frame (wpE (defs₀ (F := F)) 𝒱₀ t none) Set.univ (Prog.lift (.waitDma2 sem srcw dstw hsrc hdst)) Q) := by
  iintro ⟨⟨%S₀, %S₁, Hf, Hr⟩, ⟨%W, HO⟩, Hm⟩ Hk
  iapply (Transfers.wp_waitBatchO EK 𝒱₀ t none (α := PUnit) (k := .ret) (n := 2) (u := 0) (none : HIx 1) hN (show 0 + N < N * 2 by omega)) $$ [Hf HO Hm]
  · isplitl [Hf]; · iexact Hf
    isplitl [HO]; · iexact HO
    iexact Hm
  iintro ⟨Hf, HO⟩
  rw [wp_ret]
  imodintro
  iapply Hk
  isplitl [Hf Hr]
  · iexists S₀, S₁
    isplitl [Hf]; · iexact Hf
    iexact Hr
  iexists _; iexact HO

theorem wait_pair1 {sp₀ : Space} {s₀ : Shape} {e₀ : EltTy} {p₀ p₁ : Memref sig t.2.kind sp₀ s₀ e₀} {ℓ : Loc nD τ sig} {q₀ q₁ : PosShare TreeShare} {f : Buf (Elt F) ℓ}
    {N : ℕ} (hN : dstw.view.dmaCredit = N) (h0 : 0 < N) {O : CellTallies nD τ sig (HIx 1)} (Q : PUnit → sProp 𝕄) :
    iprop(FlyPair t p₀ p₁ sem N ℓ q₀ q₁ f (0 + N) ∗ OW t O ∗ MayWait t (.dma sem) (none : HIx 1) O)
      ⊢ iprop((iprop(Has t p₀ ∗ Has t p₁ ∗ (ℓ ↦[Finset.univ]{q₀} f) ∗ (ℓ ↦[Finset.univ]{q₁} f) ∗ semVal (t, .dma sem) 0 ∗ OW t O) -∗ Q ⟨⟩)
          -∗ wp frame (wpE (defs₀ (F := F)) 𝒱₀ t none) Set.univ (Prog.lift (.waitDma2 sem srcw dstw hsrc hdst)) Q) := by
  iintro ⟨⟨%S₀, %S₁, Hf, Hr0, Hr1⟩, ⟨%W, HO⟩, Hm⟩ Hk
  iapply (Transfers.wp_waitBatchLastO EK 𝒱₀ t none (α := PUnit) (k := .ret) (n := 2) (u := 0 + N) (none : HIx 1) hN h0 (show 0 + N + N = N * 2 by omega)) $$ [Hf HO Hm]
  · isplitl [Hf]; · iexact Hf
    isplitl [HO]; · iexact HO
    iexact Hm
  iintro ⟨HD, Hv, HO⟩
  rw [wp_ret]
  imodintro
  iapply Hk
  ihave HD' := (show _ ⊢ iprop(pairD iprop(Has t p₀ ∗ (ℓ ↦[S₀]{q₀} f)) iprop(Has t p₁ ∗ (ℓ ↦[S₁]{q₁} f)) 0
      ∗ pairD iprop(Has t p₀ ∗ (ℓ ↦[S₀]{q₀} f)) iprop(Has t p₁ ∗ (ℓ ↦[S₁]{q₁} f)) 1) from Entails.of_eq (BI.bigSep_fin_two (pairD iprop(Has t p₀ ∗ (ℓ ↦[S₀]{q₀} f)) iprop(Has t p₁ ∗ (ℓ ↦[S₁]{q₁} f))))) $$ HD
  icases HD' with ⟨HD0, HD1⟩
  ihave HD0 := (show pairD iprop(Has t p₀ ∗ (ℓ ↦[S₀]{q₀} f)) iprop(Has t p₁ ∗ (ℓ ↦[S₁]{q₁} f)) 0 ⊢ iprop(Has t p₀ ∗ (ℓ ↦[S₀]{q₀} f)) from
    Entails.of_eq (if_pos rfl)) $$ HD0
  ihave HD1 := (show pairD iprop(Has t p₀ ∗ (ℓ ↦[S₀]{q₀} f)) iprop(Has t p₁ ∗ (ℓ ↦[S₁]{q₁} f)) 1 ⊢ iprop(Has t p₁ ∗ (ℓ ↦[S₁]{q₁} f)) from
    Entails.of_eq (if_neg (by decide))) $$ HD1
  icases HD0 with ⟨Hd0, Hs0⟩
  icases HD1 with ⟨Hd1, Hs1⟩
  isplitl [Hd0]; · iexact Hd0
  isplitl [Hd1]; · iexact Hd1
  isplitl [Hs0 Hr0]
  · iapply (pointsTo_split_subset (Finset.subset_univ S₀)).2
    isplitl [Hs0]; · iexact Hs0
    iexact Hr0
  isplitl [Hs1 Hr1]
  · iapply (pointsTo_split_subset (Finset.subset_univ S₁)).2
    isplitl [Hs1]; · iexact Hs1
    iexact Hr1
  isplitl [Hv]; · iexact Hv
  iexists _; iexact HO

end Waits

end Cert.ExpandProof
-- ==== Proof.ExpandIndex.lean ====
module
public import proofs.«01_k».proof.Proof.ExpandBase

/-! Why the gathers of the SparseCore body stay inside the table, and the boxes it writes inside their slot. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- A box in the rows of slot `b` of the output buffer lies in the slot. -/
theorem box_rect (off : Fin 4 → ℕ) (b : ℕ) (inb : ∀ a, off a + ![1, 1, 1, 16] a ≤ S2x16x8x128.size a)
    (inb₀ : ∀ a, ![b, 0, 0, 0] a + S1x16x8x128.size a ≤ S2x16x8x128.size a) (h : off 0 = b) :
    (Rect.unit (s := S2x16x8x128) off ![1, 1, 1, 16] inb).set ⊆ (Rect.unit (s := S2x16x8x128) ![b, 0, 0, 0] S1x16x8x128.size inb₀).set := by
  intro i hi
  have hi := Rect.mem_set_unit.mp hi
  refine Rect.mem_set_unit.mpr ?_
  have h0 := hi 0
  have h1 : (i 1).val < 16 := (i 1).isLt
  have h2 : (i 2).val < 8 := (i 2).isLt
  have h3 : (i 3).val < 128 := (i 3).isLt
  rw [h] at h0
  refine (Fin.forall_fin_succ (n := 3)).mpr ⟨h0, (Fin.forall_fin_succ (n := 2)).mpr ⟨⟨Nat.zero_le _, ?_⟩, (Fin.forall_fin_succ (n := 1)).mpr ⟨⟨Nat.zero_le _, ?_⟩, (Fin.forall_fin_succ (n := 0)).mpr ⟨⟨Nat.zero_le _, ?_⟩, fun a => a.elim0⟩⟩⟩⟩
  · show (i 1).val < 0 + 16; omega
  · show (i 2).val < 0 + 8; omega
  · show (i 3).val < 0 + 128; omega

theorem box_subset {κ : Kind} {sp : Space} (m : Memref sig κ sp S2x16x8x128 .i32) (off : Fin 4 → ℕ) (b : ℕ)
    (inb : ∀ a, off a + ![1, 1, 1, 16] a ≤ S2x16x8x128.size a) (inb₀ : ∀ a, ![b, 0, 0, 0] a + S1x16x8x128.size a ≤ S2x16x8x128.size a)
    (h : off 0 = b) :
    (m.access (Rect.unit (s := S2x16x8x128) off ![1, 1, 1, 16] inb)).set
      ⊆ (m.slice (Rect.unit (s := S2x16x8x128) ![b, 0, 0, 0] S1x16x8x128.size inb₀) (fun _ => rfl)).view.set := by
  have e1 := View.set_slice m.view (Rect.unit (s := S2x16x8x128) off ![1, 1, 1, 16] inb)
  have e2 := View.set_slice m.view (Rect.unit (s := S2x16x8x128) ![b, 0, 0, 0] S1x16x8x128.size inb₀)
  exact (e1.trans_subset (Finset.map_subset_map.mpr (box_rect off b inb inb₀ h))).trans e2.symm.subset

theorem and_toNat_le (u : BitVec 32) (n : ℕ) (hn : n < 2 ^ 32) : (u &&& BitVec.ofNat 32 n).toNat ≤ n := by
  rw [BitVec.toNat_and, BitVec.toNat_ofNat, Nat.mod_eq_of_lt hn]; exact Nat.and_le_right

/-- A code of 14 bits and an offset of at most three rows of the table stay in the table. -/
theorem tab_main (u : IVec S16 32) (c : BitVec 32) (hc : c.toNat ≤ 52224) :
    ∀ a x, ((![addi (andi u (broadcast S16 16383#32)) (broadcast S16 c)] : Fin 1 → IVec S16 32) a x).toNat < S69632.size a := by
  intro a x
  have ha : a = 0 := Subsingleton.elim _ _
  subst ha
  show ((u x &&& 16383#32) + c).toNat < 69632
  have h1 := and_toNat_le (u x) 16383 (by decide)
  rw [BitVec.toNat_add]
  omega

/-- The same where a lane may take an outlier code, of 10 bits and past the 16384 main ones. -/
theorem tab_mixed (u w : IVec S16 32) (b : IVec S16 1) (c : BitVec 32) (hc : c.toNat ≤ 52224) :
    ∀ a x, ((![addi (select b (addi (andi w (broadcast S16 1023#32)) (broadcast S16 16384#32)) (andi u (broadcast S16 16383#32))) (broadcast S16 c)]
      : Fin 1 → IVec S16 32) a x).toNat < S69632.size a := by
  intro a x
  have ha : a = 0 := Subsingleton.elim _ _
  subst ha
  show ((if b x = 1 then (w x &&& 1023#32) + 16384#32 else (u x &&& 16383#32)) + c).toNat < 69632
  have h1 := and_toNat_le (u x) 16383 (by decide)
  have h2 := and_toNat_le (w x) 1023 (by decide)
  rw [BitVec.toNat_add]
  split
  · rw [BitVec.toNat_add]; simp only [BitVec.toNat_ofNat]; omega
  · omega

end Cert.ExpandProof
-- ==== Proof.ExpandTrip2.lean ====
module
public import proofs.«01_k».proof.Proof.ExpandIndex

/-! One trip of the loop `k0_t2` of the SparseCore body: every index it gathers at is in range, and it writes the rows of
    slot 0 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off11_eq : ∀ k : Fin k0_t2_loop.trips, k0_off11 k = ![0, 0, k.val % 8, 16 * (k.val / 8)] := by decide +kernel
instance (k : Fin k0_t2_loop.trips) : ClosedOff (k0_off11 k) := ⟨_, off11_eq k⟩
theorem off12_eq : ∀ k : Fin k0_t2_loop.trips, k0_off12 k = ![0, 1, k.val % 8, 16 * (k.val / 8)] := by decide +kernel
instance (k : Fin k0_t2_loop.trips) : ClosedOff (k0_off12 k) := ⟨_, off12_eq k⟩
theorem off13_eq : ∀ k : Fin k0_t2_loop.trips, k0_off13 k = ![0, 2, k.val % 8, 16 * (k.val / 8)] := by decide +kernel
instance (k : Fin k0_t2_loop.trips) : ClosedOff (k0_off13 k) := ⟨_, off13_eq k⟩
theorem off14_eq : ∀ k : Fin k0_t2_loop.trips, k0_off14 k = ![0, 3, k.val % 8, 16 * (k.val / 8)] := by decide +kernel
instance (k : Fin k0_t2_loop.trips) : ClosedOff (k0_off14 k) := ⟨_, off14_eq k⟩
theorem off15_eq : ∀ k : Fin k0_t2_loop.trips, k0_off15 k = ![0, 4, k.val % 8, 16 * (k.val / 8)] := by decide +kernel
instance (k : Fin k0_t2_loop.trips) : ClosedOff (k0_off15 k) := ⟨_, off15_eq k⟩
theorem off16_eq : ∀ k : Fin k0_t2_loop.trips, k0_off16 k = ![0, 5, k.val % 8, 16 * (k.val / 8)] := by decide +kernel
instance (k : Fin k0_t2_loop.trips) : ClosedOff (k0_off16 k) := ⟨_, off16_eq k⟩
theorem off17_eq : ∀ k : Fin k0_t2_loop.trips, k0_off17 k = ![0, 6, k.val % 8, 16 * (k.val / 8)] := by decide +kernel
instance (k : Fin k0_t2_loop.trips) : ClosedOff (k0_off17 k) := ⟨_, off17_eq k⟩
theorem off18_eq : ∀ k : Fin k0_t2_loop.trips, k0_off18 k = ![0, 7, k.val % 8, 16 * (k.val / 8)] := by decide +kernel
instance (k : Fin k0_t2_loop.trips) : ClosedOff (k0_off18 k) := ⟨_, off18_eq k⟩
theorem off19_eq : ∀ k : Fin k0_t2_loop.trips, k0_off19 k = ![0, 8, k.val % 8, 16 * (k.val / 8)] := by decide +kernel
instance (k : Fin k0_t2_loop.trips) : ClosedOff (k0_off19 k) := ⟨_, off19_eq k⟩
theorem off20_eq : ∀ k : Fin k0_t2_loop.trips, k0_off20 k = ![0, 9, k.val % 8, 16 * (k.val / 8)] := by decide +kernel
instance (k : Fin k0_t2_loop.trips) : ClosedOff (k0_off20 k) := ⟨_, off20_eq k⟩
theorem off21_eq : ∀ k : Fin k0_t2_loop.trips, k0_off21 k = ![0, 10, k.val % 8, 16 * (k.val / 8)] := by decide +kernel
instance (k : Fin k0_t2_loop.trips) : ClosedOff (k0_off21 k) := ⟨_, off21_eq k⟩
theorem off22_eq : ∀ k : Fin k0_t2_loop.trips, k0_off22 k = ![0, 11, k.val % 8, 16 * (k.val / 8)] := by decide +kernel
instance (k : Fin k0_t2_loop.trips) : ClosedOff (k0_off22 k) := ⟨_, off22_eq k⟩
theorem off23_eq : ∀ k : Fin k0_t2_loop.trips, k0_off23 k = ![0, 12, k.val % 8, 16 * (k.val / 8)] := by decide +kernel
instance (k : Fin k0_t2_loop.trips) : ClosedOff (k0_off23 k) := ⟨_, off23_eq k⟩
theorem off24_eq : ∀ k : Fin k0_t2_loop.trips, k0_off24 k = ![0, 13, k.val % 8, 16 * (k.val / 8)] := by decide +kernel
instance (k : Fin k0_t2_loop.trips) : ClosedOff (k0_off24 k) := ⟨_, off24_eq k⟩
theorem off25_eq : ∀ k : Fin k0_t2_loop.trips, k0_off25 k = ![0, 14, k.val % 8, 16 * (k.val / 8)] := by decide +kernel
instance (k : Fin k0_t2_loop.trips) : ClosedOff (k0_off25 k) := ⟨_, off25_eq k⟩
theorem off26_eq : ∀ k : Fin k0_t2_loop.trips, k0_off26 k = ![0, 15, k.val % 8, 16 * (k.val / 8)] := by decide +kernel
instance (k : Fin k0_t2_loop.trips) : ClosedOff (k0_off26 k) := ⟨_, off26_eq k⟩

set_option sl_exec.dischHeartbeats 400000 in
theorem trip2 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k1 : Fin k0_t1_loop.trips) (v : BitVec 32) (k : Fin k0_t2_loop.trips)
    (w6 : Memref sig .scVector .vmem S3x8x128 .i32) (hw6 : ((arg6.slice (Rect.unit (s := S2x3x8x128) ![0, 0, 0, 0] S1x3x8x128.size inb_S2x3x8x128_S1x3x8x128_0_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![0, 0, 0, 0] S1x16x8x128.size inb_S2x16x8x128_S1x16x8x128_0_0_0_0) (fun _ => rfl)).view.loc (thr d L) ↦[(arg7.slice (Rect.unit (s := S2x16x8x128) ![0, 0, 0, 0] S1x16x8x128.size inb_S2x16x8x128_S1x16x8x128_0_0_0_0) (fun _ => rfl)).view.set]{fullShare} f7))
    ⊢ wp frame (wpE (defs₀ (F := F)) 𝒱₀ (thr d L) none) Set.univ
      (k0_t2_body L arg2 harg2 arg3 harg3 arg4 harg4 arg5 harg5 arg6 harg6 arg7 harg7 arg8 arg9 arg10 arg11 v1 (iota .scVector S16 32 [0] iota_S16_d0_w32_scVector) k1 v k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![0, 0, 0, 0] S1x16x8x128.size inb_S2x16x8x128_S1x16x8x128_0_0_0_0) (fun _ => rfl))) := by
  conv =>
    rhs
    unfold k0_t2_body
    simp only [k0_part2_eq_skeleton, k0_part3_eq_skeleton, k0_part4_eq_skeleton, k0_part5_eq_skeleton, k0_part6_eq_skeleton, k0_part7_eq_skeleton, k0_part2_skel, k0_part3_skel, k0_part4_skel, k0_part5_skel, k0_part6_skel, k0_part7_skel, SparseCore.vectorLoadIdx, hw6]
  iintro ⟨H5, H6, H7⟩
  have hS0 : (arg7.access (Rect.unit (s := S2x16x8x128) (k0_off11 k) ![1, 1, 1, 16] (k0_off11_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off11_eq k]; rfl)
  have hT0 : (arg7.access (Rect.unit (s := S2x16x8x128) (k0_off11 k) ![1, 1, 1, 16] (k0_off11_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS0
  have hS1 : (arg7.access (Rect.unit (s := S2x16x8x128) (k0_off12 k) ![1, 1, 1, 16] (k0_off12_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off12_eq k]; rfl)
  have hT1 : (arg7.access (Rect.unit (s := S2x16x8x128) (k0_off12 k) ![1, 1, 1, 16] (k0_off12_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS1
  have hS2 : (arg7.access (Rect.unit (s := S2x16x8x128) (k0_off13 k) ![1, 1, 1, 16] (k0_off13_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off13_eq k]; rfl)
  have hT2 : (arg7.access (Rect.unit (s := S2x16x8x128) (k0_off13 k) ![1, 1, 1, 16] (k0_off13_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS2
  have hS3 : (arg7.access (Rect.unit (s := S2x16x8x128) (k0_off14 k) ![1, 1, 1, 16] (k0_off14_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off14_eq k]; rfl)
  have hT3 : (arg7.access (Rect.unit (s := S2x16x8x128) (k0_off14 k) ![1, 1, 1, 16] (k0_off14_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS3
  have hS4 : (arg7.access (Rect.unit (s := S2x16x8x128) (k0_off15 k) ![1, 1, 1, 16] (k0_off15_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off15_eq k]; rfl)
  have hT4 : (arg7.access (Rect.unit (s := S2x16x8x128) (k0_off15 k) ![1, 1, 1, 16] (k0_off15_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS4
  have hS5 : (arg7.access (Rect.unit (s := S2x16x8x128) (k0_off16 k) ![1, 1, 1, 16] (k0_off16_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off16_eq k]; rfl)
  have hT5 : (arg7.access (Rect.unit (s := S2x16x8x128) (k0_off16 k) ![1, 1, 1, 16] (k0_off16_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS5
  have hS6 : (arg7.access (Rect.unit (s := S2x16x8x128) (k0_off17 k) ![1, 1, 1, 16] (k0_off17_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off17_eq k]; rfl)
  have hT6 : (arg7.access (Rect.unit (s := S2x16x8x128) (k0_off17 k) ![1, 1, 1, 16] (k0_off17_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS6
  have hS7 : (arg7.access (Rect.unit (s := S2x16x8x128) (k0_off18 k) ![1, 1, 1, 16] (k0_off18_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off18_eq k]; rfl)
  have hT7 : (arg7.access (Rect.unit (s := S2x16x8x128) (k0_off18 k) ![1, 1, 1, 16] (k0_off18_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS7
  have hS8 : (arg7.access (Rect.unit (s := S2x16x8x128) (k0_off19 k) ![1, 1, 1, 16] (k0_off19_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off19_eq k]; rfl)
  have hT8 : (arg7.access (Rect.unit (s := S2x16x8x128) (k0_off19 k) ![1, 1, 1, 16] (k0_off19_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS8
  have hS9 : (arg7.access (Rect.unit (s := S2x16x8x128) (k0_off20 k) ![1, 1, 1, 16] (k0_off20_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off20_eq k]; rfl)
  have hT9 : (arg7.access (Rect.unit (s := S2x16x8x128) (k0_off20 k) ![1, 1, 1, 16] (k0_off20_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS9
  have hS10 : (arg7.access (Rect.unit (s := S2x16x8x128) (k0_off21 k) ![1, 1, 1, 16] (k0_off21_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off21_eq k]; rfl)
  have hT10 : (arg7.access (Rect.unit (s := S2x16x8x128) (k0_off21 k) ![1, 1, 1, 16] (k0_off21_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS10
  have hS11 : (arg7.access (Rect.unit (s := S2x16x8x128) (k0_off22 k) ![1, 1, 1, 16] (k0_off22_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off22_eq k]; rfl)
  have hT11 : (arg7.access (Rect.unit (s := S2x16x8x128) (k0_off22 k) ![1, 1, 1, 16] (k0_off22_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS11
  have hS12 : (arg7.access (Rect.unit (s := S2x16x8x128) (k0_off23 k) ![1, 1, 1, 16] (k0_off23_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off23_eq k]; rfl)
  have hT12 : (arg7.access (Rect.unit (s := S2x16x8x128) (k0_off23 k) ![1, 1, 1, 16] (k0_off23_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS12
  have hS13 : (arg7.access (Rect.unit (s := S2x16x8x128) (k0_off24 k) ![1, 1, 1, 16] (k0_off24_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off24_eq k]; rfl)
  have hT13 : (arg7.access (Rect.unit (s := S2x16x8x128) (k0_off24 k) ![1, 1, 1, 16] (k0_off24_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS13
  have hS14 : (arg7.access (Rect.unit (s := S2x16x8x128) (k0_off25 k) ![1, 1, 1, 16] (k0_off25_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off25_eq k]; rfl)
  have hT14 : (arg7.access (Rect.unit (s := S2x16x8x128) (k0_off25 k) ![1, 1, 1, 16] (k0_off25_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS14
  have hS15 : (arg7.access (Rect.unit (s := S2x16x8x128) (k0_off26 k) ![1, 1, 1, 16] (k0_off26_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off26_eq k]; rfl)
  have hT15 : (arg7.access (Rect.unit (s := S2x16x8x128) (k0_off26 k) ![1, 1, 1, 16] (k0_off26_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS15
  sl_exec (disch := ((try dsimp only); first | (clear * -; revert k; decide +kernel) | (refine tab_main _ _ ?_; decide)))
  sl_step
  isplitl [H5]; · iexact H5
  isplitl [H6]; · iexact H6
  iexists _; iexact H7

end Cert.ExpandProof
-- ==== Proof.ExpandTrip3.lean ====
module
public import proofs.«01_k».proof.Proof.ExpandIndex

/-! One trip of the loop `k0_t3` of the SparseCore body: every index it gathers at is in range, and it writes the rows of
    slot 0 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off27_eq : ∀ k : Fin k0_t3_loop.trips, k0_off27 k = ![0, 0, k.val, 112] := by decide +kernel
instance (k : Fin k0_t3_loop.trips) : ClosedOff (k0_off27 k) := ⟨_, off27_eq k⟩
theorem off28_eq : ∀ k : Fin k0_t3_loop.trips, k0_off28 k = ![0, 1, k.val, 112] := by decide +kernel
instance (k : Fin k0_t3_loop.trips) : ClosedOff (k0_off28 k) := ⟨_, off28_eq k⟩
theorem off29_eq : ∀ k : Fin k0_t3_loop.trips, k0_off29 k = ![0, 2, k.val, 112] := by decide +kernel
instance (k : Fin k0_t3_loop.trips) : ClosedOff (k0_off29 k) := ⟨_, off29_eq k⟩
theorem off30_eq : ∀ k : Fin k0_t3_loop.trips, k0_off30 k = ![0, 3, k.val, 112] := by decide +kernel
instance (k : Fin k0_t3_loop.trips) : ClosedOff (k0_off30 k) := ⟨_, off30_eq k⟩
theorem off31_eq : ∀ k : Fin k0_t3_loop.trips, k0_off31 k = ![0, 4, k.val, 112] := by decide +kernel
instance (k : Fin k0_t3_loop.trips) : ClosedOff (k0_off31 k) := ⟨_, off31_eq k⟩
theorem off32_eq : ∀ k : Fin k0_t3_loop.trips, k0_off32 k = ![0, 5, k.val, 112] := by decide +kernel
instance (k : Fin k0_t3_loop.trips) : ClosedOff (k0_off32 k) := ⟨_, off32_eq k⟩
theorem off33_eq : ∀ k : Fin k0_t3_loop.trips, k0_off33 k = ![0, 6, k.val, 112] := by decide +kernel
instance (k : Fin k0_t3_loop.trips) : ClosedOff (k0_off33 k) := ⟨_, off33_eq k⟩
theorem off34_eq : ∀ k : Fin k0_t3_loop.trips, k0_off34 k = ![0, 7, k.val, 112] := by decide +kernel
instance (k : Fin k0_t3_loop.trips) : ClosedOff (k0_off34 k) := ⟨_, off34_eq k⟩
theorem off35_eq : ∀ k : Fin k0_t3_loop.trips, k0_off35 k = ![0, 8, k.val, 112] := by decide +kernel
instance (k : Fin k0_t3_loop.trips) : ClosedOff (k0_off35 k) := ⟨_, off35_eq k⟩
theorem off36_eq : ∀ k : Fin k0_t3_loop.trips, k0_off36 k = ![0, 9, k.val, 112] := by decide +kernel
instance (k : Fin k0_t3_loop.trips) : ClosedOff (k0_off36 k) := ⟨_, off36_eq k⟩
theorem off37_eq : ∀ k : Fin k0_t3_loop.trips, k0_off37 k = ![0, 10, k.val, 112] := by decide +kernel
instance (k : Fin k0_t3_loop.trips) : ClosedOff (k0_off37 k) := ⟨_, off37_eq k⟩
theorem off38_eq : ∀ k : Fin k0_t3_loop.trips, k0_off38 k = ![0, 11, k.val, 112] := by decide +kernel
instance (k : Fin k0_t3_loop.trips) : ClosedOff (k0_off38 k) := ⟨_, off38_eq k⟩
theorem off39_eq : ∀ k : Fin k0_t3_loop.trips, k0_off39 k = ![0, 12, k.val, 112] := by decide +kernel
instance (k : Fin k0_t3_loop.trips) : ClosedOff (k0_off39 k) := ⟨_, off39_eq k⟩
theorem off40_eq : ∀ k : Fin k0_t3_loop.trips, k0_off40 k = ![0, 13, k.val, 112] := by decide +kernel
instance (k : Fin k0_t3_loop.trips) : ClosedOff (k0_off40 k) := ⟨_, off40_eq k⟩
theorem off41_eq : ∀ k : Fin k0_t3_loop.trips, k0_off41 k = ![0, 14, k.val, 112] := by decide +kernel
instance (k : Fin k0_t3_loop.trips) : ClosedOff (k0_off41 k) := ⟨_, off41_eq k⟩
theorem off42_eq : ∀ k : Fin k0_t3_loop.trips, k0_off42 k = ![0, 15, k.val, 112] := by decide +kernel
instance (k : Fin k0_t3_loop.trips) : ClosedOff (k0_off42 k) := ⟨_, off42_eq k⟩

set_option sl_exec.dischHeartbeats 400000 in
theorem trip3 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k1 : Fin k0_t1_loop.trips) (v : BitVec 32) (k : Fin k0_t3_loop.trips)
    (w6 : Memref sig .scVector .vmem S3x8x128 .i32) (hw6 : ((arg6.slice (Rect.unit (s := S2x3x8x128) ![0, 0, 0, 0] S1x3x8x128.size inb_S2x3x8x128_S1x3x8x128_0_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![0, 0, 0, 0] S1x16x8x128.size inb_S2x16x8x128_S1x16x8x128_0_0_0_0) (fun _ => rfl)).view.loc (thr d L) ↦[(arg7.slice (Rect.unit (s := S2x16x8x128) ![0, 0, 0, 0] S1x16x8x128.size inb_S2x16x8x128_S1x16x8x128_0_0_0_0) (fun _ => rfl)).view.set]{fullShare} f7))
    ⊢ wp frame (wpE (defs₀ (F := F)) 𝒱₀ (thr d L) none) Set.univ
      (k0_t3_body L arg2 harg2 arg3 harg3 arg4 harg4 arg5 harg5 arg6 harg6 arg7 harg7 arg8 arg9 arg10 arg11 v1 (iota .scVector S16 32 [0] iota_S16_d0_w32_scVector) k1 v k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![0, 0, 0, 0] S1x16x8x128.size inb_S2x16x8x128_S1x16x8x128_0_0_0_0) (fun _ => rfl))) := by
  conv =>
    rhs
    unfold k0_t3_body
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part8_skel, k0_part9_skel, k0_part10_skel, k0_part11_skel, k0_part12_skel, k0_part13_skel, k0_part14_skel, k0_part15_skel, k0_part16_skel, k0_part17_skel, SparseCore.vectorLoadIdx, hw6]
  iintro ⟨H5, H6, H7⟩
  have hS0 : (arg7.access (Rect.unit (s := S2x16x8x128) (k0_off27 k) ![1, 1, 1, 16] (k0_off27_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off27_eq k]; rfl)
  have hT0 : (arg7.access (Rect.unit (s := S2x16x8x128) (k0_off27 k) ![1, 1, 1, 16] (k0_off27_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS0
  have hS1 : (arg7.access (Rect.unit (s := S2x16x8x128) (k0_off28 k) ![1, 1, 1, 16] (k0_off28_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off28_eq k]; rfl)
  have hT1 : (arg7.access (Rect.unit (s := S2x16x8x128) (k0_off28 k) ![1, 1, 1, 16] (k0_off28_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS1
  have hS2 : (arg7.access (Rect.unit (s := S2x16x8x128) (k0_off29 k) ![1, 1, 1, 16] (k0_off29_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off29_eq k]; rfl)
  have hT2 : (arg7.access (Rect.unit (s := S2x16x8x128) (k0_off29 k) ![1, 1, 1, 16] (k0_off29_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS2
  have hS3 : (arg7.access (Rect.unit (s := S2x16x8x128) (k0_off30 k) ![1, 1, 1, 16] (k0_off30_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off30_eq k]; rfl)
  have hT3 : (arg7.access (Rect.unit (s := S2x16x8x128) (k0_off30 k) ![1, 1, 1, 16] (k0_off30_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS3
  have hS4 : (arg7.access (Rect.unit (s := S2x16x8x128) (k0_off31 k) ![1, 1, 1, 16] (k0_off31_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off31_eq k]; rfl)
  have hT4 : (arg7.access (Rect.unit (s := S2x16x8x128) (k0_off31 k) ![1, 1, 1, 16] (k0_off31_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS4
  have hS5 : (arg7.access (Rect.unit (s := S2x16x8x128) (k0_off32 k) ![1, 1, 1, 16] (k0_off32_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off32_eq k]; rfl)
  have hT5 : (arg7.access (Rect.unit (s := S2x16x8x128) (k0_off32 k) ![1, 1, 1, 16] (k0_off32_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS5
  have hS6 : (arg7.access (Rect.unit (s := S2x16x8x128) (k0_off33 k) ![1, 1, 1, 16] (k0_off33_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off33_eq k]; rfl)
  have hT6 : (arg7.access (Rect.unit (s := S2x16x8x128) (k0_off33 k) ![1, 1, 1, 16] (k0_off33_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS6
  have hS7 : (arg7.access (Rect.unit (s := S2x16x8x128) (k0_off34 k) ![1, 1, 1, 16] (k0_off34_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off34_eq k]; rfl)
  have hT7 : (arg7.access (Rect.unit (s := S2x16x8x128) (k0_off34 k) ![1, 1, 1, 16] (k0_off34_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS7
  have hS8 : (arg7.access (Rect.unit (s := S2x16x8x128) (k0_off35 k) ![1, 1, 1, 16] (k0_off35_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off35_eq k]; rfl)
  have hT8 : (arg7.access (Rect.unit (s := S2x16x8x128) (k0_off35 k) ![1, 1, 1, 16] (k0_off35_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS8
  have hS9 : (arg7.access (Rect.unit (s := S2x16x8x128) (k0_off36 k) ![1, 1, 1, 16] (k0_off36_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off36_eq k]; rfl)
  have hT9 : (arg7.access (Rect.unit (s := S2x16x8x128) (k0_off36 k) ![1, 1, 1, 16] (k0_off36_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS9
  have hS10 : (arg7.access (Rect.unit (s := S2x16x8x128) (k0_off37 k) ![1, 1, 1, 16] (k0_off37_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off37_eq k]; rfl)
  have hT10 : (arg7.access (Rect.unit (s := S2x16x8x128) (k0_off37 k) ![1, 1, 1, 16] (k0_off37_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS10
  have hS11 : (arg7.access (Rect.unit (s := S2x16x8x128) (k0_off38 k) ![1, 1, 1, 16] (k0_off38_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off38_eq k]; rfl)
  have hT11 : (arg7.access (Rect.unit (s := S2x16x8x128) (k0_off38 k) ![1, 1, 1, 16] (k0_off38_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS11
  have hS12 : (arg7.access (Rect.unit (s := S2x16x8x128) (k0_off39 k) ![1, 1, 1, 16] (k0_off39_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off39_eq k]; rfl)
  have hT12 : (arg7.access (Rect.unit (s := S2x16x8x128) (k0_off39 k) ![1, 1, 1, 16] (k0_off39_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS12
  have hS13 : (arg7.access (Rect.unit (s := S2x16x8x128) (k0_off40 k) ![1, 1, 1, 16] (k0_off40_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off40_eq k]; rfl)
  have hT13 : (arg7.access (Rect.unit (s := S2x16x8x128) (k0_off40 k) ![1, 1, 1, 16] (k0_off40_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS13
  have hS14 : (arg7.access (Rect.unit (s := S2x16x8x128) (k0_off41 k) ![1, 1, 1, 16] (k0_off41_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off41_eq k]; rfl)
  have hT14 : (arg7.access (Rect.unit (s := S2x16x8x128) (k0_off41 k) ![1, 1, 1, 16] (k0_off41_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS14
  have hS15 : (arg7.access (Rect.unit (s := S2x16x8x128) (k0_off42 k) ![1, 1, 1, 16] (k0_off42_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off42_eq k]; rfl)
  have hT15 : (arg7.access (Rect.unit (s := S2x16x8x128) (k0_off42 k) ![1, 1, 1, 16] (k0_off42_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS15
  sl_exec (disch := ((try dsimp only); first | (clear * -; revert k; decide +kernel) | (refine tab_mixed _ _ _ _ ?_; decide)))
  sl_step
  isplitl [H5]; · iexact H5
  isplitl [H6]; · iexact H6
  iexists _; iexact H7

end Cert.ExpandProof
-- ==== Proof.ExpandTrip4.lean ====
module
public import proofs.«01_k».proof.Proof.ExpandIndex

/-! One trip of the loop `k0_t4` of the SparseCore body: every index it gathers at is in range, and it writes the rows of
    slot 1 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off51_eq : ∀ k : Fin k0_t4_loop.trips, k0_off51 k = ![1, 0, k.val % 8, 16 * (k.val / 8)] := by decide +kernel
instance (k : Fin k0_t4_loop.trips) : ClosedOff (k0_off51 k) := ⟨_, off51_eq k⟩
theorem off52_eq : ∀ k : Fin k0_t4_loop.trips, k0_off52 k = ![1, 1, k.val % 8, 16 * (k.val / 8)] := by decide +kernel
instance (k : Fin k0_t4_loop.trips) : ClosedOff (k0_off52 k) := ⟨_, off52_eq k⟩
theorem off53_eq : ∀ k : Fin k0_t4_loop.trips, k0_off53 k = ![1, 2, k.val % 8, 16 * (k.val / 8)] := by decide +kernel
instance (k : Fin k0_t4_loop.trips) : ClosedOff (k0_off53 k) := ⟨_, off53_eq k⟩
theorem off54_eq : ∀ k : Fin k0_t4_loop.trips, k0_off54 k = ![1, 3, k.val % 8, 16 * (k.val / 8)] := by decide +kernel
instance (k : Fin k0_t4_loop.trips) : ClosedOff (k0_off54 k) := ⟨_, off54_eq k⟩
theorem off55_eq : ∀ k : Fin k0_t4_loop.trips, k0_off55 k = ![1, 4, k.val % 8, 16 * (k.val / 8)] := by decide +kernel
instance (k : Fin k0_t4_loop.trips) : ClosedOff (k0_off55 k) := ⟨_, off55_eq k⟩
theorem off56_eq : ∀ k : Fin k0_t4_loop.trips, k0_off56 k = ![1, 5, k.val % 8, 16 * (k.val / 8)] := by decide +kernel
instance (k : Fin k0_t4_loop.trips) : ClosedOff (k0_off56 k) := ⟨_, off56_eq k⟩
theorem off57_eq : ∀ k : Fin k0_t4_loop.trips, k0_off57 k = ![1, 6, k.val % 8, 16 * (k.val / 8)] := by decide +kernel
instance (k : Fin k0_t4_loop.trips) : ClosedOff (k0_off57 k) := ⟨_, off57_eq k⟩
theorem off58_eq : ∀ k : Fin k0_t4_loop.trips, k0_off58 k = ![1, 7, k.val % 8, 16 * (k.val / 8)] := by decide +kernel
instance (k : Fin k0_t4_loop.trips) : ClosedOff (k0_off58 k) := ⟨_, off58_eq k⟩
theorem off59_eq : ∀ k : Fin k0_t4_loop.trips, k0_off59 k = ![1, 8, k.val % 8, 16 * (k.val / 8)] := by decide +kernel
instance (k : Fin k0_t4_loop.trips) : ClosedOff (k0_off59 k) := ⟨_, off59_eq k⟩
theorem off60_eq : ∀ k : Fin k0_t4_loop.trips, k0_off60 k = ![1, 9, k.val % 8, 16 * (k.val / 8)] := by decide +kernel
instance (k : Fin k0_t4_loop.trips) : ClosedOff (k0_off60 k) := ⟨_, off60_eq k⟩
theorem off61_eq : ∀ k : Fin k0_t4_loop.trips, k0_off61 k = ![1, 10, k.val % 8, 16 * (k.val / 8)] := by decide +kernel
instance (k : Fin k0_t4_loop.trips) : ClosedOff (k0_off61 k) := ⟨_, off61_eq k⟩
theorem off62_eq : ∀ k : Fin k0_t4_loop.trips, k0_off62 k = ![1, 11, k.val % 8, 16 * (k.val / 8)] := by decide +kernel
instance (k : Fin k0_t4_loop.trips) : ClosedOff (k0_off62 k) := ⟨_, off62_eq k⟩
theorem off63_eq : ∀ k : Fin k0_t4_loop.trips, k0_off63 k = ![1, 12, k.val % 8, 16 * (k.val / 8)] := by decide +kernel
instance (k : Fin k0_t4_loop.trips) : ClosedOff (k0_off63 k) := ⟨_, off63_eq k⟩
theorem off64_eq : ∀ k : Fin k0_t4_loop.trips, k0_off64 k = ![1, 13, k.val % 8, 16 * (k.val / 8)] := by decide +kernel
instance (k : Fin k0_t4_loop.trips) : ClosedOff (k0_off64 k) := ⟨_, off64_eq k⟩
theorem off65_eq : ∀ k : Fin k0_t4_loop.trips, k0_off65 k = ![1, 14, k.val % 8, 16 * (k.val / 8)] := by decide +kernel
instance (k : Fin k0_t4_loop.trips) : ClosedOff (k0_off65 k) := ⟨_, off65_eq k⟩
theorem off66_eq : ∀ k : Fin k0_t4_loop.trips, k0_off66 k = ![1, 15, k.val % 8, 16 * (k.val / 8)] := by decide +kernel
instance (k : Fin k0_t4_loop.trips) : ClosedOff (k0_off66 k) := ⟨_, off66_eq k⟩

set_option sl_exec.dischHeartbeats 400000 in
theorem trip4 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k1 : Fin k0_t1_loop.trips) (v : BitVec 32) (k : Fin k0_t4_loop.trips)
    (w6 : Memref sig .scVector .vmem S3x8x128 .i32) (hw6 : ((arg6.slice (Rect.unit (s := S2x3x8x128) ![1, 0, 0, 0] S1x3x8x128.size inb_S2x3x8x128_S1x3x8x128_1_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![1, 0, 0, 0] S1x16x8x128.size inb_S2x16x8x128_S1x16x8x128_1_0_0_0) (fun _ => rfl)).view.loc (thr d L) ↦[(arg7.slice (Rect.unit (s := S2x16x8x128) ![1, 0, 0, 0] S1x16x8x128.size inb_S2x16x8x128_S1x16x8x128_1_0_0_0) (fun _ => rfl)).view.set]{fullShare} f7))
    ⊢ wp frame (wpE (defs₀ (F := F)) 𝒱₀ (thr d L) none) Set.univ
      (k0_t4_body L arg2 harg2 arg3 harg3 arg4 harg4 arg5 harg5 arg6 harg6 arg7 harg7 arg8 arg9 arg10 arg11 v1 (iota .scVector S16 32 [0] iota_S16_d0_w32_scVector) k1 v k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![1, 0, 0, 0] S1x16x8x128.size inb_S2x16x8x128_S1x16x8x128_1_0_0_0) (fun _ => rfl))) := by
  conv =>
    rhs
    unfold k0_t4_body
    simp only [k0_part19_eq_skeleton, k0_part20_eq_skeleton, k0_part21_eq_skeleton, k0_part22_eq_skeleton, k0_part23_eq_skeleton, k0_part24_eq_skeleton, k0_part19_skel, k0_part20_skel, k0_part21_skel, k0_part22_skel, k0_part23_skel, k0_part24_skel, SparseCore.vectorLoadIdx, hw6]
  iintro ⟨H5, H6, H7⟩
  have hS0 : (arg7.access (Rect.unit (s := S2x16x8x128) (k0_off51 k) ![1, 1, 1, 16] (k0_off51_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off51_eq k]; rfl)
  have hT0 : (arg7.access (Rect.unit (s := S2x16x8x128) (k0_off51 k) ![1, 1, 1, 16] (k0_off51_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS0
  have hS1 : (arg7.access (Rect.unit (s := S2x16x8x128) (k0_off52 k) ![1, 1, 1, 16] (k0_off52_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off52_eq k]; rfl)
  have hT1 : (arg7.access (Rect.unit (s := S2x16x8x128) (k0_off52 k) ![1, 1, 1, 16] (k0_off52_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS1
  have hS2 : (arg7.access (Rect.unit (s := S2x16x8x128) (k0_off53 k) ![1, 1, 1, 16] (k0_off53_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off53_eq k]; rfl)
  have hT2 : (arg7.access (Rect.unit (s := S2x16x8x128) (k0_off53 k) ![1, 1, 1, 16] (k0_off53_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS2
  have hS3 : (arg7.access (Rect.unit (s := S2x16x8x128) (k0_off54 k) ![1, 1, 1, 16] (k0_off54_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off54_eq k]; rfl)
  have hT3 : (arg7.access (Rect.unit (s := S2x16x8x128) (k0_off54 k) ![1, 1, 1, 16] (k0_off54_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS3
  have hS4 : (arg7.access (Rect.unit (s := S2x16x8x128) (k0_off55 k) ![1, 1, 1, 16] (k0_off55_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off55_eq k]; rfl)
  have hT4 : (arg7.access (Rect.unit (s := S2x16x8x128) (k0_off55 k) ![1, 1, 1, 16] (k0_off55_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS4
  have hS5 : (arg7.access (Rect.unit (s := S2x16x8x128) (k0_off56 k) ![1, 1, 1, 16] (k0_off56_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off56_eq k]; rfl)
  have hT5 : (arg7.access (Rect.unit (s := S2x16x8x128) (k0_off56 k) ![1, 1, 1, 16] (k0_off56_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS5
  have hS6 : (arg7.access (Rect.unit (s := S2x16x8x128) (k0_off57 k) ![1, 1, 1, 16] (k0_off57_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off57_eq k]; rfl)
  have hT6 : (arg7.access (Rect.unit (s := S2x16x8x128) (k0_off57 k) ![1, 1, 1, 16] (k0_off57_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS6
  have hS7 : (arg7.access (Rect.unit (s := S2x16x8x128) (k0_off58 k) ![1, 1, 1, 16] (k0_off58_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off58_eq k]; rfl)
  have hT7 : (arg7.access (Rect.unit (s := S2x16x8x128) (k0_off58 k) ![1, 1, 1, 16] (k0_off58_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS7
  have hS8 : (arg7.access (Rect.unit (s := S2x16x8x128) (k0_off59 k) ![1, 1, 1, 16] (k0_off59_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off59_eq k]; rfl)
  have hT8 : (arg7.access (Rect.unit (s := S2x16x8x128) (k0_off59 k) ![1, 1, 1, 16] (k0_off59_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS8
  have hS9 : (arg7.access (Rect.unit (s := S2x16x8x128) (k0_off60 k) ![1, 1, 1, 16] (k0_off60_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off60_eq k]; rfl)
  have hT9 : (arg7.access (Rect.unit (s := S2x16x8x128) (k0_off60 k) ![1, 1, 1, 16] (k0_off60_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS9
  have hS10 : (arg7.access (Rect.unit (s := S2x16x8x128) (k0_off61 k) ![1, 1, 1, 16] (k0_off61_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off61_eq k]; rfl)
  have hT10 : (arg7.access (Rect.unit (s := S2x16x8x128) (k0_off61 k) ![1, 1, 1, 16] (k0_off61_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS10
  have hS11 : (arg7.access (Rect.unit (s := S2x16x8x128) (k0_off62 k) ![1, 1, 1, 16] (k0_off62_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off62_eq k]; rfl)
  have hT11 : (arg7.access (Rect.unit (s := S2x16x8x128) (k0_off62 k) ![1, 1, 1, 16] (k0_off62_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS11
  have hS12 : (arg7.access (Rect.unit (s := S2x16x8x128) (k0_off63 k) ![1, 1, 1, 16] (k0_off63_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off63_eq k]; rfl)
  have hT12 : (arg7.access (Rect.unit (s := S2x16x8x128) (k0_off63 k) ![1, 1, 1, 16] (k0_off63_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS12
  have hS13 : (arg7.access (Rect.unit (s := S2x16x8x128) (k0_off64 k) ![1, 1, 1, 16] (k0_off64_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off64_eq k]; rfl)
  have hT13 : (arg7.access (Rect.unit (s := S2x16x8x128) (k0_off64 k) ![1, 1, 1, 16] (k0_off64_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS13
  have hS14 : (arg7.access (Rect.unit (s := S2x16x8x128) (k0_off65 k) ![1, 1, 1, 16] (k0_off65_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off65_eq k]; rfl)
  have hT14 : (arg7.access (Rect.unit (s := S2x16x8x128) (k0_off65 k) ![1, 1, 1, 16] (k0_off65_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS14
  have hS15 : (arg7.access (Rect.unit (s := S2x16x8x128) (k0_off66 k) ![1, 1, 1, 16] (k0_off66_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off66_eq k]; rfl)
  have hT15 : (arg7.access (Rect.unit (s := S2x16x8x128) (k0_off66 k) ![1, 1, 1, 16] (k0_off66_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS15
  sl_exec (disch := ((try dsimp only); first | (clear * -; revert k; decide +kernel) | (refine tab_main _ _ ?_; decide)))
  sl_step
  isplitl [H5]; · iexact H5
  isplitl [H6]; · iexact H6
  iexists _; iexact H7

end Cert.ExpandProof
-- ==== Proof.ExpandTrip5.lean ====
module
public import proofs.«01_k».proof.Proof.ExpandIndex

/-! One trip of the loop `k0_t5` of the SparseCore body: every index it gathers at is in range, and it writes the rows of
    slot 1 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off67_eq : ∀ k : Fin k0_t5_loop.trips, k0_off67 k = ![1, 0, k.val, 112] := by decide +kernel
instance (k : Fin k0_t5_loop.trips) : ClosedOff (k0_off67 k) := ⟨_, off67_eq k⟩
theorem off68_eq : ∀ k : Fin k0_t5_loop.trips, k0_off68 k = ![1, 1, k.val, 112] := by decide +kernel
instance (k : Fin k0_t5_loop.trips) : ClosedOff (k0_off68 k) := ⟨_, off68_eq k⟩
theorem off69_eq : ∀ k : Fin k0_t5_loop.trips, k0_off69 k = ![1, 2, k.val, 112] := by decide +kernel
instance (k : Fin k0_t5_loop.trips) : ClosedOff (k0_off69 k) := ⟨_, off69_eq k⟩
theorem off70_eq : ∀ k : Fin k0_t5_loop.trips, k0_off70 k = ![1, 3, k.val, 112] := by decide +kernel
instance (k : Fin k0_t5_loop.trips) : ClosedOff (k0_off70 k) := ⟨_, off70_eq k⟩
theorem off71_eq : ∀ k : Fin k0_t5_loop.trips, k0_off71 k = ![1, 4, k.val, 112] := by decide +kernel
instance (k : Fin k0_t5_loop.trips) : ClosedOff (k0_off71 k) := ⟨_, off71_eq k⟩
theorem off72_eq : ∀ k : Fin k0_t5_loop.trips, k0_off72 k = ![1, 5, k.val, 112] := by decide +kernel
instance (k : Fin k0_t5_loop.trips) : ClosedOff (k0_off72 k) := ⟨_, off72_eq k⟩
theorem off73_eq : ∀ k : Fin k0_t5_loop.trips, k0_off73 k = ![1, 6, k.val, 112] := by decide +kernel
instance (k : Fin k0_t5_loop.trips) : ClosedOff (k0_off73 k) := ⟨_, off73_eq k⟩
theorem off74_eq : ∀ k : Fin k0_t5_loop.trips, k0_off74 k = ![1, 7, k.val, 112] := by decide +kernel
instance (k : Fin k0_t5_loop.trips) : ClosedOff (k0_off74 k) := ⟨_, off74_eq k⟩
theorem off75_eq : ∀ k : Fin k0_t5_loop.trips, k0_off75 k = ![1, 8, k.val, 112] := by decide +kernel
instance (k : Fin k0_t5_loop.trips) : ClosedOff (k0_off75 k) := ⟨_, off75_eq k⟩
theorem off76_eq : ∀ k : Fin k0_t5_loop.trips, k0_off76 k = ![1, 9, k.val, 112] := by decide +kernel
instance (k : Fin k0_t5_loop.trips) : ClosedOff (k0_off76 k) := ⟨_, off76_eq k⟩
theorem off77_eq : ∀ k : Fin k0_t5_loop.trips, k0_off77 k = ![1, 10, k.val, 112] := by decide +kernel
instance (k : Fin k0_t5_loop.trips) : ClosedOff (k0_off77 k) := ⟨_, off77_eq k⟩
theorem off78_eq : ∀ k : Fin k0_t5_loop.trips, k0_off78 k = ![1, 11, k.val, 112] := by decide +kernel
instance (k : Fin k0_t5_loop.trips) : ClosedOff (k0_off78 k) := ⟨_, off78_eq k⟩
theorem off79_eq : ∀ k : Fin k0_t5_loop.trips, k0_off79 k = ![1, 12, k.val, 112] := by decide +kernel
instance (k : Fin k0_t5_loop.trips) : ClosedOff (k0_off79 k) := ⟨_, off79_eq k⟩
theorem off80_eq : ∀ k : Fin k0_t5_loop.trips, k0_off80 k = ![1, 13, k.val, 112] := by decide +kernel
instance (k : Fin k0_t5_loop.trips) : ClosedOff (k0_off80 k) := ⟨_, off80_eq k⟩
theorem off81_eq : ∀ k : Fin k0_t5_loop.trips, k0_off81 k = ![1, 14, k.val, 112] := by decide +kernel
instance (k : Fin k0_t5_loop.trips) : ClosedOff (k0_off81 k) := ⟨_, off81_eq k⟩
theorem off82_eq : ∀ k : Fin k0_t5_loop.trips, k0_off82 k = ![1, 15, k.val, 112] := by decide +kernel
instance (k : Fin k0_t5_loop.trips) : ClosedOff (k0_off82 k) := ⟨_, off82_eq k⟩

set_option sl_exec.dischHeartbeats 400000 in
theorem trip5 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k1 : Fin k0_t1_loop.trips) (v : BitVec 32) (k : Fin k0_t5_loop.trips)
    (w6 : Memref sig .scVector .vmem S3x8x128 .i32) (hw6 : ((arg6.slice (Rect.unit (s := S2x3x8x128) ![1, 0, 0, 0] S1x3x8x128.size inb_S2x3x8x128_S1x3x8x128_1_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![1, 0, 0, 0] S1x16x8x128.size inb_S2x16x8x128_S1x16x8x128_1_0_0_0) (fun _ => rfl)).view.loc (thr d L) ↦[(arg7.slice (Rect.unit (s := S2x16x8x128) ![1, 0, 0, 0] S1x16x8x128.size inb_S2x16x8x128_S1x16x8x128_1_0_0_0) (fun _ => rfl)).view.set]{fullShare} f7))
    ⊢ wp frame (wpE (defs₀ (F := F)) 𝒱₀ (thr d L) none) Set.univ
      (k0_t5_body L arg2 harg2 arg3 harg3 arg4 harg4 arg5 harg5 arg6 harg6 arg7 harg7 arg8 arg9 arg10 arg11 v1 (iota .scVector S16 32 [0] iota_S16_d0_w32_scVector) k1 v k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![1, 0, 0, 0] S1x16x8x128.size inb_S2x16x8x128_S1x16x8x128_1_0_0_0) (fun _ => rfl))) := by
  conv =>
    rhs
    unfold k0_t5_body
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part25_skel, k0_part26_skel, k0_part27_skel, k0_part28_skel, k0_part29_skel, k0_part30_skel, k0_part31_skel, k0_part32_skel, k0_part33_skel, k0_part34_skel, SparseCore.vectorLoadIdx, hw6]
  iintro ⟨H5, H6, H7⟩
  have hS0 : (arg7.access (Rect.unit (s := S2x16x8x128) (k0_off67 k) ![1, 1, 1, 16] (k0_off67_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off67_eq k]; rfl)
  have hT0 : (arg7.access (Rect.unit (s := S2x16x8x128) (k0_off67 k) ![1, 1, 1, 16] (k0_off67_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS0
  have hS1 : (arg7.access (Rect.unit (s := S2x16x8x128) (k0_off68 k) ![1, 1, 1, 16] (k0_off68_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off68_eq k]; rfl)
  have hT1 : (arg7.access (Rect.unit (s := S2x16x8x128) (k0_off68 k) ![1, 1, 1, 16] (k0_off68_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS1
  have hS2 : (arg7.access (Rect.unit (s := S2x16x8x128) (k0_off69 k) ![1, 1, 1, 16] (k0_off69_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off69_eq k]; rfl)
  have hT2 : (arg7.access (Rect.unit (s := S2x16x8x128) (k0_off69 k) ![1, 1, 1, 16] (k0_off69_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS2
  have hS3 : (arg7.access (Rect.unit (s := S2x16x8x128) (k0_off70 k) ![1, 1, 1, 16] (k0_off70_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off70_eq k]; rfl)
  have hT3 : (arg7.access (Rect.unit (s := S2x16x8x128) (k0_off70 k) ![1, 1, 1, 16] (k0_off70_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS3
  have hS4 : (arg7.access (Rect.unit (s := S2x16x8x128) (k0_off71 k) ![1, 1, 1, 16] (k0_off71_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off71_eq k]; rfl)
  have hT4 : (arg7.access (Rect.unit (s := S2x16x8x128) (k0_off71 k) ![1, 1, 1, 16] (k0_off71_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS4
  have hS5 : (arg7.access (Rect.unit (s := S2x16x8x128) (k0_off72 k) ![1, 1, 1, 16] (k0_off72_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off72_eq k]; rfl)
  have hT5 : (arg7.access (Rect.unit (s := S2x16x8x128) (k0_off72 k) ![1, 1, 1, 16] (k0_off72_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS5
  have hS6 : (arg7.access (Rect.unit (s := S2x16x8x128) (k0_off73 k) ![1, 1, 1, 16] (k0_off73_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off73_eq k]; rfl)
  have hT6 : (arg7.access (Rect.unit (s := S2x16x8x128) (k0_off73 k) ![1, 1, 1, 16] (k0_off73_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS6
  have hS7 : (arg7.access (Rect.unit (s := S2x16x8x128) (k0_off74 k) ![1, 1, 1, 16] (k0_off74_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off74_eq k]; rfl)
  have hT7 : (arg7.access (Rect.unit (s := S2x16x8x128) (k0_off74 k) ![1, 1, 1, 16] (k0_off74_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS7
  have hS8 : (arg7.access (Rect.unit (s := S2x16x8x128) (k0_off75 k) ![1, 1, 1, 16] (k0_off75_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off75_eq k]; rfl)
  have hT8 : (arg7.access (Rect.unit (s := S2x16x8x128) (k0_off75 k) ![1, 1, 1, 16] (k0_off75_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS8
  have hS9 : (arg7.access (Rect.unit (s := S2x16x8x128) (k0_off76 k) ![1, 1, 1, 16] (k0_off76_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off76_eq k]; rfl)
  have hT9 : (arg7.access (Rect.unit (s := S2x16x8x128) (k0_off76 k) ![1, 1, 1, 16] (k0_off76_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS9
  have hS10 : (arg7.access (Rect.unit (s := S2x16x8x128) (k0_off77 k) ![1, 1, 1, 16] (k0_off77_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off77_eq k]; rfl)
  have hT10 : (arg7.access (Rect.unit (s := S2x16x8x128) (k0_off77 k) ![1, 1, 1, 16] (k0_off77_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS10
  have hS11 : (arg7.access (Rect.unit (s := S2x16x8x128) (k0_off78 k) ![1, 1, 1, 16] (k0_off78_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off78_eq k]; rfl)
  have hT11 : (arg7.access (Rect.unit (s := S2x16x8x128) (k0_off78 k) ![1, 1, 1, 16] (k0_off78_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS11
  have hS12 : (arg7.access (Rect.unit (s := S2x16x8x128) (k0_off79 k) ![1, 1, 1, 16] (k0_off79_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off79_eq k]; rfl)
  have hT12 : (arg7.access (Rect.unit (s := S2x16x8x128) (k0_off79 k) ![1, 1, 1, 16] (k0_off79_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS12
  have hS13 : (arg7.access (Rect.unit (s := S2x16x8x128) (k0_off80 k) ![1, 1, 1, 16] (k0_off80_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off80_eq k]; rfl)
  have hT13 : (arg7.access (Rect.unit (s := S2x16x8x128) (k0_off80 k) ![1, 1, 1, 16] (k0_off80_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS13
  have hS14 : (arg7.access (Rect.unit (s := S2x16x8x128) (k0_off81 k) ![1, 1, 1, 16] (k0_off81_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off81_eq k]; rfl)
  have hT14 : (arg7.access (Rect.unit (s := S2x16x8x128) (k0_off81 k) ![1, 1, 1, 16] (k0_off81_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS14
  have hS15 : (arg7.access (Rect.unit (s := S2x16x8x128) (k0_off82 k) ![1, 1, 1, 16] (k0_off82_inb k))).set ⊆ (arg7.slice (Rect.unit (s := S2x16x8x128) ![1, 0, 0, 0] S1x16x8x128.size inb_S2x16x8x128_S1x16x8x128_1_0_0_0) (fun _ => rfl)).view.set := box_subset arg7 _ _ _ _ (by rw [off82_eq k]; rfl)
  have hT15 : (arg7.access (Rect.unit (s := S2x16x8x128) (k0_off82 k) ![1, 1, 1, 16] (k0_off82_inb k))).setOn Finset.univ ⊆ (arg7.slice (Rect.unit (s := S2x16x8x128) ![1, 0, 0, 0] S1x16x8x128.size inb_S2x16x8x128_S1x16x8x128_1_0_0_0) (fun _ => rfl)).view.set := by rw [View.setOn_univ]; exact hS15
  sl_exec (disch := ((try dsimp only); first | (clear * -; revert k; decide +kernel) | (refine tab_mixed _ _ _ _ ?_; decide)))
  sl_step
  isplitl [H5]; · iexact H5
  isplitl [H6]; · iexact H6
  iexists _; iexact H7

end Cert.ExpandProof
-- ==== Proof.ExpandTrip6.lean ====
module
public import proofs.«01_k».proof.Proof.ExpandIndex

/-! One trip of the loop `k0_t6` of the SparseCore body: every index it gathers at is in range, and it writes the rows of
    slot 0 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off91_eq : ∀ k : Fin k0_t6_loop.trips, k0_off91 k = ![0, 0, k.val % 8, 16 * (k.val / 8)] := by decide +kernel
instance (k : Fin k0_t6_loop.trips) : ClosedOff (k0_off91 k) := ⟨_, off91_eq k⟩
theorem off92_eq : ∀ k : Fin k0_t6_loop.trips, k0_off92 k = ![0, 1, k.val % 8, 16 * (k.val / 8)] := by decide +kernel
instance (k : Fin k0_t6_loop.trips) : ClosedOff (k0_off92 k) := ⟨_, off92_eq k⟩
theorem off93_eq : ∀ k : Fin k0_t6_loop.trips, k0_off93 k = ![0, 2, k.val % 8, 16 * (k.val / 8)] := by decide +kernel
instance (k : Fin k0_t6_loop.trips) : ClosedOff (k0_off93 k) := ⟨_, off93_eq k⟩
theorem off94_eq : ∀ k : Fin k0_t6_loop.trips, k0_off94 k = ![0, 3, k.val % 8, 16 * (k.val / 8)] := by decide +kernel
instance (k : Fin k0_t6_loop.trips) : ClosedOff (k0_off94 k) := ⟨_, off94_eq k⟩
theorem off95_eq : ∀ k : Fin k0_t6_loop.trips, k0_off95 k = ![0, 4, k.val % 8, 16 * (k.val / 8)] := by decide +kernel
instance (k : Fin k0_t6_loop.trips) : ClosedOff (k0_off95 k) := ⟨_, off95_eq k⟩
theorem off96_eq : ∀ k : Fin k0_t6_loop.trips, k0_off96 k = ![0, 5, k.val % 8, 16 * (k.val / 8)] := by decide +kernel
instance (k : Fin k0_t6_loop.trips) : ClosedOff (k0_off96 k) := ⟨_, off96_eq k⟩
theorem off97_eq : ∀ k : Fin k0_t6_loop.trips, k0_off97 k = ![0, 6, k.val % 8, 16 * (k.val / 8)] := by decide +kernel
instance (k : Fin k0_t6_loop.trips) : ClosedOff (k0_off97 k) := ⟨_, off97_eq k⟩
theorem off98_eq : ∀ k : Fin k0_t6_loop.trips, k0_off98 k = ![0, 7, k.val % 8, 16 * (k.val / 8)] := by decide +kernel
instance (k : Fin k0_t6_loop.trips) : ClosedOff (k0_off98 k) := ⟨_, off98_eq k⟩
theorem off99_eq : ∀ k : Fin k0_t6_loop.trips, k0_off99 k = ![0, 8, k.val % 8, 16 * (k.val / 8)] := by decide +kernel
instance (k : Fin k0_t6_loop.trips) : ClosedOff (k0_off99 k) := ⟨_, off99_eq k⟩
theorem off100_eq : ∀ k : Fin k0_t6_loop.trips, k0_off100 k = ![0, 9, k.val % 8, 16 * (k.val / 8)] := by decide +kernel
instance (k : Fin k0_t6_loop.trips) : ClosedOff (k0_off100 k) := ⟨_, off100_eq k⟩
theorem off101_eq : ∀ k : Fin k0_t6_loop.trips, k0_off101 k = ![0, 10, k.val % 8, 16 * (k.val / 8)] := by decide +kernel
instance (k : Fin k0_t6_loop.trips) : ClosedOff (k0_off101 k) := ⟨_, off101_eq k⟩
theorem off102_eq : ∀ k : Fin k0_t6_loop.trips, k0_off102 k = ![0, 11, k.val % 8, 16 * (k.val / 8)] := by decide +kernel
instance (k : Fin k0_t6_loop.trips) : ClosedOff (k0_off102 k) := ⟨_, off102_eq k⟩
theorem off103_eq : ∀ k : Fin k0_t6_loop.trips, k0_off103 k = ![0, 12, k.val % 8, 16 * (k.val / 8)] := by decide +kernel
instance (k : Fin k0_t6_loop.trips) : ClosedOff (k0_off103 k) := ⟨_, off103_eq k⟩
theorem off104_eq : ∀ k : Fin k0_t6_loop.trips, k0_off104 k = ![0, 13, k.val % 8, 16 * (k.val / 8)] := by decide +kernel
instance (k : Fin k0_t6_loop.trips) : ClosedOff (k0_off104 k) := ⟨_, off104_eq k⟩
theorem off105_eq : ∀ k : Fin k0_t6_loop.trips, k0_off105 k = ![0, 14, k.val % 8, 16 * (k.val / 8)] := by decide +kernel
instance (k : Fin k0_t6_loop.trips) : ClosedOff (k0_off105 k) := ⟨_, off105_eq k⟩
theorem off106_eq : ∀ k : Fin k0_t6_loop.trips, k0_off106 k = ![0, 15, k.val % 8, 16 * (k.val / 8)] := by decide +kernel
instance (k : Fin k0_t6_loop.trips) : ClosedOff (k0_off106 k) := ⟨_, off106_eq k⟩

set_option sl_exec.dischHeartbeats 400000 in
theorem trip6 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k : Fin k0_t6_loop.trips)
    (w6 : Memref sig .scVector .vmem S3x8x128 .i32) (hw6 : ((arg6.slice (Rect.unit (s := S2x3x8x128) ![0, 0, 0, 0] S1x3x8x128.size inb_S2x3x8x128_S1x3x8x128_0_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![0, 0, 0, 0] S1x16x8x128.size inb_S2x16x8x128_S1x16x8x128_0_0_0_0) (fun _ => rfl)).view.loc (thr d L) ↦[(arg7.slice (Rect.unit (s := S2x16x8x128) ![0, 0, 0, 0] S1x16x8x128.size inb_S2x16x8x128_S1x16x8x128_0_0_0_0) (fun _ => rfl)).view.set]{fullShare} f7))
    ⊢ wp frame (wpE (defs₀ (F := F)) 𝒱₀ (thr d L) none) Set.univ
      (k0_t6_body L arg2 harg2 arg3 harg3 arg4 harg4 arg5 harg5 arg6 harg6 arg7 harg7 arg8 arg9 arg10 arg11 v1 (iota .scVector S16 32 [0] iota_S16_d0_w32_scVector) k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![0, 0, 0, 0] S1x16x8x128.size inb_S2x16x8x128_S1x16x8x128_0_0_0_0) (fun _ => rfl))) := by
  conv =>
    rhs
    unfold k0_t6_body
    simp only [k0_part40_eq_skeleton, k0_part41_eq_skeleton, k0_part42_eq_skeleton, k0_part43_eq_skeleton, k0_part44_eq_skeleton, k0_part45_eq_skeleton, k0_part40_skel, k0_part41_skel, k0_part42_skel, k0_part43_skel, k0_part44_skel, k0_part45_skel, SparseCore.vectorLoadIdx, hw6]
  iintro ⟨H5, H6, H7⟩
  have hS0 : (arg7.access (Rect.unit (s := S2x16x8x128) (k0_off91 k) ![1, 1, 1, 16] (k0_off91_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off91_eq k]; rfl)
  have hT0 : (arg7.access (Rect.unit (s := S2x16x8x128) (k0_off91 k) ![1, 1, 1, 16] (k0_off91_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS0
  have hS1 : (arg7.access (Rect.unit (s := S2x16x8x128) (k0_off92 k) ![1, 1, 1, 16] (k0_off92_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off92_eq k]; rfl)
  have hT1 : (arg7.access (Rect.unit (s := S2x16x8x128) (k0_off92 k) ![1, 1, 1, 16] (k0_off92_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS1
  have hS2 : (arg7.access (Rect.unit (s := S2x16x8x128) (k0_off93 k) ![1, 1, 1, 16] (k0_off93_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off93_eq k]; rfl)
  have hT2 : (arg7.access (Rect.unit (s := S2x16x8x128) (k0_off93 k) ![1, 1, 1, 16] (k0_off93_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS2
  have hS3 : (arg7.access (Rect.unit (s := S2x16x8x128) (k0_off94 k) ![1, 1, 1, 16] (k0_off94_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off94_eq k]; rfl)
  have hT3 : (arg7.access (Rect.unit (s := S2x16x8x128) (k0_off94 k) ![1, 1, 1, 16] (k0_off94_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS3
  have hS4 : (arg7.access (Rect.unit (s := S2x16x8x128) (k0_off95 k) ![1, 1, 1, 16] (k0_off95_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off95_eq k]; rfl)
  have hT4 : (arg7.access (Rect.unit (s := S2x16x8x128) (k0_off95 k) ![1, 1, 1, 16] (k0_off95_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS4
  have hS5 : (arg7.access (Rect.unit (s := S2x16x8x128) (k0_off96 k) ![1, 1, 1, 16] (k0_off96_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off96_eq k]; rfl)
  have hT5 : (arg7.access (Rect.unit (s := S2x16x8x128) (k0_off96 k) ![1, 1, 1, 16] (k0_off96_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS5
  have hS6 : (arg7.access (Rect.unit (s := S2x16x8x128) (k0_off97 k) ![1, 1, 1, 16] (k0_off97_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off97_eq k]; rfl)
  have hT6 : (arg7.access (Rect.unit (s := S2x16x8x128) (k0_off97 k) ![1, 1, 1, 16] (k0_off97_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS6
  have hS7 : (arg7.access (Rect.unit (s := S2x16x8x128) (k0_off98 k) ![1, 1, 1, 16] (k0_off98_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off98_eq k]; rfl)
  have hT7 : (arg7.access (Rect.unit (s := S2x16x8x128) (k0_off98 k) ![1, 1, 1, 16] (k0_off98_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS7
  have hS8 : (arg7.access (Rect.unit (s := S2x16x8x128) (k0_off99 k) ![1, 1, 1, 16] (k0_off99_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off99_eq k]; rfl)
  have hT8 : (arg7.access (Rect.unit (s := S2x16x8x128) (k0_off99 k) ![1, 1, 1, 16] (k0_off99_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS8
  have hS9 : (arg7.access (Rect.unit (s := S2x16x8x128) (k0_off100 k) ![1, 1, 1, 16] (k0_off100_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off100_eq k]; rfl)
  have hT9 : (arg7.access (Rect.unit (s := S2x16x8x128) (k0_off100 k) ![1, 1, 1, 16] (k0_off100_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS9
  have hS10 : (arg7.access (Rect.unit (s := S2x16x8x128) (k0_off101 k) ![1, 1, 1, 16] (k0_off101_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off101_eq k]; rfl)
  have hT10 : (arg7.access (Rect.unit (s := S2x16x8x128) (k0_off101 k) ![1, 1, 1, 16] (k0_off101_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS10
  have hS11 : (arg7.access (Rect.unit (s := S2x16x8x128) (k0_off102 k) ![1, 1, 1, 16] (k0_off102_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off102_eq k]; rfl)
  have hT11 : (arg7.access (Rect.unit (s := S2x16x8x128) (k0_off102 k) ![1, 1, 1, 16] (k0_off102_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS11
  have hS12 : (arg7.access (Rect.unit (s := S2x16x8x128) (k0_off103 k) ![1, 1, 1, 16] (k0_off103_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off103_eq k]; rfl)
  have hT12 : (arg7.access (Rect.unit (s := S2x16x8x128) (k0_off103 k) ![1, 1, 1, 16] (k0_off103_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS12
  have hS13 : (arg7.access (Rect.unit (s := S2x16x8x128) (k0_off104 k) ![1, 1, 1, 16] (k0_off104_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off104_eq k]; rfl)
  have hT13 : (arg7.access (Rect.unit (s := S2x16x8x128) (k0_off104 k) ![1, 1, 1, 16] (k0_off104_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS13
  have hS14 : (arg7.access (Rect.unit (s := S2x16x8x128) (k0_off105 k) ![1, 1, 1, 16] (k0_off105_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off105_eq k]; rfl)
  have hT14 : (arg7.access (Rect.unit (s := S2x16x8x128) (k0_off105 k) ![1, 1, 1, 16] (k0_off105_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS14
  have hS15 : (arg7.access (Rect.unit (s := S2x16x8x128) (k0_off106 k) ![1, 1, 1, 16] (k0_off106_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off106_eq k]; rfl)
  have hT15 : (arg7.access (Rect.unit (s := S2x16x8x128) (k0_off106 k) ![1, 1, 1, 16] (k0_off106_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS15
  sl_exec (disch := ((try dsimp only); first | (clear * -; revert k; decide +kernel) | (refine tab_main _ _ ?_; decide)))
  sl_step
  isplitl [H5]; · iexact H5
  isplitl [H6]; · iexact H6
  iexists _; iexact H7

end Cert.ExpandProof
-- ==== Proof.ExpandTrip7.lean ====
module
public import proofs.«01_k».proof.Proof.ExpandIndex

/-! One trip of the loop `k0_t7` of the SparseCore body: every index it gathers at is in range, and it writes the rows of
    slot 0 of the output buffer only. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

theorem off107_eq : ∀ k : Fin k0_t7_loop.trips, k0_off107 k = ![0, 0, k.val, 112] := by decide +kernel
instance (k : Fin k0_t7_loop.trips) : ClosedOff (k0_off107 k) := ⟨_, off107_eq k⟩
theorem off108_eq : ∀ k : Fin k0_t7_loop.trips, k0_off108 k = ![0, 1, k.val, 112] := by decide +kernel
instance (k : Fin k0_t7_loop.trips) : ClosedOff (k0_off108 k) := ⟨_, off108_eq k⟩
theorem off109_eq : ∀ k : Fin k0_t7_loop.trips, k0_off109 k = ![0, 2, k.val, 112] := by decide +kernel
instance (k : Fin k0_t7_loop.trips) : ClosedOff (k0_off109 k) := ⟨_, off109_eq k⟩
theorem off110_eq : ∀ k : Fin k0_t7_loop.trips, k0_off110 k = ![0, 3, k.val, 112] := by decide +kernel
instance (k : Fin k0_t7_loop.trips) : ClosedOff (k0_off110 k) := ⟨_, off110_eq k⟩
theorem off111_eq : ∀ k : Fin k0_t7_loop.trips, k0_off111 k = ![0, 4, k.val, 112] := by decide +kernel
instance (k : Fin k0_t7_loop.trips) : ClosedOff (k0_off111 k) := ⟨_, off111_eq k⟩
theorem off112_eq : ∀ k : Fin k0_t7_loop.trips, k0_off112 k = ![0, 5, k.val, 112] := by decide +kernel
instance (k : Fin k0_t7_loop.trips) : ClosedOff (k0_off112 k) := ⟨_, off112_eq k⟩
theorem off113_eq : ∀ k : Fin k0_t7_loop.trips, k0_off113 k = ![0, 6, k.val, 112] := by decide +kernel
instance (k : Fin k0_t7_loop.trips) : ClosedOff (k0_off113 k) := ⟨_, off113_eq k⟩
theorem off114_eq : ∀ k : Fin k0_t7_loop.trips, k0_off114 k = ![0, 7, k.val, 112] := by decide +kernel
instance (k : Fin k0_t7_loop.trips) : ClosedOff (k0_off114 k) := ⟨_, off114_eq k⟩
theorem off115_eq : ∀ k : Fin k0_t7_loop.trips, k0_off115 k = ![0, 8, k.val, 112] := by decide +kernel
instance (k : Fin k0_t7_loop.trips) : ClosedOff (k0_off115 k) := ⟨_, off115_eq k⟩
theorem off116_eq : ∀ k : Fin k0_t7_loop.trips, k0_off116 k = ![0, 9, k.val, 112] := by decide +kernel
instance (k : Fin k0_t7_loop.trips) : ClosedOff (k0_off116 k) := ⟨_, off116_eq k⟩
theorem off117_eq : ∀ k : Fin k0_t7_loop.trips, k0_off117 k = ![0, 10, k.val, 112] := by decide +kernel
instance (k : Fin k0_t7_loop.trips) : ClosedOff (k0_off117 k) := ⟨_, off117_eq k⟩
theorem off118_eq : ∀ k : Fin k0_t7_loop.trips, k0_off118 k = ![0, 11, k.val, 112] := by decide +kernel
instance (k : Fin k0_t7_loop.trips) : ClosedOff (k0_off118 k) := ⟨_, off118_eq k⟩
theorem off119_eq : ∀ k : Fin k0_t7_loop.trips, k0_off119 k = ![0, 12, k.val, 112] := by decide +kernel
instance (k : Fin k0_t7_loop.trips) : ClosedOff (k0_off119 k) := ⟨_, off119_eq k⟩
theorem off120_eq : ∀ k : Fin k0_t7_loop.trips, k0_off120 k = ![0, 13, k.val, 112] := by decide +kernel
instance (k : Fin k0_t7_loop.trips) : ClosedOff (k0_off120 k) := ⟨_, off120_eq k⟩
theorem off121_eq : ∀ k : Fin k0_t7_loop.trips, k0_off121 k = ![0, 14, k.val, 112] := by decide +kernel
instance (k : Fin k0_t7_loop.trips) : ClosedOff (k0_off121 k) := ⟨_, off121_eq k⟩
theorem off122_eq : ∀ k : Fin k0_t7_loop.trips, k0_off122 k = ![0, 15, k.val, 112] := by decide +kernel
instance (k : Fin k0_t7_loop.trips) : ClosedOff (k0_off122 k) := ⟨_, off122_eq k⟩

set_option sl_exec.dischHeartbeats 400000 in
theorem trip7 (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
    (v1 : BitVec 32) (k : Fin k0_t7_loop.trips)
    (w6 : Memref sig .scVector .vmem S3x8x128 .i32) (hw6 : ((arg6.slice (Rect.unit (s := S2x3x8x128) ![0, 0, 0, 0] S1x3x8x128.size inb_S2x3x8x128_S1x3x8x128_0_0_0_0) (fun _ => rfl)).squeeze S3x8x128 squeezes_S1x3x8x128_S3x8x128) = w6)
    (f5 : Buf (Elt F) (arg5.view.loc (thr d L))) (f6 : Buf (Elt F) (w6.view.loc (thr d L))) (f7 : Buf (Elt F) (arg7.view.loc (thr d L))) :
    iprop((arg5.view.loc (thr d L) ↦[arg5.view.set]{fullShare} f5) ∗ (w6.view.loc (thr d L) ↦[w6.view.set]{fullShare} f6)
      ∗ ((arg7.slice (Rect.unit (s := S2x16x8x128) ![0, 0, 0, 0] S1x16x8x128.size inb_S2x16x8x128_S1x16x8x128_0_0_0_0) (fun _ => rfl)).view.loc (thr d L) ↦[(arg7.slice (Rect.unit (s := S2x16x8x128) ![0, 0, 0, 0] S1x16x8x128.size inb_S2x16x8x128_S1x16x8x128_0_0_0_0) (fun _ => rfl)).view.set]{fullShare} f7))
    ⊢ wp frame (wpE (defs₀ (F := F)) 𝒱₀ (thr d L) none) Set.univ
      (k0_t7_body L arg2 harg2 arg3 harg3 arg4 harg4 arg5 harg5 arg6 harg6 arg7 harg7 arg8 arg9 arg10 arg11 v1 (iota .scVector S16 32 [0] iota_S16_d0_w32_scVector) k ())
      fun _ => iprop((arg5.view.loc (thr d L) ↦[arg5.view.set]{fullShare} f5) ∗ (w6.view.loc (thr d L) ↦[w6.view.set]{fullShare} f6)
        ∗ Has (F := F) (thr d L) (arg7.slice (Rect.unit (s := S2x16x8x128) ![0, 0, 0, 0] S1x16x8x128.size inb_S2x16x8x128_S1x16x8x128_0_0_0_0) (fun _ => rfl))) := by
  conv =>
    rhs
    unfold k0_t7_body
    simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part46_skel, k0_part47_skel, k0_part48_skel, k0_part49_skel, k0_part50_skel, k0_part51_skel, k0_part52_skel, k0_part53_skel, k0_part54_skel, k0_part55_skel, SparseCore.vectorLoadIdx, hw6]
  iintro ⟨H5, H6, H7⟩
  have hS0 : (arg7.access (Rect.unit (s := S2x16x8x128) (k0_off107 k) ![1, 1, 1, 16] (k0_off107_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off107_eq k]; rfl)
  have hT0 : (arg7.access (Rect.unit (s := S2x16x8x128) (k0_off107 k) ![1, 1, 1, 16] (k0_off107_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS0
  have hS1 : (arg7.access (Rect.unit (s := S2x16x8x128) (k0_off108 k) ![1, 1, 1, 16] (k0_off108_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off108_eq k]; rfl)
  have hT1 : (arg7.access (Rect.unit (s := S2x16x8x128) (k0_off108 k) ![1, 1, 1, 16] (k0_off108_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS1
  have hS2 : (arg7.access (Rect.unit (s := S2x16x8x128) (k0_off109 k) ![1, 1, 1, 16] (k0_off109_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off109_eq k]; rfl)
  have hT2 : (arg7.access (Rect.unit (s := S2x16x8x128) (k0_off109 k) ![1, 1, 1, 16] (k0_off109_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS2
  have hS3 : (arg7.access (Rect.unit (s := S2x16x8x128) (k0_off110 k) ![1, 1, 1, 16] (k0_off110_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off110_eq k]; rfl)
  have hT3 : (arg7.access (Rect.unit (s := S2x16x8x128) (k0_off110 k) ![1, 1, 1, 16] (k0_off110_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS3
  have hS4 : (arg7.access (Rect.unit (s := S2x16x8x128) (k0_off111 k) ![1, 1, 1, 16] (k0_off111_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off111_eq k]; rfl)
  have hT4 : (arg7.access (Rect.unit (s := S2x16x8x128) (k0_off111 k) ![1, 1, 1, 16] (k0_off111_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS4
  have hS5 : (arg7.access (Rect.unit (s := S2x16x8x128) (k0_off112 k) ![1, 1, 1, 16] (k0_off112_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off112_eq k]; rfl)
  have hT5 : (arg7.access (Rect.unit (s := S2x16x8x128) (k0_off112 k) ![1, 1, 1, 16] (k0_off112_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS5
  have hS6 : (arg7.access (Rect.unit (s := S2x16x8x128) (k0_off113 k) ![1, 1, 1, 16] (k0_off113_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off113_eq k]; rfl)
  have hT6 : (arg7.access (Rect.unit (s := S2x16x8x128) (k0_off113 k) ![1, 1, 1, 16] (k0_off113_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS6
  have hS7 : (arg7.access (Rect.unit (s := S2x16x8x128) (k0_off114 k) ![1, 1, 1, 16] (k0_off114_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off114_eq k]; rfl)
  have hT7 : (arg7.access (Rect.unit (s := S2x16x8x128) (k0_off114 k) ![1, 1, 1, 16] (k0_off114_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS7
  have hS8 : (arg7.access (Rect.unit (s := S2x16x8x128) (k0_off115 k) ![1, 1, 1, 16] (k0_off115_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off115_eq k]; rfl)
  have hT8 : (arg7.access (Rect.unit (s := S2x16x8x128) (k0_off115 k) ![1, 1, 1, 16] (k0_off115_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS8
  have hS9 : (arg7.access (Rect.unit (s := S2x16x8x128) (k0_off116 k) ![1, 1, 1, 16] (k0_off116_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off116_eq k]; rfl)
  have hT9 : (arg7.access (Rect.unit (s := S2x16x8x128) (k0_off116 k) ![1, 1, 1, 16] (k0_off116_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS9
  have hS10 : (arg7.access (Rect.unit (s := S2x16x8x128) (k0_off117 k) ![1, 1, 1, 16] (k0_off117_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off117_eq k]; rfl)
  have hT10 : (arg7.access (Rect.unit (s := S2x16x8x128) (k0_off117 k) ![1, 1, 1, 16] (k0_off117_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS10
  have hS11 : (arg7.access (Rect.unit (s := S2x16x8x128) (k0_off118 k) ![1, 1, 1, 16] (k0_off118_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off118_eq k]; rfl)
  have hT11 : (arg7.access (Rect.unit (s := S2x16x8x128) (k0_off118 k) ![1, 1, 1, 16] (k0_off118_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS11
  have hS12 : (arg7.access (Rect.unit (s := S2x16x8x128) (k0_off119 k) ![1, 1, 1, 16] (k0_off119_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off119_eq k]; rfl)
  have hT12 : (arg7.access (Rect.unit (s := S2x16x8x128) (k0_off119 k) ![1, 1, 1, 16] (k0_off119_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS12
  have hS13 : (arg7.access (Rect.unit (s := S2x16x8x128) (k0_off120 k) ![1, 1, 1, 16] (k0_off120_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off120_eq k]; rfl)
  have hT13 : (arg7.access (Rect.unit (s := S2x16x8x128) (k0_off120 k) ![1, 1, 1, 16] (k0_off120_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS13
  have hS14 : (arg7.access (Rect.unit (s := S2x16x8x128) (k0_off121 k) ![1, 1, 1, 16] (k0_off121_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off121_eq k]; rfl)
  have hT14 : (arg7.access (Rect.unit (s := S2x16x8x128) (k0_off121 k) ![1, 1, 1, 16] (k0_off121_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS14
  have hS15 : (arg7.access (Rect.unit (s := S2x16x8x128) (k0_off122 k) ![1, 1, 1, 16] (k0_off122_inb k))).set ⊆ (arg7.slice (Rect.unit (s := S2x16x8x128) ![0, 0, 0, 0] S1x16x8x128.size inb_S2x16x8x128_S1x16x8x128_0_0_0_0) (fun _ => rfl)).view.set := box_subset arg7 _ _ _ _ (by rw [off122_eq k]; rfl)
  have hT15 : (arg7.access (Rect.unit (s := S2x16x8x128) (k0_off122 k) ![1, 1, 1, 16] (k0_off122_inb k))).setOn Finset.univ ⊆ (arg7.slice (Rect.unit (s := S2x16x8x128) ![0, 0, 0, 0] S1x16x8x128.size inb_S2x16x8x128_S1x16x8x128_0_0_0_0) (fun _ => rfl)).view.set := by rw [View.setOn_univ]; exact hS15
  sl_exec (disch := ((try dsimp only); first | (clear * -; revert k; decide +kernel) | (refine tab_mixed _ _ _ _ ?_; decide)))
  sl_step
  isplitl [H5]; · iexact H5
  isplitl [H6]; · iexact H6
  iexists _; iexact H7

end Cert.ExpandProof
-- ==== Proof.ExpandSlots.lean ====
module
public import proofs.«01_k».proof.Proof.ExpandBase

/-! The buffers of the SparseCore body cut into the pieces its copies move, and the result cut into blocks of eight rows. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

/-! ## The pieces -/

/-- Slot `b` of the buffer of packed words, its three pieces (128, 128 and 126 columns), and slot `b` of the output buffer. -/
abbrev slotW (m : Memref sig .scVector .vmem S2x3x8x128 .i32) (b : ℕ) (h : ∀ a, ![b, 0, 0, 0] a + S1x3x8x128.size a ≤ S2x3x8x128.size a) :
    Memref sig .scVector .vmem S3x8x128 .i32 :=
  (m.slice (Rect.unit (s := S2x3x8x128) ![b, 0, 0, 0] S1x3x8x128.size h) (fun _ => rfl)).squeeze S3x8x128 squeezes_S1x3x8x128_S3x8x128
abbrev pieceW (m : Memref sig .scVector .vmem S2x3x8x128 .i32) (b p : ℕ) (h : ∀ a, ![b, p, 0, 0] a + S1x1x8x128.size a ≤ S2x3x8x128.size a) :
    Memref sig .scVector .vmem S8x128 .i32 :=
  (m.slice (Rect.unit (s := S2x3x8x128) ![b, p, 0, 0] S1x1x8x128.size h) (fun _ => rfl)).squeeze S8x128 squeezes_S1x1x8x128_S8x128
abbrev tailW (m : Memref sig .scVector .vmem S2x3x8x128 .i32) (b p : ℕ) (h : ∀ a, ![b, p, 0, 0] a + S1x1x8x126.size a ≤ S2x3x8x128.size a) :
    Memref sig .scVector .vmem S8x126 .i32 :=
  (m.slice (Rect.unit (s := S2x3x8x128) ![b, p, 0, 0] S1x1x8x126.size h) (fun _ => rfl)).squeeze S8x126 squeezes_S1x1x8x126_S8x126
abbrev slotO' (m : Memref sig .scVector .vmem S2x16x8x128 .i32) (b : ℕ) (h : ∀ a, ![b, 0, 0, 0] a + S1x16x8x128.size a ≤ S2x16x8x128.size a) :
    Memref sig .scVector .vmem S1x16x8x128 .i32 :=
  m.slice (Rect.unit (s := S2x16x8x128) ![b, 0, 0, 0] S1x16x8x128.size h) (fun _ => rfl)
abbrev slotO (m : Memref sig .scVector .vmem S2x16x8x128 .i32) (b : ℕ) (h : ∀ a, ![b, 0, 0, 0] a + S1x16x8x128.size a ≤ S2x16x8x128.size a) :
    Memref sig .scVector .vmem S16x8x128 .i32 := (slotO' m b h).squeeze S16x8x128 squeezes_S1x16x8x128_S16x8x128
/-- A block of the result. -/
abbrev blockG (m : Memref sig .scVector .hbm S1376x16x8x128 .i32) (off : Fin 4 → ℕ) (h : ∀ a, off a + S1x16x8x128.size a ≤ S1376x16x8x128.size a) :
    Memref sig .scVector .hbm S16x8x128 .i32 :=
  (m.slice (Rect.unit (s := S1376x16x8x128) off S1x16x8x128.size h) (fun _ => rfl)).squeeze S16x8x128 squeezes_S1x16x8x128_S16x8x128
abbrev sem2 (s : DmaSems sig S2) (b : ℕ) (h : ∀ a, ![b] a + S1.size a ≤ S2.size a) : DmaSem sig :=
  ((s.slice (Rect.unit (s := S2) ![b] S1.size h)).squeeze S_ squeezes_S1_S_).sem

theorem set_squeeze_slice {κ : Kind} {sp : Space} {s s' : Shape} {e : EltTy} (m : Memref sig κ sp s e) (r : Rect s) (h : ∀ a, r.stride a = 1)
    (hq : r.shape.Squeezes s') : ((m.slice r h).squeeze s' hq).view.set = m.view.setOn r.set := by
  rw [Memref.set_view_squeeze]; exact View.set_slice m.view r

section Cut

variable {ℓ : Loc nD τ sig} {W A B C : Finset (Idx ℓ)}

/-- Three parts cut out of a set of elements, and what is left. -/
theorem cut3 (hA : A ⊆ W) (hB : B ⊆ W \ A) (hC : C ⊆ (W \ A) \ B) :
    iprop(∃ f, ℓ ↦[W]{fullShare} f)
      ⊢ (iprop((∃ f, ℓ ↦[A]{fullShare} f) ∗ (∃ f, ℓ ↦[B]{fullShare} f) ∗ (∃ f, ℓ ↦[C]{fullShare} f)
          ∗ ∃ f, ℓ ↦[((W \ A) \ B) \ C]{fullShare} f) : sProp 𝕄) := by
  iintro ⟨%f, H⟩
  ihave H := (pointsTo_split_subset hA).1 $$ H
  icases H with ⟨HA, H⟩
  ihave H := (pointsTo_split_subset hB).1 $$ H
  icases H with ⟨HB, H⟩
  ihave H := (pointsTo_split_subset hC).1 $$ H
  icases H with ⟨HC, H⟩
  isplitl [HA]; · iexists _; iexact HA
  isplitl [HB]; · iexists _; iexact HB
  isplitl [HC]; · iexists _; iexact HC
  iexists _; iexact H

theorem paste3 (hA : A ⊆ W) (hB : B ⊆ W \ A) (hC : C ⊆ (W \ A) \ B) :
    iprop((∃ f, ℓ ↦[A]{fullShare} f) ∗ (∃ f, ℓ ↦[B]{fullShare} f) ∗ (∃ f, ℓ ↦[C]{fullShare} f)
          ∗ ∃ f, ℓ ↦[((W \ A) \ B) \ C]{fullShare} f)
      ⊢ (iprop(∃ f, ℓ ↦[W]{fullShare} f) : sProp 𝕄) := by
  iintro ⟨⟨%fA, HA⟩, ⟨%fB, HB⟩, ⟨%fC, HC⟩, ⟨%f, H⟩⟩
  ihave H := (pointsTo_join_subset hC) $$ [HC H]
  · isplitl [HC]; · iexact HC
    iexact H
  ihave H := (pointsTo_join_subset hB) $$ [HB H]
  · isplitl [HB]; · iexact HB
    iexact H
  ihave H := (pointsTo_join_subset hA) $$ [HA H]
  · isplitl [HA]; · iexact HA
    iexact H
  iexists _; iexact H

theorem cut1 (hA : A ⊆ W) :
    iprop(∃ f, ℓ ↦[W]{fullShare} f) ⊢ (iprop((∃ f, ℓ ↦[A]{fullShare} f) ∗ ∃ f, ℓ ↦[W \ A]{fullShare} f) : sProp 𝕄) := by
  iintro ⟨%f, H⟩
  ihave H := (pointsTo_split_subset hA).1 $$ H
  icases H with ⟨HA, H⟩
  isplitl [HA]; · iexists _; iexact HA
  iexists _; iexact H

theorem paste1 (hA : A ⊆ W) :
    iprop((∃ f, ℓ ↦[A]{fullShare} f) ∗ ∃ f, ℓ ↦[W \ A]{fullShare} f) ⊢ (iprop(∃ f, ℓ ↦[W]{fullShare} f) : sProp 𝕄) := by
  iintro ⟨⟨%fA, HA⟩, ⟨%f, H⟩⟩
  ihave H := (pointsTo_join_subset hA) $$ [HA H]
  · isplitl [HA]; · iexact HA
    iexact H
  iexists _; iexact H

end Cut

/-! ## A slot of packed words -/

section SlotW

variable (d : Dev nD) (L : grid0.Coords) (m : Memref sig .scVector .vmem S2x3x8x128 .i32) (b : ℕ)
  (h : ∀ a, ![b, 0, 0, 0] a + S1x3x8x128.size a ≤ S2x3x8x128.size a)
  (h0 : ∀ a, ![b, 0, 0, 0] a + S1x1x8x128.size a ≤ S2x3x8x128.size a) (h1 : ∀ a, ![b, 1, 0, 0] a + S1x1x8x128.size a ≤ S2x3x8x128.size a)
  (h2 : ∀ a, ![b, 2, 0, 0] a + S1x1x8x126.size a ≤ S2x3x8x128.size a)

/-- What no copy into the slot writes: the last two columns of its third piece. -/
abbrev Spare : sProp 𝕄 :=
  iprop(∃ f, (slotW m b h).view.loc (thr d L) ↦[(((slotW m b h).view.set \ (pieceW m b 0 h0).view.set) \ (pieceW m b 1 h1).view.set)
    \ (tailW m b 2 h2).view.set]{fullShare} f)

theorem rect_subset (p n : ℕ) (hp : p < 3) (hn : n ≤ 128) (size : Fin 4 → ℕ) (hs : size = ![1, 1, 8, n])
    (h' : ∀ a, ![b, p, 0, 0] a + size a ≤ S2x3x8x128.size a) :
    (Rect.unit (s := S2x3x8x128) ![b, p, 0, 0] size h').set ⊆ (Rect.unit (s := S2x3x8x128) ![b, 0, 0, 0] S1x3x8x128.size h).set := by
  subst hs
  intro i hi
  have hi := Rect.mem_set_unit.mp hi
  refine Rect.mem_set_unit.mpr ?_
  have a0 : b ≤ (i 0).val ∧ (i 0).val < b + 1 := hi 0
  have a1 : (i 1).val < 3 := (i 1).isLt
  have a2 : (i 2).val < 8 := (i 2).isLt
  have a3 : (i 3).val < 128 := (i 3).isLt
  refine (Fin.forall_fin_succ (n := 3)).mpr ⟨a0, (Fin.forall_fin_succ (n := 2)).mpr ⟨⟨Nat.zero_le _, ?_⟩, (Fin.forall_fin_succ (n := 1)).mpr ⟨⟨Nat.zero_le _, ?_⟩, (Fin.forall_fin_succ (n := 0)).mpr ⟨⟨Nat.zero_le _, ?_⟩, fun a => a.elim0⟩⟩⟩⟩
  · show (i 1).val < 0 + 3; omega
  · show (i 2).val < 0 + 8; omega
  · show (i 3).val < 0 + 128; omega

theorem sub0 : (pieceW m b 0 h0).view.set ⊆ (slotW m b h).view.set := by
  rw [set_squeeze_slice, set_squeeze_slice]
  exact Finset.map_subset_map.mpr (rect_subset b h 0 128 (by decide) (by decide) _ (by decide) h0)

theorem sub1 : (pieceW m b 1 h1).view.set ⊆ (slotW m b h).view.set \ (pieceW m b 0 h0).view.set := by
  rw [set_squeeze_slice, set_squeeze_slice, set_squeeze_slice]
  refine Finset.subset_sdiff.mpr ⟨Finset.map_subset_map.mpr (rect_subset b h 1 128 (by decide) (by decide) _ (by decide) h1), ?_⟩
  exact (Finset.disjoint_map _).mpr (Rect.unit_disjoint 1 (Or.inr (show 0 + 1 ≤ 1 by decide)))

theorem sub2 : (tailW m b 2 h2).view.set ⊆ ((slotW m b h).view.set \ (pieceW m b 0 h0).view.set) \ (pieceW m b 1 h1).view.set := by
  rw [set_squeeze_slice, set_squeeze_slice, set_squeeze_slice, set_squeeze_slice]
  refine Finset.subset_sdiff.mpr ⟨Finset.subset_sdiff.mpr ⟨Finset.map_subset_map.mpr (rect_subset b h 2 126 (by decide) (by decide) _ (by decide) h2), ?_⟩, ?_⟩
  · exact (Finset.disjoint_map _).mpr (Rect.unit_disjoint 1 (Or.inr (show 0 + 1 ≤ 2 by decide)))
  · exact (Finset.disjoint_map _).mpr (Rect.unit_disjoint 1 (Or.inr (show 1 + 1 ≤ 2 by decide)))

theorem cutW : Has (F := F) (thr d L) (slotW m b h)
    ⊢ iprop(Has (thr d L) (pieceW m b 0 h0) ∗ Has (thr d L) (pieceW m b 1 h1) ∗ Has (thr d L) (tailW m b 2 h2) ∗ Spare (F := F) d L m b h h0 h1 h2) :=
  cut3 (sub0 m b h h0) (sub1 m b h h0 h1) (sub2 m b h h0 h1 h2)

theorem pasteW : iprop(Has (thr d L) (pieceW m b 0 h0) ∗ Has (thr d L) (pieceW m b 1 h1) ∗ Has (thr d L) (tailW m b 2 h2) ∗ Spare (F := F) d L m b h h0 h1 h2)
    ⊢ Has (F := F) (thr d L) (slotW m b h) :=
  paste3 (sub0 m b h h0) (sub1 m b h h0 h1) (sub2 m b h h0 h1 h2)

end SlotW

/-! ## The result -/

section Result

variable (d : Dev nD) (L : grid0.Coords) (m : Memref sig .scVector .hbm S1376x16x8x128 .i32)

/-- Some blocks of the result, owned, at some contents. -/
abbrev Area (A : Finset S1376x16x8x128.Idx) : sProp 𝕄 := iprop(∃ f, m.view.loc (thr d L) ↦[m.view.setOn A]{fullShare} f)

/-- The block of number `n`. -/
def blk (n : ℕ) : Finset S1376x16x8x128.Idx := Finset.univ.filter fun i => (i 0).val = n
/-- The blocks of the vector subcore of number `w`: every 32nd. -/
def blks (w : ℕ) : Finset S1376x16x8x128.Idx := Finset.univ.filter fun i => (i 0).val % 32 = w

theorem blk_subset {n w : ℕ} (h : n % 32 = w) : blk n ⊆ blks w := by
  intro i hi
  simp only [blk, blks, Finset.mem_filter, Finset.mem_univ, true_and] at hi ⊢
  rw [hi, h]

theorem blk_disjoint {n n' : ℕ} (h : n ≠ n') : Disjoint (blk n) (blk n') := by
  rw [Finset.disjoint_left]
  intro i hi hi'
  simp only [blk, Finset.mem_filter, Finset.mem_univ, true_and] at hi hi'
  exact h (hi.symm.trans hi')

theorem rect_blk (n : ℕ) (off : Fin 4 → ℕ) (ho : off = ![n, 0, 0, 0]) (h : ∀ a, off a + S1x16x8x128.size a ≤ S1376x16x8x128.size a) :
    (Rect.unit (s := S1376x16x8x128) off S1x16x8x128.size h).set = blk n := by
  subst ho
  ext i
  rw [Rect.mem_set_unit]
  simp only [blk, Finset.mem_filter, Finset.mem_univ, true_and]
  have a1 : (i 1).val < 16 := (i 1).isLt
  have a2 : (i 2).val < 8 := (i 2).isLt
  have a3 : (i 3).val < 128 := (i 3).isLt
  constructor
  · intro hi
    have a0 : n ≤ (i 0).val ∧ (i 0).val < n + 1 := hi 0
    omega
  · intro hi
    refine (Fin.forall_fin_succ (n := 3)).mpr ⟨?_, (Fin.forall_fin_succ (n := 2)).mpr ⟨⟨Nat.zero_le _, ?_⟩, (Fin.forall_fin_succ (n := 1)).mpr ⟨⟨Nat.zero_le _, ?_⟩, (Fin.forall_fin_succ (n := 0)).mpr ⟨⟨Nat.zero_le _, ?_⟩, fun a => a.elim0⟩⟩⟩⟩
    · show n ≤ (i 0).val ∧ (i 0).val < n + 1; omega
    · show (i 1).val < 0 + 16; omega
    · show (i 2).val < 0 + 8; omega
    · show (i 3).val < 0 + 128; omega

/-- A block as the copy names it is the block of its number. -/
theorem has_blk (n : ℕ) (off : Fin 4 → ℕ) (ho : off = ![n, 0, 0, 0]) (h : ∀ a, off a + S1x16x8x128.size a ≤ S1376x16x8x128.size a) :
    (Has (F := F) (thr d L) (blockG m off h) : sProp 𝕄) = Area d L m (blk n) := by
  have e : (blockG m off h).view.set = m.view.setOn (blk n) := by
    rw [set_squeeze_slice, rect_blk n off ho h]
  show iprop(∃ f, m.view.loc (thr d L) ↦[(blockG m off h).view.set]{fullShare} f) = _
  rw [e]

theorem setOn_sdiff (A K : Finset S1376x16x8x128.Idx) : m.view.setOn (A \ K) = m.view.setOn A \ m.view.setOn K := by
  unfold View.setOn; exact Finset.map_sdiff _ _

theorem take_blk {A K : Finset S1376x16x8x128.Idx} (h : K ⊆ A) : Area (F := F) d L m A ⊢ iprop(Area d L m K ∗ Area d L m (A \ K)) := by
  show _ ⊢ iprop(_ ∗ ∃ f, m.view.loc (thr d L) ↦[m.view.setOn (A \ K)]{fullShare} f)
  rw [setOn_sdiff]
  exact cut1 (Finset.map_subset_map.mpr h)

theorem give_blk {A K : Finset S1376x16x8x128.Idx} (h : K ⊆ A) : iprop(Area d L m K ∗ Area d L m (A \ K)) ⊢ Area (F := F) d L m A := by
  show iprop(_ ∗ ∃ f, m.view.loc (thr d L) ↦[m.view.setOn (A \ K)]{fullShare} f) ⊢ _
  rw [setOn_sdiff]
  exact paste1 (Finset.map_subset_map.mpr h)

end Result

/-- A slot of the output buffer, as the copies name it and as the loops do. -/
theorem has_slotO (d : Dev nD) (L : grid0.Coords) (m : Memref sig .scVector .vmem S2x16x8x128 .i32) (b : ℕ)
    (h : ∀ a, ![b, 0, 0, 0] a + S1x16x8x128.size a ≤ S2x16x8x128.size a) :
    (Has (F := F) (thr d L) (slotO m b h) : sProp 𝕄) = Has (thr d L) (slotO' m b h) := by
  have e : (slotO m b h).view.set = (slotO' m b h).view.set := Memref.set_view_squeeze _ _
  show iprop(∃ f, (slotO' m b h).view.loc (thr d L) ↦[(slotO m b h).view.set]{fullShare} f) = _
  rw [e]

end Cert.ExpandProof
-- ==== Proof.ExpandLoops.lean ====
module
public import proofs.«01_k».proof.Proof.ExpandTrip2
public import proofs.«01_k».proof.Proof.ExpandTrip3
public import proofs.«01_k».proof.Proof.ExpandTrip4
public import proofs.«01_k».proof.Proof.ExpandTrip5
public import proofs.«01_k».proof.Proof.ExpandTrip6
public import proofs.«01_k».proof.Proof.ExpandTrip7
public import proofs.«01_k».proof.Proof.ExpandSlots

/-! The six loops of the SparseCore body, from their trips: each needs the table, its slot of packed words and its slot of the
    output buffer, and leaves them owned. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

variable (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)

/-- What a loop works on: the table, a slot of packed words, a slot of the output buffer. -/
abbrev Work (b : ℕ) (h6 : ∀ a, ![b, 0, 0, 0] a + S1x3x8x128.size a ≤ S2x3x8x128.size a) (h7 : ∀ a, ![b, 0, 0, 0] a + S1x16x8x128.size a ≤ S2x16x8x128.size a) : sProp 𝕄 :=
  iprop(Has (F := F) (thr d L) arg5 ∗ Has (F := F) (thr d L) (slotW arg6 b h6) ∗ Has (F := F) (thr d L) (slotO arg7 b h7))

theorem loop2 (v1 : BitVec 32) (k1 : Fin k0_t1_loop.trips) (v : BitVec 32) :
    Work (F := F) d L arg5 arg6 arg7 0 inb_S2x3x8x128_S1x3x8x128_0_0_0_0 inb_S2x16x8x128_S1x16x8x128_0_0_0_0
    ⊢ wp frame (wpE (defs₀ (F := F)) 𝒱₀ (thr d L) none) Set.univ
      (Scf.Loop.for k0_t2_loop k0_t2_ok ⟨⟩
        (k0_t2_body L arg2 harg2 arg3 harg3 arg4 harg4 arg5 harg5 arg6 harg6 arg7 harg7 arg8 arg9 arg10 arg11 v1 (iota .scVector S16 32 [0] iota_S16_d0_w32_scVector) k1 v))
      fun _ => Work (F := F) d L arg5 arg6 arg7 0 inb_S2x3x8x128_S1x3x8x128_0_0_0_0 inb_S2x16x8x128_S1x16x8x128_0_0_0_0 := by
  iintro H
  iapply (Scf.wp_for frame (wpE (defs₀ (F := F)) 𝒱₀ (thr d L) none) Set.univ _ _ _ k0_t2_ok ⟨⟩ _
    (fun _ _ => Work (F := F) d L arg5 arg6 arg7 0 inb_S2x3x8x128_S1x3x8x128_0_0_0_0 inb_S2x16x8x128_S1x16x8x128_0_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip2 d L arg2 harg2 arg3 harg3 arg4 harg4 arg5 harg5 arg6 harg6 arg7 harg7 arg8 arg9 arg10 arg11 v1 k1 v k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

theorem loop3 (v1 : BitVec 32) (k1 : Fin k0_t1_loop.trips) (v : BitVec 32) :
    Work (F := F) d L arg5 arg6 arg7 0 inb_S2x3x8x128_S1x3x8x128_0_0_0_0 inb_S2x16x8x128_S1x16x8x128_0_0_0_0
    ⊢ wp frame (wpE (defs₀ (F := F)) 𝒱₀ (thr d L) none) Set.univ
      (Scf.Loop.for k0_t3_loop k0_t3_ok ⟨⟩
        (k0_t3_body L arg2 harg2 arg3 harg3 arg4 harg4 arg5 harg5 arg6 harg6 arg7 harg7 arg8 arg9 arg10 arg11 v1 (iota .scVector S16 32 [0] iota_S16_d0_w32_scVector) k1 v))
      fun _ => Work (F := F) d L arg5 arg6 arg7 0 inb_S2x3x8x128_S1x3x8x128_0_0_0_0 inb_S2x16x8x128_S1x16x8x128_0_0_0_0 := by
  iintro H
  iapply (Scf.wp_for frame (wpE (defs₀ (F := F)) 𝒱₀ (thr d L) none) Set.univ _ _ _ k0_t3_ok ⟨⟩ _
    (fun _ _ => Work (F := F) d L arg5 arg6 arg7 0 inb_S2x3x8x128_S1x3x8x128_0_0_0_0 inb_S2x16x8x128_S1x16x8x128_0_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip3 d L arg2 harg2 arg3 harg3 arg4 harg4 arg5 harg5 arg6 harg6 arg7 harg7 arg8 arg9 arg10 arg11 v1 k1 v k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

theorem loop4 (v1 : BitVec 32) (k1 : Fin k0_t1_loop.trips) (v : BitVec 32) :
    Work (F := F) d L arg5 arg6 arg7 1 inb_S2x3x8x128_S1x3x8x128_1_0_0_0 inb_S2x16x8x128_S1x16x8x128_1_0_0_0
    ⊢ wp frame (wpE (defs₀ (F := F)) 𝒱₀ (thr d L) none) Set.univ
      (Scf.Loop.for k0_t4_loop k0_t4_ok ⟨⟩
        (k0_t4_body L arg2 harg2 arg3 harg3 arg4 harg4 arg5 harg5 arg6 harg6 arg7 harg7 arg8 arg9 arg10 arg11 v1 (iota .scVector S16 32 [0] iota_S16_d0_w32_scVector) k1 v))
      fun _ => Work (F := F) d L arg5 arg6 arg7 1 inb_S2x3x8x128_S1x3x8x128_1_0_0_0 inb_S2x16x8x128_S1x16x8x128_1_0_0_0 := by
  iintro H
  iapply (Scf.wp_for frame (wpE (defs₀ (F := F)) 𝒱₀ (thr d L) none) Set.univ _ _ _ k0_t4_ok ⟨⟩ _
    (fun _ _ => Work (F := F) d L arg5 arg6 arg7 1 inb_S2x3x8x128_S1x3x8x128_1_0_0_0 inb_S2x16x8x128_S1x16x8x128_1_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip4 d L arg2 harg2 arg3 harg3 arg4 harg4 arg5 harg5 arg6 harg6 arg7 harg7 arg8 arg9 arg10 arg11 v1 k1 v k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

theorem loop5 (v1 : BitVec 32) (k1 : Fin k0_t1_loop.trips) (v : BitVec 32) :
    Work (F := F) d L arg5 arg6 arg7 1 inb_S2x3x8x128_S1x3x8x128_1_0_0_0 inb_S2x16x8x128_S1x16x8x128_1_0_0_0
    ⊢ wp frame (wpE (defs₀ (F := F)) 𝒱₀ (thr d L) none) Set.univ
      (Scf.Loop.for k0_t5_loop k0_t5_ok ⟨⟩
        (k0_t5_body L arg2 harg2 arg3 harg3 arg4 harg4 arg5 harg5 arg6 harg6 arg7 harg7 arg8 arg9 arg10 arg11 v1 (iota .scVector S16 32 [0] iota_S16_d0_w32_scVector) k1 v))
      fun _ => Work (F := F) d L arg5 arg6 arg7 1 inb_S2x3x8x128_S1x3x8x128_1_0_0_0 inb_S2x16x8x128_S1x16x8x128_1_0_0_0 := by
  iintro H
  iapply (Scf.wp_for frame (wpE (defs₀ (F := F)) 𝒱₀ (thr d L) none) Set.univ _ _ _ k0_t5_ok ⟨⟩ _
    (fun _ _ => Work (F := F) d L arg5 arg6 arg7 1 inb_S2x3x8x128_S1x3x8x128_1_0_0_0 inb_S2x16x8x128_S1x16x8x128_1_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip5 d L arg2 harg2 arg3 harg3 arg4 harg4 arg5 harg5 arg6 harg6 arg7 harg7 arg8 arg9 arg10 arg11 v1 k1 v k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

theorem loop6 (v1 : BitVec 32) :
    Work (F := F) d L arg5 arg6 arg7 0 inb_S2x3x8x128_S1x3x8x128_0_0_0_0 inb_S2x16x8x128_S1x16x8x128_0_0_0_0
    ⊢ wp frame (wpE (defs₀ (F := F)) 𝒱₀ (thr d L) none) Set.univ
      (Scf.Loop.for k0_t6_loop k0_t6_ok ⟨⟩
        (k0_t6_body L arg2 harg2 arg3 harg3 arg4 harg4 arg5 harg5 arg6 harg6 arg7 harg7 arg8 arg9 arg10 arg11 v1 (iota .scVector S16 32 [0] iota_S16_d0_w32_scVector)))
      fun _ => Work (F := F) d L arg5 arg6 arg7 0 inb_S2x3x8x128_S1x3x8x128_0_0_0_0 inb_S2x16x8x128_S1x16x8x128_0_0_0_0 := by
  iintro H
  iapply (Scf.wp_for frame (wpE (defs₀ (F := F)) 𝒱₀ (thr d L) none) Set.univ _ _ _ k0_t6_ok ⟨⟩ _
    (fun _ _ => Work (F := F) d L arg5 arg6 arg7 0 inb_S2x3x8x128_S1x3x8x128_0_0_0_0 inb_S2x16x8x128_S1x16x8x128_0_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip6 d L arg2 harg2 arg3 harg3 arg4 harg4 arg5 harg5 arg6 harg6 arg7 harg7 arg8 arg9 arg10 arg11 v1 k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

theorem loop7 (v1 : BitVec 32) :
    Work (F := F) d L arg5 arg6 arg7 0 inb_S2x3x8x128_S1x3x8x128_0_0_0_0 inb_S2x16x8x128_S1x16x8x128_0_0_0_0
    ⊢ wp frame (wpE (defs₀ (F := F)) 𝒱₀ (thr d L) none) Set.univ
      (Scf.Loop.for k0_t7_loop k0_t7_ok ⟨⟩
        (k0_t7_body L arg2 harg2 arg3 harg3 arg4 harg4 arg5 harg5 arg6 harg6 arg7 harg7 arg8 arg9 arg10 arg11 v1 (iota .scVector S16 32 [0] iota_S16_d0_w32_scVector)))
      fun _ => Work (F := F) d L arg5 arg6 arg7 0 inb_S2x3x8x128_S1x3x8x128_0_0_0_0 inb_S2x16x8x128_S1x16x8x128_0_0_0_0 := by
  iintro H
  iapply (Scf.wp_for frame (wpE (defs₀ (F := F)) 𝒱₀ (thr d L) none) Set.univ _ _ _ k0_t7_ok ⟨⟩ _
    (fun _ _ => Work (F := F) d L arg5 arg6 arg7 0 inb_S2x3x8x128_S1x3x8x128_0_0_0_0 inb_S2x16x8x128_S1x16x8x128_0_0_0_0) ?_)
  rotate_left
  · isplitl [H]; · iexact H
    iintro %acc H
    iexact H
  intro k acc
  unfold Work
  rw [has_slotO]
  iintro ⟨⟨%f5, H5⟩, ⟨%f6, H6⟩, ⟨%f7, H7⟩⟩
  iapply (wp_wand_r frame (wpE (defs₀ (F := F)) 𝒱₀ (thr d L) none) Set.univ)
  isplitl [H5 H6 H7]
  · iapply (trip7 d L arg2 harg2 arg3 harg3 arg4 harg4 arg5 harg5 arg6 harg6 arg7 harg7 arg8 arg9 arg10 arg11 v1 k _ rfl f5 f6 f7)
    isplitl [H5]; · iexact H5
    isplitl [H6]; · iexact H6
    iexact H7
  iintro %acc' ⟨H5, H6, H7⟩
  isplitl [H5]; · iexists _; iexact H5
  isplitl [H6]; · iexists _; iexact H6
  iexact H7

end Cert.ExpandProof
-- ==== Proof.ExpandStep.lean ====
module
public import proofs.«01_k».proof.Proof.ExpandLoops

/-! What the SparseCore body holds between its stages, and the stages of one double step. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

variable (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
  (q₀ q₁ q₂ : PosShare TreeShare) (f2 : Buf (Elt F) (arg2.view.loc (thr d L)))

/-- `b` numbers a slot. -/
class Slot (b : ℕ) : Prop where
  lt : b < 2
instance : Slot 0 := ⟨by decide⟩
instance : Slot 1 := ⟨by decide⟩

theorem hSlot (b : ℕ) [h : Slot b] : ∀ a, ![b, 0, 0, 0] a + S1x3x8x128.size a ≤ S2x3x8x128.size a :=
  match b, h.lt with | 0, _ => by decide | 1, _ => by decide
theorem hP0 (b : ℕ) [h : Slot b] : ∀ a, ![b, 0, 0, 0] a + S1x1x8x128.size a ≤ S2x3x8x128.size a :=
  match b, h.lt with | 0, _ => by decide | 1, _ => by decide
theorem hP1 (b : ℕ) [h : Slot b] : ∀ a, ![b, 1, 0, 0] a + S1x1x8x128.size a ≤ S2x3x8x128.size a :=
  match b, h.lt with | 0, _ => by decide | 1, _ => by decide
theorem hP2 (b : ℕ) [h : Slot b] : ∀ a, ![b, 2, 0, 0] a + S1x1x8x126.size a ≤ S2x3x8x128.size a :=
  match b, h.lt with | 0, _ => by decide | 1, _ => by decide
theorem hOut (b : ℕ) [h : Slot b] : ∀ a, ![b, 0, 0, 0] a + S1x16x8x128.size a ≤ S2x16x8x128.size a :=
  match b, h.lt with | 0, _ => by decide | 1, _ => by decide
theorem hSem (b : ℕ) [h : Slot b] : ∀ a, ![b] a + S1.size a ≤ S2.size a :=
  match b, h.lt with | 0, _ => by decide | 1, _ => by decide

abbrev p0 (b : ℕ) [Slot b] : Memref sig .scVector .vmem S8x128 .i32 := pieceW arg6 b 0 (hP0 b)
abbrev p1 (b : ℕ) [Slot b] : Memref sig .scVector .vmem S8x128 .i32 := pieceW arg6 b 1 (hP1 b)
abbrev p2 (b : ℕ) [Slot b] : Memref sig .scVector .vmem S8x126 .i32 := tailW arg6 b 2 (hP2 b)
abbrev oS (b : ℕ) [Slot b] : Memref sig .scVector .vmem S16x8x128 .i32 := slotO arg7 b (hOut b)
abbrev wS (b : ℕ) [Slot b] : Memref sig .scVector .vmem S3x8x128 .i32 := slotW arg6 b (hSlot b)
abbrev Sp (b : ℕ) [Slot b] : sProp 𝕄 := Spare (F := F) d L arg6 b (hSlot b) (hP0 b) (hP1 b) (hP2 b)
abbrev Zero (s : DmaSem sig) : sProp 𝕄 := semVal (thr d L, .dma s) 0

/-- The credit of a copy of one piece of packed words, of the shorter one, and of one block of the result. -/
abbrev nW : ℕ := arg6.view.ref.dmaCredit S8x128 .i32
abbrev nT : ℕ := arg6.view.ref.dmaCredit S8x126 .i32
abbrev nO : ℕ := arg4.view.ref.dmaCredit S16x8x128 .i32

theorem nW_pos : 0 < nW arg6 := View.dmaCredit_pos (pieceW arg6 0 0 inb_S2x3x8x128_S1x1x8x128_0_0_0_0).view (by decide)

abbrev Wd (q : PosShare TreeShare) : sProp 𝕄 := iprop(arg2.view.loc (thr d L) ↦[Finset.univ]{q} f2)

/-- Slot `b` of packed words on its way in, and at rest. -/
abbrev Pair (b : ℕ) [Slot b] (u : ℕ) : sProp 𝕄 := FlyPair (thr d L) (p0 arg6 b) (p1 arg6 b) (sem2 arg9 b (hSem b)) (nW arg6) (arg2.view.loc (thr d L)) q₀ q₁ f2 u
abbrev Tail (b : ℕ) [Slot b] : sProp 𝕄 := FlyIn (thr d L) (p2 arg6 b) (sem2 arg11 b (hSem b)) (nT arg6) (arg2.view.loc (thr d L)) q₂ f2
abbrev IdleW (b : ℕ) [Slot b] : sProp 𝕄 :=
  iprop(Has (F := F) (thr d L) (wS arg6 b) ∗ Zero (F := F) d L (sem2 arg9 b (hSem b)) ∗ Zero (F := F) d L (sem2 arg11 b (hSem b)))

/-- Slot `b` of the output buffer on its way out to block `n`, and at rest. -/
abbrev OutFly (b : ℕ) [Slot b] (n : ℕ) : sProp 𝕄 :=
  Transfers.Flight EK (thr d L) (.dma (sem2 arg10 b (hSem b))) (none : HIx 1) (nO arg4) iprop(Area (F := F) d L arg4 (blk n) ∗ Has (F := F) (thr d L) (oS arg7 b))
abbrev OutIdle (b : ℕ) [Slot b] : sProp 𝕄 := iprop(Has (F := F) (thr d L) (oS arg7 b) ∗ Zero (F := F) d L (sem2 arg10 b (hSem b)))
def Out (b : ℕ) [Slot b] (k n : ℕ) : sProp 𝕄 := if k = 0 then OutIdle d L arg7 arg10 b else OutFly d L arg4 arg7 arg10 b n
/-- The blocks `A` without block `n`, once a copy to it may be on its way. -/
def rem (k n : ℕ) (A : Finset S1376x16x8x128.Idx) : Finset S1376x16x8x128.Idx := if k = 0 then A else A \ blk n

/-- Starting the copy of the last piece of slot `b`. -/
theorem start_tail (b : ℕ) [Slot b] (off : Fin 2 → ℕ) (h : ∀ a, off a + S8x126.size a ≤ S11008x382.size a) {h₁ h₂ h₃} (Q : PUnit → sProp 𝕄) :
    iprop(Wd d L arg2 f2 q₂ ∗ Has (F := F) (thr d L) (p2 arg6 b) ∗ Zero (F := F) d L (sem2 arg11 b (hSem b)))
    ⊢ iprop((Tail d L arg2 arg6 arg11 q₂ f2 b -∗ Q ⟨⟩)
      -∗ wp frame (wpE (defs₀ (F := F)) 𝒱₀ (thr d L) none) Set.univ
        (Prog.lift (.enqueueDma (arg2.slice (Rect.unit (s := S11008x382) off S8x126.size h) (fun _ => rfl)) (.here (p2 arg6 b)) (.dma (sem2 arg11 b (hSem b))) h₁ h₂ h₃)) Q) := by
  have hp : 0 < (p2 arg6 b).view.amount (.dma (sem2 arg11 b (hSem b))) := View.dmaCredit_pos (p2 arg6 b).view (by decide)
  have h' := start_in (t := thr d L) (src := arg2.slice (Rect.unit (s := S11008x382) off S8x126.size h) (fun _ => rfl)) (dst := p2 arg6 b)
    (sem := sem2 arg11 b (hSem b)) (hsrc := h₁) (hdst := h₂) (hsem := h₃) q₂ f2 hp Q
  exact h'

theorem out_idle (b : ℕ) [Slot b] {k : ℕ} (hk : k = 0) (n : ℕ) :
    Out (F := F) d L arg4 arg7 arg10 b k n ⊢ OutIdle (F := F) d L arg7 arg10 b := by
  unfold Out; rw [if_pos hk]
theorem out_fly (b : ℕ) [Slot b] {k : ℕ} (hk : k ≠ 0) (n : ℕ) :
    Out (F := F) d L arg4 arg7 arg10 b k n ⊢ OutFly (F := F) d L arg4 arg7 arg10 b n := by
  unfold Out; rw [if_neg hk]
theorem area_zero {k : ℕ} (hk : k = 0) (n : ℕ) (A : Finset S1376x16x8x128.Idx) :
    Area (F := F) d L arg4 (rem k n A) ⊢ Area (F := F) d L arg4 A := by
  unfold rem; rw [if_pos hk]
theorem area_succ {k : ℕ} (hk : k ≠ 0) (n : ℕ) (A : Finset S1376x16x8x128.Idx) :
    Area (F := F) d L arg4 (rem k n A) ⊢ Area (F := F) d L arg4 (A \ blk n) := by
  unfold rem; rw [if_neg hk]

/-- The stage that waits for the first two pieces of slot 0. -/
theorem part35_spec (O : CellTallies nD τ sig (HIx 1)) (v1 c0 c1 : BitVec 32) (k : Fin k0_t1_loop.trips) :
    iprop(Transfers.MayWaits (thr d L) (none : HIx 1) O ∗ Pair d L arg2 arg6 arg9 q₀ q₁ f2 0 0 ∗ OW (thr d L) O)
    ⊢ wp frame (wpE (defs₀ (F := F)) 𝒱₀ (thr d L) none) Set.univ (k0_part35 L arg2 harg2 arg3 harg3 arg4 harg4 arg5 harg5 arg6 harg6 arg7 harg7 arg8 arg9 arg10 arg11 v1 c0 c1 k)
      fun _ => iprop(Has (F := F) (thr d L) (p0 arg6 0) ∗ Has (F := F) (thr d L) (p1 arg6 0) ∗ Wd d L arg2 f2 q₀ ∗ Wd d L arg2 f2 q₁ ∗ Zero (F := F) d L (sem2 arg9 0 inb_S2_S1_0) ∗ OW (thr d L) O) := by
  conv => rhs; rw [k0_part35_eq_skeleton]; unfold k0_part35_skel
  iintro ⟨#Hm, Hp, HO⟩
  ihave Hm0 := (Transfers.MayWaits.elim (.dma (sem2 arg9 0 inb_S2_S1_0))) $$ Hm
  ihave Hm1 := (Transfers.MayWaits.elim (.dma (sem2 arg9 0 inb_S2_S1_0))) $$ Hm
  simp only [wp_bind, wp_pure]
  iapply (wait_pair0 (N := nW arg6) rfl (nW_pos arg6) _) $$ [Hp HO Hm0]
  · isplitl [Hp]; · iexact Hp
    isplitl [HO]; · iexact HO
    iexact Hm0
  iintro ⟨Hp, HO⟩
  iapply (wait_pair1 (N := nW arg6) rfl (nW_pos arg6) _) $$ [Hp HO Hm1]
  · isplitl [Hp]; · iexact Hp
    isplitl [HO]; · iexact HO
    iexact Hm1
  iintro ⟨H1, H2, H3, H4, H5, H6⟩
  isplitl [H1]; · iexact H1
  isplitl [H2]; · iexact H2
  isplitl [H3]; · iexact H3
  isplitl [H4]; · iexact H4
  isplitl [H5]; · iexact H5
  iexact H6

/-- The stage that starts the first two pieces of slot 1. -/
theorem part1_spec (v1 v : BitVec 32) (k : Fin k0_t1_loop.trips) (hk : k0_cond1 k = 1#1) :
    iprop(Has (F := F) (thr d L) (p0 arg6 1) ∗ Has (F := F) (thr d L) (p1 arg6 1) ∗ Wd d L arg2 f2 q₀ ∗ Wd d L arg2 f2 q₁ ∗ Zero (F := F) d L (sem2 arg9 1 inb_S2_S1_1))
    ⊢ wp frame (wpE (defs₀ (F := F)) 𝒱₀ (thr d L) none) Set.univ (k0_part1 L arg2 harg2 arg3 harg3 arg4 harg4 arg5 harg5 arg6 harg6 arg7 harg7 arg8 arg9 arg10 arg11 v1 k v hk)
      fun _ => Pair d L arg2 arg6 arg9 q₀ q₁ f2 1 0 := by
  conv => rhs; rw [k0_part1_eq_skeleton]; unfold k0_part1_skel
  iintro ⟨H0, H1, Hw0, Hw1, Hz⟩
  simp only [wp_bind, wp_pure]
  iapply (start_pair0 (t := thr d L) (src := arg2.slice (Rect.unit (s := S11008x382) (k0_off7 L k) S8x128.size (k0_off7_inb L k hk)) (fun _ => rfl)) (dst := p0 arg6 1) (sem := sem2 arg9 1 inb_S2_S1_1) q₀ f2 (nW arg6) rfl iprop(Has (F := F) (thr d L) (p1 arg6 1) ∗ (arg2.view.loc (thr d L) ↦[(arg2.slice (Rect.unit (s := S11008x382) (k0_off8 L k) S8x128.size (k0_off8_inb L k hk)) (fun _ => rfl)).view.set]{q₁} f2)) _) $$ [H0 Hw0 Hz]
  · isplitl [Hw0]; · iexact Hw0
    isplitl [H0]; · iexact H0
    iexact Hz
  iintro ⟨Hb, Hr0⟩
  iapply (start_pair1 (t := thr d L) (src := arg2.slice (Rect.unit (s := S11008x382) (k0_off8 L k) S8x128.size (k0_off8_inb L k hk)) (fun _ => rfl)) (dst := p1 arg6 1) (sem := sem2 arg9 1 inb_S2_S1_1) q₁ f2 (nW arg6) rfl _ _) $$ [H1 Hw1 Hb]
  · isplitl [Hw1]; · iexact Hw1
    isplitl [H1]; · iexact H1
    iexact Hb
  iintro ⟨Hb, Hr1⟩
  iexists _, _
  isplitl [Hb]; · iexact Hb
  isplitl [Hr0]; · iexact Hr0
  iexact Hr1

/-- The stage that starts the first two pieces of slot 0. -/
theorem part18_spec (v1 v : BitVec 32) (k : Fin k0_t1_loop.trips) (hk : k0_cond3 k = 1#1) :
    iprop(Has (F := F) (thr d L) (p0 arg6 0) ∗ Has (F := F) (thr d L) (p1 arg6 0) ∗ Wd d L arg2 f2 q₀ ∗ Wd d L arg2 f2 q₁ ∗ Zero (F := F) d L (sem2 arg9 0 inb_S2_S1_0))
    ⊢ wp frame (wpE (defs₀ (F := F)) 𝒱₀ (thr d L) none) Set.univ (k0_part18 L arg2 harg2 arg3 harg3 arg4 harg4 arg5 harg5 arg6 harg6 arg7 harg7 arg8 arg9 arg10 arg11 v1 k v hk)
      fun _ => Pair d L arg2 arg6 arg9 q₀ q₁ f2 0 0 := by
  conv => rhs; rw [k0_part18_eq_skeleton]; unfold k0_part18_skel
  iintro ⟨H0, H1, Hw0, Hw1, Hz⟩
  simp only [wp_bind, wp_pure]
  iapply (start_pair0 (t := thr d L) (src := arg2.slice (Rect.unit (s := S11008x382) (k0_off47 L k) S8x128.size (k0_off47_inb L k hk)) (fun _ => rfl)) (dst := p0 arg6 0) (sem := sem2 arg9 0 inb_S2_S1_0) q₀ f2 (nW arg6) rfl iprop(Has (F := F) (thr d L) (p1 arg6 0) ∗ (arg2.view.loc (thr d L) ↦[(arg2.slice (Rect.unit (s := S11008x382) (k0_off48 L k) S8x128.size (k0_off48_inb L k hk)) (fun _ => rfl)).view.set]{q₁} f2)) _) $$ [H0 Hw0 Hz]
  · isplitl [Hw0]; · iexact Hw0
    isplitl [H0]; · iexact H0
    iexact Hz
  iintro ⟨Hb, Hr0⟩
  iapply (start_pair1 (t := thr d L) (src := arg2.slice (Rect.unit (s := S11008x382) (k0_off48 L k) S8x128.size (k0_off48_inb L k hk)) (fun _ => rfl)) (dst := p1 arg6 0) (sem := sem2 arg9 0 inb_S2_S1_0) q₁ f2 (nW arg6) rfl _ _) $$ [H1 Hw1 Hb]
  · isplitl [Hw1]; · iexact Hw1
    isplitl [H1]; · iexact H1
    iexact Hb
  iintro ⟨Hb, Hr1⟩
  iexists _, _
  isplitl [Hb]; · iexact Hb
  isplitl [Hr0]; · iexact Hr0
  iexact Hr1

/-- The stage that waits for the last piece of slot 0, starts slot 1, waits for the output slot 0 to be out if it is on its way, and
    fills it. -/
theorem part36_spec (O : CellTallies nD τ sig (HIx 1)) (v1 v : BitVec 32) (k : Fin k0_t1_loop.trips) (n : ℕ) (A : Finset S1376x16x8x128.Idx)
    (hn : k.val ≠ 0 → blk n ⊆ A) :
    iprop(Transfers.MayWaits (thr d L) (none : HIx 1) O ∗ Has (F := F) (thr d L) (p0 arg6 0) ∗ Has (F := F) (thr d L) (p1 arg6 0) ∗ Wd d L arg2 f2 q₀ ∗ Wd d L arg2 f2 q₁ ∗ Zero (F := F) d L (sem2 arg9 0 inb_S2_S1_0) ∗ Tail d L arg2 arg6 arg11 q₂ f2 0 ∗ Sp (F := F) d L arg6 0
      ∗ IdleW (F := F) d L arg6 arg9 arg11 1 ∗ Has (F := F) (thr d L) arg5 ∗ Out (F := F) d L arg4 arg7 arg10 0 k.val n
      ∗ Area (F := F) d L arg4 (rem k.val n A) ∗ OW (thr d L) O)
    ⊢ wp frame (wpE (defs₀ (F := F)) 𝒱₀ (thr d L) none) Set.univ (k0_part36 L arg2 harg2 arg3 harg3 arg4 harg4 arg5 harg5 arg6 harg6 arg7 harg7 arg8 arg9 arg10 arg11 v1 (iota .scVector S16 32 [0] iota_S16_d0_w32_scVector) k v)
      fun _ => iprop(IdleW (F := F) d L arg6 arg9 arg11 0 ∗ Pair d L arg2 arg6 arg9 q₀ q₁ f2 1 0 ∗ Tail d L arg2 arg6 arg11 q₂ f2 1
        ∗ Sp (F := F) d L arg6 1 ∗ Has (F := F) (thr d L) arg5 ∗ OutIdle (F := F) d L arg7 arg10 0 ∗ Area (F := F) d L arg4 A ∗ OW (thr d L) O) := by
  have hc1 : k0_cond1 k = 1#1 := by clear hn; revert k; decide +kernel
  have hc2 : k0_cond2 k = 1#1 ↔ k.val ≠ 0 := by clear hn hc1; revert k; decide +kernel
  conv => rhs; rw [k0_part36_eq_skeleton]; unfold k0_part36_skel
  iintro ⟨#Hm, H0, H1, Hw0, Hw1, Hz9, Ht, Hs, ⟨Hi, Hi9, Hi11⟩, H5, Ho, Ha, HO⟩
  simp only [wp_bind, wp_pure, dif_pos hc1]
  ihave Hm0 := (Transfers.MayWaits.elim (.dma (sem2 arg11 0 inb_S2_S1_0))) $$ Hm
  iapply (wait_in (N := nT arg6) rfl _) $$ [Ht HO Hm0]
  · isplitl [Ht]; · iexact Ht
    isplitl [HO]; · iexact HO
    iexact Hm0
  iintro ⟨H2, Hw2, Hz11, HO⟩
  -- slot 0 is whole again; slot 1 starts
  ihave Hslot := (pasteW (F := F) d L arg6 0 (hSlot 0) (hP0 0) (hP1 0) (hP2 0)) $$ [H0 H1 H2 Hs]
  · isplitl [H0]; · iexact H0
    isplitl [H1]; · iexact H1
    isplitl [H2]; · iexact H2
    iexact Hs
  ihave Hi := (cutW (F := F) d L arg6 1 (hSlot 1) (hP0 1) (hP1 1) (hP2 1)) $$ Hi
  icases Hi with ⟨H0, H1, H2, Hs⟩
  iapply (wp_wand_r frame (wpE (defs₀ (F := F)) 𝒱₀ (thr d L) none) Set.univ)
  isplitl [H0 H1 Hw0 Hw1 Hi9]
  · iapply (part1_spec d L arg2 harg2 arg3 harg3 arg4 harg4 arg5 harg5 arg6 harg6 arg7 harg7 arg8 arg9 arg10 arg11 q₀ q₁ f2 v1 v k hc1)
    isplitl [H0]; · iexact H0
    isplitl [H1]; · iexact H1
    isplitl [Hw0]; · iexact Hw0
    isplitl [Hw1]; · iexact Hw1
    iexact Hi9
  iintro %_ Hp
  iapply (start_tail d L arg2 arg6 arg11 q₂ f2 1 (k0_off9 L k) (k0_off9_inb L k hc1) _) $$ [H2 Hw2 Hi11]
  · isplitl [Hw2]; · iexact Hw2
    isplitl [H2]; · iexact H2
    iexact Hi11
  iintro Ht
  -- the output slot, then the loops
  by_cases hk : k.val = 0
  · simp only [wp_bind, wp_pure, dif_neg (show ¬ k0_cond2 k = 1#1 from fun h => hc2.mp h hk)]
    ihave Ho := (out_idle d L arg4 arg7 arg10 0 hk n) $$ Ho
    ihave Ha := (area_zero d L arg4 hk n A) $$ Ha
    icases Ho with ⟨Ho, Hz10⟩
    iapply (wp_wand_r frame (wpE (defs₀ (F := F)) 𝒱₀ (thr d L) none) Set.univ)
    isplitl [H5 Hslot Ho]
    · iapply (loop2 d L arg2 harg2 arg3 harg3 arg4 harg4 arg5 harg5 arg6 harg6 arg7 harg7 arg8 arg9 arg10 arg11 v1 k v)
      isplitl [H5]; · iexact H5
      isplitl [Hslot]; · iexact Hslot
      iexact Ho
    iintro %_ Hwork
    iapply (wp_wand_r frame (wpE (defs₀ (F := F)) 𝒱₀ (thr d L) none) Set.univ)
    isplitl [Hwork]
    · iapply (loop3 d L arg2 harg2 arg3 harg3 arg4 harg4 arg5 harg5 arg6 harg6 arg7 harg7 arg8 arg9 arg10 arg11 v1 k v)
      iexact Hwork
    iintro %_ ⟨H5, Hslot, Ho⟩
    isplitl [Hslot Hz9 Hz11]
    · isplitl [Hslot]; · iexact Hslot
      isplitl [Hz9]; · iexact Hz9
      iexact Hz11
    isplitl [Hp]; · iexact Hp
    isplitl [Ht]; · iexact Ht
    isplitl [Hs]; · iexact Hs
    isplitl [H5]; · iexact H5
    isplitl [Ho Hz10]
    · isplitl [Ho]; · iexact Ho
      iexact Hz10
    isplitl [Ha]; · iexact Ha
    iexact HO
  · simp only [wp_bind, wp_pure, dif_pos (hc2.mpr hk)]
    ihave Ho := (out_fly d L arg4 arg7 arg10 0 hk n) $$ Ho
    ihave Ha := (area_succ d L arg4 hk n A) $$ Ha
    ihave Hm0 := (Transfers.MayWaits.elim (.dma (sem2 arg10 0 inb_S2_S1_0))) $$ Hm
    iapply (wait_fly (N := nO arg4) rfl _) $$ [Ho HO Hm0]
    · isplitl [Ho]; · iexact Ho
      isplitl [HO]; · iexact HO
      iexact Hm0
    iintro ⟨⟨Hb, Ho⟩, Hz10, HO⟩
    ihave Ha := (give_blk d L arg4 (hn hk)) $$ [Hb Ha]
    · isplitl [Hb]; · iexact Hb
      iexact Ha
    iapply (wp_wand_r frame (wpE (defs₀ (F := F)) 𝒱₀ (thr d L) none) Set.univ)
    isplitl [H5 Hslot Ho]
    · iapply (loop2 d L arg2 harg2 arg3 harg3 arg4 harg4 arg5 harg5 arg6 harg6 arg7 harg7 arg8 arg9 arg10 arg11 v1 k v)
      isplitl [H5]; · iexact H5
      isplitl [Hslot]; · iexact Hslot
      iexact Ho
    iintro %_ Hwork
    iapply (wp_wand_r frame (wpE (defs₀ (F := F)) 𝒱₀ (thr d L) none) Set.univ)
    isplitl [Hwork]
    · iapply (loop3 d L arg2 harg2 arg3 harg3 arg4 harg4 arg5 harg5 arg6 harg6 arg7 harg7 arg8 arg9 arg10 arg11 v1 k v)
      iexact Hwork
    iintro %_ ⟨H5, Hslot, Ho⟩
    isplitl [Hslot Hz9 Hz11]
    · isplitl [Hslot]; · iexact Hslot
      isplitl [Hz9]; · iexact Hz9
      iexact Hz11
    isplitl [Hp]; · iexact Hp
    isplitl [Ht]; · iexact Ht
    isplitl [Hs]; · iexact Hs
    isplitl [H5]; · iexact H5
    isplitl [Ho Hz10]
    · isplitl [Ho]; · iexact Ho
      iexact Hz10
    isplitl [Ha]; · iexact Ha
    iexact HO

/-- The stage that waits for the last piece of slot 1, starts slot 0, waits for the output slot 1 to be out if it is on its way, and
    fills it. -/
theorem part38_spec (O : CellTallies nD τ sig (HIx 1)) (v1 v : BitVec 32) (k : Fin k0_t1_loop.trips) (n : ℕ) (A : Finset S1376x16x8x128.Idx)
    (hn : k.val ≠ 0 → blk n ⊆ A) :
    iprop(Transfers.MayWaits (thr d L) (none : HIx 1) O ∗ Has (F := F) (thr d L) (p0 arg6 1) ∗ Has (F := F) (thr d L) (p1 arg6 1) ∗ Wd d L arg2 f2 q₀ ∗ Wd d L arg2 f2 q₁ ∗ Zero (F := F) d L (sem2 arg9 1 inb_S2_S1_1) ∗ Tail d L arg2 arg6 arg11 q₂ f2 1 ∗ Sp (F := F) d L arg6 1
      ∗ IdleW (F := F) d L arg6 arg9 arg11 0 ∗ Has (F := F) (thr d L) arg5 ∗ Out (F := F) d L arg4 arg7 arg10 1 k.val n
      ∗ Area (F := F) d L arg4 (rem k.val n A) ∗ OW (thr d L) O)
    ⊢ wp frame (wpE (defs₀ (F := F)) 𝒱₀ (thr d L) none) Set.univ (k0_part38 L arg2 harg2 arg3 harg3 arg4 harg4 arg5 harg5 arg6 harg6 arg7 harg7 arg8 arg9 arg10 arg11 v1 (iota .scVector S16 32 [0] iota_S16_d0_w32_scVector) k v)
      fun _ => iprop(IdleW (F := F) d L arg6 arg9 arg11 1 ∗ Pair d L arg2 arg6 arg9 q₀ q₁ f2 0 0 ∗ Tail d L arg2 arg6 arg11 q₂ f2 0
        ∗ Sp (F := F) d L arg6 0 ∗ Has (F := F) (thr d L) arg5 ∗ OutIdle (F := F) d L arg7 arg10 1 ∗ Area (F := F) d L arg4 A ∗ OW (thr d L) O) := by
  have hc1 : k0_cond3 k = 1#1 := by clear hn; revert k; decide +kernel
  have hc2 : k0_cond4 k = 1#1 ↔ k.val ≠ 0 := by clear hn hc1; revert k; decide +kernel
  conv => rhs; rw [k0_part38_eq_skeleton]; unfold k0_part38_skel
  iintro ⟨#Hm, H0, H1, Hw0, Hw1, Hz9, Ht, Hs, ⟨Hi, Hi9, Hi11⟩, H5, Ho, Ha, HO⟩
  simp only [wp_bind, wp_pure, dif_pos hc1]
  ihave Hm0 := (Transfers.MayWaits.elim (.dma (sem2 arg11 1 inb_S2_S1_1))) $$ Hm
  iapply (wait_in (N := nT arg6) rfl _) $$ [Ht HO Hm0]
  · isplitl [Ht]; · iexact Ht
    isplitl [HO]; · iexact HO
    iexact Hm0
  iintro ⟨H2, Hw2, Hz11, HO⟩
  -- slot 1 is whole again; slot 0 starts
  ihave Hslot := (pasteW (F := F) d L arg6 1 (hSlot 1) (hP0 1) (hP1 1) (hP2 1)) $$ [H0 H1 H2 Hs]
  · isplitl [H0]; · iexact H0
    isplitl [H1]; · iexact H1
    isplitl [H2]; · iexact H2
    iexact Hs
  ihave Hi := (cutW (F := F) d L arg6 0 (hSlot 0) (hP0 0) (hP1 0) (hP2 0)) $$ Hi
  icases Hi with ⟨H0, H1, H2, Hs⟩
  iapply (wp_wand_r frame (wpE (defs₀ (F := F)) 𝒱₀ (thr d L) none) Set.univ)
  isplitl [H0 H1 Hw0 Hw1 Hi9]
  · iapply (part18_spec d L arg2 harg2 arg3 harg3 arg4 harg4 arg5 harg5 arg6 harg6 arg7 harg7 arg8 arg9 arg10 arg11 q₀ q₁ f2 v1 v k hc1)
    isplitl [H0]; · iexact H0
    isplitl [H1]; · iexact H1
    isplitl [Hw0]; · iexact Hw0
    isplitl [Hw1]; · iexact Hw1
    iexact Hi9
  iintro %_ Hp
  iapply (start_tail d L arg2 arg6 arg11 q₂ f2 0 (k0_off49 L k) (k0_off49_inb L k hc1) _) $$ [H2 Hw2 Hi11]
  · isplitl [Hw2]; · iexact Hw2
    isplitl [H2]; · iexact H2
    iexact Hi11
  iintro Ht
  -- the output slot, then the loops
  by_cases hk : k.val = 0
  · simp only [wp_bind, wp_pure, dif_neg (show ¬ k0_cond4 k = 1#1 from fun h => hc2.mp h hk)]
    ihave Ho := (out_idle d L arg4 arg7 arg10 1 hk n) $$ Ho
    ihave Ha := (area_zero d L arg4 hk n A) $$ Ha
    icases Ho with ⟨Ho, Hz10⟩
    iapply (wp_wand_r frame (wpE (defs₀ (F := F)) 𝒱₀ (thr d L) none) Set.univ)
    isplitl [H5 Hslot Ho]
    · iapply (loop4 d L arg2 harg2 arg3 harg3 arg4 harg4 arg5 harg5 arg6 harg6 arg7 harg7 arg8 arg9 arg10 arg11 v1 k v)
      isplitl [H5]; · iexact H5
      isplitl [Hslot]; · iexact Hslot
      iexact Ho
    iintro %_ Hwork
    iapply (wp_wand_r frame (wpE (defs₀ (F := F)) 𝒱₀ (thr d L) none) Set.univ)
    isplitl [Hwork]
    · iapply (loop5 d L arg2 harg2 arg3 harg3 arg4 harg4 arg5 harg5 arg6 harg6 arg7 harg7 arg8 arg9 arg10 arg11 v1 k v)
      iexact Hwork
    iintro %_ ⟨H5, Hslot, Ho⟩
    isplitl [Hslot Hz9 Hz11]
    · isplitl [Hslot]; · iexact Hslot
      isplitl [Hz9]; · iexact Hz9
      iexact Hz11
    isplitl [Hp]; · iexact Hp
    isplitl [Ht]; · iexact Ht
    isplitl [Hs]; · iexact Hs
    isplitl [H5]; · iexact H5
    isplitl [Ho Hz10]
    · isplitl [Ho]; · iexact Ho
      iexact Hz10
    isplitl [Ha]; · iexact Ha
    iexact HO
  · simp only [wp_bind, wp_pure, dif_pos (hc2.mpr hk)]
    ihave Ho := (out_fly d L arg4 arg7 arg10 1 hk n) $$ Ho
    ihave Ha := (area_succ d L arg4 hk n A) $$ Ha
    ihave Hm0 := (Transfers.MayWaits.elim (.dma (sem2 arg10 1 inb_S2_S1_1))) $$ Hm
    iapply (wait_fly (N := nO arg4) rfl _) $$ [Ho HO Hm0]
    · isplitl [Ho]; · iexact Ho
      isplitl [HO]; · iexact HO
      iexact Hm0
    iintro ⟨⟨Hb, Ho⟩, Hz10, HO⟩
    ihave Ha := (give_blk d L arg4 (hn hk)) $$ [Hb Ha]
    · isplitl [Hb]; · iexact Hb
      iexact Ha
    iapply (wp_wand_r frame (wpE (defs₀ (F := F)) 𝒱₀ (thr d L) none) Set.univ)
    isplitl [H5 Hslot Ho]
    · iapply (loop4 d L arg2 harg2 arg3 harg3 arg4 harg4 arg5 harg5 arg6 harg6 arg7 harg7 arg8 arg9 arg10 arg11 v1 k v)
      isplitl [H5]; · iexact H5
      isplitl [Hslot]; · iexact Hslot
      iexact Ho
    iintro %_ Hwork
    iapply (wp_wand_r frame (wpE (defs₀ (F := F)) 𝒱₀ (thr d L) none) Set.univ)
    isplitl [Hwork]
    · iapply (loop5 d L arg2 harg2 arg3 harg3 arg4 harg4 arg5 harg5 arg6 harg6 arg7 harg7 arg8 arg9 arg10 arg11 v1 k v)
      iexact Hwork
    iintro %_ ⟨H5, Hslot, Ho⟩
    isplitl [Hslot Hz9 Hz11]
    · isplitl [Hslot]; · iexact Hslot
      isplitl [Hz9]; · iexact Hz9
      iexact Hz11
    isplitl [Hp]; · iexact Hp
    isplitl [Ht]; · iexact Ht
    isplitl [Hs]; · iexact Hs
    isplitl [H5]; · iexact H5
    isplitl [Ho Hz10]
    · isplitl [Ho]; · iexact Ho
      iexact Hz10
    isplitl [Ha]; · iexact Ha
    iexact HO

/-- The stage that sends slot 0 of the output buffer to block `n` and waits for the first two pieces of slot 1. -/
theorem part37_spec (O : CellTallies nD τ sig (HIx 1)) (v1 v : BitVec 32) (k : Fin k0_t1_loop.trips) (n : ℕ) (ho : k0_off43 L k = ![n, 0, 0, 0]) :
    iprop(Transfers.MayWaits (thr d L) (none : HIx 1) O ∗ OutIdle (F := F) d L arg7 arg10 0 ∗ Area (F := F) d L arg4 (blk n)
      ∗ Pair d L arg2 arg6 arg9 q₀ q₁ f2 1 0 ∗ OW (thr d L) O)
    ⊢ wp frame (wpE (defs₀ (F := F)) 𝒱₀ (thr d L) none) Set.univ (k0_part37 L arg2 harg2 arg3 harg3 arg4 harg4 arg5 harg5 arg6 harg6 arg7 harg7 arg8 arg9 arg10 arg11 v1 k v)
      fun _ => iprop(OutFly (F := F) d L arg4 arg7 arg10 0 n ∗ Has (F := F) (thr d L) (p0 arg6 1) ∗ Has (F := F) (thr d L) (p1 arg6 1) ∗ Wd d L arg2 f2 q₀ ∗ Wd d L arg2 f2 q₁ ∗ Zero (F := F) d L (sem2 arg9 1 inb_S2_S1_1) ∗ OW (thr d L) O) := by
  conv => rhs; rw [k0_part37_eq_skeleton]; unfold k0_part37_skel
  unfold OutFly
  rw [← has_blk d L arg4 n (k0_off43 L k) ho (k0_off43_inb L k)]
  iintro ⟨#Hm, ⟨Ho, Hz⟩, Ha, Hp, HO⟩
  ihave Hm0 := (Transfers.MayWaits.elim (.dma (sem2 arg9 1 inb_S2_S1_1))) $$ Hm
  ihave Hm1 := (Transfers.MayWaits.elim (.dma (sem2 arg9 1 inb_S2_S1_1))) $$ Hm
  simp only [wp_bind, wp_pure]
  iapply (start_out (t := thr d L) (src := oS arg7 0) (dst := blockG arg4 (k0_off43 L k) (k0_off43_inb L k)) (sem := sem2 arg10 0 inb_S2_S1_0) (View.dmaCredit_pos _ (show 0 < S16x8x128.numel by decide)) _) $$ [Ho Ha Hz]
  · isplitl [Ho]; · iexact Ho
    isplitl [Ha]; · iexact Ha
    iexact Hz
  iintro Hf
  iapply (wait_pair0 (N := nW arg6) rfl (nW_pos arg6) _) $$ [Hp HO Hm0]
  · isplitl [Hp]; · iexact Hp
    isplitl [HO]; · iexact HO
    iexact Hm0
  iintro ⟨Hp, HO⟩
  iapply (wait_pair1 (N := nW arg6) rfl (nW_pos arg6) _) $$ [Hp HO Hm1]
  · isplitl [Hp]; · iexact Hp
    isplitl [HO]; · iexact HO
    iexact Hm1
  iintro ⟨H1, H2, H3, H4, H5, H6⟩
  isplitl [Hf]; · iexact Hf
  isplitl [H1]; · iexact H1
  isplitl [H2]; · iexact H2
  isplitl [H3]; · iexact H3
  isplitl [H4]; · iexact H4
  isplitl [H5]; · iexact H5
  iexact H6

/-- The number of the vector subcore at `L`. -/
abbrev num : ℕ := 2 * (L 1).val + (L 0).val
theorem num_lt : num L < 32 := by
  have h0 : (L 0).val < 2 := (L 0).isLt.trans_le (by decide)
  have h1 : (L 1).val < 16 := (L 1).isLt.trans_le (by decide)
  unfold num; omega

/-- What the body holds before double step `k`: slot 0 of words on its way in, slot 1 at rest, the output slots on their way out except at the
    start, and the rest of its blocks. -/
def Inv (O : CellTallies nD τ sig (HIx 1)) (k : ℕ) : sProp 𝕄 :=
  iprop(Transfers.MayWaits (thr d L) (none : HIx 1) O ∗ Pair d L arg2 arg6 arg9 q₀ q₁ f2 0 0 ∗ Tail d L arg2 arg6 arg11 q₂ f2 0 ∗ Sp (F := F) d L arg6 0
    ∗ IdleW (F := F) d L arg6 arg9 arg11 1 ∗ Has (F := F) (thr d L) arg5
    ∗ Out (F := F) d L arg4 arg7 arg10 0 k (64 * (k - 1) + num L) ∗ Out (F := F) d L arg4 arg7 arg10 1 k (64 * (k - 1) + num L + 32)
    ∗ Area (F := F) d L arg4 (rem k (64 * (k - 1) + num L) (rem k (64 * (k - 1) + num L + 32) (blks (num L)))) ∗ OW (thr d L) O)

theorem rem_subset {k n m : ℕ} {A : Finset S1376x16x8x128.Idx} (h : blk n ⊆ A) (hne : k ≠ 0 → m ≠ n) : blk n ⊆ rem k m A := by
  unfold rem
  split
  · exact h
  · rename_i hk
    exact Finset.subset_sdiff.mpr ⟨h, blk_disjoint fun e => hne hk e.symm⟩

theorem rem_sdiff (k m n : ℕ) (A : Finset S1376x16x8x128.Idx) : rem k m A \ blk n = rem k m (A \ blk n) := by
  unfold rem
  split
  · rfl
  · exact sdiff_right_comm _ _ _

/-- One double step. -/
theorem step_spec (O : CellTallies nD τ sig (HIx 1)) (v1 : BitVec 32) (k : Fin k0_t1_loop.trips) (acc : Unit) :
    Inv d L arg2 arg4 arg5 arg6 arg7 arg9 arg10 arg11 q₀ q₁ q₂ f2 O k.val
    ⊢ wp frame (wpE (defs₀ (F := F)) 𝒱₀ (thr d L) none) Set.univ (k0_t1_body L arg2 harg2 arg3 harg3 arg4 harg4 arg5 harg5 arg6 harg6 arg7 harg7 arg8 arg9 arg10 arg11 v1 (iota .scVector S16 32 [0] iota_S16_d0_w32_scVector) k acc)
      fun _ => Inv d L arg2 arg4 arg5 arg6 arg7 arg9 arg10 arg11 q₀ q₁ q₂ f2 O (k.val + 1) := by
  have hw := num_lt L
  have hk1 : k.val + 1 - 1 = k.val := Nat.add_sub_cancel _ _
  have s0 : blk (64 * k.val + num L) ⊆ blks (num L) := blk_subset (by omega)
  have s1 : blk (64 * k.val + num L + 32) ⊆ blks (num L) \ blk (64 * k.val + num L) :=
    Finset.subset_sdiff.mpr ⟨blk_subset (by omega), blk_disjoint (by omega)⟩
  have r0 : k.val ≠ 0 → blk (64 * (k.val - 1) + num L) ⊆ rem k.val (64 * (k.val - 1) + num L + 32) (blks (num L)) :=
    fun _ => rem_subset (blk_subset (by omega)) (fun _ => by omega)
  have r1 : k.val ≠ 0 → blk (64 * (k.val - 1) + num L + 32) ⊆ blks (num L) \ blk (64 * k.val + num L) :=
    fun _ => Finset.subset_sdiff.mpr ⟨blk_subset (by omega), blk_disjoint (by omega)⟩
  have s0' : blk (64 * k.val + num L) ⊆ rem k.val (64 * (k.val - 1) + num L + 32) (blks (num L)) :=
    rem_subset s0 (fun _ => by omega)
  have o0 : k0_off43 L k = ![64 * k.val + num L, 0, 0, 0] := by rw [k0_off43_eq]; simp only [num, Nat.add_assoc]
  have o1 : k0_off83 L k = ![64 * k.val + num L + 32, 0, 0, 0] := by rw [k0_off83_eq]; simp only [num, Nat.add_assoc]
  have e : rem (k.val + 1) (64 * (k.val + 1 - 1) + num L) (rem (k.val + 1) (64 * (k.val + 1 - 1) + num L + 32) (blks (num L)))
      = (blks (num L) \ blk (64 * k.val + num L)) \ blk (64 * k.val + num L + 32) := by
    unfold rem; rw [if_neg (Nat.succ_ne_zero _), if_neg (Nat.succ_ne_zero _), hk1, sdiff_right_comm]
  have f0 : Out (F := F) d L arg4 arg7 arg10 0 (k.val + 1) (64 * (k.val + 1 - 1) + num L) = OutFly d L arg4 arg7 arg10 0 (64 * k.val + num L) := by
    unfold Out; rw [if_neg (Nat.succ_ne_zero _), hk1]
  have f1 : Out (F := F) d L arg4 arg7 arg10 1 (k.val + 1) (64 * (k.val + 1 - 1) + num L + 32) = OutFly d L arg4 arg7 arg10 1 (64 * k.val + num L + 32) := by
    unfold Out; rw [if_neg (Nat.succ_ne_zero _), hk1]
  unfold k0_t1_body Inv
  rw [e, f0, f1]
  have g1 := has_blk (F := F) d L arg4 (64 * k.val + num L + 32) (k0_off83 L k) o1 (k0_off83_inb L k)
  iintro ⟨#Hm, Hp, Ht, Hs, Hi, H5, Ho0, Ho1, Ha, HO⟩
  simp only [wp_bind, wp_pure]
  iapply (wp_wand_r frame (wpE (defs₀ (F := F)) 𝒱₀ (thr d L) none) Set.univ)
  isplitl [Hp HO]
  · iapply (part35_spec d L arg2 harg2 arg3 harg3 arg4 harg4 arg5 harg5 arg6 harg6 arg7 harg7 arg8 arg9 arg10 arg11 q₀ q₁ f2 O v1 0#32 1#32 k)
    isplitr; · iexact Hm
    isplitl [Hp]; · iexact Hp
    iexact HO
  iintro %r ⟨H0, H1, Hw0, Hw1, Hz9, HO⟩
  rcases r with ⟨v106, v107⟩
  dsimp only
  iapply (wp_wand_r frame (wpE (defs₀ (F := F)) 𝒱₀ (thr d L) none) Set.univ)
  isplitl [H0 H1 Hw0 Hw1 Hz9 Ht Hs Hi H5 Ho0 Ha HO]
  · iapply (part36_spec d L arg2 harg2 arg3 harg3 arg4 harg4 arg5 harg5 arg6 harg6 arg7 harg7 arg8 arg9 arg10 arg11 q₀ q₁ q₂ f2 O v1 v107 k _ _ r0)
    isplitr; · iexact Hm
    isplitl [H0]; · iexact H0
    isplitl [H1]; · iexact H1
    isplitl [Hw0]; · iexact Hw0
    isplitl [Hw1]; · iexact Hw1
    isplitl [Hz9]; · iexact Hz9
    isplitl [Ht]; · iexact Ht
    isplitl [Hs]; · iexact Hs
    isplitl [Hi]; · iexact Hi
    isplitl [H5]; · iexact H5
    isplitl [Ho0]; · iexact Ho0
    isplitl [Ha]; · iexact Ha
    iexact HO
  iintro %_ ⟨Hi, Hp, Ht, Hs, H5, Ho0, Ha, HO⟩
  ihave Ha := (take_blk d L arg4 s0') $$ Ha
  icases Ha with ⟨Hb, Ha⟩
  ihave Ha := (show Area (F := F) d L arg4 _ ⊢ Area d L arg4 _ from (by rw [rem_sdiff])) $$ Ha
  iapply (wp_wand_r frame (wpE (defs₀ (F := F)) 𝒱₀ (thr d L) none) Set.univ)
  isplitl [Ho0 Hb Hp HO]
  · iapply (part37_spec d L arg2 harg2 arg3 harg3 arg4 harg4 arg5 harg5 arg6 harg6 arg7 harg7 arg8 arg9 arg10 arg11 q₀ q₁ f2 O v1 v106 k _ o0)
    isplitr; · iexact Hm
    isplitl [Ho0]; · iexact Ho0
    isplitl [Hb]; · iexact Hb
    isplitl [Hp]; · iexact Hp
    iexact HO
  iintro %v160 ⟨Hf0, H0, H1, Hw0, Hw1, Hz9, HO⟩
  iapply (wp_wand_r frame (wpE (defs₀ (F := F)) 𝒱₀ (thr d L) none) Set.univ)
  isplitl [H0 H1 Hw0 Hw1 Hz9 Ht Hs Hi H5 Ho1 Ha HO]
  · iapply (part38_spec d L arg2 harg2 arg3 harg3 arg4 harg4 arg5 harg5 arg6 harg6 arg7 harg7 arg8 arg9 arg10 arg11 q₀ q₁ q₂ f2 O v1 v160 k _ _ r1)
    isplitr; · iexact Hm
    isplitl [H0]; · iexact H0
    isplitl [H1]; · iexact H1
    isplitl [Hw0]; · iexact Hw0
    isplitl [Hw1]; · iexact Hw1
    isplitl [Hz9]; · iexact Hz9
    isplitl [Ht]; · iexact Ht
    isplitl [Hs]; · iexact Hs
    isplitl [Hi]; · iexact Hi
    isplitl [H5]; · iexact H5
    isplitl [Ho1]; · iexact Ho1
    isplitl [Ha]; · iexact Ha
    iexact HO
  iintro %_ ⟨Hi, Hp, Ht, Hs, H5, ⟨Ho1, Hz10⟩, Ha, HO⟩
  ihave Ha := (take_blk d L arg4 s1) $$ Ha
  icases Ha with ⟨Hb, Ha⟩
  ihave Hb := (show Area (F := F) d L arg4 _ ⊢ Has (thr d L) (blockG arg4 (k0_off83 L k) (k0_off83_inb L k)) from (by rw [g1])) $$ Hb
  iapply (start_out (t := thr d L) (src := oS arg7 1) (dst := blockG arg4 (k0_off83 L k) (k0_off83_inb L k)) (sem := sem2 arg10 1 inb_S2_S1_1) (View.dmaCredit_pos _ (show 0 < S16x8x128.numel by decide)) _) $$ [Ho1 Hb Hz10]
  · isplitl [Ho1]; · iexact Ho1
    isplitl [Hb]; · iexact Hb
    iexact Hz10
  iintro Hf1
  ihave Hf1 := (show Transfers.Flight EK (thr d L) (.dma (sem2 arg10 1 inb_S2_S1_1)) (none : HIx 1) ((blockG arg4 (k0_off83 L k) (k0_off83_inb L k)).view.amount (.dma (sem2 arg10 1 inb_S2_S1_1)))
      iprop(Has (F := F) (thr d L) (blockG arg4 (k0_off83 L k) (k0_off83_inb L k)) ∗ Has (thr d L) (oS arg7 1)) ⊢ OutFly d L arg4 arg7 arg10 1 (64 * k.val + num L + 32) from (by rw [g1])) $$ Hf1
  isplitr; · iexact Hm
  isplitl [Hp]; · iexact Hp
  isplitl [Ht]; · iexact Ht
  isplitl [Hs]; · iexact Hs
  isplitl [Hi]; · iexact Hi
  isplitl [H5]; · iexact H5
  isplitl [Hf0]; · iexact Hf0
  isplitl [Hf1]; · iexact Hf1
  isplitl [Ha]; · iexact Ha
  iexact HO

end Cert.ExpandProof
-- ==== Proof.ExpandTile.lean ====
module
public import proofs.«01_k».proof.Proof.ExpandStep

/-! The SparseCore body on one vector subcore, whole. -/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

variable (d : Dev nD) (L : grid0.Coords) (arg2 : Memref sig .scVector .hbm S11008x382 .i32) (harg2 : arg2.IsWhole)
    (arg3 : Memref sig .scVector .hbm S69632 .i32) (harg3 : arg3.IsWhole) (arg4 : Memref sig .scVector .hbm S1376x16x8x128 .i32) (harg4 : arg4.IsWhole)
    (arg5 : Memref sig .scVector .vmem S69632 .i32) (harg5 : arg5.IsWhole) (arg6 : Memref sig .scVector .vmem S2x3x8x128 .i32) (harg6 : arg6.IsWhole)
    (arg7 : Memref sig .scVector .vmem S2x16x8x128 .i32) (harg7 : arg7.IsWhole) (arg8 : DmaSems sig S_) (arg9 arg10 arg11 : DmaSems sig S2)
  (q₀ q₁ q₂ : PosShare TreeShare) (f2 : Buf (Elt F) (arg2.view.loc (thr d L)))

variable (q₃ : PosShare TreeShare) (f3 : Buf (Elt F) (arg3.view.loc (thr d L)))

abbrev Tab : sProp 𝕄 := iprop(arg3.view.loc (thr d L) ↦[Finset.univ]{q₃} f3)
/-- The code table on its way in. -/
abbrev TabFly : sProp 𝕄 := FlyIn (thr d L) arg5 arg8.sem (arg5.view.ref.dmaCredit S69632 .i32) (arg3.view.loc (thr d L)) q₃ f3

theorem start_tab {h₁ h₂ h₃} (Q : PUnit → sProp 𝕄) :
    iprop(Tab d L arg3 q₃ f3 ∗ Has (F := F) (thr d L) arg5 ∗ Zero (F := F) d L arg8.sem)
    ⊢ iprop((TabFly d L arg3 arg5 arg8 q₃ f3 -∗ Q ⟨⟩)
      -∗ wp frame (wpE (defs₀ (F := F)) 𝒱₀ (thr d L) none) Set.univ (Prog.lift (.enqueueDma arg3 (.here arg5) (.dma arg8.sem) h₁ h₂ h₃)) Q) := by
  have hp : 0 < arg5.view.amount (.dma arg8.sem) := View.dmaCredit_pos arg5.view (by decide)
  have h' := start_in (t := thr d L) (src := arg3) (dst := arg5) (sem := arg8.sem) (hsrc := h₁) (hdst := h₂) (hsem := h₃) q₃ f3 hp Q
  exact h'

/-- The stage that starts the table and the first two pieces of slot 0. -/
theorem part56_spec :
    iprop(Tab d L arg3 q₃ f3 ∗ Has (F := F) (thr d L) arg5 ∗ Zero (F := F) d L arg8.sem ∗ Has (F := F) (thr d L) (p0 arg6 0) ∗ Has (F := F) (thr d L) (p1 arg6 0) ∗ Wd d L arg2 f2 q₀ ∗ Wd d L arg2 f2 q₁ ∗ Zero (F := F) d L (sem2 arg9 0 inb_S2_S1_0))
    ⊢ wp frame (wpE (defs₀ (F := F)) 𝒱₀ (thr d L) none) Set.univ (k0_part56 L arg2 harg2 arg3 harg3 arg4 harg4 arg5 harg5 arg6 harg6 arg7 harg7 arg8 arg9 arg10 arg11)
      fun r => iprop(⌜r.2 = (iota .scVector S16 32 [0] iota_S16_d0_w32_scVector)⌝ ∗ TabFly d L arg3 arg5 arg8 q₃ f3 ∗ Pair d L arg2 arg6 arg9 q₀ q₁ f2 0 0) := by
  conv => rhs; rw [k0_part56_eq_skeleton]; unfold k0_part56_skel
  iintro ⟨H3, H5, Hz8, H0, H1, Hw0, Hw1, Hz⟩
  simp only [wp_bind, wp_pure]
  iapply (start_tab d L arg3 arg5 arg8 q₃ f3 _) $$ [H3 H5 Hz8]
  · isplitl [H3]; · iexact H3
    isplitl [H5]; · iexact H5
    iexact Hz8
  iintro Hf
  iapply (start_pair0 (t := thr d L) (src := arg2.slice (Rect.unit (s := S11008x382) (k0_off1 L) S8x128.size (k0_off1_inb L)) (fun _ => rfl)) (dst := p0 arg6 0) (sem := sem2 arg9 0 inb_S2_S1_0) q₀ f2 (nW arg6) rfl iprop(Has (F := F) (thr d L) (p1 arg6 0) ∗ (arg2.view.loc (thr d L) ↦[(arg2.slice (Rect.unit (s := S11008x382) (k0_off2 L) S8x128.size (k0_off2_inb L)) (fun _ => rfl)).view.set]{q₁} f2)) _) $$ [H0 Hw0 Hz]
  · isplitl [Hw0]; · iexact Hw0
    isplitl [H0]; · iexact H0
    iexact Hz
  iintro ⟨Hb, Hr0⟩
  iapply (start_pair1 (t := thr d L) (src := arg2.slice (Rect.unit (s := S11008x382) (k0_off2 L) S8x128.size (k0_off2_inb L)) (fun _ => rfl)) (dst := p1 arg6 0) (sem := sem2 arg9 0 inb_S2_S1_0) q₁ f2 (nW arg6) rfl _ _) $$ [H1 Hw1 Hb]
  · isplitl [Hw1]; · iexact Hw1
    isplitl [H1]; · iexact H1
    iexact Hb
  iintro ⟨Hb, Hr1⟩
  isplitr; · ipureintro; trivial
  isplitl [Hf]; · iexact Hf
  iexists _, _
  isplitl [Hb]; · iexact Hb
  isplitl [Hr0]; · iexact Hr0
  iexact Hr1

/-- What the body holds when the double steps are over. -/
theorem inv_end (O : CellTallies nD τ sig (HIx 1)) (k : ℕ) (hk : k = 21) :
    Inv d L arg2 arg4 arg5 arg6 arg7 arg9 arg10 arg11 q₀ q₁ q₂ f2 O k
    ⊢ iprop(Pair d L arg2 arg6 arg9 q₀ q₁ f2 0 0 ∗ Tail d L arg2 arg6 arg11 q₂ f2 0 ∗ Sp (F := F) d L arg6 0
    ∗ IdleW (F := F) d L arg6 arg9 arg11 1 ∗ Has (F := F) (thr d L) arg5
    ∗ OutFly (F := F) d L arg4 arg7 arg10 0 (1280 + num L) ∗ OutFly (F := F) d L arg4 arg7 arg10 1 (1280 + num L + 32)
    ∗ Area (F := F) d L arg4 ((blks (num L) \ blk (1280 + num L + 32)) \ blk (1280 + num L)) ∗ OW (thr d L) O) := by
  subst hk
  unfold Inv Out rem
  iintro ⟨-, H⟩
  iexact H

theorem trips_eq : Scf.trips k0_t1_loop.lb k0_t1_loop.ub k0_t1_loop.st = 21 := by decide +kernel

theorem inv_zero (O : CellTallies nD τ sig (HIx 1)) :
    iprop(Transfers.MayWaits (thr d L) (none : HIx 1) O ∗ Pair d L arg2 arg6 arg9 q₀ q₁ f2 0 0 ∗ Tail d L arg2 arg6 arg11 q₂ f2 0 ∗ Sp (F := F) d L arg6 0
    ∗ IdleW (F := F) d L arg6 arg9 arg11 1 ∗ Has (F := F) (thr d L) arg5
    ∗ OutIdle (F := F) d L arg7 arg10 0 ∗ OutIdle (F := F) d L arg7 arg10 1
    ∗ Area (F := F) d L arg4 (blks (num L)) ∗ OW (thr d L) O)
    ⊢ Inv d L arg2 arg4 arg5 arg6 arg7 arg9 arg10 arg11 q₀ q₁ q₂ f2 O 0 := by
  unfold Inv Out rem
  rw [if_pos rfl, if_pos rfl, if_pos rfl, if_pos rfl]

set_option maxHeartbeats 4000000 in
/-- The stage that starts the last piece of slot 0, waits for the table, runs the double steps and waits for the first piece of slot 0. -/
theorem part57_spec (O : CellTallies nD τ sig (HIx 1)) (v1 : BitVec 32) :
    iprop(Transfers.MayWaits (thr d L) (none : HIx 1) O ∗ Wd d L arg2 f2 q₂ ∗ Has (F := F) (thr d L) (p2 arg6 0) ∗ Zero (F := F) d L (sem2 arg11 0 inb_S2_S1_0)
      ∗ TabFly d L arg3 arg5 arg8 q₃ f3 ∗ Pair d L arg2 arg6 arg9 q₀ q₁ f2 0 0 ∗ Sp (F := F) d L arg6 0 ∗ IdleW (F := F) d L arg6 arg9 arg11 1
      ∗ OutIdle (F := F) d L arg7 arg10 0 ∗ OutIdle (F := F) d L arg7 arg10 1 ∗ Area (F := F) d L arg4 (blks (num L)) ∗ OW (thr d L) O)
    ⊢ wp frame (wpE (defs₀ (F := F)) 𝒱₀ (thr d L) none) Set.univ (k0_part57 L arg2 harg2 arg3 harg3 arg4 harg4 arg5 harg5 arg6 harg6 arg7 harg7 arg8 arg9 arg10 arg11 v1 (iota .scVector S16 32 [0] iota_S16_d0_w32_scVector))
      fun _ => iprop(Tab d L arg3 q₃ f3 ∗ Zero (F := F) d L arg8.sem
        ∗ Pair d L arg2 arg6 arg9 q₀ q₁ f2 0 (0 + nW arg6) ∗ Tail d L arg2 arg6 arg11 q₂ f2 0 ∗ Sp (F := F) d L arg6 0
        ∗ IdleW (F := F) d L arg6 arg9 arg11 1 ∗ Has (F := F) (thr d L) arg5
        ∗ OutFly (F := F) d L arg4 arg7 arg10 0 (1280 + num L) ∗ OutFly (F := F) d L arg4 arg7 arg10 1 (1280 + num L + 32)
        ∗ Area (F := F) d L arg4 ((blks (num L) \ blk (1280 + num L + 32)) \ blk (1280 + num L)) ∗ OW (thr d L) O) := by
  conv => rhs; rw [k0_part57_eq_skeleton]; unfold k0_part57_skel
  iintro ⟨#Hm, Hw2, H2, Hz11, Hf, Hp, Hs, Hi, Ho0, Ho1, Ha, HO⟩
  ihave Hm0 := (Transfers.MayWaits.elim (.dma arg8.sem)) $$ Hm
  ihave Hm1 := (Transfers.MayWaits.elim (.dma (sem2 arg9 0 inb_S2_S1_0))) $$ Hm
  simp only [wp_bind, wp_pure]
  iapply (start_tail d L arg2 arg6 arg11 q₂ f2 0 (k0_off3 L) (k0_off3_inb L) _) $$ [Hw2 H2 Hz11]
  · isplitl [Hw2]; · iexact Hw2
    isplitl [H2]; · iexact H2
    iexact Hz11
  iintro Ht
  iapply (wait_in (N := arg5.view.ref.dmaCredit S69632 .i32) rfl _) $$ [Hf HO Hm0]
  · isplitl [Hf]; · iexact Hf
    isplitl [HO]; · iexact HO
    iexact Hm0
  iintro ⟨H5, H3, Hz8, HO⟩
  iapply (Scf.wp_for frame (wpE (defs₀ (F := F)) 𝒱₀ (thr d L) none) Set.univ _ _ _ k0_t1_ok ⟨⟩ _
    (fun k _ => Inv d L arg2 arg4 arg5 arg6 arg7 arg9 arg10 arg11 q₀ q₁ q₂ f2 O k) ?_)
  rotate_left
  · isplitl [Hp Ht Hs Hi H5 Ho0 Ho1 Ha HO]
    · iapply (inv_zero d L arg2 arg4 arg5 arg6 arg7 arg9 arg10 arg11 q₀ q₁ q₂ f2 O)
      isplitr; · iexact Hm
      isplitl [Hp]; · iexact Hp
      isplitl [Ht]; · iexact Ht
      isplitl [Hs]; · iexact Hs
      isplitl [Hi]; · iexact Hi
      isplitl [H5]; · iexact H5
      isplitl [Ho0]; · iexact Ho0
      isplitl [Ho1]; · iexact Ho1
      isplitl [Ha]; · iexact Ha
      iexact HO
    iintro %_ H
    ihave H := (inv_end d L arg2 arg4 arg5 arg6 arg7 arg9 arg10 arg11 q₀ q₁ q₂ f2 O _ trips_eq) $$ H
    icases H with ⟨Hp, Ht, Hs, Hi, H5, Ho0, Ho1, Ha, HO⟩
    iapply (wait_pair0 (N := nW arg6) rfl (nW_pos arg6) _) $$ [Hp HO Hm1]
    · isplitl [Hp]; · iexact Hp
      isplitl [HO]; · iexact HO
      iexact Hm1
    iintro ⟨Hp, HO⟩
    isplitl [H3]; · iexact H3
    isplitl [Hz8]; · iexact Hz8
    isplitl [Hp]; · iexact Hp
    isplitl [Ht]; · iexact Ht
    isplitl [Hs]; · iexact Hs
    isplitl [Hi]; · iexact Hi
    isplitl [H5]; · iexact H5
    isplitl [Ho0]; · iexact Ho0
    isplitl [Ho1]; · iexact Ho1
    isplitl [Ha]; · iexact Ha
    iexact HO
  intro k acc
  exact step_spec d L arg2 harg2 arg3 harg3 arg4 harg4 arg5 harg5 arg6 harg6 arg7 harg7 arg8 arg9 arg10 arg11 q₀ q₁ q₂ f2 O v1 k acc

/-- The stage that waits for the rest of slot 0 and for output slot 0 to be out, and fills it. -/
theorem part58_spec (O : CellTallies nD τ sig (HIx 1)) (v1 : BitVec 32) (n : ℕ) (A : Finset S1376x16x8x128.Idx) (hn : blk n ⊆ A) :
    iprop(Transfers.MayWaits (thr d L) (none : HIx 1) O ∗ Pair d L arg2 arg6 arg9 q₀ q₁ f2 0 (0 + nW arg6) ∗ Tail d L arg2 arg6 arg11 q₂ f2 0
      ∗ Sp (F := F) d L arg6 0 ∗ Has (F := F) (thr d L) arg5 ∗ OutFly (F := F) d L arg4 arg7 arg10 0 n
      ∗ Area (F := F) d L arg4 (A \ blk n) ∗ OW (thr d L) O)
    ⊢ wp frame (wpE (defs₀ (F := F)) 𝒱₀ (thr d L) none) Set.univ (k0_part58 L arg2 harg2 arg3 harg3 arg4 harg4 arg5 harg5 arg6 harg6 arg7 harg7 arg8 arg9 arg10 arg11 v1 (iota .scVector S16 32 [0] iota_S16_d0_w32_scVector))
      fun _ => iprop(Wd d L arg2 f2 q₀ ∗ Wd d L arg2 f2 q₁ ∗ Wd d L arg2 f2 q₂ ∗ IdleW (F := F) d L arg6 arg9 arg11 0 ∗ Has (F := F) (thr d L) arg5
        ∗ OutIdle (F := F) d L arg7 arg10 0 ∗ Area (F := F) d L arg4 A ∗ OW (thr d L) O) := by
  have hc5 : ¬ k0_cond5 = 1#1 := by decide +kernel
  have hc6 : k0_cond6 = 1#1 := by decide +kernel
  conv => rhs; rw [k0_part58_eq_skeleton]; unfold k0_part58_skel
  iintro ⟨#Hm, Hp, Ht, Hs, H5, Ho, Ha, HO⟩
  ihave Hm1 := (Transfers.MayWaits.elim (.dma (sem2 arg9 0 inb_S2_S1_0))) $$ Hm
  ihave Hm2 := (Transfers.MayWaits.elim (.dma (sem2 arg11 0 inb_S2_S1_0))) $$ Hm
  ihave Hm3 := (Transfers.MayWaits.elim (.dma (sem2 arg10 0 inb_S2_S1_0))) $$ Hm
  simp only [wp_bind, wp_pure, dif_neg hc5, dif_pos hc6]
  iapply (wait_pair1 (N := nW arg6) rfl (nW_pos arg6) _) $$ [Hp HO Hm1]
  · isplitl [Hp]; · iexact Hp
    isplitl [HO]; · iexact HO
    iexact Hm1
  iintro ⟨H0, H1, Hw0, Hw1, Hz9, HO⟩
  iapply (wait_in (N := nT arg6) rfl _) $$ [Ht HO Hm2]
  · isplitl [Ht]; · iexact Ht
    isplitl [HO]; · iexact HO
    iexact Hm2
  iintro ⟨H2, Hw2, Hz11, HO⟩
  ihave Hslot := (pasteW (F := F) d L arg6 0 (hSlot 0) (hP0 0) (hP1 0) (hP2 0)) $$ [H0 H1 H2 Hs]
  · isplitl [H0]; · iexact H0
    isplitl [H1]; · iexact H1
    isplitl [H2]; · iexact H2
    iexact Hs
  iapply (wait_fly (N := nO arg4) rfl _) $$ [Ho HO Hm3]
  · isplitl [Ho]; · iexact Ho
    isplitl [HO]; · iexact HO
    iexact Hm3
  iintro ⟨⟨Hb, Ho⟩, Hz10, HO⟩
  ihave Ha := (give_blk d L arg4 hn) $$ [Hb Ha]
  · isplitl [Hb]; · iexact Hb
    iexact Ha
  iapply (wp_wand_r frame (wpE (defs₀ (F := F)) 𝒱₀ (thr d L) none) Set.univ)
  isplitl [H5 Hslot Ho]
  · iapply (loop6 d L arg2 harg2 arg3 harg3 arg4 harg4 arg5 harg5 arg6 harg6 arg7 harg7 arg8 arg9 arg10 arg11 v1)
    isplitl [H5]; · iexact H5
    isplitl [Hslot]; · iexact Hslot
    iexact Ho
  iintro %_ Hwork
  iapply (wp_wand_r frame (wpE (defs₀ (F := F)) 𝒱₀ (thr d L) none) Set.univ)
  isplitl [Hwork]
  · iapply (loop7 d L arg2 harg2 arg3 harg3 arg4 harg4 arg5 harg5 arg6 harg6 arg7 harg7 arg8 arg9 arg10 arg11 v1)
    iexact Hwork
  iintro %_ ⟨H5, Hslot, Ho⟩
  isplitl [Hw0]; · iexact Hw0
  isplitl [Hw1]; · iexact Hw1
  isplitl [Hw2]; · iexact Hw2
  isplitl [Hslot Hz9 Hz11]
  · isplitl [Hslot]; · iexact Hslot
    isplitl [Hz9]; · iexact Hz9
    iexact Hz11
  isplitl [H5]; · iexact H5
  isplitl [Ho Hz10]
  · isplitl [Ho]; · iexact Ho
    iexact Hz10
  isplitl [Ha]; · iexact Ha
  iexact HO

/-- The stage that sends output slot 0 to its last block and waits for output slot 1 to be out. -/
theorem part59_spec (O : CellTallies nD τ sig (HIx 1)) (v1 : BitVec 32) (n n' : ℕ) (ho : k0_off123 L = ![n, 0, 0, 0]) :
    iprop(Transfers.MayWaits (thr d L) (none : HIx 1) O ∗ OutIdle (F := F) d L arg7 arg10 0 ∗ Area (F := F) d L arg4 (blk n)
      ∗ OutFly (F := F) d L arg4 arg7 arg10 1 n' ∗ OW (thr d L) O)
    ⊢ wp frame (wpE (defs₀ (F := F)) 𝒱₀ (thr d L) none) Set.univ (k0_part59 L arg2 harg2 arg3 harg3 arg4 harg4 arg5 harg5 arg6 harg6 arg7 harg7 arg8 arg9 arg10 arg11 v1)
      fun _ => iprop(OutFly (F := F) d L arg4 arg7 arg10 0 n ∗ Area (F := F) d L arg4 (blk n') ∗ OutIdle (F := F) d L arg7 arg10 1 ∗ OW (thr d L) O) := by
  conv => rhs; rw [k0_part59_eq_skeleton]; unfold k0_part59_skel
  have g := has_blk (F := F) d L arg4 n (k0_off123 L) ho (k0_off123_inb L)
  iintro ⟨#Hm, ⟨Ho, Hz⟩, Hb, Hf, HO⟩
  ihave Hm0 := (Transfers.MayWaits.elim (.dma (sem2 arg10 1 inb_S2_S1_1))) $$ Hm
  simp only [wp_bind, wp_pure]
  ihave Hb := (show Area (F := F) d L arg4 _ ⊢ Has (thr d L) (blockG arg4 (k0_off123 L) (k0_off123_inb L)) from (by rw [g])) $$ Hb
  iapply (start_out (t := thr d L) (src := oS arg7 0) (dst := blockG arg4 (k0_off123 L) (k0_off123_inb L)) (sem := sem2 arg10 0 inb_S2_S1_0) (View.dmaCredit_pos _ (show 0 < S16x8x128.numel by decide)) _) $$ [Ho Hb Hz]
  · isplitl [Ho]; · iexact Ho
    isplitl [Hb]; · iexact Hb
    iexact Hz
  iintro Hg
  ihave Hg := (show Transfers.Flight EK (thr d L) (.dma (sem2 arg10 0 inb_S2_S1_0)) (none : HIx 1) ((blockG arg4 (k0_off123 L) (k0_off123_inb L)).view.amount (.dma (sem2 arg10 0 inb_S2_S1_0)))
      iprop(Has (F := F) (thr d L) (blockG arg4 (k0_off123 L) (k0_off123_inb L)) ∗ Has (thr d L) (oS arg7 0)) ⊢ OutFly d L arg4 arg7 arg10 0 n from (by rw [g])) $$ Hg
  iapply (wait_fly (N := nO arg4) rfl _) $$ [Hf HO Hm0]
  · isplitl [Hf]; · iexact Hf
    isplitl [HO]; · iexact HO
    iexact Hm0
  iintro ⟨⟨Hb, Ho⟩, Hz, HO⟩
  isplitl [Hg]; · iexact Hg
  isplitl [Hb]; · iexact Hb
  isplitl [Ho Hz]
  · isplitl [Ho]; · iexact Ho
    iexact Hz
  iexact HO

/-- What the body is given, and gives back. -/
def Held (O : CellTallies nD τ sig (HIx 1)) : sProp 𝕄 :=
  iprop(Wd d L arg2 f2 q₀ ∗ Wd d L arg2 f2 q₁ ∗ Wd d L arg2 f2 q₂ ∗ Tab d L arg3 q₃ f3 ∗ Zero (F := F) d L arg8.sem ∗ Has (F := F) (thr d L) arg5
    ∗ IdleW (F := F) d L arg6 arg9 arg11 0 ∗ IdleW (F := F) d L arg6 arg9 arg11 1
    ∗ OutIdle (F := F) d L arg7 arg10 0 ∗ OutIdle (F := F) d L arg7 arg10 1 ∗ Area (F := F) d L arg4 (blks (num L)) ∗ OW (thr d L) O)

set_option maxHeartbeats 4000000 in
/-- The body on the vector subcore at `L`. -/
theorem body_spec (O : CellTallies nD τ sig (HIx 1)) :
    iprop(Transfers.MayWaits (thr d L) (none : HIx 1) O ∗ Held d L arg2 arg3 arg4 arg5 arg6 arg7 arg8 arg9 arg10 arg11 q₀ q₁ q₂ f2 q₃ f3 O)
    ⊢ wp frame (wpE (defs₀ (F := F)) 𝒱₀ (thr d L) none) Set.univ (cc0_vptq_expand L arg2 harg2 arg3 harg3 arg4 harg4 arg5 harg5 arg6 harg6 arg7 harg7 arg8 arg9 arg10 arg11)
      fun _ => Held d L arg2 arg3 arg4 arg5 arg6 arg7 arg8 arg9 arg10 arg11 q₀ q₁ q₂ f2 q₃ f3 O := by
  have hw := num_lt L
  have s0 : blk (1280 + num L) ⊆ blks (num L) \ blk (1280 + num L + 32) :=
    Finset.subset_sdiff.mpr ⟨blk_subset (by omega), blk_disjoint (by omega)⟩
  have s2 : blk (num L + 1344) ⊆ blks (num L) \ blk (1280 + num L + 32) :=
    Finset.subset_sdiff.mpr ⟨blk_subset (by omega), blk_disjoint (by omega)⟩
  have s1 : blk (1280 + num L + 32) ⊆ blks (num L) \ blk (num L + 1344) :=
    Finset.subset_sdiff.mpr ⟨blk_subset (by omega), blk_disjoint (by omega)⟩
  have s3 : blk (num L + 1344) ⊆ blks (num L) := blk_subset (by omega)
  have o : k0_off123 L = ![num L + 1344, 0, 0, 0] := k0_off123_eq L
  conv => rhs; rw [cc0_vptq_expand_eq_skeleton]; unfold cc0_vptq_expand_skel
  unfold Held
  iintro ⟨#Hm, Hw0, Hw1, Hw2, H3, Hz8, H5, ⟨Hi, Hz9, Hz11⟩, Hi1, Ho0, Ho1, Ha, HO⟩
  ihave Hm0 := (Transfers.MayWaits.elim (.dma (sem2 arg10 0 inb_S2_S1_0))) $$ Hm
  ihave Hi := (cutW (F := F) d L arg6 0 (hSlot 0) (hP0 0) (hP1 0) (hP2 0)) $$ Hi
  icases Hi with ⟨H0, H1, H2, Hs⟩
  simp only [wp_bind, wp_pure]
  iapply (wp_wand_r frame (wpE (defs₀ (F := F)) 𝒱₀ (thr d L) none) Set.univ)
  isplitl [H3 H5 Hz8 H0 H1 Hw0 Hw1 Hz9]
  · iapply (part56_spec d L arg2 harg2 arg3 harg3 arg4 harg4 arg5 harg5 arg6 harg6 arg7 harg7 arg8 arg9 arg10 arg11 q₀ q₁ f2 q₃ f3)
    isplitl [H3]; · iexact H3
    isplitl [H5]; · iexact H5
    isplitl [Hz8]; · iexact Hz8
    isplitl [H0]; · iexact H0
    isplitl [H1]; · iexact H1
    isplitl [Hw0]; · iexact Hw0
    isplitl [Hw1]; · iexact Hw1
    iexact Hz9
  iintro %r ⟨%hr, Hf, Hp⟩
  rcases r with ⟨v1, v2⟩
  obtain rfl : v2 = (iota .scVector S16 32 [0] iota_S16_d0_w32_scVector) := hr
  dsimp only
  iapply (wp_wand_r frame (wpE (defs₀ (F := F)) 𝒱₀ (thr d L) none) Set.univ)
  isplitl [Hw2 H2 Hz11 Hf Hp Hs Hi1 Ho0 Ho1 Ha HO]
  · iapply (part57_spec d L arg2 harg2 arg3 harg3 arg4 harg4 arg5 harg5 arg6 harg6 arg7 harg7 arg8 arg9 arg10 arg11 q₀ q₁ q₂ f2 q₃ f3 O v1)
    isplitr; · iexact Hm
    isplitl [Hw2]; · iexact Hw2
    isplitl [H2]; · iexact H2
    isplitl [Hz11]; · iexact Hz11
    isplitl [Hf]; · iexact Hf
    isplitl [Hp]; · iexact Hp
    isplitl [Hs]; · iexact Hs
    isplitl [Hi1]; · iexact Hi1
    isplitl [Ho0]; · iexact Ho0
    isplitl [Ho1]; · iexact Ho1
    isplitl [Ha]; · iexact Ha
    iexact HO
  iintro %_ ⟨H3, Hz8, Hp, Ht, Hs, Hi1, H5, Ho0, Ho1, Ha, HO⟩
  iapply (wp_wand_r frame (wpE (defs₀ (F := F)) 𝒱₀ (thr d L) none) Set.univ)
  isplitl [Hp Ht Hs H5 Ho0 Ha HO]
  · iapply (part58_spec d L arg2 harg2 arg3 harg3 arg4 harg4 arg5 harg5 arg6 harg6 arg7 harg7 arg8 arg9 arg10 arg11 q₀ q₁ q₂ f2 O v1 _ _ s0)
    isplitr; · iexact Hm
    isplitl [Hp]; · iexact Hp
    isplitl [Ht]; · iexact Ht
    isplitl [Hs]; · iexact Hs
    isplitl [H5]; · iexact H5
    isplitl [Ho0]; · iexact Ho0
    isplitl [Ha]; · iexact Ha
    iexact HO
  iintro %_ ⟨Hw0, Hw1, Hw2, Hi0, H5, Ho0, Ha, HO⟩
  ihave Ha := (take_blk d L arg4 s2) $$ Ha
  icases Ha with ⟨Hb, Ha⟩
  iapply (wp_wand_r frame (wpE (defs₀ (F := F)) 𝒱₀ (thr d L) none) Set.univ)
  isplitl [Ho0 Hb Ho1 HO]
  · iapply (part59_spec d L arg2 harg2 arg3 harg3 arg4 harg4 arg5 harg5 arg6 harg6 arg7 harg7 arg8 arg9 arg10 arg11 O v1 _ _ o)
    isplitr; · iexact Hm
    isplitl [Ho0]; · iexact Ho0
    isplitl [Hb]; · iexact Hb
    isplitl [Ho1]; · iexact Ho1
    iexact HO
  iintro %_ ⟨Hf, Hb, Ho1, HO⟩
  ihave Ha := (show Area (F := F) d L arg4 ((blks (num L) \ blk (1280 + num L + 32)) \ blk (num L + 1344)) ⊢ Area d L arg4 ((blks (num L) \ blk (num L + 1344)) \ blk (1280 + num L + 32)) from (by rw [sdiff_right_comm])) $$ Ha
  ihave Ha := (give_blk d L arg4 s1) $$ [Hb Ha]
  · isplitl [Hb]; · iexact Hb
    iexact Ha
  iapply (wait_fly (N := nO arg4) rfl _) $$ [Hf HO Hm0]
  · isplitl [Hf]; · iexact Hf
    isplitl [HO]; · iexact HO
    iexact Hm0
  iintro ⟨⟨Hb, Ho⟩, Hz, HO⟩
  ihave Ha := (give_blk d L arg4 s3) $$ [Hb Ha]
  · isplitl [Hb]; · iexact Hb
    iexact Ha
  isplitl [Hw0]; · iexact Hw0
  isplitl [Hw1]; · iexact Hw1
  isplitl [Hw2]; · iexact Hw2
  isplitl [H3]; · iexact H3
  isplitl [Hz8]; · iexact Hz8
  isplitl [H5]; · iexact H5
  isplitl [Hi0]; · iexact Hi0
  isplitl [Hi1]; · iexact Hi1
  isplitl [Ho Hz]
  · isplitl [Ho]; · iexact Ho
    iexact Hz
  isplitl [Ho1]; · iexact Ho1
  isplitl [Ha]; · iexact Ha
  iexact HO

end Cert.ExpandProof
-- ==== Proof.ExpandLaunch.lean ====
module
public import proofs.«01_k».proof.Proof.ExpandTile
public import proofs.«01_k».proof.Defs

/-!
The SparseCore call run on all its subcores, and the frame of the program that makes it: every subcore gets a share of the
packed words and of the code table and the blocks of the result that are its own.
-/

@[expose] public section

noncomputable section

namespace Cert.ExpandProof

open Cert.Expand Cert.Expand.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-- The packed words, the code table and the result. -/
abbrev xLoc (d : Dev nD) : Loc nD τ sig := (SparseCore.T d).loc main_arg0
abbrev tLoc (d : Dev nD) : Loc nD τ sig := (SparseCore.T d).loc main_v7
abbrev gLoc (d : Dev nD) : Loc nD τ sig := (SparseCore.T d).loc main_v8

/-- The share of subcore `i` of SparseCore `c`. -/
abbrev qC (c : ℕ) : PosShare TreeShare := Transfers.shareTokN fullShare c
abbrev qT (c i : ℕ) : PosShare TreeShare := Transfers.shareTokN (qC c) i
abbrev coreBlks (c : ℕ) : Finset S1376x16x8x128.Idx := Finset.univ.biUnion fun i : Fin 16 => blks (2 * i.val + c)

/-- What a subcore gets, and what a SparseCore gets for its subcores. -/
abbrev Given (d : Dev nD) (q : PosShare TreeShare) (A : Finset S1376x16x8x128.Idx) : sProp 𝕄 :=
  iprop((xLoc d ↦{q} m (xLoc d)) ∗ (∃ f, tLoc d ↦{q} f) ∗ ∃ f, gLoc d ↦[A]{fullShare} f)

def P : (K (F := F)).Pay (nD := nD) (Val := Elt F) (Name := ℕ) (U := UU) where
  st := fun q d c => match q with | 0 => Given m d (qC c.val) (coreBlks c.val)
  dn := fun q d _ => match q with | 0 => iprop(emp)
  go := fun q d c i => match q with | 0 => Given m d (qT c.val i.val) (blks (2 * i.val + c.val))
  td := fun q d _ i => match q with | 0 => iprop(emp)
  x := fun _ _ => iprop(emp)

instance P_storable : (P (F := F) m).IsStorable where
  st q d c := match q with
    | 0 => (inferInstance : BI.Storable (upEmb : UEmb _ 𝕄) (Given m d (qC c.val) (coreBlks c.val)))
  dn q d _ := match q with
    | 0 => (inferInstance : BI.Storable (upEmb : UEmb _ 𝕄) iprop(emp))
  go q d c i := match q with
    | 0 => (inferInstance : BI.Storable (upEmb : UEmb _ 𝕄) (Given m d (qT c.val i.val) (blks (2 * i.val + c.val))))
  td q d _ i := match q with
    | 0 => (inferInstance : BI.Storable (upEmb : UEmb _ 𝕄) iprop(emp))

/-! ## A subcore's own buffers and semaphores -/

section Tile

variable (d : Dev nD) (L : grid0.Coords)

local notation "xV" => (Memref.whole Cert.Expand.main_arg0_scv : Memref Cert.Expand.sig Kind.scVector Space.hbm Cert.Expand.S11008x382 EltTy.i32)
local notation "tV" => (Memref.whole Cert.Expand.main_v7_scv : Memref Cert.Expand.sig Kind.scVector Space.hbm Cert.Expand.S69632 EltTy.i32)
local notation "gV" => (Memref.whole Cert.Expand.main_v8_scv : Memref Cert.Expand.sig Kind.scVector Space.hbm Cert.Expand.S1376x16x8x128 EltTy.i32)
local notation "sT" => (Memref.whole Cert.Expand.cc0_scratch0 : Memref Cert.Expand.sig Kind.scVector Space.vmem Cert.Expand.S69632 EltTy.i32)
local notation "sW" => (Memref.whole Cert.Expand.cc0_scratch1 : Memref Cert.Expand.sig Kind.scVector Space.vmem Cert.Expand.S2x3x8x128 EltTy.i32)
local notation "sO" => (Memref.whole Cert.Expand.cc0_scratch2 : Memref Cert.Expand.sig Kind.scVector Space.vmem Cert.Expand.S2x16x8x128 EltTy.i32)

/-- The seven DMA semaphores of the body, by number. -/
abbrev cell (n : Fin 7) : GSem nD τ sig := (thr d L, .dma (n : DmaSem sig))

theorem sem_table : (cc0_scratch3 : DmaSems sig S_).sem = (0 : Fin 7) := by decide
theorem sem_in0 : sem2 cc0_scratch4 0 (hSem 0) = (1 : Fin 7) := by decide
theorem sem_in1 : sem2 cc0_scratch4 1 (hSem 1) = (2 : Fin 7) := by decide
theorem sem_out0 : sem2 cc0_scratch5 0 (hSem 0) = (3 : Fin 7) := by decide
theorem sem_out1 : sem2 cc0_scratch5 1 (hSem 1) = (4 : Fin 7) := by decide
theorem sem_tail0 : sem2 cc0_scratch6 0 (hSem 0) = (5 : Fin 7) := by decide
theorem sem_tail1 : sem2 cc0_scratch6 1 (hSem 1) = (6 : Fin 7) := by decide

theorem cell_scoped : ∀ n : Fin 7, (SemLoc.dma (n : DmaSem sig) : SemLoc sig).isScoped .scVector = true := by decide
theorem cell_mem (n : Fin 7) : cell d L n ∈ ownCells (thr d L) := mem_ownCells.mpr ⟨rfl, cell_scoped n⟩
theorem cell_injective : Function.Injective (cell d L) := fun a b h => by
  have := congrArg Prod.snd h
  simpa using this
abbrev cells : Finset (GSem nD τ sig) := Finset.univ.map ⟨cell d L, cell_injective d L⟩
theorem cells_subset : cells d L ⊆ ownCells (thr d L) := fun g hg => by
  obtain ⟨n, -, rfl⟩ := Finset.mem_map.mp hg
  exact cell_mem d L n

abbrev Sems : sProp 𝕄 :=
  iprop(semVal (cell d L 0) 0 ∗ semVal (cell d L 1) 0 ∗ semVal (cell d L 2) 0 ∗ semVal (cell d L 3) 0 ∗ semVal (cell d L 4) 0
    ∗ semVal (cell d L 5) 0 ∗ semVal (cell d L 6) 0)

theorem ownSems0_V :
    (ownSems0 (thr d L) : sProp 𝕄) = iprop(Sems d L ∗ bigSep (ownCells (thr d L) \ cells d L) fun g => semVal g 0) := by
  unfold SparseCore.Cfg.ownSems0
  rw [SparseCore.bigSep_sdiff_split' (cells_subset d L)]
  congr 1
  unfold cells
  rw [bigSep_map, show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev bufs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ bigSep (bufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The slots of the two double buffers -/

section Slots

variable {ℓ : Loc nD τ sig} {A B : Finset (Idx ℓ)}

/-- Two parts that have no element in common, cut out of a whole buffer, and what is left. -/
theorem cut2 (h : Disjoint B A) :
    iprop(∃ f, ℓ ↦{fullShare} f)
      ⊢ (iprop((∃ f, ℓ ↦[A]{fullShare} f) ∗ (∃ f, ℓ ↦[B]{fullShare} f) ∗ ∃ f, ℓ ↦[(Finset.univ \ A) \ B]{fullShare} f) : sProp 𝕄) :=
  (cut1 (Finset.subset_univ A)).trans (sep_mono_right (cut1 (Finset.subset_sdiff.mpr ⟨Finset.subset_univ B, h⟩)))
theorem paste2 (h : Disjoint B A) :
    iprop((∃ f, ℓ ↦[A]{fullShare} f) ∗ (∃ f, ℓ ↦[B]{fullShare} f) ∗ ∃ f, ℓ ↦[(Finset.univ \ A) \ B]{fullShare} f)
      ⊢ (iprop(∃ f, ℓ ↦{fullShare} f) : sProp 𝕄) :=
  (sep_mono_right (paste1 (Finset.subset_sdiff.mpr ⟨Finset.subset_univ B, h⟩))).trans (paste1 (Finset.subset_univ A))

end Slots

theorem disj_slices {κ : Kind} {sp : Space} {s s' : Shape} {e : EltTy} (m : Memref sig κ sp s e) (r r' : Rect s) (h : ∀ a, r.stride a = 1)
    (h' : ∀ a, r'.stride a = 1) (hq : r.shape.Squeezes s') (hq' : r'.shape.Squeezes s') (hd : Disjoint r.set r'.set) :
    Disjoint ((m.slice r h).squeeze s' hq).view.set ((m.slice r' h').squeeze s' hq').view.set :=
  Finset.disjoint_left.mpr fun x hx hx' =>
    Finset.disjoint_left.mp ((Finset.disjoint_map m.view.emb).mpr hd) ((set_squeeze_slice m r h hq).subset hx) ((set_squeeze_slice m r' h' hq').subset hx')

theorem disjW : Disjoint (wS sW 1).view.set (wS sW 0).view.set :=
  disj_slices sW _ _ _ _ squeezes_S1x3x8x128_S3x8x128 squeezes_S1x3x8x128_S3x8x128 (Rect.unit_disjoint (inb := hSlot 1) (inb' := hSlot 0) 0 (Or.inr (show 0 + 1 ≤ 1 by decide)))
theorem disjO : Disjoint (oS sO 1).view.set (oS sO 0).view.set :=
  disj_slices sO _ _ _ _ squeezes_S1x16x8x128_S16x8x128 squeezes_S1x16x8x128_S16x8x128 (Rect.unit_disjoint (inb := hOut 1) (inb' := hOut 0) 0 (Or.inr (show 0 + 1 ≤ 1 by decide)))

abbrev RestW : sProp 𝕄 := iprop(∃ f, (thr d L).loc cc0_scratch1 ↦[(Finset.univ \ (wS sW 0).view.set) \ (wS sW 1).view.set]{fullShare} f)
abbrev RestO : sProp 𝕄 := iprop(∃ f, (thr d L).loc cc0_scratch2 ↦[(Finset.univ \ (oS sO 0).view.set) \ (oS sO 1).view.set]{fullShare} f)

theorem takeW : iprop(∃ f, (thr d L).loc cc0_scratch1 ↦{fullShare} f)
    ⊢ (iprop(Has (thr d L) (wS sW 0) ∗ Has (thr d L) (wS sW 1) ∗ RestW d L) : sProp 𝕄) := cut2 disjW
theorem giveW : iprop(Has (thr d L) (wS sW 0) ∗ Has (thr d L) (wS sW 1) ∗ RestW d L)
    ⊢ (iprop(∃ f, (thr d L).loc cc0_scratch1 ↦{fullShare} f) : sProp 𝕄) := paste2 disjW
theorem takeO : iprop(∃ f, (thr d L).loc cc0_scratch2 ↦{fullShare} f)
    ⊢ (iprop(Has (thr d L) (oS sO 0) ∗ Has (thr d L) (oS sO 1) ∗ RestO d L) : sProp 𝕄) := cut2 disjO
theorem giveO : iprop(Has (thr d L) (oS sO 0) ∗ Has (thr d L) (oS sO 1) ∗ RestO d L)
    ⊢ (iprop(∃ f, (thr d L).loc cc0_scratch2 ↦{fullShare} f) : sProp 𝕄) := paste2 disjO

theorem hasT : (Has (thr d L) sT : sProp 𝕄) = iprop(∃ f, (thr d L).loc cc0_scratch0 ↦{fullShare} f) := by
  have e : (sT).view.set = Finset.univ := View.set_whole _
  show iprop(∃ f, (sT).view.loc (thr d L) ↦[(sT).view.set]{fullShare} f) = _
  rw [e]
theorem areaG (A : Finset S1376x16x8x128.Idx) : (Area d L gV A : sProp 𝕄) = iprop(∃ f, gLoc d ↦[A]{fullShare} f) := by
  have e : (gV).view.setOn A = A := Finset.map_refl
  show iprop(∃ f, (gV).view.loc (thr d L) ↦[(gV).view.setOn A]{fullShare} f) = _
  rw [e]

/-- A share of the packed words, in the three shares that the body's copies use. -/
theorem words3 (q : PosShare TreeShare) (f : Buf (Elt F) (xLoc d)) :
    (xLoc d ↦{q} f : sProp 𝕄) ⊢ iprop((xLoc d ↦{Transfers.shareDrop q 2} f) ∗ (xLoc d ↦{Transfers.shareTok q 2 0} f) ∗ xLoc d ↦{Transfers.shareTok q 2 1} f) :=
  (Transfers.pointsTo_toks_split q 2).trans (Entails.of_eq (by rw [BI.bigSep_fin_two]; rfl))

set_option maxHeartbeats 2000000 in
/-- The task of the subcore at `L`. -/
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp ∗ Given m d q (blks (num L))
        ∗ scopedBufs (thr d L) ∗ scopedSems0 (thr d L) ∗ owes (thr d L) O W)
      ⊢ wp frame (wpE (defs₀ (F := F)) 𝒱₀ (thr d L) none) Set.univ
          (cc0_vptq_expand L xV (Memref.isWhole_whole _) tV (Memref.isWhole_whole _) gV (Memref.isWhole_whole _)
            sT (Memref.isWhole_whole _) sW (Memref.isWhole_whole _) sO (Memref.isWhole_whole _) cc0_scratch3 cc0_scratch4 cc0_scratch5 cc0_scratch6)
          fun _ => iprop(emp ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, ⟨%ft, Ht⟩, Hg⟩, ⟨HsT, HsW, HsO, Hbufs⟩, ⟨⟨H0, H1, H2, H3, H4, H5, H6⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (words3 d q (m (xLoc d))) $$ Hx
  icases Hx with ⟨Hx2, Hx0, Hx1⟩
  ihave HsW := (takeW (F := F) d L) $$ HsW
  icases HsW with ⟨HW0, HW1, HWr⟩
  ihave HsO := (takeO (F := F) d L) $$ HsO
  icases HsO with ⟨HO0, HO1, HOr⟩
  ihave HsT := (Entails.of_eq (hasT (F := F) d L).symm) $$ HsT
  ihave Hg := (Entails.of_eq (areaG (F := F) d L _).symm) $$ Hg
  have hb := body_spec (F := F) d L xV (Memref.isWhole_whole _) tV (Memref.isWhole_whole _) gV (Memref.isWhole_whole _)
    sT (Memref.isWhole_whole _) sW (Memref.isWhole_whole _) sO (Memref.isWhole_whole _) cc0_scratch3 cc0_scratch4 cc0_scratch5 cc0_scratch6
    (Transfers.shareTok q 2 0) (Transfers.shareTok q 2 1) (Transfers.shareDrop q 2) (m (xLoc d)) q ft O
  unfold Held IdleW OutIdle Zero at hb
  rw [sem_table, sem_in0, sem_in1, sem_out0, sem_out1, sem_tail0, sem_tail1] at hb
  iapply wp_wand_r
  isplitr [HWr HOr Hbufs Hsems]
  · iapply hb
    isplitl [Hmw]; · iexact Hmw
    isplitl [Hx0]; · iexact Hx0
    isplitl [Hx1]; · iexact Hx1
    isplitl [Hx2]; · iexact Hx2
    isplitl [Ht]; · iexact Ht
    isplitl [H0]; · iexact H0
    isplitl [HsT]; · iexact HsT
    isplitl [HW0 H1 H5]
    · isplitl [HW0]; · iexact HW0
      isplitl [H1]; · iexact H1
      iexact H5
    isplitl [HW1 H2 H6]
    · isplitl [HW1]; · iexact HW1
      isplitl [H2]; · iexact H2
      iexact H6
    isplitl [HO0 H3]
    · isplitl [HO0]; · iexact HO0
      iexact H3
    isplitl [HO1 H4]
    · isplitl [HO1]; · iexact HO1
      iexact H4
    isplitl [Hg]; · iexact Hg
    iexists _; iexact HO
  iintro %_ ⟨-, -, -, -, H0, HsT, ⟨HW0, H1, H5⟩, ⟨HW1, H2, H6⟩, ⟨HO0, H3⟩, ⟨HO1, H4⟩, -, ⟨%W', HO⟩⟩
  isplitr; · iempintro
  isplitl [HsT HW0 HW1 HWr HO0 HO1 HOr Hbufs]
  · isplitl [HsT]; · iapply (Entails.of_eq (hasT (F := F) d L)); iexact HsT
    isplitl [HW0 HW1 HWr]
    · iapply (giveW (F := F) d L)
      isplitl [HW0]; · iexact HW0
      isplitl [HW1]; · iexact HW1
      iexact HWr
    isplitl [HO0 HO1 HOr]
    · iapply (giveO (F := F) d L)
      isplitl [HO0]; · iexact HO0
      isplitl [HO1]; · iexact HO1
      iexact HOr
    iexact Hbufs
  isplitl [H0 H1 H2 H3 H4 H5 H6 Hsems]
  · isplitr [Hsems]
    · isplitl [H0]; · iexact H0
      isplitl [H1]; · iexact H1
      isplitl [H2]; · iexact H2
      isplitl [H3]; · iexact H3
      isplitl [H4]; · iexact H4
      isplitl [H5]; · iexact H5
      iexact H6
    iexact Hsems
  iexists W'; isplitr
  swap; · iexact HO
  ipureintro; intro p _
  rcases p.2 with _ | r
  · exact .inr (.inl rfl)
  · exact .inr (.inr (congrArg some (Subsingleton.elim r 0)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_vptq_expand (coordsV c s)
          xV (Memref.isWhole_whole _) tV (Memref.isWhole_whole _) gV (Memref.isWhole_whole _)
            sT (Memref.isWhole_whole _) sW (Memref.isWhole_whole _) sO (Memref.isWhole_whole _) cc0_scratch3 cc0_scratch4 cc0_scratch5 cc0_scratch6) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO (qT c.val i.val)

end Tile

/-! ## What is dealt to the SparseCores and to their subcores -/

theorem blks_disjoint {w w' : ℕ} (h : w ≠ w') : Disjoint (blks w) (blks w') := by
  refine Finset.disjoint_left.mpr fun i hi hi' => h ?_
  simp only [blks, Finset.mem_filter, Finset.mem_univ, true_and] at hi hi'
  exact hi.symm.trans hi'

theorem sub_disjoint (c : ℕ) : ∀ i ∈ (Finset.univ : Finset (Fin 16)), ∀ j ∈ (Finset.univ : Finset (Fin 16)), i ≠ j →
    Disjoint (blks (2 * i.val + c)) (blks (2 * j.val + c)) :=
  fun i _ j _ h => blks_disjoint fun e => h (Fin.ext (by omega))
theorem core_disjoint : ∀ c ∈ (Finset.univ : Finset (Fin 2)), ∀ c' ∈ (Finset.univ : Finset (Fin 2)), c ≠ c' →
    Disjoint (coreBlks c.val) (coreBlks c'.val) := fun c _ c' _ h => by
  refine (Finset.disjoint_biUnion_left _ _ _).mpr fun i _ => (Finset.disjoint_biUnion_right _ _ _).mpr fun j _ => blks_disjoint fun e => h (Fin.ext ?_)
  have := c.isLt; have := c'.isLt
  omega

theorem any {ℓ : Loc nD τ sig} {I : Finset (Idx ℓ)} {q : PosShare TreeShare} (f : Buf (Elt F) ℓ) :
    (ℓ ↦[I]{q} f : sProp 𝕄) ⊢ iprop(∃ f, ℓ ↦[I]{q} f) := by
  iintro H; iexists f; iexact H

theorem given_split (d : Dev nD) (q : PosShare TreeShare) {n : ℕ} (A : Fin n → Finset S1376x16x8x128.Idx)
    (hA : ∀ i ∈ (Finset.univ : Finset (Fin n)), ∀ j ∈ (Finset.univ : Finset (Fin n)), i ≠ j → Disjoint (A i) (A j)) :
    Given m d q (Finset.univ.biUnion A)
      ⊢ iprop((xLoc d ↦{Transfers.shareDrop q n} m (xLoc d)) ∗ bigSep Finset.univ fun i : Fin n => Given m d (Transfers.shareTokN q i.val) (A i)) := by
  rw [bigSep_sep', bigSep_sep']
  iintro ⟨Hx, ⟨%ft, Ht⟩, ⟨%fg, Hg⟩⟩
  ihave Hx := (Transfers.pointsTo_toks_split q n) $$ Hx
  icases Hx with ⟨Hd, Hx⟩
  ihave Ht := (Transfers.pointsTo_toks_split q n) $$ Ht
  icases Ht with ⟨-, Ht⟩
  ihave Hg := (Entails.of_eq (pointsTo_biUnion (ℓ := gLoc d) (q := fullShare) (f := fg) Finset.univ A hA)) $$ Hg
  isplitl [Hd]; · iexact Hd
  isplitl [Hx]; · iexact Hx
  isplitl [Ht]
  · iapply (show (bigSep Finset.univ fun i : Fin n => (tLoc d ↦{Transfers.shareTokN q i.val} ft : sProp 𝕄))
      ⊢ bigSep Finset.univ fun i : Fin n => iprop(∃ f, tLoc d ↦{Transfers.shareTokN q i.val} f) from
        bigSep_mono fun i _ => any ft)
    iexact Ht
  iapply (show (bigSep Finset.univ fun i : Fin n => (gLoc d ↦[A i]{fullShare} fg : sProp 𝕄))
    ⊢ bigSep Finset.univ fun i : Fin n => iprop(∃ f, gLoc d ↦[A i]{fullShare} f) from
      bigSep_mono fun i _ => any fg)
  iexact Hg

theorem vecSplit : (K (F := F)).VecSplit' (P m) 0 := by
  intro d c
  show Given m d (qC c.val) (coreBlks c.val) ⊢ |={Set.univ}=> iprop(
      (bigSep Finset.univ fun i : Fin 16 => Given m d (qT c.val i.val) (blks (2 * i.val + c.val)))
      ∗ ((bigSep Finset.univ fun _ : Fin 16 => iprop(emp)) -∗ iprop(emp)))
  iintro H
  ihave H := (given_split m d (qC c.val) (fun i : Fin 16 => blks (2 * i.val + c.val)) (sub_disjoint c.val)) $$ H
  icases H with ⟨-, H⟩
  imodintro
  isplitl [H]; · iexact H
  iintro -
  iempintro

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host operations -/

abbrev ref (b : Ref sig .tc) : DevRef τ sig := Proc.devRef .tc b

abbrev op0 : HloOp τ sig (Elt F) := StableHlo.reshape main_arg1 main_v0 (rfl : (.bf16 : EltTy) = .bf16) shapeCasts_S16384x8_S16384x4x2
abbrev op1 : HloOp τ sig (Elt F) := StableHlo.unary main_v0 main_v1 ((fun x => Host.bitcastConvertWiden S16384x4 32 (bitcastToInt x) splits_S16384x4_w32_S16384x4x2_w16) : (⟨S16384x4x2, .bf16⟩ : BufTy).Contents (Elt F) → (⟨S16384x4, .i32⟩ : BufTy).Contents (Elt F))
abbrev op2 : HloOp τ sig (Elt F) := StableHlo.unary main_v1 main_v2 ((transpose S4x16384 [1, 0] · transposes_S16384x4_S4x16384_1_0) : (⟨S16384x4, .i32⟩ : BufTy).Contents (Elt F) → (⟨S4x16384, .i32⟩ : BufTy).Contents (Elt F))
abbrev op3 : HloOp τ sig (Elt F) := StableHlo.reshape main_arg2 main_v3 (rfl : (.bf16 : EltTy) = .bf16) shapeCasts_S1024x8_S1024x4x2
abbrev op4 : HloOp τ sig (Elt F) := StableHlo.unary main_v3 main_v4 ((fun x => Host.bitcastConvertWiden S1024x4 32 (bitcastToInt x) splits_S1024x4_w32_S1024x4x2_w16) : (⟨S1024x4x2, .bf16⟩ : BufTy).Contents (Elt F) → (⟨S1024x4, .i32⟩ : BufTy).Contents (Elt F))
abbrev op5 : HloOp τ sig (Elt F) := StableHlo.unary main_v4 main_v5 ((transpose S4x1024 [1, 0] · transposes_S1024x4_S4x1024_1_0) : (⟨S1024x4, .i32⟩ : BufTy).Contents (Elt F) → (⟨S4x1024, .i32⟩ : BufTy).Contents (Elt F))
abbrev op6 : HloOp τ sig (Elt F) := StableHlo.binary main_v2 main_v5 main_v6 ((fun a b => concatenate S4x17408 1 [⟨S4x16384, a⟩, ⟨S4x1024, b⟩] concatenates_S4x16384_S4x1024_S4x17408_d1) : (⟨S4x16384, .i32⟩ : BufTy).Contents (Elt F) → (⟨S4x1024, .i32⟩ : BufTy).Contents (Elt F) → (⟨S4x17408, .i32⟩ : BufTy).Contents (Elt F))
abbrev op7 : HloOp τ sig (Elt F) := StableHlo.reshape main_v6 main_v7 (rfl : (.i32 : EltTy) = .i32) shapeCasts_S4x17408_S69632

/-- The TensorCore's arrays. -/
abbrev refs : Finset (Ref sig .tc) :=
  {main_arg0, main_arg1, main_arg2, main_v0, main_v1, main_v2, main_v3, main_v4, main_v5, main_v6, main_v7, main_v8}
abbrev SB : Finset (DevRef τ sig) :=
  {ref main_arg0, ref main_arg1, ref main_arg2, ref main_v0, ref main_v1, ref main_v2, ref main_v3, ref main_v4, ref main_v5, ref main_v6, ref main_v7, ref main_v8}

def V0 (d : Dev nD) : Valuation τ sig (Elt F) := fun b => m (d, b)
/-- The arrays when the call is made. -/
abbrev V8 (d : Dev nD) : Valuation τ sig (Elt F) :=
  (op7 (F := F)).result ((op6 (F := F)).result ((op5 (F := F)).result ((op4 (F := F)).result ((op3 (F := F)).result ((op2 (F := F)).result
    ((op1 (F := F)).result ((op0 (F := F)).result (V0 m d))))))))

theorem V8_of (d : Dev nD) (b : DevRef τ sig)
    (hb : b ∉ ({ref main_v0, ref main_v1, ref main_v2, ref main_v3, ref main_v4, ref main_v5, ref main_v6, ref main_v7} : Finset (DevRef τ sig))) :
    V8 m d b = m (d, b) := by
  unfold V8
  rw [(op7 (F := F)).result_of_not_mem _ (show b ∉ ({ref main_v7} : Finset (DevRef τ sig)) from fun h => hb (by rw [Finset.mem_singleton.mp h]; decide)),
    (op6 (F := F)).result_of_not_mem _ (show b ∉ ({ref main_v6} : Finset (DevRef τ sig)) from fun h => hb (by rw [Finset.mem_singleton.mp h]; decide)),
    (op5 (F := F)).result_of_not_mem _ (show b ∉ ({ref main_v5} : Finset (DevRef τ sig)) from fun h => hb (by rw [Finset.mem_singleton.mp h]; decide)),
    (op4 (F := F)).result_of_not_mem _ (show b ∉ ({ref main_v4} : Finset (DevRef τ sig)) from fun h => hb (by rw [Finset.mem_singleton.mp h]; decide)),
    (op3 (F := F)).result_of_not_mem _ (show b ∉ ({ref main_v3} : Finset (DevRef τ sig)) from fun h => hb (by rw [Finset.mem_singleton.mp h]; decide)),
    (op2 (F := F)).result_of_not_mem _ (show b ∉ ({ref main_v2} : Finset (DevRef τ sig)) from fun h => hb (by rw [Finset.mem_singleton.mp h]; decide)),
    (op1 (F := F)).result_of_not_mem _ (show b ∉ ({ref main_v1} : Finset (DevRef τ sig)) from fun h => hb (by rw [Finset.mem_singleton.mp h]; decide)),
    (op0 (F := F)).result_of_not_mem _ (show b ∉ ({ref main_v0} : Finset (DevRef τ sig)) from fun h => hb (by rw [Finset.mem_singleton.mp h]; decide))]
  rfl

theorem unscoped_held (d : Dev nD) : (unscopedBufs d (fun b => m ((SparseCore.T d).loc b)) : sProp 𝕄) = held (SparseCore.T d) SB (V0 m d) := by
  unfold unscopedBufs held
  rw [show (Finset.univ.filter fun b : Ref sig .tc => ¬ b.isScoped) = refs by decide]
  rw [show SB = refs.map ⟨Proc.devRef .tc, Proc.devRef_injective _⟩ by decide, bigSep_map]
  rfl

/-- The five arrays that matter at the call, out of all of them. -/
theorem held_five (d : Dev nD) (W : Valuation τ sig (Elt F)) :
    (held (SparseCore.T d) SB W : sProp 𝕄)
      ⊢ iprop((xLoc d ↦{fullShare} W (ref main_arg0)) ∗ ((SparseCore.T d).loc main_arg1 ↦{fullShare} W (ref main_arg1))
          ∗ ((SparseCore.T d).loc main_arg2 ↦{fullShare} W (ref main_arg2)) ∗ (tLoc d ↦{fullShare} W (ref main_v7)) ∗ gLoc d ↦{fullShare} W (ref main_v8)) := by
  unfold held
  rw [show SB = {ref main_arg0, ref main_arg1, ref main_arg2, ref main_v7, ref main_v8, ref main_v0, ref main_v1, ref main_v2, ref main_v3, ref main_v4, ref main_v5, ref main_v6} by decide,
    SparseCore.bigSep_insert' (by decide), SparseCore.bigSep_insert' (by decide), SparseCore.bigSep_insert' (by decide), SparseCore.bigSep_insert' (by decide),
    SparseCore.bigSep_insert' (by decide)]
  iintro ⟨H0, H1, H2, H7, H8, -⟩
  isplitl [H0]; · iexact H0
  isplitl [H1]; · iexact H1
  isplitl [H2]; · iexact H2
  isplitl [H7]; · iexact H7
  iexact H8

/-! ## The program on the TensorCore -/

abbrev a1Loc (d : Dev nD) : Loc nD τ sig := (SparseCore.T d).loc main_arg1
abbrev a2Loc (d : Dev nD) : Loc nD τ sig := (SparseCore.T d).loc main_arg2
abbrev FIN (d : Dev nD) : sProp 𝕄 :=
  iprop((xLoc d ↦{Transfers.shareDrop fullShare 2} m (xLoc d)) ∗ (a1Loc d ↦{fullShare} m (a1Loc d)) ∗ a2Loc d ↦{fullShare} m (a2Loc d))

/-- The arrays at the call: what ends unchanged, and what the two SparseCores get. -/
theorem deal (d : Dev nD) :
    (held (SparseCore.T d) SB (V8 m d) : sProp 𝕄) ⊢ iprop(FIN m d ∗ bigSep Finset.univ fun c : Fin ((K (F := F)).nCore 0) => (P m).st 0 d c) := by
  show _ ⊢ iprop(FIN m d ∗ bigSep Finset.univ fun c : Fin 2 => Given m d (qC c.val) (coreBlks c.val))
  iintro H
  ihave H := (held_five d _) $$ H
  icases H with ⟨H0, H1, H2, H7, H8⟩
  ihave H0 := (Entails.of_eq (congrArg (fun f => (xLoc d ↦{fullShare} f : sProp 𝕄)) (V8_of m d (ref main_arg0) (by decide)))) $$ H0
  ihave H1 := (Entails.of_eq (congrArg (fun f => (a1Loc d ↦{fullShare} f : sProp 𝕄)) (V8_of m d (ref main_arg1) (by decide)))) $$ H1
  ihave H2 := (Entails.of_eq (congrArg (fun f => (a2Loc d ↦{fullShare} f : sProp 𝕄)) (V8_of m d (ref main_arg2) (by decide)))) $$ H2
  ihave H8 := (pointsTo_split_subset (Finset.subset_univ (Finset.univ.biUnion fun c : Fin 2 => coreBlks c.val))).1 $$ H8
  icases H8 with ⟨H8, -⟩
  ihave H := (given_split m d fullShare (fun c : Fin 2 => coreBlks c.val) core_disjoint) $$ [H0 H7 H8]
  · isplitl [H0]; · iexact H0
    isplitl [H7]; · iexists _; iexact H7
    iexists _; iexact H8
  icases H with ⟨H0, H⟩
  isplitr [H]
  · isplitl [H0]; · iexact H0
    isplitl [H1]; · iexact H1
    iexact H2
  iexact H

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SB) (show ({ref main_arg1, ref main_v0} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op1) (S := SB) (show ({ref main_v0, ref main_v1} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op2) (S := SB) (show ({ref main_v1, ref main_v2} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op3) (S := SB) (show ({ref main_arg2, ref main_v3} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op4) (S := SB) (show ({ref main_v3, ref main_v4} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op5) (S := SB) (show ({ref main_v4, ref main_v5} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op6) (S := SB) (show ({ref main_v2, ref main_v5, ref main_v6} : Finset (DevRef τ sig)) ⊆ SB by decide)) $$ [Hb Hheld]
  · isplitl [Hb] <;> iassumption
  iintro ⟨Hb, Hheld⟩
  rw [wp_ret]; imodintro
  iapply (wp_hlo_within 𝒱 (SparseCore.T d) none Set.univ (op := op7) (S := SB) (show ({ref main_v6, ref main_v7} : Finset (DevRef τ sig)) ⊆ SB by decide)) $$ [Hb Hheld]
  · isplitl [Hb] <;> iassumption
  iintro ⟨Hb, Hheld⟩
  rw [wp_ret]; imodintro
  ihave Hheld := (deal m d) $$ Hheld
  icases Hheld with ⟨Hfin, Hgo⟩
  iapply ((K (F := F)).wp_run (D (F := F)) 𝒱 (EH := EH) (P := P m) κ d 0) $$ [Hst Hgo Hfin Hb Hts]
  isplitr; · iexact Hctx
  isplitl [Hst]; · iexact Hst
  isplitl [Hgo]; · iexact Hgo
  iintro ⟨Hst, -⟩
  imodintro
  isplitl [Hst]; · iexact Hst
  isplitl [Hfin]; · iexact Hfin
  isplitl [Hb] <;> iassumption

def fq (d : Dev nD) (s' : Phys nD τ sig (Elt F)) : Prop :=
  s'.mem.mem (xLoc d) = m (xLoc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hx, Ha, Hb⟩, HSI⟩
  ihave H := (persistent_entails_right (SI_pointsTo_agree (st := s') (ℓ := xLoc d) (I := Finset.univ) (q := Transfers.shareDrop fullShare 2) (f := m (xLoc d)))) $$ [HSI Hx]
  · isplitl [HSI] <;> iassumption
  icases H with ⟨%hx, HSI, -⟩
  ihave H := (persistent_entails_right (SI_pointsTo_agree (st := s') (ℓ := a1Loc d) (I := Finset.univ) (q := fullShare) (f := m (a1Loc d)))) $$ [HSI Ha]
  · isplitl [HSI] <;> iassumption
  icases H with ⟨%ha, HSI, -⟩
  ihave H := (SI_pointsTo_agree (st := s') (ℓ := a2Loc d) (I := Finset.univ) (q := fullShare) (f := m (a2Loc d))) $$ [HSI Hb]
  · isplitl [HSI] <;> iassumption
  icases H with %hb
  ipureintro
  exact ⟨funext fun i => hx i (Finset.mem_univ i), funext fun i => ha i (Finset.mem_univ i), funext fun i => hb i (Finset.mem_univ i)⟩

/-! ## The run and the claim -/

def QC : PUnit × MemSt nD τ sig (Elt F) → Prop := fun r =>
  (∀ c : Dev nD, r.2.mem (xLoc c) = m (xLoc c) ∧ r.2.mem (a1Loc c) = m (a1Loc c) ∧ r.2.mem (a2Loc c) = m (a2Loc c)) ∧ r.2.sem = fun _ => 0

theorem run_main [∀ e, Nonempty (Elt F e)] : θ_run (Cert.Expand.defs (F := F)) (Cert.Expand.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The frame of the program that makes the SparseCore call. -/
theorem frame : Cert.quiescent_Expand := fun m ρ _ =>
  (θ_run Cert.Expand.defs _ _).mono (fun _ h => ⟨fun c => h.1 c, h.2⟩) (run_main (F := Bits) m ρ)

end Cert.ExpandProof

end
-- ==== Proof.lean ====
module

public import proofs.«01_k».proof.Proof.Gen.Expand
public import proofs.«01_k».proof.Proof.Gen.Expand.Skeleton
public import proofs.«01_k».proof.Proof.Gen.ReferenceIdeal.Run
public import proofs.«01_k».proof.Defs
public import proofs.«01_k».proof.Proof.Gen.Linear
public import proofs.«01_k».proof.Proof.Gen.Linear.Skeleton
public import proofs.«01_k».proof.Proof.Gen.Linear.Loops
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Loops
public import proofs.«01_k».proof.Proof.Gen.LinearIdeal.Launch
public import proofs.«01_k».proof.Proof.Gen.LinearIdeal.Points
public import proofs.«01_k».proof.Proof.Gen.LinearIdeal.Frame
public import proofs.«01_k».proof.Proof.Gen.ReferenceIdeal
public import proofs.«01_k».proof.Proof.LinearFrame
public import proofs.«01_k».proof.Proof.LinearValue
public import proofs.«01_k».proof.Proof.ReferenceValue
public import proofs.«01_k».proof.Proof.ExpandLaunch
public import Idealize.ShloMosaic.Adequacy
public import Idealize.ShloMosaic.Init

@[expose] public section

noncomputable section

namespace Cert.Proof

open Idealize.ShloMosaic Idealize.SL.Sem Cert.Linear

/-- The idealized kernel and the reference both leave the layer of their arguments. -/
theorem algebraic : @Cert.algebraic_LinearIdeal_ReferenceIdeal Cert.LinearIdeal.Gen.facts Cert.ReferenceIdeal.Gen.facts := by
  intro m g m' g' _ hargs
  refine ⟨_, Cert.LinearIdealProof.run m g, ?_⟩
  have h := Cert.ReferenceProof.run m' g'
  refine (θ_run _ _ _).mono (fun r hr c => ?_) h
  obtain ⟨h0, h1, h2, h3, h4, h5⟩ := hargs c
  exact ⟨by rw [(hr c).1, h0, h1, h2, h3, h4, h5], (hr c).2⟩

theorem claim : Cert.Claim :=
  ⟨Cert.Linear.Gen.facts, Cert.LinearIdeal.Gen.facts, Cert.ReferenceIdeal.Gen.facts, Cert.Expand.Gen.facts,
    fun m g _ => Cert.LinearProof.frame (F := Bits) m g,
    fun m g _ => Cert.LinearIdealProof.frame (F := Ideal) m g,
    fun m g _ => Cert.ReferenceProof.frame m g,
    Cert.ExpandProof.frame,
    trivial,
    algebraic⟩

end Cert.Proof

end
